-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S50x128x2000 : Shape := ⟨3, ![50, 128, 2000]⟩
abbrev S1x128 : Shape := ⟨2, ![1, 128]⟩
abbrev S2000x128 : Shape := ⟨2, ![2000, 128]⟩
abbrev S1x128x2000 : Shape := ⟨3, ![1, 128, 2000]⟩
abbrev S128 : Shape := ⟨1, ![128]⟩
abbrev S128x2000 : Shape := ⟨2, ![128, 2000]⟩
abbrev S32x16 : Shape := ⟨2, ![32, 16]⟩
abbrev S2000 : Shape := ⟨1, ![2000]⟩
abbrev S100096 : Shape := ⟨1, ![100096]⟩
abbrev S16 : Shape := ⟨1, ![16]⟩
abbrev S_ : Shape := ⟨0, ![]⟩
abbrev S1x1x2000 : Shape := ⟨3, ![1, 1, 2000]⟩
abbrev S1x16 : Shape := ⟨2, ![1, 16]⟩
abbrev S32x4 : Shape := ⟨2, ![32, 4]⟩

abbrev nBuf : Table → Nat
  | .hbm => 10
  | .local .tc .vmem => 8
  | .local .scVector .vmem => 8
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S50x128x2000, .i32⟩
  | .hbm, ⟨3, _⟩ => ⟨S1x128, .i32⟩
  | .hbm, ⟨4, _⟩ => ⟨S1x128, .i32⟩
  | .hbm, ⟨5, _⟩ => ⟨S128, .i32⟩
  | .hbm, ⟨6, _⟩ => ⟨S128, .i32⟩
  | .hbm, ⟨7, _⟩ => ⟨S32x16, .f32⟩
  | .hbm, ⟨8, _⟩ => ⟨S32x4, .f32⟩
  | .hbm, ⟨9, _⟩ => ⟨S128, .f32⟩
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S1x128x2000, .i32⟩
  | .local .tc .vmem, ⟨5, _⟩ => ⟨S1x128x2000, .i32⟩
  | .local .tc .vmem, ⟨6, _⟩ => ⟨S1x128, .i32⟩
  | .local .tc .vmem, ⟨7, _⟩ => ⟨S1x128, .i32⟩
  | .local .scVector .vmem, ⟨0, _⟩ => ⟨S128, .i32⟩
  | .local .scVector .vmem, ⟨1, _⟩ => ⟨S128, .i32⟩
  | .local .scVector .vmem, ⟨2, _⟩ => ⟨S2000, .i32⟩
  | .local .scVector .vmem, ⟨3, _⟩ => ⟨S2000, .i32⟩
  | .local .scVector .vmem, ⟨4, _⟩ => ⟨S2000, .i32⟩
  | .local .scVector .vmem, ⟨5, _⟩ => ⟨S2000, .i32⟩
  | .local .scVector .vmem, ⟨6, _⟩ => ⟨S100096, .i32⟩
  | .local .scVector .vmem, ⟨7, _⟩ => ⟨S16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0_0_scv : Ref sig .scVector := ⟨.hbm, 2, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32_34 : BitVec 32 := 0#32
  let v77 : BitVec 1 := Scalar.cmpi .eq arg0 c0_i32_34
  let v78 : BitVec 32 := Scalar.extui v77
  let c0_i32_35 : BitVec 32 := 0#32
  let v79 : BitVec 1 := Scalar.cmpi .ne v78 c0_i32_35
  v79

def k0_cond2 (i : grid0.Coords) : BitVec 1 :=
  let arg0 : BitVec 32 := BitVec.ofNat 32 (i 0).val
  let c0_i32_36 : BitVec 32 := 0#32
  let v80 : BitVec 1 := Scalar.cmpi .ne arg0 c0_i32_36
  let v81 : BitVec 32 := Scalar.extui v80
  let c0_i32_37 : BitVec 32 := 0#32
  let v82 : BitVec 1 := Scalar.cmpi .ne v81 c0_i32_37
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 3 → Nat :=
  let c0_i32_1 : BitVec 32 := 0#32
  let arg0 : BitVec 32 := BitVec.ofNat 32 (i 0).val
  let c64_i32 : BitVec 32 := 64#32
  let v5 : BitVec 32 := Scalar.muli arg0 c64_i32
  let arg1 : BitVec 32 := BitVec.ofNat 32 (i 1).val
  let c4_i32 : BitVec 32 := 4#32
  let v6 : BitVec 32 := Scalar.muli arg1 c4_i32
  let v7 : BitVec 32 := Scalar.addi v5 v6
  let c0_i32_0 : BitVec 32 := 0#32
  let v8 : BitVec 32 := Scalar.addi v7 c0_i32_0
  let c0_i32_2 : BitVec 32 := 0#32
  ![0, v8.toNat, 0]
def k1_off2 (i : grid1.Coords) : Fin 3 → Nat :=
  let c1_i32_7 : BitVec 32 := 1#32
  let arg0 : BitVec 32 := BitVec.ofNat 32 (i 0).val
  let c64_i32_4 : BitVec 32 := 64#32
  let v13 : BitVec 32 := Scalar.muli arg0 c64_i32_4
  let arg1 : BitVec 32 := BitVec.ofNat 32 (i 1).val
  let c4_i32_5 : BitVec 32 := 4#32
  let v14 : BitVec 32 := Scalar.muli arg1 c4_i32_5
  let v15 : BitVec 32 := Scalar.addi v13 v14
  let c0_i32_6 : BitVec 32 := 0#32
  let v16 : BitVec 32 := Scalar.addi v15 c0_i32_6
  let c0_i32_8 : BitVec 32 := 0#32
  ![1, v16.toNat, 0]
def k1_off3 (i : grid1.Coords) : Fin 3 → Nat :=
  let c2_i32 : BitVec 32 := 2#32
  let arg0 : BitVec 32 := BitVec.ofNat 32 (i 0).val
  let c64_i32_10 : BitVec 32 := 64#32
  let v21 : BitVec 32 := Scalar.muli arg0 c64_i32_10
  let arg1 : BitVec 32 := BitVec.ofNat 32 (i 1).val
  let c4_i32_11 : BitVec 32 := 4#32
  let v22 : BitVec 32 := Scalar.muli arg1 c4_i32_11
  let v23 : BitVec 32 := Scalar.addi v21 v22
  let c0_i32_12 : BitVec 32 := 0#32
  let v24 : BitVec 32 := Scalar.addi v23 c0_i32_12
  let c0_i32_13 : BitVec 32 := 0#32
  ![2, v24.toNat, 0]
def k1_off4 (i : grid1.Coords) : Fin 3 → Nat :=
  let c3_i32 : BitVec 32 := 3#32
  let arg0 : BitVec 32 := BitVec.ofNat 32 (i 0).val
  let c64_i32_15 : BitVec 32 := 64#32
  let v29 : BitVec 32 := Scalar.muli arg0 c64_i32_15
  let arg1 : BitVec 32 := BitVec.ofNat 32 (i 1).val
  let c4_i32_16 : BitVec 32 := 4#32
  let v30 : BitVec 32 := Scalar.muli arg1 c4_i32_16
  let v31 : BitVec 32 := Scalar.addi v29 v30
  let c0_i32_17 : BitVec 32 := 0#32
  let v32 : BitVec 32 := Scalar.addi v31 c0_i32_17
  let c0_i32_18 : BitVec 32 := 0#32
  ![3, v32.toNat, 0]

def k1_chk1 (v41 : IVec S16 32) : Prop :=
  (∀ a x, ((![v41] : Fin 1 → IVec S16 32) a x).toNat < S128.size a) ∧
  (∀ a x, ((![v41] : Fin 1 → IVec S16 32) a x).toNat < S128.size a)
theorem k1_idx1_inb : ∀ (v41 : IVec S16 32) (k1_hw1 : k1_chk1 v41), ∀ a x, ((![v41] : Fin 1 → IVec S16 32) a x).toNat < S128.size a := fun v41 k1_hw1 => k1_hw1.1
theorem k1_idx2_inb : ∀ (v41 : IVec S16 32) (k1_hw1 : k1_chk1 v41), ∀ a x, ((![v41] : Fin 1 → IVec S16 32) a x).toNat < S128.size a := fun v41 k1_hw1 => k1_hw1.2
@[reducible] def k1_t1_loop (v49 : BitVec 32) : Scf.Loop 32 :=
  let c0_i32_31 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v68 : BitVec 32 := Scalar.subi v67 c0_i32_31
  let c1_i32_32 : BitVec 32 := 1#32
  let v70 : BitVec 32 := Scalar.divsi v68 c1_i32_32
  let v71 : BitVec 32 := Scalar.muli v70 c1_i32_32
  let v72 : BitVec 32 := Scalar.addi c0_i32_31 v71
  let c1_i32_33 : BitVec 32 := 1#32
  ⟨c0_i32_31, v72, c1_i32_33⟩

def k1_off5 (v49 : BitVec 32) (k1_t1 : Fin (k1_t1_loop v49).trips) (c0_i32_477 : BitVec 32) : Fin 1 → Nat :=
  let c0_i32_31 : BitVec 32 := 0#32
  let c1_i32_33 : BitVec 32 := 1#32
  let arg18 : BitVec 32 := Scf.iv c0_i32_31 c1_i32_33 k1_t1
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t2_loop (v49 : BitVec 32) : Scf.Loop 32 :=
  let c0_i32_31 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v68 : BitVec 32 := Scalar.subi v67 c0_i32_31
  let c1_i32_32 : BitVec 32 := 1#32
  let v70 : BitVec 32 := Scalar.divsi v68 c1_i32_32
  let v71 : BitVec 32 := Scalar.muli v70 c1_i32_32
  let v72 : BitVec 32 := Scalar.addi c0_i32_31 v71
  let v69 : BitVec 32 := Scalar.addi c0_i32_31 v68
  let c1_i32_34 : BitVec 32 := 1#32
  ⟨v72, v69, c1_i32_34⟩
def k1_off6 (v49 : BitVec 32) (k1_t2 : Fin (k1_t2_loop v49).trips) (c0_i32_477 : BitVec 32) : Fin 1 → Nat :=
  let c0_i32_31 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v68 : BitVec 32 := Scalar.subi v67 c0_i32_31
  let c1_i32_32 : BitVec 32 := 1#32
  let v70 : BitVec 32 := Scalar.divsi v68 c1_i32_32
  let v71 : BitVec 32 := Scalar.muli v70 c1_i32_32
  let v72 : BitVec 32 := Scalar.addi c0_i32_31 v71
  let c1_i32_34 : BitVec 32 := 1#32
  let arg18 : BitVec 32 := Scf.iv v72 c1_i32_34 k1_t2
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t3_loop : Scf.Loop 32 :=
  let c0_i32_36 : BitVec 32 := 0#32
  let c11_i32 : BitVec 32 := 11#32
  let v73 : BitVec 32 := Scalar.addi c0_i32_36 c11_i32
  let c1_i32_37 : BitVec 32 := 1#32
  ⟨c0_i32_36, v73, c1_i32_37⟩
def k1_off7 (i : grid1.Coords) (k1_t3 : Fin k1_t3_loop.trips) : Fin 3 → Nat :=
  let c4_i32_476 : BitVec 32 := 4#32
  let c0_i32_36 : BitVec 32 := 0#32
  let c1_i32_37 : BitVec 32 := 1#32
  let arg18 : BitVec 32 := Scf.iv c0_i32_36 c1_i32_37 k1_t3
  let v700 : BitVec 32 := Scalar.muli c4_i32_476 arg18
  let c0_i32_477 : BitVec 32 := 0#32
  let v701 : BitVec 32 := Scalar.addi v700 c0_i32_477
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_478 : BitVec 32 := 0#32
  ![v701.toNat, v40.toNat, 0]
@[reducible] def k1_t4_loop : Scf.Loop 32 :=
  let c0_i32_483 : BitVec 32 := 0#32
  let c122_i32_484 : BitVec 32 := 122#32
  let v711 : BitVec 32 := Scalar.addi c0_i32_483 c122_i32_484
  let c1_i32_485 : BitVec 32 := 1#32
  ⟨c0_i32_483, v711, c1_i32_485⟩

def k1_chk3 (arg20 : IVec S16 32) : Prop :=
  (∀ a x, ((![arg20] : Fin 1 → IVec S16 32) a x).toNat < S100096.size a)
theorem k1_idx3_inb : ∀ (arg20 : IVec S16 32) (k1_hw3 : k1_chk3 arg20), ∀ a x, ((![arg20] : Fin 1 → IVec S16 32) a x).toNat < S100096.size a := fun arg20 k1_hw3 => k1_hw3
def k1_off8 (k1_t4 : Fin k1_t4_loop.trips) : Fin 1 → Nat :=
  let c0_i32_483 : BitVec 32 := 0#32
  let c1_i32_485 : BitVec 32 := 1#32
  let arg19 : BitVec 32 := Scf.iv c0_i32_483 c1_i32_485 k1_t4
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk4 (v712_0 : IVec S16 32) : Prop :=
  (∀ a x, ((![v712_0] : Fin 1 → IVec S16 32) a x).toNat < S100096.size a)
theorem k1_idx4_inb : ∀ (v712_0 : IVec S16 32) (k1_hw4 : k1_chk4 v712_0), ∀ a x, ((![v712_0] : Fin 1 → IVec S16 32) a x).toNat < S100096.size a := fun v712_0 k1_hw4 => k1_hw4

def k1_chk5 (v712_2 : IVec S16 32) : Prop :=
  (∀ a x, ((![v712_2] : Fin 1 → IVec S16 32) a x).toNat < S100096.size a)
theorem k1_idx5_inb : ∀ (v712_2 : IVec S16 32) (k1_hw5 : k1_chk5 v712_2), ∀ a x, ((![v712_2] : Fin 1 → IVec S16 32) a x).toNat < S100096.size a := fun v712_2 k1_hw5 => k1_hw5

def k1_chk6 (v712_4 : IVec S16 32) : Prop :=
  (∀ a x, ((![v712_4] : Fin 1 → IVec S16 32) a x).toNat < S100096.size a)
theorem k1_idx6_inb : ∀ (v712_4 : IVec S16 32) (k1_hw6 : k1_chk6 v712_4), ∀ a x, ((![v712_4] : Fin 1 → IVec S16 32) a x).toNat < S100096.size a := fun v712_4 k1_hw6 => k1_hw6
def k1_off9 (i : grid1.Coords) (k1_t3 : Fin k1_t3_loop.trips) : Fin 3 → Nat :=
  let c4_i32_476 : BitVec 32 := 4#32
  let c0_i32_36 : BitVec 32 := 0#32
  let c1_i32_37 : BitVec 32 := 1#32
  let arg18 : BitVec 32 := Scf.iv c0_i32_36 c1_i32_37 k1_t3
  let v700 : BitVec 32 := Scalar.muli c4_i32_476 arg18
  let c0_i32_477 : BitVec 32 := 0#32
  let v701 : BitVec 32 := Scalar.addi v700 c0_i32_477
  let c4_i32_487 : BitVec 32 := 4#32
  let v714 : BitVec 32 := Scalar.addi v701 c4_i32_487
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_488 : BitVec 32 := 0#32
  ![v714.toNat, v40.toNat, 0]
def k1_off10 (i : grid1.Coords) (k1_t3 : Fin k1_t3_loop.trips) : Fin 3 → Nat :=
  let c4_i32_490 : BitVec 32 := 4#32
  let c0_i32_36 : BitVec 32 := 0#32
  let c1_i32_37 : BitVec 32 := 1#32
  let arg18 : BitVec 32 := Scf.iv c0_i32_36 c1_i32_37 k1_t3
  let v719 : BitVec 32 := Scalar.muli c4_i32_490 arg18
  let c1_i32_491 : BitVec 32 := 1#32
  let v720 : BitVec 32 := Scalar.addi v719 c1_i32_491
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_492 : BitVec 32 := 0#32
  ![v720.toNat, v40.toNat, 0]
@[reducible] def k1_t5_loop : Scf.Loop 32 :=
  let c0_i32_497 : BitVec 32 := 0#32
  let c122_i32_498 : BitVec 32 := 122#32
  let v730 : BitVec 32 := Scalar.addi c0_i32_497 c122_i32_498
  let c1_i32_499 : BitVec 32 := 1#32
  ⟨c0_i32_497, v730, c1_i32_499⟩

def k1_chk7 (arg20 : IVec S16 32) : Prop :=
  (∀ a x, ((![arg20] : Fin 1 → IVec S16 32) a x).toNat < S100096.size a)
theorem k1_idx7_inb : ∀ (arg20 : IVec S16 32) (k1_hw7 : k1_chk7 arg20), ∀ a x, ((![arg20] : Fin 1 → IVec S16 32) a x).toNat < S100096.size a := fun arg20 k1_hw7 => k1_hw7
def k1_off11 (k1_t5 : Fin k1_t5_loop.trips) : Fin 1 → Nat :=
  let c0_i32_497 : BitVec 32 := 0#32
  let c1_i32_499 : BitVec 32 := 1#32
  let arg19 : BitVec 32 := Scf.iv c0_i32_497 c1_i32_499 k1_t5
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk8 (v731_0 : IVec S16 32) : Prop :=
  (∀ a x, ((![v731_0] : Fin 1 → IVec S16 32) a x).toNat < S100096.size a)
theorem k1_idx8_inb : ∀ (v731_0 : IVec S16 32) (k1_hw8 : k1_chk8 v731_0), ∀ a x, ((![v731_0] : Fin 1 → IVec S16 32) a x).toNat < S100096.size a := fun v731_0 k1_hw8 => k1_hw8

def k1_chk9 (v731_2 : IVec S16 32) : Prop :=
  (∀ a x, ((![v731_2] : Fin 1 → IVec S16 32) a x).toNat < S100096.size a)
theorem k1_idx9_inb : ∀ (v731_2 : IVec S16 32) (k1_hw9 : k1_chk9 v731_2), ∀ a x, ((![v731_2] : Fin 1 → IVec S16 32) a x).toNat < S100096.size a := fun v731_2 k1_hw9 => k1_hw9

def k1_chk10 (v731_4 : IVec S16 32) : Prop :=
  (∀ a x, ((![v731_4] : Fin 1 → IVec S16 32) a x).toNat < S100096.size a)
theorem k1_idx10_inb : ∀ (v731_4 : IVec S16 32) (k1_hw10 : k1_chk10 v731_4), ∀ a x, ((![v731_4] : Fin 1 → IVec S16 32) a x).toNat < S100096.size a := fun v731_4 k1_hw10 => k1_hw10
def k1_off12 (i : grid1.Coords) (k1_t3 : Fin k1_t3_loop.trips) : Fin 3 → Nat :=
  let c4_i32_490 : BitVec 32 := 4#32
  let c0_i32_36 : BitVec 32 := 0#32
  let c1_i32_37 : BitVec 32 := 1#32
  let arg18 : BitVec 32 := Scf.iv c0_i32_36 c1_i32_37 k1_t3
  let v719 : BitVec 32 := Scalar.muli c4_i32_490 arg18
  let c1_i32_491 : BitVec 32 := 1#32
  let v720 : BitVec 32 := Scalar.addi v719 c1_i32_491
  let c4_i32_501 : BitVec 32 := 4#32
  let v733 : BitVec 32 := Scalar.addi v720 c4_i32_501
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_502 : BitVec 32 := 0#32
  ![v733.toNat, v40.toNat, 0]
def k1_off13 (i : grid1.Coords) (k1_t3 : Fin k1_t3_loop.trips) : Fin 3 → Nat :=
  let c4_i32_504 : BitVec 32 := 4#32
  let c0_i32_36 : BitVec 32 := 0#32
  let c1_i32_37 : BitVec 32 := 1#32
  let arg18 : BitVec 32 := Scf.iv c0_i32_36 c1_i32_37 k1_t3
  let v738 : BitVec 32 := Scalar.muli c4_i32_504 arg18
  let c2_i32_505 : BitVec 32 := 2#32
  let v739 : BitVec 32 := Scalar.addi v738 c2_i32_505
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_506 : BitVec 32 := 0#32
  ![v739.toNat, v40.toNat, 0]
@[reducible] def k1_t6_loop : Scf.Loop 32 :=
  let c0_i32_511 : BitVec 32 := 0#32
  let c122_i32_512 : BitVec 32 := 122#32
  let v749 : BitVec 32 := Scalar.addi c0_i32_511 c122_i32_512
  let c1_i32_513 : BitVec 32 := 1#32
  ⟨c0_i32_511, v749, c1_i32_513⟩

def k1_chk11 (arg20 : IVec S16 32) : Prop :=
  (∀ a x, ((![arg20] : Fin 1 → IVec S16 32) a x).toNat < S100096.size a)
theorem k1_idx11_inb : ∀ (arg20 : IVec S16 32) (k1_hw11 : k1_chk11 arg20), ∀ a x, ((![arg20] : Fin 1 → IVec S16 32) a x).toNat < S100096.size a := fun arg20 k1_hw11 => k1_hw11
def k1_off14 (k1_t6 : Fin k1_t6_loop.trips) : Fin 1 → Nat :=
  let c0_i32_511 : BitVec 32 := 0#32
  let c1_i32_513 : BitVec 32 := 1#32
  let arg19 : BitVec 32 := Scf.iv c0_i32_511 c1_i32_513 k1_t6
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk12 (v750_0 : IVec S16 32) : Prop :=
  (∀ a x, ((![v750_0] : Fin 1 → IVec S16 32) a x).toNat < S100096.size a)
theorem k1_idx12_inb : ∀ (v750_0 : IVec S16 32) (k1_hw12 : k1_chk12 v750_0), ∀ a x, ((![v750_0] : Fin 1 → IVec S16 32) a x).toNat < S100096.size a := fun v750_0 k1_hw12 => k1_hw12

def k1_chk13 (v750_2 : IVec S16 32) : Prop :=
  (∀ a x, ((![v750_2] : Fin 1 → IVec S16 32) a x).toNat < S100096.size a)
theorem k1_idx13_inb : ∀ (v750_2 : IVec S16 32) (k1_hw13 : k1_chk13 v750_2), ∀ a x, ((![v750_2] : Fin 1 → IVec S16 32) a x).toNat < S100096.size a := fun v750_2 k1_hw13 => k1_hw13

def k1_chk14 (v750_4 : IVec S16 32) : Prop :=
  (∀ a x, ((![v750_4] : Fin 1 → IVec S16 32) a x).toNat < S100096.size a)
theorem k1_idx14_inb : ∀ (v750_4 : IVec S16 32) (k1_hw14 : k1_chk14 v750_4), ∀ a x, ((![v750_4] : Fin 1 → IVec S16 32) a x).toNat < S100096.size a := fun v750_4 k1_hw14 => k1_hw14
def k1_off15 (i : grid1.Coords) (k1_t3 : Fin k1_t3_loop.trips) : Fin 3 → Nat :=
  let c4_i32_504 : BitVec 32 := 4#32
  let c0_i32_36 : BitVec 32 := 0#32
  let c1_i32_37 : BitVec 32 := 1#32
  let arg18 : BitVec 32 := Scf.iv c0_i32_36 c1_i32_37 k1_t3
  let v738 : BitVec 32 := Scalar.muli c4_i32_504 arg18
  let c2_i32_505 : BitVec 32 := 2#32
  let v739 : BitVec 32 := Scalar.addi v738 c2_i32_505
  let c4_i32_515 : BitVec 32 := 4#32
  let v752 : BitVec 32 := Scalar.addi v739 c4_i32_515
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_516 : BitVec 32 := 0#32
  ![v752.toNat, v40.toNat, 0]
def k1_off16 (i : grid1.Coords) (k1_t3 : Fin k1_t3_loop.trips) : Fin 3 → Nat :=
  let c4_i32_518 : BitVec 32 := 4#32
  let c0_i32_36 : BitVec 32 := 0#32
  let c1_i32_37 : BitVec 32 := 1#32
  let arg18 : BitVec 32 := Scf.iv c0_i32_36 c1_i32_37 k1_t3
  let v757 : BitVec 32 := Scalar.muli c4_i32_518 arg18
  let c3_i32_519 : BitVec 32 := 3#32
  let v758 : BitVec 32 := Scalar.addi v757 c3_i32_519
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_520 : BitVec 32 := 0#32
  ![v758.toNat, v40.toNat, 0]
@[reducible] def k1_t7_loop : Scf.Loop 32 :=
  let c0_i32_525 : BitVec 32 := 0#32
  let c122_i32_526 : BitVec 32 := 122#32
  let v768 : BitVec 32 := Scalar.addi c0_i32_525 c122_i32_526
  let c1_i32_527 : BitVec 32 := 1#32
  ⟨c0_i32_525, v768, c1_i32_527⟩

def k1_chk15 (arg20 : IVec S16 32) : Prop :=
  (∀ a x, ((![arg20] : Fin 1 → IVec S16 32) a x).toNat < S100096.size a)
theorem k1_idx15_inb : ∀ (arg20 : IVec S16 32) (k1_hw15 : k1_chk15 arg20), ∀ a x, ((![arg20] : Fin 1 → IVec S16 32) a x).toNat < S100096.size a := fun arg20 k1_hw15 => k1_hw15
def k1_off17 (k1_t7 : Fin k1_t7_loop.trips) : Fin 1 → Nat :=
  let c0_i32_525 : BitVec 32 := 0#32
  let c1_i32_527 : BitVec 32 := 1#32
  let arg19 : BitVec 32 := Scf.iv c0_i32_525 c1_i32_527 k1_t7
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk16 (v769_0 : IVec S16 32) : Prop :=
  (∀ a x, ((![v769_0] : Fin 1 → IVec S16 32) a x).toNat < S100096.size a)
theorem k1_idx16_inb : ∀ (v769_0 : IVec S16 32) (k1_hw16 : k1_chk16 v769_0), ∀ a x, ((![v769_0] : Fin 1 → IVec S16 32) a x).toNat < S100096.size a := fun v769_0 k1_hw16 => k1_hw16

def k1_chk17 (v769_2 : IVec S16 32) : Prop :=
  (∀ a x, ((![v769_2] : Fin 1 → IVec S16 32) a x).toNat < S100096.size a)
theorem k1_idx17_inb : ∀ (v769_2 : IVec S16 32) (k1_hw17 : k1_chk17 v769_2), ∀ a x, ((![v769_2] : Fin 1 → IVec S16 32) a x).toNat < S100096.size a := fun v769_2 k1_hw17 => k1_hw17

def k1_chk18 (v769_4 : IVec S16 32) : Prop :=
  (∀ a x, ((![v769_4] : Fin 1 → IVec S16 32) a x).toNat < S100096.size a)
theorem k1_idx18_inb : ∀ (v769_4 : IVec S16 32) (k1_hw18 : k1_chk18 v769_4), ∀ a x, ((![v769_4] : Fin 1 → IVec S16 32) a x).toNat < S100096.size a := fun v769_4 k1_hw18 => k1_hw18
def k1_off18 (i : grid1.Coords) (k1_t3 : Fin k1_t3_loop.trips) : Fin 3 → Nat :=
  let c4_i32_518 : BitVec 32 := 4#32
  let c0_i32_36 : BitVec 32 := 0#32
  let c1_i32_37 : BitVec 32 := 1#32
  let arg18 : BitVec 32 := Scf.iv c0_i32_36 c1_i32_37 k1_t3
  let v757 : BitVec 32 := Scalar.muli c4_i32_518 arg18
  let c3_i32_519 : BitVec 32 := 3#32
  let v758 : BitVec 32 := Scalar.addi v757 c3_i32_519
  let c4_i32_529 : BitVec 32 := 4#32
  let v771 : BitVec 32 := Scalar.addi v758 c4_i32_529
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_530 : BitVec 32 := 0#32
  ![v771.toNat, v40.toNat, 0]
def k1_off19 (i : grid1.Coords) : Fin 3 → Nat :=
  let c44_i32 : BitVec 32 := 44#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_39 : BitVec 32 := 0#32
  ![44, v40.toNat, 0]
@[reducible] def k1_t8_loop : Scf.Loop 32 :=
  let c0_i32_41 : BitVec 32 := 0#32
  let c122_i32 : BitVec 32 := 122#32
  let v83 : BitVec 32 := Scalar.addi c0_i32_41 c122_i32
  let c1_i32_42 : BitVec 32 := 1#32
  ⟨c0_i32_41, v83, c1_i32_42⟩

def k1_chk19 (arg19 : IVec S16 32) : Prop :=
  (∀ a x, ((![arg19] : Fin 1 → IVec S16 32) a x).toNat < S100096.size a)
theorem k1_idx19_inb : ∀ (arg19 : IVec S16 32) (k1_hw19 : k1_chk19 arg19), ∀ a x, ((![arg19] : Fin 1 → IVec S16 32) a x).toNat < S100096.size a := fun arg19 k1_hw19 => k1_hw19
def k1_off20 (k1_t8 : Fin k1_t8_loop.trips) : Fin 1 → Nat :=
  let c0_i32_41 : BitVec 32 := 0#32
  let c1_i32_42 : BitVec 32 := 1#32
  let arg18 : BitVec 32 := Scf.iv c0_i32_41 c1_i32_42 k1_t8
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk20 (v84_0 : IVec S16 32) : Prop :=
  (∀ a x, ((![v84_0] : Fin 1 → IVec S16 32) a x).toNat < S100096.size a)
theorem k1_idx20_inb : ∀ (v84_0 : IVec S16 32) (k1_hw20 : k1_chk20 v84_0), ∀ a x, ((![v84_0] : Fin 1 → IVec S16 32) a x).toNat < S100096.size a := fun v84_0 k1_hw20 => k1_hw20

def k1_chk21 (v84_2 : IVec S16 32) : Prop :=
  (∀ a x, ((![v84_2] : Fin 1 → IVec S16 32) a x).toNat < S100096.size a)
theorem k1_idx21_inb : ∀ (v84_2 : IVec S16 32) (k1_hw21 : k1_chk21 v84_2), ∀ a x, ((![v84_2] : Fin 1 → IVec S16 32) a x).toNat < S100096.size a := fun v84_2 k1_hw21 => k1_hw21

def k1_chk22 (v84_4 : IVec S16 32) : Prop :=
  (∀ a x, ((![v84_4] : Fin 1 → IVec S16 32) a x).toNat < S100096.size a)
theorem k1_idx22_inb : ∀ (v84_4 : IVec S16 32) (k1_hw22 : k1_chk22 v84_4), ∀ a x, ((![v84_4] : Fin 1 → IVec S16 32) a x).toNat < S100096.size a := fun v84_4 k1_hw22 => k1_hw22
def k1_off21 (i : grid1.Coords) : Fin 3 → Nat :=
  let c48_i32 : BitVec 32 := 48#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_44 : BitVec 32 := 0#32
  ![48, v40.toNat, 0]
def k1_off22 (i : grid1.Coords) : Fin 3 → Nat :=
  let c45_i32 : BitVec 32 := 45#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_46 : BitVec 32 := 0#32
  ![45, v40.toNat, 0]
@[reducible] def k1_t9_loop : Scf.Loop 32 :=
  let c0_i32_51 : BitVec 32 := 0#32
  let c122_i32_52 : BitVec 32 := 122#32
  let v99 : BitVec 32 := Scalar.addi c0_i32_51 c122_i32_52
  let c1_i32_53 : BitVec 32 := 1#32
  ⟨c0_i32_51, v99, c1_i32_53⟩

def k1_chk23 (arg19 : IVec S16 32) : Prop :=
  (∀ a x, ((![arg19] : Fin 1 → IVec S16 32) a x).toNat < S100096.size a)
theorem k1_idx23_inb : ∀ (arg19 : IVec S16 32) (k1_hw23 : k1_chk23 arg19), ∀ a x, ((![arg19] : Fin 1 → IVec S16 32) a x).toNat < S100096.size a := fun arg19 k1_hw23 => k1_hw23
def k1_off23 (k1_t9 : Fin k1_t9_loop.trips) : Fin 1 → Nat :=
  let c0_i32_51 : BitVec 32 := 0#32
  let c1_i32_53 : BitVec 32 := 1#32
  let arg18 : BitVec 32 := Scf.iv c0_i32_51 c1_i32_53 k1_t9
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk24 (v100_0 : IVec S16 32) : Prop :=
  (∀ a x, ((![v100_0] : Fin 1 → IVec S16 32) a x).toNat < S100096.size a)
theorem k1_idx24_inb : ∀ (v100_0 : IVec S16 32) (k1_hw24 : k1_chk24 v100_0), ∀ a x, ((![v100_0] : Fin 1 → IVec S16 32) a x).toNat < S100096.size a := fun v100_0 k1_hw24 => k1_hw24

def k1_chk25 (v100_2 : IVec S16 32) : Prop :=
  (∀ a x, ((![v100_2] : Fin 1 → IVec S16 32) a x).toNat < S100096.size a)
theorem k1_idx25_inb : ∀ (v100_2 : IVec S16 32) (k1_hw25 : k1_chk25 v100_2), ∀ a x, ((![v100_2] : Fin 1 → IVec S16 32) a x).toNat < S100096.size a := fun v100_2 k1_hw25 => k1_hw25

def k1_chk26 (v100_4 : IVec S16 32) : Prop :=
  (∀ a x, ((![v100_4] : Fin 1 → IVec S16 32) a x).toNat < S100096.size a)
theorem k1_idx26_inb : ∀ (v100_4 : IVec S16 32) (k1_hw26 : k1_chk26 v100_4), ∀ a x, ((![v100_4] : Fin 1 → IVec S16 32) a x).toNat < S100096.size a := fun v100_4 k1_hw26 => k1_hw26
def k1_off24 (i : grid1.Coords) : Fin 3 → Nat :=
  let c49_i32 : BitVec 32 := 49#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_55 : BitVec 32 := 0#32
  ![49, v40.toNat, 0]
def k1_off25 (i : grid1.Coords) : Fin 3 → Nat :=
  let c46_i32 : BitVec 32 := 46#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_57 : BitVec 32 := 0#32
  ![46, v40.toNat, 0]
@[reducible] def k1_t10_loop : Scf.Loop 32 :=
  let c0_i32_62 : BitVec 32 := 0#32
  let c122_i32_63 : BitVec 32 := 122#32
  let v115 : BitVec 32 := Scalar.addi c0_i32_62 c122_i32_63
  let c1_i32_64 : BitVec 32 := 1#32
  ⟨c0_i32_62, v115, c1_i32_64⟩

def k1_chk27 (arg19 : IVec S16 32) : Prop :=
  (∀ a x, ((![arg19] : Fin 1 → IVec S16 32) a x).toNat < S100096.size a)
theorem k1_idx27_inb : ∀ (arg19 : IVec S16 32) (k1_hw27 : k1_chk27 arg19), ∀ a x, ((![arg19] : Fin 1 → IVec S16 32) a x).toNat < S100096.size a := fun arg19 k1_hw27 => k1_hw27
def k1_off26 (k1_t10 : Fin k1_t10_loop.trips) : Fin 1 → Nat :=
  let c0_i32_62 : BitVec 32 := 0#32
  let c1_i32_64 : BitVec 32 := 1#32
  let arg18 : BitVec 32 := Scf.iv c0_i32_62 c1_i32_64 k1_t10
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk28 (v116_0 : IVec S16 32) : Prop :=
  (∀ a x, ((![v116_0] : Fin 1 → IVec S16 32) a x).toNat < S100096.size a)
theorem k1_idx28_inb : ∀ (v116_0 : IVec S16 32) (k1_hw28 : k1_chk28 v116_0), ∀ a x, ((![v116_0] : Fin 1 → IVec S16 32) a x).toNat < S100096.size a := fun v116_0 k1_hw28 => k1_hw28

def k1_chk29 (v116_2 : IVec S16 32) : Prop :=
  (∀ a x, ((![v116_2] : Fin 1 → IVec S16 32) a x).toNat < S100096.size a)
theorem k1_idx29_inb : ∀ (v116_2 : IVec S16 32) (k1_hw29 : k1_chk29 v116_2), ∀ a x, ((![v116_2] : Fin 1 → IVec S16 32) a x).toNat < S100096.size a := fun v116_2 k1_hw29 => k1_hw29

def k1_chk30 (v116_4 : IVec S16 32) : Prop :=
  (∀ a x, ((![v116_4] : Fin 1 → IVec S16 32) a x).toNat < S100096.size a)
theorem k1_idx30_inb : ∀ (v116_4 : IVec S16 32) (k1_hw30 : k1_chk30 v116_4), ∀ a x, ((![v116_4] : Fin 1 → IVec S16 32) a x).toNat < S100096.size a := fun v116_4 k1_hw30 => k1_hw30
def k1_off27 (i : grid1.Coords) : Fin 3 → Nat :=
  let c0_i32_69 : BitVec 32 := 0#32
  let arg0 : BitVec 32 := BitVec.ofNat 32 (i 0).val
  let c64_i32_66 : BitVec 32 := 64#32
  let v118 : BitVec 32 := Scalar.muli arg0 c64_i32_66
  let arg1 : BitVec 32 := BitVec.ofNat 32 (i 1).val
  let c4_i32_67 : BitVec 32 := 4#32
  let v119 : BitVec 32 := Scalar.muli arg1 c4_i32_67
  let v120 : BitVec 32 := Scalar.addi v118 v119
  let c1_i32_68 : BitVec 32 := 1#32
  let v121 : BitVec 32 := Scalar.addi v120 c1_i32_68
  let c0_i32_70 : BitVec 32 := 0#32
  ![0, v121.toNat, 0]
def k1_off28 (i : grid1.Coords) : Fin 3 → Nat :=
  let c47_i32 : BitVec 32 := 47#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_72 : BitVec 32 := 0#32
  ![47, v40.toNat, 0]
@[reducible] def k1_t11_loop : Scf.Loop 32 :=
  let c0_i32_77 : BitVec 32 := 0#32
  let c122_i32_78 : BitVec 32 := 122#32
  let v135 : BitVec 32 := Scalar.addi c0_i32_77 c122_i32_78
  let c1_i32_79 : BitVec 32 := 1#32
  ⟨c0_i32_77, v135, c1_i32_79⟩

def k1_chk31 (arg19 : IVec S16 32) : Prop :=
  (∀ a x, ((![arg19] : Fin 1 → IVec S16 32) a x).toNat < S100096.size a)
theorem k1_idx31_inb : ∀ (arg19 : IVec S16 32) (k1_hw31 : k1_chk31 arg19), ∀ a x, ((![arg19] : Fin 1 → IVec S16 32) a x).toNat < S100096.size a := fun arg19 k1_hw31 => k1_hw31
def k1_off29 (k1_t11 : Fin k1_t11_loop.trips) : Fin 1 → Nat :=
  let c0_i32_77 : BitVec 32 := 0#32
  let c1_i32_79 : BitVec 32 := 1#32
  let arg18 : BitVec 32 := Scf.iv c0_i32_77 c1_i32_79 k1_t11
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk32 (v136_0 : IVec S16 32) : Prop :=
  (∀ a x, ((![v136_0] : Fin 1 → IVec S16 32) a x).toNat < S100096.size a)
theorem k1_idx32_inb : ∀ (v136_0 : IVec S16 32) (k1_hw32 : k1_chk32 v136_0), ∀ a x, ((![v136_0] : Fin 1 → IVec S16 32) a x).toNat < S100096.size a := fun v136_0 k1_hw32 => k1_hw32

def k1_chk33 (v136_2 : IVec S16 32) : Prop :=
  (∀ a x, ((![v136_2] : Fin 1 → IVec S16 32) a x).toNat < S100096.size a)
theorem k1_idx33_inb : ∀ (v136_2 : IVec S16 32) (k1_hw33 : k1_chk33 v136_2), ∀ a x, ((![v136_2] : Fin 1 → IVec S16 32) a x).toNat < S100096.size a := fun v136_2 k1_hw33 => k1_hw33

def k1_chk34 (v136_4 : IVec S16 32) : Prop :=
  (∀ a x, ((![v136_4] : Fin 1 → IVec S16 32) a x).toNat < S100096.size a)
theorem k1_idx34_inb : ∀ (v136_4 : IVec S16 32) (k1_hw34 : k1_chk34 v136_4), ∀ a x, ((![v136_4] : Fin 1 → IVec S16 32) a x).toNat < S100096.size a := fun v136_4 k1_hw34 => k1_hw34
def k1_off30 (i : grid1.Coords) : Fin 3 → Nat :=
  let c1_i32_84 : BitVec 32 := 1#32
  let arg0 : BitVec 32 := BitVec.ofNat 32 (i 0).val
  let c64_i32_81 : BitVec 32 := 64#32
  let v138 : BitVec 32 := Scalar.muli arg0 c64_i32_81
  let arg1 : BitVec 32 := BitVec.ofNat 32 (i 1).val
  let c4_i32_82 : BitVec 32 := 4#32
  let v139 : BitVec 32 := Scalar.muli arg1 c4_i32_82
  let v140 : BitVec 32 := Scalar.addi v138 v139
  let c1_i32_83 : BitVec 32 := 1#32
  let v141 : BitVec 32 := Scalar.addi v140 c1_i32_83
  let c0_i32_85 : BitVec 32 := 0#32
  ![1, v141.toNat, 0]
def k1_off31 (i : grid1.Coords) : Fin 3 → Nat :=
  let c48_i32_87 : BitVec 32 := 48#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_88 : BitVec 32 := 0#32
  ![48, v40.toNat, 0]
@[reducible] def k1_t12_loop : Scf.Loop 32 :=
  let c0_i32_93 : BitVec 32 := 0#32
  let c122_i32_94 : BitVec 32 := 122#32
  let v155 : BitVec 32 := Scalar.addi c0_i32_93 c122_i32_94
  let c1_i32_95 : BitVec 32 := 1#32
  ⟨c0_i32_93, v155, c1_i32_95⟩

def k1_chk35 (arg19 : IVec S16 32) : Prop :=
  (∀ a x, ((![arg19] : Fin 1 → IVec S16 32) a x).toNat < S100096.size a)
theorem k1_idx35_inb : ∀ (arg19 : IVec S16 32) (k1_hw35 : k1_chk35 arg19), ∀ a x, ((![arg19] : Fin 1 → IVec S16 32) a x).toNat < S100096.size a := fun arg19 k1_hw35 => k1_hw35
def k1_off32 (k1_t12 : Fin k1_t12_loop.trips) : Fin 1 → Nat :=
  let c0_i32_93 : BitVec 32 := 0#32
  let c1_i32_95 : BitVec 32 := 1#32
  let arg18 : BitVec 32 := Scf.iv c0_i32_93 c1_i32_95 k1_t12
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk36 (v156_0 : IVec S16 32) : Prop :=
  (∀ a x, ((![v156_0] : Fin 1 → IVec S16 32) a x).toNat < S100096.size a)
theorem k1_idx36_inb : ∀ (v156_0 : IVec S16 32) (k1_hw36 : k1_chk36 v156_0), ∀ a x, ((![v156_0] : Fin 1 → IVec S16 32) a x).toNat < S100096.size a := fun v156_0 k1_hw36 => k1_hw36

def k1_chk37 (v156_2 : IVec S16 32) : Prop :=
  (∀ a x, ((![v156_2] : Fin 1 → IVec S16 32) a x).toNat < S100096.size a)
theorem k1_idx37_inb : ∀ (v156_2 : IVec S16 32) (k1_hw37 : k1_chk37 v156_2), ∀ a x, ((![v156_2] : Fin 1 → IVec S16 32) a x).toNat < S100096.size a := fun v156_2 k1_hw37 => k1_hw37

def k1_chk38 (v156_4 : IVec S16 32) : Prop :=
  (∀ a x, ((![v156_4] : Fin 1 → IVec S16 32) a x).toNat < S100096.size a)
theorem k1_idx38_inb : ∀ (v156_4 : IVec S16 32) (k1_hw38 : k1_chk38 v156_4), ∀ a x, ((![v156_4] : Fin 1 → IVec S16 32) a x).toNat < S100096.size a := fun v156_4 k1_hw38 => k1_hw38
def k1_off33 (i : grid1.Coords) : Fin 3 → Nat :=
  let c2_i32_100 : BitVec 32 := 2#32
  let arg0 : BitVec 32 := BitVec.ofNat 32 (i 0).val
  let c64_i32_97 : BitVec 32 := 64#32
  let v158 : BitVec 32 := Scalar.muli arg0 c64_i32_97
  let arg1 : BitVec 32 := BitVec.ofNat 32 (i 1).val
  let c4_i32_98 : BitVec 32 := 4#32
  let v159 : BitVec 32 := Scalar.muli arg1 c4_i32_98
  let v160 : BitVec 32 := Scalar.addi v158 v159
  let c1_i32_99 : BitVec 32 := 1#32
  let v161 : BitVec 32 := Scalar.addi v160 c1_i32_99
  let c0_i32_101 : BitVec 32 := 0#32
  ![2, v161.toNat, 0]
def k1_off34 (i : grid1.Coords) : Fin 3 → Nat :=
  let c49_i32_103 : BitVec 32 := 49#32
  let arg0 : BitVec 32 := BitVec.ofNat 32 (i 0).val
  let c64_i32_20 : BitVec 32 := 64#32
  let v37 : BitVec 32 := Scalar.muli arg0 c64_i32_20
  let arg1 : BitVec 32 := BitVec.ofNat 32 (i 1).val
  let c4_i32_21 : BitVec 32 := 4#32
  let v38 : BitVec 32 := Scalar.muli arg1 c4_i32_21
  let v39 : BitVec 32 := Scalar.addi v37 v38
  let c0_i32_22 : BitVec 32 := 0#32
  let v40 : BitVec 32 := Scalar.addi v39 c0_i32_22
  let c0_i32_104 : BitVec 32 := 0#32
  ![49, v40.toNat, 0]
@[reducible] def k1_t13_loop : Scf.Loop 32 :=
  let c0_i32_109 : BitVec 32 := 0#32
  let c122_i32_110 : BitVec 32 := 122#32
  let v175 : BitVec 32 := Scalar.addi c0_i32_109 c122_i32_110
  let c1_i32_111 : BitVec 32 := 1#32
  ⟨c0_i32_109, v175, c1_i32_111⟩

def k1_chk39 (arg19 : IVec S16 32) : Prop :=
  (∀ a x, ((![arg19] : Fin 1 → IVec S16 32) a x).toNat < S100096.size a)
theorem k1_idx39_inb : ∀ (arg19 : IVec S16 32) (k1_hw39 : k1_chk39 arg19), ∀ a x, ((![arg19] : Fin 1 → IVec S16 32) a x).toNat < S100096.size a := fun arg19 k1_hw39 => k1_hw39
def k1_off35 (k1_t13 : Fin k1_t13_loop.trips) : Fin 1 → Nat :=
  let c0_i32_109 : BitVec 32 := 0#32
  let c1_i32_111 : BitVec 32 := 1#32
  let arg18 : BitVec 32 := Scf.iv c0_i32_109 c1_i32_111 k1_t13
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk40 (v176_0 : IVec S16 32) : Prop :=
  (∀ a x, ((![v176_0] : Fin 1 → IVec S16 32) a x).toNat < S100096.size a)
theorem k1_idx40_inb : ∀ (v176_0 : IVec S16 32) (k1_hw40 : k1_chk40 v176_0), ∀ a x, ((![v176_0] : Fin 1 → IVec S16 32) a x).toNat < S100096.size a := fun v176_0 k1_hw40 => k1_hw40

def k1_chk41 (v176_2 : IVec S16 32) : Prop :=
  (∀ a x, ((![v176_2] : Fin 1 → IVec S16 32) a x).toNat < S100096.size a)
theorem k1_idx41_inb : ∀ (v176_2 : IVec S16 32) (k1_hw41 : k1_chk41 v176_2), ∀ a x, ((![v176_2] : Fin 1 → IVec S16 32) a x).toNat < S100096.size a := fun v176_2 k1_hw41 => k1_hw41

def k1_chk42 (v176_4 : IVec S16 32) : Prop :=
  (∀ a x, ((![v176_4] : Fin 1 → IVec S16 32) a x).toNat < S100096.size a)
theorem k1_idx42_inb : ∀ (v176_4 : IVec S16 32) (k1_hw42 : k1_chk42 v176_4), ∀ a x, ((![v176_4] : Fin 1 → IVec S16 32) a x).toNat < S100096.size a := fun v176_4 k1_hw42 => k1_hw42
def k1_off36 (i : grid1.Coords) : Fin 3 → Nat :=
  let c3_i32_116 : BitVec 32 := 3#32
  let arg0 : BitVec 32 := BitVec.ofNat 32 (i 0).val
  let c64_i32_113 : BitVec 32 := 64#32
  let v178 : BitVec 32 := Scalar.muli arg0 c64_i32_113
  let arg1 : BitVec 32 := BitVec.ofNat 32 (i 1).val
  let c4_i32_114 : BitVec 32 := 4#32
  let v179 : BitVec 32 := Scalar.muli arg1 c4_i32_114
  let v180 : BitVec 32 := Scalar.addi v178 v179
  let c1_i32_115 : BitVec 32 := 1#32
  let v181 : BitVec 32 := Scalar.addi v180 c1_i32_115
  let c0_i32_117 : BitVec 32 := 0#32
  ![3, v181.toNat, 0]
@[reducible] def k1_t14_loop (v49 : BitVec 32) : Scf.Loop 32 :=
  let c0_i32_120 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v186 : BitVec 32 := Scalar.subi v67 c0_i32_120
  let c1_i32_121 : BitVec 32 := 1#32
  let v188 : BitVec 32 := Scalar.divsi v186 c1_i32_121
  let v189 : BitVec 32 := Scalar.muli v188 c1_i32_121
  let v190 : BitVec 32 := Scalar.addi c0_i32_120 v189
  let c1_i32_122 : BitVec 32 := 1#32
  ⟨c0_i32_120, v190, c1_i32_122⟩
def k1_off37 (v49 : BitVec 32) (k1_t14 : Fin (k1_t14_loop v49).trips) (c0_i32_478 : BitVec 32) : Fin 1 → Nat :=
  let c0_i32_120 : BitVec 32 := 0#32
  let c1_i32_122 : BitVec 32 := 1#32
  let arg18 : BitVec 32 := Scf.iv c0_i32_120 c1_i32_122 k1_t14
  let c128_i32_477 : BitVec 32 := 128#32
  let v703 : BitVec 32 := Scalar.muli arg18 c128_i32_477
  let v704 : BitVec 32 := Scalar.addi v703 c0_i32_478
  let v705 : Index := Scalar.indexCast v704
  ![v705.toNat]
@[reducible] def k1_t15_loop (v49 : BitVec 32) : Scf.Loop 32 :=
  let c0_i32_120 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v186 : BitVec 32 := Scalar.subi v67 c0_i32_120
  let c1_i32_121 : BitVec 32 := 1#32
  let v188 : BitVec 32 := Scalar.divsi v186 c1_i32_121
  let v189 : BitVec 32 := Scalar.muli v188 c1_i32_121
  let v190 : BitVec 32 := Scalar.addi c0_i32_120 v189
  let v187 : BitVec 32 := Scalar.addi c0_i32_120 v186
  let c1_i32_123 : BitVec 32 := 1#32
  ⟨v190, v187, c1_i32_123⟩
def k1_off38 (v49 : BitVec 32) (k1_t15 : Fin (k1_t15_loop v49).trips) (c0_i32_478 : BitVec 32) : Fin 1 → Nat :=
  let c0_i32_120 : BitVec 32 := 0#32
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let v186 : BitVec 32 := Scalar.subi v67 c0_i32_120
  let c1_i32_121 : BitVec 32 := 1#32
  let v188 : BitVec 32 := Scalar.divsi v186 c1_i32_121
  let v189 : BitVec 32 := Scalar.muli v188 c1_i32_121
  let v190 : BitVec 32 := Scalar.addi c0_i32_120 v189
  let c1_i32_123 : BitVec 32 := 1#32
  let arg18 : BitVec 32 := Scf.iv v190 c1_i32_123 k1_t15
  let c128_i32_477 : BitVec 32 := 128#32
  let v703 : BitVec 32 := Scalar.muli arg18 c128_i32_477
  let v704 : BitVec 32 := Scalar.addi v703 c0_i32_478
  let v705 : Index := Scalar.indexCast v704
  ![v705.toNat]

def k1_chk2 (v49 : BitVec 32) : Prop :=
  ((k1_t1_loop v49).OK) ∧
  (∀ k1_t1 : Fin (k1_t1_loop v49).trips, ∀ (r : Fin 8), ∀ a, (k1_off5 v49 k1_t1 (BitVec.ofNat 32 (16 * r.val))) a + S16.size a ≤ S100096.size a) ∧
  ((k1_t2_loop v49).OK) ∧
  (∀ k1_t2 : Fin (k1_t2_loop v49).trips, ∀ (r : Fin 8), ∀ a, (k1_off6 v49 k1_t2 (BitVec.ofNat 32 (16 * r.val))) a + S16.size a ≤ S100096.size a) ∧
  ((k1_t14_loop v49).OK) ∧
  (∀ k1_t14 : Fin (k1_t14_loop v49).trips, ∀ (r : Fin 8), ∀ a, (k1_off37 v49 k1_t14 (BitVec.ofNat 32 (16 * r.val))) a + S16.size a ≤ S100096.size a) ∧
  ((k1_t15_loop v49).OK) ∧
  (∀ k1_t15 : Fin (k1_t15_loop v49).trips, ∀ (r : Fin 8), ∀ a, (k1_off38 v49 k1_t15 (BitVec.ofNat 32 (16 * r.val))) a + S16.size a ≤ S100096.size a)
theorem k1_t1_ok : ∀ (v49 : BitVec 32) (k1_hw2 : k1_chk2 v49), (k1_t1_loop v49).OK := fun v49 k1_hw2 => k1_hw2.1
theorem k1_off5_inb : ∀ (v49 : BitVec 32) (k1_hw2 : k1_chk2 v49) (k1_t1 : Fin (k1_t1_loop v49).trips), ∀ (r : Fin 8), ∀ a, (k1_off5 v49 k1_t1 (BitVec.ofNat 32 (16 * r.val))) a + S16.size a ≤ S100096.size a := fun v49 k1_hw2 k1_t1 r => k1_hw2.2.1 k1_t1 r
theorem k1_t2_ok : ∀ (v49 : BitVec 32) (k1_hw2 : k1_chk2 v49), (k1_t2_loop v49).OK := fun v49 k1_hw2 => k1_hw2.2.2.1
theorem k1_off6_inb : ∀ (v49 : BitVec 32) (k1_hw2 : k1_chk2 v49) (k1_t2 : Fin (k1_t2_loop v49).trips), ∀ (r : Fin 8), ∀ a, (k1_off6 v49 k1_t2 (BitVec.ofNat 32 (16 * r.val))) a + S16.size a ≤ S100096.size a := fun v49 k1_hw2 k1_t2 r => k1_hw2.2.2.2.1 k1_t2 r
theorem k1_t14_ok : ∀ (v49 : BitVec 32) (k1_hw2 : k1_chk2 v49), (k1_t14_loop v49).OK := fun v49 k1_hw2 => k1_hw2.2.2.2.2.1
theorem k1_off37_inb : ∀ (v49 : BitVec 32) (k1_hw2 : k1_chk2 v49) (k1_t14 : Fin (k1_t14_loop v49).trips), ∀ (r : Fin 8), ∀ a, (k1_off37 v49 k1_t14 (BitVec.ofNat 32 (16 * r.val))) a + S16.size a ≤ S100096.size a := fun v49 k1_hw2 k1_t14 r => k1_hw2.2.2.2.2.2.1 k1_t14 r
theorem k1_t15_ok : ∀ (v49 : BitVec 32) (k1_hw2 : k1_chk2 v49), (k1_t15_loop v49).OK := fun v49 k1_hw2 => k1_hw2.2.2.2.2.2.2.1
theorem k1_off38_inb : ∀ (v49 : BitVec 32) (k1_hw2 : k1_chk2 v49) (k1_t15 : Fin (k1_t15_loop v49).trips), ∀ (r : Fin 8), ∀ a, (k1_off38 v49 k1_t15 (BitVec.ofNat 32 (16 * r.val))) a + S16.size a ≤ S100096.size a := fun v49 k1_hw2 k1_t15 r => k1_hw2.2.2.2.2.2.2.2 k1_t15 r

def k1_chk43 (v214 : IVec S16 32) : Prop :=
  (∀ a x, ((![v214] : Fin 1 → IVec S16 32) a x).toNat < S128.size a) ∧
  (∀ a x, ((![v214] : Fin 1 → IVec S16 32) a x).toNat < S128.size a)
theorem k1_idx43_inb : ∀ (v214 : IVec S16 32) (k1_hw43 : k1_chk43 v214), ∀ a x, ((![v214] : Fin 1 → IVec S16 32) a x).toNat < S128.size a := fun v214 k1_hw43 => k1_hw43.1
theorem k1_idx44_inb : ∀ (v214 : IVec S16 32) (k1_hw43 : k1_chk43 v214), ∀ a x, ((![v214] : Fin 1 → IVec S16 32) a x).toNat < S128.size a := fun v214 k1_hw43 => k1_hw43.2
@[reducible] def k1_t16_loop (v49 : BitVec 32) (v222 : BitVec 32) : Scf.Loop 32 :=
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v241 : BitVec 32 := Scalar.subi v240 v67
  let c1_i32_144 : BitVec 32 := 1#32
  let v243 : BitVec 32 := Scalar.divsi v241 c1_i32_144
  let v244 : BitVec 32 := Scalar.muli v243 c1_i32_144
  let v245 : BitVec 32 := Scalar.addi v67 v244
  let c1_i32_145 : BitVec 32 := 1#32
  ⟨v67, v245, c1_i32_145⟩

def k1_off39 (v49 : BitVec 32) (v222 : BitVec 32) (k1_t16 : Fin (k1_t16_loop v49 v222).trips) (c0_i32_477 : BitVec 32) : Fin 1 → Nat :=
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let c1_i32_145 : BitVec 32 := 1#32
  let arg18 : BitVec 32 := Scf.iv v67 c1_i32_145 k1_t16
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t17_loop (v49 : BitVec 32) (v222 : BitVec 32) : Scf.Loop 32 :=
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v241 : BitVec 32 := Scalar.subi v240 v67
  let c1_i32_144 : BitVec 32 := 1#32
  let v243 : BitVec 32 := Scalar.divsi v241 c1_i32_144
  let v244 : BitVec 32 := Scalar.muli v243 c1_i32_144
  let v245 : BitVec 32 := Scalar.addi v67 v244
  let v242 : BitVec 32 := Scalar.addi v67 v241
  let c1_i32_146 : BitVec 32 := 1#32
  ⟨v245, v242, c1_i32_146⟩
def k1_off40 (v49 : BitVec 32) (v222 : BitVec 32) (k1_t17 : Fin (k1_t17_loop v49 v222).trips) (c0_i32_477 : BitVec 32) : Fin 1 → Nat :=
  let c0_i32_23 : BitVec 32 := 0#32
  let v51 : BitVec 1 := Scalar.cmpi .sgt v49 c0_i32_23
  let v52 : BitVec 32 := Scalar.extui v51
  let c0_i32_24 : BitVec 32 := 0#32
  let v53 : BitVec 1 := Scalar.cmpi .slt v49 c0_i32_24
  let v54 : BitVec 32 := Scalar.extui v53
  let v55 : BitVec 32 := Scalar.subi v52 v54
  let c128_i32 : BitVec 32 := 128#32
  let c0_i32_25 : BitVec 32 := 0#32
  let v56 : BitVec 1 := Scalar.cmpi .sgt c128_i32 c0_i32_25
  let v57 : BitVec 32 := Scalar.extui v56
  let c0_i32_26 : BitVec 32 := 0#32
  let v58 : BitVec 1 := Scalar.cmpi .slt c128_i32 c0_i32_26
  let v59 : BitVec 32 := Scalar.extui v58
  let v60 : BitVec 32 := Scalar.subi v57 v59
  let v61 : BitVec 1 := Scalar.cmpi .ne v55 v60
  let v62 : BitVec 32 := Scalar.remsi v49 c128_i32
  let c0_i32_27 : BitVec 32 := 0#32
  let v63 : BitVec 1 := Scalar.cmpi .ne v62 c0_i32_27
  let v64 : BitVec 1 := Scalar.andi v61 v63
  let v50 : BitVec 32 := Scalar.divsi v49 c128_i32
  let c1_i32_28 : BitVec 32 := 1#32
  let v65 : BitVec 32 := Scalar.subi v50 c1_i32_28
  let v66 : BitVec 32 := Scalar.select v64 v65 v50
  let c1_i32_29 : BitVec 32 := 1#32
  let v67 : BitVec 32 := Scalar.addi v66 c1_i32_29
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v241 : BitVec 32 := Scalar.subi v240 v67
  let c1_i32_144 : BitVec 32 := 1#32
  let v243 : BitVec 32 := Scalar.divsi v241 c1_i32_144
  let v244 : BitVec 32 := Scalar.muli v243 c1_i32_144
  let v245 : BitVec 32 := Scalar.addi v67 v244
  let c1_i32_146 : BitVec 32 := 1#32
  let arg18 : BitVec 32 := Scf.iv v245 c1_i32_146 k1_t17
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t18_loop : Scf.Loop 32 :=
  let c0_i32_148 : BitVec 32 := 0#32
  let c11_i32_149 : BitVec 32 := 11#32
  let v246 : BitVec 32 := Scalar.addi c0_i32_148 c11_i32_149
  let c1_i32_150 : BitVec 32 := 1#32
  ⟨c0_i32_148, v246, c1_i32_150⟩
def k1_off41 (i : grid1.Coords) (k1_t18 : Fin k1_t18_loop.trips) : Fin 3 → Nat :=
  let c4_i32_476 : BitVec 32 := 4#32
  let c0_i32_148 : BitVec 32 := 0#32
  let c1_i32_150 : BitVec 32 := 1#32
  let arg18 : BitVec 32 := Scf.iv c0_i32_148 c1_i32_150 k1_t18
  let v700 : BitVec 32 := Scalar.muli c4_i32_476 arg18
  let c0_i32_477 : BitVec 32 := 0#32
  let v701 : BitVec 32 := Scalar.addi v700 c0_i32_477
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_478 : BitVec 32 := 0#32
  ![v701.toNat, v213.toNat, 0]
@[reducible] def k1_t19_loop : Scf.Loop 32 :=
  let c0_i32_483 : BitVec 32 := 0#32
  let c122_i32_484 : BitVec 32 := 122#32
  let v711 : BitVec 32 := Scalar.addi c0_i32_483 c122_i32_484
  let c1_i32_485 : BitVec 32 := 1#32
  ⟨c0_i32_483, v711, c1_i32_485⟩

def k1_chk45 (arg20 : IVec S16 32) : Prop :=
  (∀ a x, ((![arg20] : Fin 1 → IVec S16 32) a x).toNat < S100096.size a)
theorem k1_idx45_inb : ∀ (arg20 : IVec S16 32) (k1_hw45 : k1_chk45 arg20), ∀ a x, ((![arg20] : Fin 1 → IVec S16 32) a x).toNat < S100096.size a := fun arg20 k1_hw45 => k1_hw45
def k1_off42 (k1_t19 : Fin k1_t19_loop.trips) : Fin 1 → Nat :=
  let c0_i32_483 : BitVec 32 := 0#32
  let c1_i32_485 : BitVec 32 := 1#32
  let arg19 : BitVec 32 := Scf.iv c0_i32_483 c1_i32_485 k1_t19
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk46 (v712_0 : IVec S16 32) : Prop :=
  (∀ a x, ((![v712_0] : Fin 1 → IVec S16 32) a x).toNat < S100096.size a)
theorem k1_idx46_inb : ∀ (v712_0 : IVec S16 32) (k1_hw46 : k1_chk46 v712_0), ∀ a x, ((![v712_0] : Fin 1 → IVec S16 32) a x).toNat < S100096.size a := fun v712_0 k1_hw46 => k1_hw46

def k1_chk47 (v712_2 : IVec S16 32) : Prop :=
  (∀ a x, ((![v712_2] : Fin 1 → IVec S16 32) a x).toNat < S100096.size a)
theorem k1_idx47_inb : ∀ (v712_2 : IVec S16 32) (k1_hw47 : k1_chk47 v712_2), ∀ a x, ((![v712_2] : Fin 1 → IVec S16 32) a x).toNat < S100096.size a := fun v712_2 k1_hw47 => k1_hw47

def k1_chk48 (v712_4 : IVec S16 32) : Prop :=
  (∀ a x, ((![v712_4] : Fin 1 → IVec S16 32) a x).toNat < S100096.size a)
theorem k1_idx48_inb : ∀ (v712_4 : IVec S16 32) (k1_hw48 : k1_chk48 v712_4), ∀ a x, ((![v712_4] : Fin 1 → IVec S16 32) a x).toNat < S100096.size a := fun v712_4 k1_hw48 => k1_hw48
def k1_off43 (i : grid1.Coords) (k1_t18 : Fin k1_t18_loop.trips) : Fin 3 → Nat :=
  let c4_i32_476 : BitVec 32 := 4#32
  let c0_i32_148 : BitVec 32 := 0#32
  let c1_i32_150 : BitVec 32 := 1#32
  let arg18 : BitVec 32 := Scf.iv c0_i32_148 c1_i32_150 k1_t18
  let v700 : BitVec 32 := Scalar.muli c4_i32_476 arg18
  let c0_i32_477 : BitVec 32 := 0#32
  let v701 : BitVec 32 := Scalar.addi v700 c0_i32_477
  let c4_i32_487 : BitVec 32 := 4#32
  let v714 : BitVec 32 := Scalar.addi v701 c4_i32_487
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_488 : BitVec 32 := 0#32
  ![v714.toNat, v213.toNat, 0]
def k1_off44 (i : grid1.Coords) (k1_t18 : Fin k1_t18_loop.trips) : Fin 3 → Nat :=
  let c4_i32_490 : BitVec 32 := 4#32
  let c0_i32_148 : BitVec 32 := 0#32
  let c1_i32_150 : BitVec 32 := 1#32
  let arg18 : BitVec 32 := Scf.iv c0_i32_148 c1_i32_150 k1_t18
  let v719 : BitVec 32 := Scalar.muli c4_i32_490 arg18
  let c1_i32_491 : BitVec 32 := 1#32
  let v720 : BitVec 32 := Scalar.addi v719 c1_i32_491
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_492 : BitVec 32 := 0#32
  ![v720.toNat, v213.toNat, 0]
@[reducible] def k1_t20_loop : Scf.Loop 32 :=
  let c0_i32_497 : BitVec 32 := 0#32
  let c122_i32_498 : BitVec 32 := 122#32
  let v730 : BitVec 32 := Scalar.addi c0_i32_497 c122_i32_498
  let c1_i32_499 : BitVec 32 := 1#32
  ⟨c0_i32_497, v730, c1_i32_499⟩

def k1_chk49 (arg20 : IVec S16 32) : Prop :=
  (∀ a x, ((![arg20] : Fin 1 → IVec S16 32) a x).toNat < S100096.size a)
theorem k1_idx49_inb : ∀ (arg20 : IVec S16 32) (k1_hw49 : k1_chk49 arg20), ∀ a x, ((![arg20] : Fin 1 → IVec S16 32) a x).toNat < S100096.size a := fun arg20 k1_hw49 => k1_hw49
def k1_off45 (k1_t20 : Fin k1_t20_loop.trips) : Fin 1 → Nat :=
  let c0_i32_497 : BitVec 32 := 0#32
  let c1_i32_499 : BitVec 32 := 1#32
  let arg19 : BitVec 32 := Scf.iv c0_i32_497 c1_i32_499 k1_t20
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk50 (v731_0 : IVec S16 32) : Prop :=
  (∀ a x, ((![v731_0] : Fin 1 → IVec S16 32) a x).toNat < S100096.size a)
theorem k1_idx50_inb : ∀ (v731_0 : IVec S16 32) (k1_hw50 : k1_chk50 v731_0), ∀ a x, ((![v731_0] : Fin 1 → IVec S16 32) a x).toNat < S100096.size a := fun v731_0 k1_hw50 => k1_hw50

def k1_chk51 (v731_2 : IVec S16 32) : Prop :=
  (∀ a x, ((![v731_2] : Fin 1 → IVec S16 32) a x).toNat < S100096.size a)
theorem k1_idx51_inb : ∀ (v731_2 : IVec S16 32) (k1_hw51 : k1_chk51 v731_2), ∀ a x, ((![v731_2] : Fin 1 → IVec S16 32) a x).toNat < S100096.size a := fun v731_2 k1_hw51 => k1_hw51

def k1_chk52 (v731_4 : IVec S16 32) : Prop :=
  (∀ a x, ((![v731_4] : Fin 1 → IVec S16 32) a x).toNat < S100096.size a)
theorem k1_idx52_inb : ∀ (v731_4 : IVec S16 32) (k1_hw52 : k1_chk52 v731_4), ∀ a x, ((![v731_4] : Fin 1 → IVec S16 32) a x).toNat < S100096.size a := fun v731_4 k1_hw52 => k1_hw52
def k1_off46 (i : grid1.Coords) (k1_t18 : Fin k1_t18_loop.trips) : Fin 3 → Nat :=
  let c4_i32_490 : BitVec 32 := 4#32
  let c0_i32_148 : BitVec 32 := 0#32
  let c1_i32_150 : BitVec 32 := 1#32
  let arg18 : BitVec 32 := Scf.iv c0_i32_148 c1_i32_150 k1_t18
  let v719 : BitVec 32 := Scalar.muli c4_i32_490 arg18
  let c1_i32_491 : BitVec 32 := 1#32
  let v720 : BitVec 32 := Scalar.addi v719 c1_i32_491
  let c4_i32_501 : BitVec 32 := 4#32
  let v733 : BitVec 32 := Scalar.addi v720 c4_i32_501
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_502 : BitVec 32 := 0#32
  ![v733.toNat, v213.toNat, 0]
def k1_off47 (i : grid1.Coords) (k1_t18 : Fin k1_t18_loop.trips) : Fin 3 → Nat :=
  let c4_i32_504 : BitVec 32 := 4#32
  let c0_i32_148 : BitVec 32 := 0#32
  let c1_i32_150 : BitVec 32 := 1#32
  let arg18 : BitVec 32 := Scf.iv c0_i32_148 c1_i32_150 k1_t18
  let v738 : BitVec 32 := Scalar.muli c4_i32_504 arg18
  let c2_i32_505 : BitVec 32 := 2#32
  let v739 : BitVec 32 := Scalar.addi v738 c2_i32_505
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_506 : BitVec 32 := 0#32
  ![v739.toNat, v213.toNat, 0]
@[reducible] def k1_t21_loop : Scf.Loop 32 :=
  let c0_i32_511 : BitVec 32 := 0#32
  let c122_i32_512 : BitVec 32 := 122#32
  let v749 : BitVec 32 := Scalar.addi c0_i32_511 c122_i32_512
  let c1_i32_513 : BitVec 32 := 1#32
  ⟨c0_i32_511, v749, c1_i32_513⟩

def k1_chk53 (arg20 : IVec S16 32) : Prop :=
  (∀ a x, ((![arg20] : Fin 1 → IVec S16 32) a x).toNat < S100096.size a)
theorem k1_idx53_inb : ∀ (arg20 : IVec S16 32) (k1_hw53 : k1_chk53 arg20), ∀ a x, ((![arg20] : Fin 1 → IVec S16 32) a x).toNat < S100096.size a := fun arg20 k1_hw53 => k1_hw53
def k1_off48 (k1_t21 : Fin k1_t21_loop.trips) : Fin 1 → Nat :=
  let c0_i32_511 : BitVec 32 := 0#32
  let c1_i32_513 : BitVec 32 := 1#32
  let arg19 : BitVec 32 := Scf.iv c0_i32_511 c1_i32_513 k1_t21
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk54 (v750_0 : IVec S16 32) : Prop :=
  (∀ a x, ((![v750_0] : Fin 1 → IVec S16 32) a x).toNat < S100096.size a)
theorem k1_idx54_inb : ∀ (v750_0 : IVec S16 32) (k1_hw54 : k1_chk54 v750_0), ∀ a x, ((![v750_0] : Fin 1 → IVec S16 32) a x).toNat < S100096.size a := fun v750_0 k1_hw54 => k1_hw54

def k1_chk55 (v750_2 : IVec S16 32) : Prop :=
  (∀ a x, ((![v750_2] : Fin 1 → IVec S16 32) a x).toNat < S100096.size a)
theorem k1_idx55_inb : ∀ (v750_2 : IVec S16 32) (k1_hw55 : k1_chk55 v750_2), ∀ a x, ((![v750_2] : Fin 1 → IVec S16 32) a x).toNat < S100096.size a := fun v750_2 k1_hw55 => k1_hw55

def k1_chk56 (v750_4 : IVec S16 32) : Prop :=
  (∀ a x, ((![v750_4] : Fin 1 → IVec S16 32) a x).toNat < S100096.size a)
theorem k1_idx56_inb : ∀ (v750_4 : IVec S16 32) (k1_hw56 : k1_chk56 v750_4), ∀ a x, ((![v750_4] : Fin 1 → IVec S16 32) a x).toNat < S100096.size a := fun v750_4 k1_hw56 => k1_hw56
def k1_off49 (i : grid1.Coords) (k1_t18 : Fin k1_t18_loop.trips) : Fin 3 → Nat :=
  let c4_i32_504 : BitVec 32 := 4#32
  let c0_i32_148 : BitVec 32 := 0#32
  let c1_i32_150 : BitVec 32 := 1#32
  let arg18 : BitVec 32 := Scf.iv c0_i32_148 c1_i32_150 k1_t18
  let v738 : BitVec 32 := Scalar.muli c4_i32_504 arg18
  let c2_i32_505 : BitVec 32 := 2#32
  let v739 : BitVec 32 := Scalar.addi v738 c2_i32_505
  let c4_i32_515 : BitVec 32 := 4#32
  let v752 : BitVec 32 := Scalar.addi v739 c4_i32_515
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_516 : BitVec 32 := 0#32
  ![v752.toNat, v213.toNat, 0]
def k1_off50 (i : grid1.Coords) (k1_t18 : Fin k1_t18_loop.trips) : Fin 3 → Nat :=
  let c4_i32_518 : BitVec 32 := 4#32
  let c0_i32_148 : BitVec 32 := 0#32
  let c1_i32_150 : BitVec 32 := 1#32
  let arg18 : BitVec 32 := Scf.iv c0_i32_148 c1_i32_150 k1_t18
  let v757 : BitVec 32 := Scalar.muli c4_i32_518 arg18
  let c3_i32_519 : BitVec 32 := 3#32
  let v758 : BitVec 32 := Scalar.addi v757 c3_i32_519
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_520 : BitVec 32 := 0#32
  ![v758.toNat, v213.toNat, 0]
@[reducible] def k1_t22_loop : Scf.Loop 32 :=
  let c0_i32_525 : BitVec 32 := 0#32
  let c122_i32_526 : BitVec 32 := 122#32
  let v768 : BitVec 32 := Scalar.addi c0_i32_525 c122_i32_526
  let c1_i32_527 : BitVec 32 := 1#32
  ⟨c0_i32_525, v768, c1_i32_527⟩

def k1_chk57 (arg20 : IVec S16 32) : Prop :=
  (∀ a x, ((![arg20] : Fin 1 → IVec S16 32) a x).toNat < S100096.size a)
theorem k1_idx57_inb : ∀ (arg20 : IVec S16 32) (k1_hw57 : k1_chk57 arg20), ∀ a x, ((![arg20] : Fin 1 → IVec S16 32) a x).toNat < S100096.size a := fun arg20 k1_hw57 => k1_hw57
def k1_off51 (k1_t22 : Fin k1_t22_loop.trips) : Fin 1 → Nat :=
  let c0_i32_525 : BitVec 32 := 0#32
  let c1_i32_527 : BitVec 32 := 1#32
  let arg19 : BitVec 32 := Scf.iv c0_i32_525 c1_i32_527 k1_t22
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk58 (v769_0 : IVec S16 32) : Prop :=
  (∀ a x, ((![v769_0] : Fin 1 → IVec S16 32) a x).toNat < S100096.size a)
theorem k1_idx58_inb : ∀ (v769_0 : IVec S16 32) (k1_hw58 : k1_chk58 v769_0), ∀ a x, ((![v769_0] : Fin 1 → IVec S16 32) a x).toNat < S100096.size a := fun v769_0 k1_hw58 => k1_hw58

def k1_chk59 (v769_2 : IVec S16 32) : Prop :=
  (∀ a x, ((![v769_2] : Fin 1 → IVec S16 32) a x).toNat < S100096.size a)
theorem k1_idx59_inb : ∀ (v769_2 : IVec S16 32) (k1_hw59 : k1_chk59 v769_2), ∀ a x, ((![v769_2] : Fin 1 → IVec S16 32) a x).toNat < S100096.size a := fun v769_2 k1_hw59 => k1_hw59

def k1_chk60 (v769_4 : IVec S16 32) : Prop :=
  (∀ a x, ((![v769_4] : Fin 1 → IVec S16 32) a x).toNat < S100096.size a)
theorem k1_idx60_inb : ∀ (v769_4 : IVec S16 32) (k1_hw60 : k1_chk60 v769_4), ∀ a x, ((![v769_4] : Fin 1 → IVec S16 32) a x).toNat < S100096.size a := fun v769_4 k1_hw60 => k1_hw60
def k1_off52 (i : grid1.Coords) (k1_t18 : Fin k1_t18_loop.trips) : Fin 3 → Nat :=
  let c4_i32_518 : BitVec 32 := 4#32
  let c0_i32_148 : BitVec 32 := 0#32
  let c1_i32_150 : BitVec 32 := 1#32
  let arg18 : BitVec 32 := Scf.iv c0_i32_148 c1_i32_150 k1_t18
  let v757 : BitVec 32 := Scalar.muli c4_i32_518 arg18
  let c3_i32_519 : BitVec 32 := 3#32
  let v758 : BitVec 32 := Scalar.addi v757 c3_i32_519
  let c4_i32_529 : BitVec 32 := 4#32
  let v771 : BitVec 32 := Scalar.addi v758 c4_i32_529
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_530 : BitVec 32 := 0#32
  ![v771.toNat, v213.toNat, 0]
def k1_off53 (i : grid1.Coords) : Fin 3 → Nat :=
  let c44_i32_152 : BitVec 32 := 44#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_153 : BitVec 32 := 0#32
  ![44, v213.toNat, 0]
@[reducible] def k1_t23_loop : Scf.Loop 32 :=
  let c0_i32_158 : BitVec 32 := 0#32
  let c122_i32_159 : BitVec 32 := 122#32
  let v256 : BitVec 32 := Scalar.addi c0_i32_158 c122_i32_159
  let c1_i32_160 : BitVec 32 := 1#32
  ⟨c0_i32_158, v256, c1_i32_160⟩

def k1_chk61 (arg19 : IVec S16 32) : Prop :=
  (∀ a x, ((![arg19] : Fin 1 → IVec S16 32) a x).toNat < S100096.size a)
theorem k1_idx61_inb : ∀ (arg19 : IVec S16 32) (k1_hw61 : k1_chk61 arg19), ∀ a x, ((![arg19] : Fin 1 → IVec S16 32) a x).toNat < S100096.size a := fun arg19 k1_hw61 => k1_hw61
def k1_off54 (k1_t23 : Fin k1_t23_loop.trips) : Fin 1 → Nat :=
  let c0_i32_158 : BitVec 32 := 0#32
  let c1_i32_160 : BitVec 32 := 1#32
  let arg18 : BitVec 32 := Scf.iv c0_i32_158 c1_i32_160 k1_t23
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk62 (v257_0 : IVec S16 32) : Prop :=
  (∀ a x, ((![v257_0] : Fin 1 → IVec S16 32) a x).toNat < S100096.size a)
theorem k1_idx62_inb : ∀ (v257_0 : IVec S16 32) (k1_hw62 : k1_chk62 v257_0), ∀ a x, ((![v257_0] : Fin 1 → IVec S16 32) a x).toNat < S100096.size a := fun v257_0 k1_hw62 => k1_hw62

def k1_chk63 (v257_2 : IVec S16 32) : Prop :=
  (∀ a x, ((![v257_2] : Fin 1 → IVec S16 32) a x).toNat < S100096.size a)
theorem k1_idx63_inb : ∀ (v257_2 : IVec S16 32) (k1_hw63 : k1_chk63 v257_2), ∀ a x, ((![v257_2] : Fin 1 → IVec S16 32) a x).toNat < S100096.size a := fun v257_2 k1_hw63 => k1_hw63

def k1_chk64 (v257_4 : IVec S16 32) : Prop :=
  (∀ a x, ((![v257_4] : Fin 1 → IVec S16 32) a x).toNat < S100096.size a)
theorem k1_idx64_inb : ∀ (v257_4 : IVec S16 32) (k1_hw64 : k1_chk64 v257_4), ∀ a x, ((![v257_4] : Fin 1 → IVec S16 32) a x).toNat < S100096.size a := fun v257_4 k1_hw64 => k1_hw64
def k1_off55 (i : grid1.Coords) : Fin 3 → Nat :=
  let c48_i32_162 : BitVec 32 := 48#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_163 : BitVec 32 := 0#32
  ![48, v213.toNat, 0]
def k1_off56 (i : grid1.Coords) : Fin 3 → Nat :=
  let c45_i32_165 : BitVec 32 := 45#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_166 : BitVec 32 := 0#32
  ![45, v213.toNat, 0]
@[reducible] def k1_t24_loop : Scf.Loop 32 :=
  let c0_i32_171 : BitVec 32 := 0#32
  let c122_i32_172 : BitVec 32 := 122#32
  let v272 : BitVec 32 := Scalar.addi c0_i32_171 c122_i32_172
  let c1_i32_173 : BitVec 32 := 1#32
  ⟨c0_i32_171, v272, c1_i32_173⟩

def k1_chk65 (arg19 : IVec S16 32) : Prop :=
  (∀ a x, ((![arg19] : Fin 1 → IVec S16 32) a x).toNat < S100096.size a)
theorem k1_idx65_inb : ∀ (arg19 : IVec S16 32) (k1_hw65 : k1_chk65 arg19), ∀ a x, ((![arg19] : Fin 1 → IVec S16 32) a x).toNat < S100096.size a := fun arg19 k1_hw65 => k1_hw65
def k1_off57 (k1_t24 : Fin k1_t24_loop.trips) : Fin 1 → Nat :=
  let c0_i32_171 : BitVec 32 := 0#32
  let c1_i32_173 : BitVec 32 := 1#32
  let arg18 : BitVec 32 := Scf.iv c0_i32_171 c1_i32_173 k1_t24
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk66 (v273_0 : IVec S16 32) : Prop :=
  (∀ a x, ((![v273_0] : Fin 1 → IVec S16 32) a x).toNat < S100096.size a)
theorem k1_idx66_inb : ∀ (v273_0 : IVec S16 32) (k1_hw66 : k1_chk66 v273_0), ∀ a x, ((![v273_0] : Fin 1 → IVec S16 32) a x).toNat < S100096.size a := fun v273_0 k1_hw66 => k1_hw66

def k1_chk67 (v273_2 : IVec S16 32) : Prop :=
  (∀ a x, ((![v273_2] : Fin 1 → IVec S16 32) a x).toNat < S100096.size a)
theorem k1_idx67_inb : ∀ (v273_2 : IVec S16 32) (k1_hw67 : k1_chk67 v273_2), ∀ a x, ((![v273_2] : Fin 1 → IVec S16 32) a x).toNat < S100096.size a := fun v273_2 k1_hw67 => k1_hw67

def k1_chk68 (v273_4 : IVec S16 32) : Prop :=
  (∀ a x, ((![v273_4] : Fin 1 → IVec S16 32) a x).toNat < S100096.size a)
theorem k1_idx68_inb : ∀ (v273_4 : IVec S16 32) (k1_hw68 : k1_chk68 v273_4), ∀ a x, ((![v273_4] : Fin 1 → IVec S16 32) a x).toNat < S100096.size a := fun v273_4 k1_hw68 => k1_hw68
def k1_off58 (i : grid1.Coords) : Fin 3 → Nat :=
  let c49_i32_175 : BitVec 32 := 49#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_176 : BitVec 32 := 0#32
  ![49, v213.toNat, 0]
def k1_off59 (i : grid1.Coords) : Fin 3 → Nat :=
  let c46_i32_178 : BitVec 32 := 46#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_179 : BitVec 32 := 0#32
  ![46, v213.toNat, 0]
@[reducible] def k1_t25_loop : Scf.Loop 32 :=
  let c0_i32_184 : BitVec 32 := 0#32
  let c122_i32_185 : BitVec 32 := 122#32
  let v288 : BitVec 32 := Scalar.addi c0_i32_184 c122_i32_185
  let c1_i32_186 : BitVec 32 := 1#32
  ⟨c0_i32_184, v288, c1_i32_186⟩

def k1_chk69 (arg19 : IVec S16 32) : Prop :=
  (∀ a x, ((![arg19] : Fin 1 → IVec S16 32) a x).toNat < S100096.size a)
theorem k1_idx69_inb : ∀ (arg19 : IVec S16 32) (k1_hw69 : k1_chk69 arg19), ∀ a x, ((![arg19] : Fin 1 → IVec S16 32) a x).toNat < S100096.size a := fun arg19 k1_hw69 => k1_hw69
def k1_off60 (k1_t25 : Fin k1_t25_loop.trips) : Fin 1 → Nat :=
  let c0_i32_184 : BitVec 32 := 0#32
  let c1_i32_186 : BitVec 32 := 1#32
  let arg18 : BitVec 32 := Scf.iv c0_i32_184 c1_i32_186 k1_t25
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk70 (v289_0 : IVec S16 32) : Prop :=
  (∀ a x, ((![v289_0] : Fin 1 → IVec S16 32) a x).toNat < S100096.size a)
theorem k1_idx70_inb : ∀ (v289_0 : IVec S16 32) (k1_hw70 : k1_chk70 v289_0), ∀ a x, ((![v289_0] : Fin 1 → IVec S16 32) a x).toNat < S100096.size a := fun v289_0 k1_hw70 => k1_hw70

def k1_chk71 (v289_2 : IVec S16 32) : Prop :=
  (∀ a x, ((![v289_2] : Fin 1 → IVec S16 32) a x).toNat < S100096.size a)
theorem k1_idx71_inb : ∀ (v289_2 : IVec S16 32) (k1_hw71 : k1_chk71 v289_2), ∀ a x, ((![v289_2] : Fin 1 → IVec S16 32) a x).toNat < S100096.size a := fun v289_2 k1_hw71 => k1_hw71

def k1_chk72 (v289_4 : IVec S16 32) : Prop :=
  (∀ a x, ((![v289_4] : Fin 1 → IVec S16 32) a x).toNat < S100096.size a)
theorem k1_idx72_inb : ∀ (v289_4 : IVec S16 32) (k1_hw72 : k1_chk72 v289_4), ∀ a x, ((![v289_4] : Fin 1 → IVec S16 32) a x).toNat < S100096.size a := fun v289_4 k1_hw72 => k1_hw72
def k1_off61 (i : grid1.Coords) : Fin 3 → Nat :=
  let c0_i32_191 : BitVec 32 := 0#32
  let arg0 : BitVec 32 := BitVec.ofNat 32 (i 0).val
  let c64_i32_188 : BitVec 32 := 64#32
  let v291 : BitVec 32 := Scalar.muli arg0 c64_i32_188
  let arg1 : BitVec 32 := BitVec.ofNat 32 (i 1).val
  let c4_i32_189 : BitVec 32 := 4#32
  let v292 : BitVec 32 := Scalar.muli arg1 c4_i32_189
  let v293 : BitVec 32 := Scalar.addi v291 v292
  let c2_i32_190 : BitVec 32 := 2#32
  let v294 : BitVec 32 := Scalar.addi v293 c2_i32_190
  let c0_i32_192 : BitVec 32 := 0#32
  ![0, v294.toNat, 0]
def k1_off62 (i : grid1.Coords) : Fin 3 → Nat :=
  let c47_i32_194 : BitVec 32 := 47#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_195 : BitVec 32 := 0#32
  ![47, v213.toNat, 0]
@[reducible] def k1_t26_loop : Scf.Loop 32 :=
  let c0_i32_200 : BitVec 32 := 0#32
  let c122_i32_201 : BitVec 32 := 122#32
  let v308 : BitVec 32 := Scalar.addi c0_i32_200 c122_i32_201
  let c1_i32_202 : BitVec 32 := 1#32
  ⟨c0_i32_200, v308, c1_i32_202⟩

def k1_chk73 (arg19 : IVec S16 32) : Prop :=
  (∀ a x, ((![arg19] : Fin 1 → IVec S16 32) a x).toNat < S100096.size a)
theorem k1_idx73_inb : ∀ (arg19 : IVec S16 32) (k1_hw73 : k1_chk73 arg19), ∀ a x, ((![arg19] : Fin 1 → IVec S16 32) a x).toNat < S100096.size a := fun arg19 k1_hw73 => k1_hw73
def k1_off63 (k1_t26 : Fin k1_t26_loop.trips) : Fin 1 → Nat :=
  let c0_i32_200 : BitVec 32 := 0#32
  let c1_i32_202 : BitVec 32 := 1#32
  let arg18 : BitVec 32 := Scf.iv c0_i32_200 c1_i32_202 k1_t26
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk74 (v309_0 : IVec S16 32) : Prop :=
  (∀ a x, ((![v309_0] : Fin 1 → IVec S16 32) a x).toNat < S100096.size a)
theorem k1_idx74_inb : ∀ (v309_0 : IVec S16 32) (k1_hw74 : k1_chk74 v309_0), ∀ a x, ((![v309_0] : Fin 1 → IVec S16 32) a x).toNat < S100096.size a := fun v309_0 k1_hw74 => k1_hw74

def k1_chk75 (v309_2 : IVec S16 32) : Prop :=
  (∀ a x, ((![v309_2] : Fin 1 → IVec S16 32) a x).toNat < S100096.size a)
theorem k1_idx75_inb : ∀ (v309_2 : IVec S16 32) (k1_hw75 : k1_chk75 v309_2), ∀ a x, ((![v309_2] : Fin 1 → IVec S16 32) a x).toNat < S100096.size a := fun v309_2 k1_hw75 => k1_hw75

def k1_chk76 (v309_4 : IVec S16 32) : Prop :=
  (∀ a x, ((![v309_4] : Fin 1 → IVec S16 32) a x).toNat < S100096.size a)
theorem k1_idx76_inb : ∀ (v309_4 : IVec S16 32) (k1_hw76 : k1_chk76 v309_4), ∀ a x, ((![v309_4] : Fin 1 → IVec S16 32) a x).toNat < S100096.size a := fun v309_4 k1_hw76 => k1_hw76
def k1_off64 (i : grid1.Coords) : Fin 3 → Nat :=
  let c1_i32_207 : BitVec 32 := 1#32
  let arg0 : BitVec 32 := BitVec.ofNat 32 (i 0).val
  let c64_i32_204 : BitVec 32 := 64#32
  let v311 : BitVec 32 := Scalar.muli arg0 c64_i32_204
  let arg1 : BitVec 32 := BitVec.ofNat 32 (i 1).val
  let c4_i32_205 : BitVec 32 := 4#32
  let v312 : BitVec 32 := Scalar.muli arg1 c4_i32_205
  let v313 : BitVec 32 := Scalar.addi v311 v312
  let c2_i32_206 : BitVec 32 := 2#32
  let v314 : BitVec 32 := Scalar.addi v313 c2_i32_206
  let c0_i32_208 : BitVec 32 := 0#32
  ![1, v314.toNat, 0]
def k1_off65 (i : grid1.Coords) : Fin 3 → Nat :=
  let c48_i32_210 : BitVec 32 := 48#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_211 : BitVec 32 := 0#32
  ![48, v213.toNat, 0]
@[reducible] def k1_t27_loop : Scf.Loop 32 :=
  let c0_i32_216 : BitVec 32 := 0#32
  let c122_i32_217 : BitVec 32 := 122#32
  let v328 : BitVec 32 := Scalar.addi c0_i32_216 c122_i32_217
  let c1_i32_218 : BitVec 32 := 1#32
  ⟨c0_i32_216, v328, c1_i32_218⟩

def k1_chk77 (arg19 : IVec S16 32) : Prop :=
  (∀ a x, ((![arg19] : Fin 1 → IVec S16 32) a x).toNat < S100096.size a)
theorem k1_idx77_inb : ∀ (arg19 : IVec S16 32) (k1_hw77 : k1_chk77 arg19), ∀ a x, ((![arg19] : Fin 1 → IVec S16 32) a x).toNat < S100096.size a := fun arg19 k1_hw77 => k1_hw77
def k1_off66 (k1_t27 : Fin k1_t27_loop.trips) : Fin 1 → Nat :=
  let c0_i32_216 : BitVec 32 := 0#32
  let c1_i32_218 : BitVec 32 := 1#32
  let arg18 : BitVec 32 := Scf.iv c0_i32_216 c1_i32_218 k1_t27
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk78 (v329_0 : IVec S16 32) : Prop :=
  (∀ a x, ((![v329_0] : Fin 1 → IVec S16 32) a x).toNat < S100096.size a)
theorem k1_idx78_inb : ∀ (v329_0 : IVec S16 32) (k1_hw78 : k1_chk78 v329_0), ∀ a x, ((![v329_0] : Fin 1 → IVec S16 32) a x).toNat < S100096.size a := fun v329_0 k1_hw78 => k1_hw78

def k1_chk79 (v329_2 : IVec S16 32) : Prop :=
  (∀ a x, ((![v329_2] : Fin 1 → IVec S16 32) a x).toNat < S100096.size a)
theorem k1_idx79_inb : ∀ (v329_2 : IVec S16 32) (k1_hw79 : k1_chk79 v329_2), ∀ a x, ((![v329_2] : Fin 1 → IVec S16 32) a x).toNat < S100096.size a := fun v329_2 k1_hw79 => k1_hw79

def k1_chk80 (v329_4 : IVec S16 32) : Prop :=
  (∀ a x, ((![v329_4] : Fin 1 → IVec S16 32) a x).toNat < S100096.size a)
theorem k1_idx80_inb : ∀ (v329_4 : IVec S16 32) (k1_hw80 : k1_chk80 v329_4), ∀ a x, ((![v329_4] : Fin 1 → IVec S16 32) a x).toNat < S100096.size a := fun v329_4 k1_hw80 => k1_hw80
def k1_off67 (i : grid1.Coords) : Fin 3 → Nat :=
  let c2_i32_223 : BitVec 32 := 2#32
  let arg0 : BitVec 32 := BitVec.ofNat 32 (i 0).val
  let c64_i32_220 : BitVec 32 := 64#32
  let v331 : BitVec 32 := Scalar.muli arg0 c64_i32_220
  let arg1 : BitVec 32 := BitVec.ofNat 32 (i 1).val
  let c4_i32_221 : BitVec 32 := 4#32
  let v332 : BitVec 32 := Scalar.muli arg1 c4_i32_221
  let v333 : BitVec 32 := Scalar.addi v331 v332
  let c2_i32_222 : BitVec 32 := 2#32
  let v334 : BitVec 32 := Scalar.addi v333 c2_i32_222
  let c0_i32_224 : BitVec 32 := 0#32
  ![2, v334.toNat, 0]
def k1_off68 (i : grid1.Coords) : Fin 3 → Nat :=
  let c49_i32_226 : BitVec 32 := 49#32
  let arg0 : BitVec 32 := BitVec.ofNat 32 (i 0).val
  let c64_i32_130 : BitVec 32 := 64#32
  let v210 : BitVec 32 := Scalar.muli arg0 c64_i32_130
  let arg1 : BitVec 32 := BitVec.ofNat 32 (i 1).val
  let c4_i32_131 : BitVec 32 := 4#32
  let v211 : BitVec 32 := Scalar.muli arg1 c4_i32_131
  let v212 : BitVec 32 := Scalar.addi v210 v211
  let c1_i32_132 : BitVec 32 := 1#32
  let v213 : BitVec 32 := Scalar.addi v212 c1_i32_132
  let c0_i32_227 : BitVec 32 := 0#32
  ![49, v213.toNat, 0]
@[reducible] def k1_t28_loop : Scf.Loop 32 :=
  let c0_i32_232 : BitVec 32 := 0#32
  let c122_i32_233 : BitVec 32 := 122#32
  let v348 : BitVec 32 := Scalar.addi c0_i32_232 c122_i32_233
  let c1_i32_234 : BitVec 32 := 1#32
  ⟨c0_i32_232, v348, c1_i32_234⟩

def k1_chk81 (arg19 : IVec S16 32) : Prop :=
  (∀ a x, ((![arg19] : Fin 1 → IVec S16 32) a x).toNat < S100096.size a)
theorem k1_idx81_inb : ∀ (arg19 : IVec S16 32) (k1_hw81 : k1_chk81 arg19), ∀ a x, ((![arg19] : Fin 1 → IVec S16 32) a x).toNat < S100096.size a := fun arg19 k1_hw81 => k1_hw81
def k1_off69 (k1_t28 : Fin k1_t28_loop.trips) : Fin 1 → Nat :=
  let c0_i32_232 : BitVec 32 := 0#32
  let c1_i32_234 : BitVec 32 := 1#32
  let arg18 : BitVec 32 := Scf.iv c0_i32_232 c1_i32_234 k1_t28
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk82 (v349_0 : IVec S16 32) : Prop :=
  (∀ a x, ((![v349_0] : Fin 1 → IVec S16 32) a x).toNat < S100096.size a)
theorem k1_idx82_inb : ∀ (v349_0 : IVec S16 32) (k1_hw82 : k1_chk82 v349_0), ∀ a x, ((![v349_0] : Fin 1 → IVec S16 32) a x).toNat < S100096.size a := fun v349_0 k1_hw82 => k1_hw82

def k1_chk83 (v349_2 : IVec S16 32) : Prop :=
  (∀ a x, ((![v349_2] : Fin 1 → IVec S16 32) a x).toNat < S100096.size a)
theorem k1_idx83_inb : ∀ (v349_2 : IVec S16 32) (k1_hw83 : k1_chk83 v349_2), ∀ a x, ((![v349_2] : Fin 1 → IVec S16 32) a x).toNat < S100096.size a := fun v349_2 k1_hw83 => k1_hw83

def k1_chk84 (v349_4 : IVec S16 32) : Prop :=
  (∀ a x, ((![v349_4] : Fin 1 → IVec S16 32) a x).toNat < S100096.size a)
theorem k1_idx84_inb : ∀ (v349_4 : IVec S16 32) (k1_hw84 : k1_chk84 v349_4), ∀ a x, ((![v349_4] : Fin 1 → IVec S16 32) a x).toNat < S100096.size a := fun v349_4 k1_hw84 => k1_hw84
def k1_off70 (i : grid1.Coords) : Fin 3 → Nat :=
  let c3_i32_239 : BitVec 32 := 3#32
  let arg0 : BitVec 32 := BitVec.ofNat 32 (i 0).val
  let c64_i32_236 : BitVec 32 := 64#32
  let v351 : BitVec 32 := Scalar.muli arg0 c64_i32_236
  let arg1 : BitVec 32 := BitVec.ofNat 32 (i 1).val
  let c4_i32_237 : BitVec 32 := 4#32
  let v352 : BitVec 32 := Scalar.muli arg1 c4_i32_237
  let v353 : BitVec 32 := Scalar.addi v351 v352
  let c2_i32_238 : BitVec 32 := 2#32
  let v354 : BitVec 32 := Scalar.addi v353 c2_i32_238
  let c0_i32_240 : BitVec 32 := 0#32
  ![3, v354.toNat, 0]
@[reducible] def k1_t29_loop (v222 : BitVec 32) : Scf.Loop 32 :=
  let c0_i32_243 : BitVec 32 := 0#32
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v359 : BitVec 32 := Scalar.subi v240 c0_i32_243
  let c1_i32_244 : BitVec 32 := 1#32
  let v361 : BitVec 32 := Scalar.divsi v359 c1_i32_244
  let v362 : BitVec 32 := Scalar.muli v361 c1_i32_244
  let v363 : BitVec 32 := Scalar.addi c0_i32_243 v362
  let c1_i32_245 : BitVec 32 := 1#32
  ⟨c0_i32_243, v363, c1_i32_245⟩
def k1_off71 (v222 : BitVec 32) (k1_t29 : Fin (k1_t29_loop v222).trips) (c0_i32_478 : BitVec 32) : Fin 1 → Nat :=
  let c0_i32_243 : BitVec 32 := 0#32
  let c1_i32_245 : BitVec 32 := 1#32
  let arg18 : BitVec 32 := Scf.iv c0_i32_243 c1_i32_245 k1_t29
  let c128_i32_477 : BitVec 32 := 128#32
  let v703 : BitVec 32 := Scalar.muli arg18 c128_i32_477
  let v704 : BitVec 32 := Scalar.addi v703 c0_i32_478
  let v705 : Index := Scalar.indexCast v704
  ![v705.toNat]
@[reducible] def k1_t30_loop (v222 : BitVec 32) : Scf.Loop 32 :=
  let c0_i32_243 : BitVec 32 := 0#32
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v359 : BitVec 32 := Scalar.subi v240 c0_i32_243
  let c1_i32_244 : BitVec 32 := 1#32
  let v361 : BitVec 32 := Scalar.divsi v359 c1_i32_244
  let v362 : BitVec 32 := Scalar.muli v361 c1_i32_244
  let v363 : BitVec 32 := Scalar.addi c0_i32_243 v362
  let v360 : BitVec 32 := Scalar.addi c0_i32_243 v359
  let c1_i32_246 : BitVec 32 := 1#32
  ⟨v363, v360, c1_i32_246⟩
def k1_off72 (v222 : BitVec 32) (k1_t30 : Fin (k1_t30_loop v222).trips) (c0_i32_478 : BitVec 32) : Fin 1 → Nat :=
  let c0_i32_243 : BitVec 32 := 0#32
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let v359 : BitVec 32 := Scalar.subi v240 c0_i32_243
  let c1_i32_244 : BitVec 32 := 1#32
  let v361 : BitVec 32 := Scalar.divsi v359 c1_i32_244
  let v362 : BitVec 32 := Scalar.muli v361 c1_i32_244
  let v363 : BitVec 32 := Scalar.addi c0_i32_243 v362
  let c1_i32_246 : BitVec 32 := 1#32
  let arg18 : BitVec 32 := Scf.iv v363 c1_i32_246 k1_t30
  let c128_i32_477 : BitVec 32 := 128#32
  let v703 : BitVec 32 := Scalar.muli arg18 c128_i32_477
  let v704 : BitVec 32 := Scalar.addi v703 c0_i32_478
  let v705 : Index := Scalar.indexCast v704
  ![v705.toNat]

def k1_chk44 (v49 : BitVec 32) (v222 : BitVec 32) : Prop :=
  ((k1_t16_loop v49 v222).OK) ∧
  (∀ k1_t16 : Fin (k1_t16_loop v49 v222).trips, ∀ (r : Fin 8), ∀ a, (k1_off39 v49 v222 k1_t16 (BitVec.ofNat 32 (16 * r.val))) a + S16.size a ≤ S100096.size a) ∧
  ((k1_t17_loop v49 v222).OK) ∧
  (∀ k1_t17 : Fin (k1_t17_loop v49 v222).trips, ∀ (r : Fin 8), ∀ a, (k1_off40 v49 v222 k1_t17 (BitVec.ofNat 32 (16 * r.val))) a + S16.size a ≤ S100096.size a) ∧
  ((k1_t29_loop v222).OK) ∧
  (∀ k1_t29 : Fin (k1_t29_loop v222).trips, ∀ (r : Fin 8), ∀ a, (k1_off71 v222 k1_t29 (BitVec.ofNat 32 (16 * r.val))) a + S16.size a ≤ S100096.size a) ∧
  ((k1_t30_loop v222).OK) ∧
  (∀ k1_t30 : Fin (k1_t30_loop v222).trips, ∀ (r : Fin 8), ∀ a, (k1_off72 v222 k1_t30 (BitVec.ofNat 32 (16 * r.val))) a + S16.size a ≤ S100096.size a)
theorem k1_t16_ok : ∀ (v49 : BitVec 32) (v222 : BitVec 32) (k1_hw44 : k1_chk44 v49 v222), (k1_t16_loop v49 v222).OK := fun v49 v222 k1_hw44 => k1_hw44.1
theorem k1_off39_inb : ∀ (v49 : BitVec 32) (v222 : BitVec 32) (k1_hw44 : k1_chk44 v49 v222) (k1_t16 : Fin (k1_t16_loop v49 v222).trips), ∀ (r : Fin 8), ∀ a, (k1_off39 v49 v222 k1_t16 (BitVec.ofNat 32 (16 * r.val))) a + S16.size a ≤ S100096.size a := fun v49 v222 k1_hw44 k1_t16 r => k1_hw44.2.1 k1_t16 r
theorem k1_t17_ok : ∀ (v49 : BitVec 32) (v222 : BitVec 32) (k1_hw44 : k1_chk44 v49 v222), (k1_t17_loop v49 v222).OK := fun v49 v222 k1_hw44 => k1_hw44.2.2.1
theorem k1_off40_inb : ∀ (v49 : BitVec 32) (v222 : BitVec 32) (k1_hw44 : k1_chk44 v49 v222) (k1_t17 : Fin (k1_t17_loop v49 v222).trips), ∀ (r : Fin 8), ∀ a, (k1_off40 v49 v222 k1_t17 (BitVec.ofNat 32 (16 * r.val))) a + S16.size a ≤ S100096.size a := fun v49 v222 k1_hw44 k1_t17 r => k1_hw44.2.2.2.1 k1_t17 r
theorem k1_t29_ok : ∀ (v49 : BitVec 32) (v222 : BitVec 32) (k1_hw44 : k1_chk44 v49 v222), (k1_t29_loop v222).OK := fun v49 v222 k1_hw44 => k1_hw44.2.2.2.2.1
theorem k1_off71_inb : ∀ (v49 : BitVec 32) (v222 : BitVec 32) (k1_hw44 : k1_chk44 v49 v222) (k1_t29 : Fin (k1_t29_loop v222).trips), ∀ (r : Fin 8), ∀ a, (k1_off71 v222 k1_t29 (BitVec.ofNat 32 (16 * r.val))) a + S16.size a ≤ S100096.size a := fun v49 v222 k1_hw44 k1_t29 r => k1_hw44.2.2.2.2.2.1 k1_t29 r
theorem k1_t30_ok : ∀ (v49 : BitVec 32) (v222 : BitVec 32) (k1_hw44 : k1_chk44 v49 v222), (k1_t30_loop v222).OK := fun v49 v222 k1_hw44 => k1_hw44.2.2.2.2.2.2.1
theorem k1_off72_inb : ∀ (v49 : BitVec 32) (v222 : BitVec 32) (k1_hw44 : k1_chk44 v49 v222) (k1_t30 : Fin (k1_t30_loop v222).trips), ∀ (r : Fin 8), ∀ a, (k1_off72 v222 k1_t30 (BitVec.ofNat 32 (16 * r.val))) a + S16.size a ≤ S100096.size a := fun v49 v222 k1_hw44 k1_t30 r => k1_hw44.2.2.2.2.2.2.2 k1_t30 r

def k1_chk85 (v387 : IVec S16 32) : Prop :=
  (∀ a x, ((![v387] : Fin 1 → IVec S16 32) a x).toNat < S128.size a) ∧
  (∀ a x, ((![v387] : Fin 1 → IVec S16 32) a x).toNat < S128.size a)
theorem k1_idx85_inb : ∀ (v387 : IVec S16 32) (k1_hw85 : k1_chk85 v387), ∀ a x, ((![v387] : Fin 1 → IVec S16 32) a x).toNat < S128.size a := fun v387 k1_hw85 => k1_hw85.1
theorem k1_idx86_inb : ∀ (v387 : IVec S16 32) (k1_hw85 : k1_chk85 v387), ∀ a x, ((![v387] : Fin 1 → IVec S16 32) a x).toNat < S128.size a := fun v387 k1_hw85 => k1_hw85.2
@[reducible] def k1_t31_loop (v222 : BitVec 32) (v395 : BitVec 32) : Scf.Loop 32 :=
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v414 : BitVec 32 := Scalar.subi v413 v240
  let c1_i32_267 : BitVec 32 := 1#32
  let v416 : BitVec 32 := Scalar.divsi v414 c1_i32_267
  let v417 : BitVec 32 := Scalar.muli v416 c1_i32_267
  let v418 : BitVec 32 := Scalar.addi v240 v417
  let c1_i32_268 : BitVec 32 := 1#32
  ⟨v240, v418, c1_i32_268⟩

def k1_off73 (v222 : BitVec 32) (v395 : BitVec 32) (k1_t31 : Fin (k1_t31_loop v222 v395).trips) (c0_i32_477 : BitVec 32) : Fin 1 → Nat :=
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let c1_i32_268 : BitVec 32 := 1#32
  let arg18 : BitVec 32 := Scf.iv v240 c1_i32_268 k1_t31
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t32_loop (v222 : BitVec 32) (v395 : BitVec 32) : Scf.Loop 32 :=
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v414 : BitVec 32 := Scalar.subi v413 v240
  let c1_i32_267 : BitVec 32 := 1#32
  let v416 : BitVec 32 := Scalar.divsi v414 c1_i32_267
  let v417 : BitVec 32 := Scalar.muli v416 c1_i32_267
  let v418 : BitVec 32 := Scalar.addi v240 v417
  let v415 : BitVec 32 := Scalar.addi v240 v414
  let c1_i32_269 : BitVec 32 := 1#32
  ⟨v418, v415, c1_i32_269⟩
def k1_off74 (v222 : BitVec 32) (v395 : BitVec 32) (k1_t32 : Fin (k1_t32_loop v222 v395).trips) (c0_i32_477 : BitVec 32) : Fin 1 → Nat :=
  let c0_i32_136 : BitVec 32 := 0#32
  let v224 : BitVec 1 := Scalar.cmpi .sgt v222 c0_i32_136
  let v225 : BitVec 32 := Scalar.extui v224
  let c0_i32_137 : BitVec 32 := 0#32
  let v226 : BitVec 1 := Scalar.cmpi .slt v222 c0_i32_137
  let v227 : BitVec 32 := Scalar.extui v226
  let v228 : BitVec 32 := Scalar.subi v225 v227
  let c128_i32_135 : BitVec 32 := 128#32
  let c0_i32_138 : BitVec 32 := 0#32
  let v229 : BitVec 1 := Scalar.cmpi .sgt c128_i32_135 c0_i32_138
  let v230 : BitVec 32 := Scalar.extui v229
  let c0_i32_139 : BitVec 32 := 0#32
  let v231 : BitVec 1 := Scalar.cmpi .slt c128_i32_135 c0_i32_139
  let v232 : BitVec 32 := Scalar.extui v231
  let v233 : BitVec 32 := Scalar.subi v230 v232
  let v234 : BitVec 1 := Scalar.cmpi .ne v228 v233
  let v235 : BitVec 32 := Scalar.remsi v222 c128_i32_135
  let c0_i32_140 : BitVec 32 := 0#32
  let v236 : BitVec 1 := Scalar.cmpi .ne v235 c0_i32_140
  let v237 : BitVec 1 := Scalar.andi v234 v236
  let v223 : BitVec 32 := Scalar.divsi v222 c128_i32_135
  let c1_i32_141 : BitVec 32 := 1#32
  let v238 : BitVec 32 := Scalar.subi v223 c1_i32_141
  let v239 : BitVec 32 := Scalar.select v237 v238 v223
  let c1_i32_142 : BitVec 32 := 1#32
  let v240 : BitVec 32 := Scalar.addi v239 c1_i32_142
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v414 : BitVec 32 := Scalar.subi v413 v240
  let c1_i32_267 : BitVec 32 := 1#32
  let v416 : BitVec 32 := Scalar.divsi v414 c1_i32_267
  let v417 : BitVec 32 := Scalar.muli v416 c1_i32_267
  let v418 : BitVec 32 := Scalar.addi v240 v417
  let c1_i32_269 : BitVec 32 := 1#32
  let arg18 : BitVec 32 := Scf.iv v418 c1_i32_269 k1_t32
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t33_loop : Scf.Loop 32 :=
  let c0_i32_271 : BitVec 32 := 0#32
  let c11_i32_272 : BitVec 32 := 11#32
  let v419 : BitVec 32 := Scalar.addi c0_i32_271 c11_i32_272
  let c1_i32_273 : BitVec 32 := 1#32
  ⟨c0_i32_271, v419, c1_i32_273⟩
def k1_off75 (i : grid1.Coords) (k1_t33 : Fin k1_t33_loop.trips) : Fin 3 → Nat :=
  let c4_i32_476 : BitVec 32 := 4#32
  let c0_i32_271 : BitVec 32 := 0#32
  let c1_i32_273 : BitVec 32 := 1#32
  let arg18 : BitVec 32 := Scf.iv c0_i32_271 c1_i32_273 k1_t33
  let v700 : BitVec 32 := Scalar.muli c4_i32_476 arg18
  let c0_i32_477 : BitVec 32 := 0#32
  let v701 : BitVec 32 := Scalar.addi v700 c0_i32_477
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_478 : BitVec 32 := 0#32
  ![v701.toNat, v386.toNat, 0]
@[reducible] def k1_t34_loop : Scf.Loop 32 :=
  let c0_i32_483 : BitVec 32 := 0#32
  let c122_i32_484 : BitVec 32 := 122#32
  let v711 : BitVec 32 := Scalar.addi c0_i32_483 c122_i32_484
  let c1_i32_485 : BitVec 32 := 1#32
  ⟨c0_i32_483, v711, c1_i32_485⟩

def k1_chk87 (arg20 : IVec S16 32) : Prop :=
  (∀ a x, ((![arg20] : Fin 1 → IVec S16 32) a x).toNat < S100096.size a)
theorem k1_idx87_inb : ∀ (arg20 : IVec S16 32) (k1_hw87 : k1_chk87 arg20), ∀ a x, ((![arg20] : Fin 1 → IVec S16 32) a x).toNat < S100096.size a := fun arg20 k1_hw87 => k1_hw87
def k1_off76 (k1_t34 : Fin k1_t34_loop.trips) : Fin 1 → Nat :=
  let c0_i32_483 : BitVec 32 := 0#32
  let c1_i32_485 : BitVec 32 := 1#32
  let arg19 : BitVec 32 := Scf.iv c0_i32_483 c1_i32_485 k1_t34
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk88 (v712_0 : IVec S16 32) : Prop :=
  (∀ a x, ((![v712_0] : Fin 1 → IVec S16 32) a x).toNat < S100096.size a)
theorem k1_idx88_inb : ∀ (v712_0 : IVec S16 32) (k1_hw88 : k1_chk88 v712_0), ∀ a x, ((![v712_0] : Fin 1 → IVec S16 32) a x).toNat < S100096.size a := fun v712_0 k1_hw88 => k1_hw88

def k1_chk89 (v712_2 : IVec S16 32) : Prop :=
  (∀ a x, ((![v712_2] : Fin 1 → IVec S16 32) a x).toNat < S100096.size a)
theorem k1_idx89_inb : ∀ (v712_2 : IVec S16 32) (k1_hw89 : k1_chk89 v712_2), ∀ a x, ((![v712_2] : Fin 1 → IVec S16 32) a x).toNat < S100096.size a := fun v712_2 k1_hw89 => k1_hw89

def k1_chk90 (v712_4 : IVec S16 32) : Prop :=
  (∀ a x, ((![v712_4] : Fin 1 → IVec S16 32) a x).toNat < S100096.size a)
theorem k1_idx90_inb : ∀ (v712_4 : IVec S16 32) (k1_hw90 : k1_chk90 v712_4), ∀ a x, ((![v712_4] : Fin 1 → IVec S16 32) a x).toNat < S100096.size a := fun v712_4 k1_hw90 => k1_hw90
def k1_off77 (i : grid1.Coords) (k1_t33 : Fin k1_t33_loop.trips) : Fin 3 → Nat :=
  let c4_i32_476 : BitVec 32 := 4#32
  let c0_i32_271 : BitVec 32 := 0#32
  let c1_i32_273 : BitVec 32 := 1#32
  let arg18 : BitVec 32 := Scf.iv c0_i32_271 c1_i32_273 k1_t33
  let v700 : BitVec 32 := Scalar.muli c4_i32_476 arg18
  let c0_i32_477 : BitVec 32 := 0#32
  let v701 : BitVec 32 := Scalar.addi v700 c0_i32_477
  let c4_i32_487 : BitVec 32 := 4#32
  let v714 : BitVec 32 := Scalar.addi v701 c4_i32_487
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_488 : BitVec 32 := 0#32
  ![v714.toNat, v386.toNat, 0]
def k1_off78 (i : grid1.Coords) (k1_t33 : Fin k1_t33_loop.trips) : Fin 3 → Nat :=
  let c4_i32_490 : BitVec 32 := 4#32
  let c0_i32_271 : BitVec 32 := 0#32
  let c1_i32_273 : BitVec 32 := 1#32
  let arg18 : BitVec 32 := Scf.iv c0_i32_271 c1_i32_273 k1_t33
  let v719 : BitVec 32 := Scalar.muli c4_i32_490 arg18
  let c1_i32_491 : BitVec 32 := 1#32
  let v720 : BitVec 32 := Scalar.addi v719 c1_i32_491
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_492 : BitVec 32 := 0#32
  ![v720.toNat, v386.toNat, 0]
@[reducible] def k1_t35_loop : Scf.Loop 32 :=
  let c0_i32_497 : BitVec 32 := 0#32
  let c122_i32_498 : BitVec 32 := 122#32
  let v730 : BitVec 32 := Scalar.addi c0_i32_497 c122_i32_498
  let c1_i32_499 : BitVec 32 := 1#32
  ⟨c0_i32_497, v730, c1_i32_499⟩

def k1_chk91 (arg20 : IVec S16 32) : Prop :=
  (∀ a x, ((![arg20] : Fin 1 → IVec S16 32) a x).toNat < S100096.size a)
theorem k1_idx91_inb : ∀ (arg20 : IVec S16 32) (k1_hw91 : k1_chk91 arg20), ∀ a x, ((![arg20] : Fin 1 → IVec S16 32) a x).toNat < S100096.size a := fun arg20 k1_hw91 => k1_hw91
def k1_off79 (k1_t35 : Fin k1_t35_loop.trips) : Fin 1 → Nat :=
  let c0_i32_497 : BitVec 32 := 0#32
  let c1_i32_499 : BitVec 32 := 1#32
  let arg19 : BitVec 32 := Scf.iv c0_i32_497 c1_i32_499 k1_t35
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk92 (v731_0 : IVec S16 32) : Prop :=
  (∀ a x, ((![v731_0] : Fin 1 → IVec S16 32) a x).toNat < S100096.size a)
theorem k1_idx92_inb : ∀ (v731_0 : IVec S16 32) (k1_hw92 : k1_chk92 v731_0), ∀ a x, ((![v731_0] : Fin 1 → IVec S16 32) a x).toNat < S100096.size a := fun v731_0 k1_hw92 => k1_hw92

def k1_chk93 (v731_2 : IVec S16 32) : Prop :=
  (∀ a x, ((![v731_2] : Fin 1 → IVec S16 32) a x).toNat < S100096.size a)
theorem k1_idx93_inb : ∀ (v731_2 : IVec S16 32) (k1_hw93 : k1_chk93 v731_2), ∀ a x, ((![v731_2] : Fin 1 → IVec S16 32) a x).toNat < S100096.size a := fun v731_2 k1_hw93 => k1_hw93

def k1_chk94 (v731_4 : IVec S16 32) : Prop :=
  (∀ a x, ((![v731_4] : Fin 1 → IVec S16 32) a x).toNat < S100096.size a)
theorem k1_idx94_inb : ∀ (v731_4 : IVec S16 32) (k1_hw94 : k1_chk94 v731_4), ∀ a x, ((![v731_4] : Fin 1 → IVec S16 32) a x).toNat < S100096.size a := fun v731_4 k1_hw94 => k1_hw94
def k1_off80 (i : grid1.Coords) (k1_t33 : Fin k1_t33_loop.trips) : Fin 3 → Nat :=
  let c4_i32_490 : BitVec 32 := 4#32
  let c0_i32_271 : BitVec 32 := 0#32
  let c1_i32_273 : BitVec 32 := 1#32
  let arg18 : BitVec 32 := Scf.iv c0_i32_271 c1_i32_273 k1_t33
  let v719 : BitVec 32 := Scalar.muli c4_i32_490 arg18
  let c1_i32_491 : BitVec 32 := 1#32
  let v720 : BitVec 32 := Scalar.addi v719 c1_i32_491
  let c4_i32_501 : BitVec 32 := 4#32
  let v733 : BitVec 32 := Scalar.addi v720 c4_i32_501
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_502 : BitVec 32 := 0#32
  ![v733.toNat, v386.toNat, 0]
def k1_off81 (i : grid1.Coords) (k1_t33 : Fin k1_t33_loop.trips) : Fin 3 → Nat :=
  let c4_i32_504 : BitVec 32 := 4#32
  let c0_i32_271 : BitVec 32 := 0#32
  let c1_i32_273 : BitVec 32 := 1#32
  let arg18 : BitVec 32 := Scf.iv c0_i32_271 c1_i32_273 k1_t33
  let v738 : BitVec 32 := Scalar.muli c4_i32_504 arg18
  let c2_i32_505 : BitVec 32 := 2#32
  let v739 : BitVec 32 := Scalar.addi v738 c2_i32_505
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_506 : BitVec 32 := 0#32
  ![v739.toNat, v386.toNat, 0]
@[reducible] def k1_t36_loop : Scf.Loop 32 :=
  let c0_i32_511 : BitVec 32 := 0#32
  let c122_i32_512 : BitVec 32 := 122#32
  let v749 : BitVec 32 := Scalar.addi c0_i32_511 c122_i32_512
  let c1_i32_513 : BitVec 32 := 1#32
  ⟨c0_i32_511, v749, c1_i32_513⟩

def k1_chk95 (arg20 : IVec S16 32) : Prop :=
  (∀ a x, ((![arg20] : Fin 1 → IVec S16 32) a x).toNat < S100096.size a)
theorem k1_idx95_inb : ∀ (arg20 : IVec S16 32) (k1_hw95 : k1_chk95 arg20), ∀ a x, ((![arg20] : Fin 1 → IVec S16 32) a x).toNat < S100096.size a := fun arg20 k1_hw95 => k1_hw95
def k1_off82 (k1_t36 : Fin k1_t36_loop.trips) : Fin 1 → Nat :=
  let c0_i32_511 : BitVec 32 := 0#32
  let c1_i32_513 : BitVec 32 := 1#32
  let arg19 : BitVec 32 := Scf.iv c0_i32_511 c1_i32_513 k1_t36
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk96 (v750_0 : IVec S16 32) : Prop :=
  (∀ a x, ((![v750_0] : Fin 1 → IVec S16 32) a x).toNat < S100096.size a)
theorem k1_idx96_inb : ∀ (v750_0 : IVec S16 32) (k1_hw96 : k1_chk96 v750_0), ∀ a x, ((![v750_0] : Fin 1 → IVec S16 32) a x).toNat < S100096.size a := fun v750_0 k1_hw96 => k1_hw96

def k1_chk97 (v750_2 : IVec S16 32) : Prop :=
  (∀ a x, ((![v750_2] : Fin 1 → IVec S16 32) a x).toNat < S100096.size a)
theorem k1_idx97_inb : ∀ (v750_2 : IVec S16 32) (k1_hw97 : k1_chk97 v750_2), ∀ a x, ((![v750_2] : Fin 1 → IVec S16 32) a x).toNat < S100096.size a := fun v750_2 k1_hw97 => k1_hw97

def k1_chk98 (v750_4 : IVec S16 32) : Prop :=
  (∀ a x, ((![v750_4] : Fin 1 → IVec S16 32) a x).toNat < S100096.size a)
theorem k1_idx98_inb : ∀ (v750_4 : IVec S16 32) (k1_hw98 : k1_chk98 v750_4), ∀ a x, ((![v750_4] : Fin 1 → IVec S16 32) a x).toNat < S100096.size a := fun v750_4 k1_hw98 => k1_hw98
def k1_off83 (i : grid1.Coords) (k1_t33 : Fin k1_t33_loop.trips) : Fin 3 → Nat :=
  let c4_i32_504 : BitVec 32 := 4#32
  let c0_i32_271 : BitVec 32 := 0#32
  let c1_i32_273 : BitVec 32 := 1#32
  let arg18 : BitVec 32 := Scf.iv c0_i32_271 c1_i32_273 k1_t33
  let v738 : BitVec 32 := Scalar.muli c4_i32_504 arg18
  let c2_i32_505 : BitVec 32 := 2#32
  let v739 : BitVec 32 := Scalar.addi v738 c2_i32_505
  let c4_i32_515 : BitVec 32 := 4#32
  let v752 : BitVec 32 := Scalar.addi v739 c4_i32_515
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_516 : BitVec 32 := 0#32
  ![v752.toNat, v386.toNat, 0]
def k1_off84 (i : grid1.Coords) (k1_t33 : Fin k1_t33_loop.trips) : Fin 3 → Nat :=
  let c4_i32_518 : BitVec 32 := 4#32
  let c0_i32_271 : BitVec 32 := 0#32
  let c1_i32_273 : BitVec 32 := 1#32
  let arg18 : BitVec 32 := Scf.iv c0_i32_271 c1_i32_273 k1_t33
  let v757 : BitVec 32 := Scalar.muli c4_i32_518 arg18
  let c3_i32_519 : BitVec 32 := 3#32
  let v758 : BitVec 32 := Scalar.addi v757 c3_i32_519
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_520 : BitVec 32 := 0#32
  ![v758.toNat, v386.toNat, 0]
@[reducible] def k1_t37_loop : Scf.Loop 32 :=
  let c0_i32_525 : BitVec 32 := 0#32
  let c122_i32_526 : BitVec 32 := 122#32
  let v768 : BitVec 32 := Scalar.addi c0_i32_525 c122_i32_526
  let c1_i32_527 : BitVec 32 := 1#32
  ⟨c0_i32_525, v768, c1_i32_527⟩

def k1_chk99 (arg20 : IVec S16 32) : Prop :=
  (∀ a x, ((![arg20] : Fin 1 → IVec S16 32) a x).toNat < S100096.size a)
theorem k1_idx99_inb : ∀ (arg20 : IVec S16 32) (k1_hw99 : k1_chk99 arg20), ∀ a x, ((![arg20] : Fin 1 → IVec S16 32) a x).toNat < S100096.size a := fun arg20 k1_hw99 => k1_hw99
def k1_off85 (k1_t37 : Fin k1_t37_loop.trips) : Fin 1 → Nat :=
  let c0_i32_525 : BitVec 32 := 0#32
  let c1_i32_527 : BitVec 32 := 1#32
  let arg19 : BitVec 32 := Scf.iv c0_i32_525 c1_i32_527 k1_t37
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk100 (v769_0 : IVec S16 32) : Prop :=
  (∀ a x, ((![v769_0] : Fin 1 → IVec S16 32) a x).toNat < S100096.size a)
theorem k1_idx100_inb : ∀ (v769_0 : IVec S16 32) (k1_hw100 : k1_chk100 v769_0), ∀ a x, ((![v769_0] : Fin 1 → IVec S16 32) a x).toNat < S100096.size a := fun v769_0 k1_hw100 => k1_hw100

def k1_chk101 (v769_2 : IVec S16 32) : Prop :=
  (∀ a x, ((![v769_2] : Fin 1 → IVec S16 32) a x).toNat < S100096.size a)
theorem k1_idx101_inb : ∀ (v769_2 : IVec S16 32) (k1_hw101 : k1_chk101 v769_2), ∀ a x, ((![v769_2] : Fin 1 → IVec S16 32) a x).toNat < S100096.size a := fun v769_2 k1_hw101 => k1_hw101

def k1_chk102 (v769_4 : IVec S16 32) : Prop :=
  (∀ a x, ((![v769_4] : Fin 1 → IVec S16 32) a x).toNat < S100096.size a)
theorem k1_idx102_inb : ∀ (v769_4 : IVec S16 32) (k1_hw102 : k1_chk102 v769_4), ∀ a x, ((![v769_4] : Fin 1 → IVec S16 32) a x).toNat < S100096.size a := fun v769_4 k1_hw102 => k1_hw102
def k1_off86 (i : grid1.Coords) (k1_t33 : Fin k1_t33_loop.trips) : Fin 3 → Nat :=
  let c4_i32_518 : BitVec 32 := 4#32
  let c0_i32_271 : BitVec 32 := 0#32
  let c1_i32_273 : BitVec 32 := 1#32
  let arg18 : BitVec 32 := Scf.iv c0_i32_271 c1_i32_273 k1_t33
  let v757 : BitVec 32 := Scalar.muli c4_i32_518 arg18
  let c3_i32_519 : BitVec 32 := 3#32
  let v758 : BitVec 32 := Scalar.addi v757 c3_i32_519
  let c4_i32_529 : BitVec 32 := 4#32
  let v771 : BitVec 32 := Scalar.addi v758 c4_i32_529
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_530 : BitVec 32 := 0#32
  ![v771.toNat, v386.toNat, 0]
def k1_off87 (i : grid1.Coords) : Fin 3 → Nat :=
  let c44_i32_275 : BitVec 32 := 44#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_276 : BitVec 32 := 0#32
  ![44, v386.toNat, 0]
@[reducible] def k1_t38_loop : Scf.Loop 32 :=
  let c0_i32_281 : BitVec 32 := 0#32
  let c122_i32_282 : BitVec 32 := 122#32
  let v429 : BitVec 32 := Scalar.addi c0_i32_281 c122_i32_282
  let c1_i32_283 : BitVec 32 := 1#32
  ⟨c0_i32_281, v429, c1_i32_283⟩

def k1_chk103 (arg19 : IVec S16 32) : Prop :=
  (∀ a x, ((![arg19] : Fin 1 → IVec S16 32) a x).toNat < S100096.size a)
theorem k1_idx103_inb : ∀ (arg19 : IVec S16 32) (k1_hw103 : k1_chk103 arg19), ∀ a x, ((![arg19] : Fin 1 → IVec S16 32) a x).toNat < S100096.size a := fun arg19 k1_hw103 => k1_hw103
def k1_off88 (k1_t38 : Fin k1_t38_loop.trips) : Fin 1 → Nat :=
  let c0_i32_281 : BitVec 32 := 0#32
  let c1_i32_283 : BitVec 32 := 1#32
  let arg18 : BitVec 32 := Scf.iv c0_i32_281 c1_i32_283 k1_t38
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk104 (v430_0 : IVec S16 32) : Prop :=
  (∀ a x, ((![v430_0] : Fin 1 → IVec S16 32) a x).toNat < S100096.size a)
theorem k1_idx104_inb : ∀ (v430_0 : IVec S16 32) (k1_hw104 : k1_chk104 v430_0), ∀ a x, ((![v430_0] : Fin 1 → IVec S16 32) a x).toNat < S100096.size a := fun v430_0 k1_hw104 => k1_hw104

def k1_chk105 (v430_2 : IVec S16 32) : Prop :=
  (∀ a x, ((![v430_2] : Fin 1 → IVec S16 32) a x).toNat < S100096.size a)
theorem k1_idx105_inb : ∀ (v430_2 : IVec S16 32) (k1_hw105 : k1_chk105 v430_2), ∀ a x, ((![v430_2] : Fin 1 → IVec S16 32) a x).toNat < S100096.size a := fun v430_2 k1_hw105 => k1_hw105

def k1_chk106 (v430_4 : IVec S16 32) : Prop :=
  (∀ a x, ((![v430_4] : Fin 1 → IVec S16 32) a x).toNat < S100096.size a)
theorem k1_idx106_inb : ∀ (v430_4 : IVec S16 32) (k1_hw106 : k1_chk106 v430_4), ∀ a x, ((![v430_4] : Fin 1 → IVec S16 32) a x).toNat < S100096.size a := fun v430_4 k1_hw106 => k1_hw106
def k1_off89 (i : grid1.Coords) : Fin 3 → Nat :=
  let c48_i32_285 : BitVec 32 := 48#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_286 : BitVec 32 := 0#32
  ![48, v386.toNat, 0]
def k1_off90 (i : grid1.Coords) : Fin 3 → Nat :=
  let c45_i32_288 : BitVec 32 := 45#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_289 : BitVec 32 := 0#32
  ![45, v386.toNat, 0]
@[reducible] def k1_t39_loop : Scf.Loop 32 :=
  let c0_i32_294 : BitVec 32 := 0#32
  let c122_i32_295 : BitVec 32 := 122#32
  let v445 : BitVec 32 := Scalar.addi c0_i32_294 c122_i32_295
  let c1_i32_296 : BitVec 32 := 1#32
  ⟨c0_i32_294, v445, c1_i32_296⟩

def k1_chk107 (arg19 : IVec S16 32) : Prop :=
  (∀ a x, ((![arg19] : Fin 1 → IVec S16 32) a x).toNat < S100096.size a)
theorem k1_idx107_inb : ∀ (arg19 : IVec S16 32) (k1_hw107 : k1_chk107 arg19), ∀ a x, ((![arg19] : Fin 1 → IVec S16 32) a x).toNat < S100096.size a := fun arg19 k1_hw107 => k1_hw107
def k1_off91 (k1_t39 : Fin k1_t39_loop.trips) : Fin 1 → Nat :=
  let c0_i32_294 : BitVec 32 := 0#32
  let c1_i32_296 : BitVec 32 := 1#32
  let arg18 : BitVec 32 := Scf.iv c0_i32_294 c1_i32_296 k1_t39
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk108 (v446_0 : IVec S16 32) : Prop :=
  (∀ a x, ((![v446_0] : Fin 1 → IVec S16 32) a x).toNat < S100096.size a)
theorem k1_idx108_inb : ∀ (v446_0 : IVec S16 32) (k1_hw108 : k1_chk108 v446_0), ∀ a x, ((![v446_0] : Fin 1 → IVec S16 32) a x).toNat < S100096.size a := fun v446_0 k1_hw108 => k1_hw108

def k1_chk109 (v446_2 : IVec S16 32) : Prop :=
  (∀ a x, ((![v446_2] : Fin 1 → IVec S16 32) a x).toNat < S100096.size a)
theorem k1_idx109_inb : ∀ (v446_2 : IVec S16 32) (k1_hw109 : k1_chk109 v446_2), ∀ a x, ((![v446_2] : Fin 1 → IVec S16 32) a x).toNat < S100096.size a := fun v446_2 k1_hw109 => k1_hw109

def k1_chk110 (v446_4 : IVec S16 32) : Prop :=
  (∀ a x, ((![v446_4] : Fin 1 → IVec S16 32) a x).toNat < S100096.size a)
theorem k1_idx110_inb : ∀ (v446_4 : IVec S16 32) (k1_hw110 : k1_chk110 v446_4), ∀ a x, ((![v446_4] : Fin 1 → IVec S16 32) a x).toNat < S100096.size a := fun v446_4 k1_hw110 => k1_hw110
def k1_off92 (i : grid1.Coords) : Fin 3 → Nat :=
  let c49_i32_298 : BitVec 32 := 49#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_299 : BitVec 32 := 0#32
  ![49, v386.toNat, 0]
def k1_off93 (i : grid1.Coords) : Fin 3 → Nat :=
  let c46_i32_301 : BitVec 32 := 46#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_302 : BitVec 32 := 0#32
  ![46, v386.toNat, 0]
@[reducible] def k1_t40_loop : Scf.Loop 32 :=
  let c0_i32_307 : BitVec 32 := 0#32
  let c122_i32_308 : BitVec 32 := 122#32
  let v461 : BitVec 32 := Scalar.addi c0_i32_307 c122_i32_308
  let c1_i32_309 : BitVec 32 := 1#32
  ⟨c0_i32_307, v461, c1_i32_309⟩

def k1_chk111 (arg19 : IVec S16 32) : Prop :=
  (∀ a x, ((![arg19] : Fin 1 → IVec S16 32) a x).toNat < S100096.size a)
theorem k1_idx111_inb : ∀ (arg19 : IVec S16 32) (k1_hw111 : k1_chk111 arg19), ∀ a x, ((![arg19] : Fin 1 → IVec S16 32) a x).toNat < S100096.size a := fun arg19 k1_hw111 => k1_hw111
def k1_off94 (k1_t40 : Fin k1_t40_loop.trips) : Fin 1 → Nat :=
  let c0_i32_307 : BitVec 32 := 0#32
  let c1_i32_309 : BitVec 32 := 1#32
  let arg18 : BitVec 32 := Scf.iv c0_i32_307 c1_i32_309 k1_t40
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk112 (v462_0 : IVec S16 32) : Prop :=
  (∀ a x, ((![v462_0] : Fin 1 → IVec S16 32) a x).toNat < S100096.size a)
theorem k1_idx112_inb : ∀ (v462_0 : IVec S16 32) (k1_hw112 : k1_chk112 v462_0), ∀ a x, ((![v462_0] : Fin 1 → IVec S16 32) a x).toNat < S100096.size a := fun v462_0 k1_hw112 => k1_hw112

def k1_chk113 (v462_2 : IVec S16 32) : Prop :=
  (∀ a x, ((![v462_2] : Fin 1 → IVec S16 32) a x).toNat < S100096.size a)
theorem k1_idx113_inb : ∀ (v462_2 : IVec S16 32) (k1_hw113 : k1_chk113 v462_2), ∀ a x, ((![v462_2] : Fin 1 → IVec S16 32) a x).toNat < S100096.size a := fun v462_2 k1_hw113 => k1_hw113

def k1_chk114 (v462_4 : IVec S16 32) : Prop :=
  (∀ a x, ((![v462_4] : Fin 1 → IVec S16 32) a x).toNat < S100096.size a)
theorem k1_idx114_inb : ∀ (v462_4 : IVec S16 32) (k1_hw114 : k1_chk114 v462_4), ∀ a x, ((![v462_4] : Fin 1 → IVec S16 32) a x).toNat < S100096.size a := fun v462_4 k1_hw114 => k1_hw114
def k1_off95 (i : grid1.Coords) : Fin 3 → Nat :=
  let c0_i32_314 : BitVec 32 := 0#32
  let arg0 : BitVec 32 := BitVec.ofNat 32 (i 0).val
  let c64_i32_311 : BitVec 32 := 64#32
  let v464 : BitVec 32 := Scalar.muli arg0 c64_i32_311
  let arg1 : BitVec 32 := BitVec.ofNat 32 (i 1).val
  let c4_i32_312 : BitVec 32 := 4#32
  let v465 : BitVec 32 := Scalar.muli arg1 c4_i32_312
  let v466 : BitVec 32 := Scalar.addi v464 v465
  let c3_i32_313 : BitVec 32 := 3#32
  let v467 : BitVec 32 := Scalar.addi v466 c3_i32_313
  let c0_i32_315 : BitVec 32 := 0#32
  ![0, v467.toNat, 0]
def k1_off96 (i : grid1.Coords) : Fin 3 → Nat :=
  let c47_i32_317 : BitVec 32 := 47#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_318 : BitVec 32 := 0#32
  ![47, v386.toNat, 0]
@[reducible] def k1_t41_loop : Scf.Loop 32 :=
  let c0_i32_323 : BitVec 32 := 0#32
  let c122_i32_324 : BitVec 32 := 122#32
  let v481 : BitVec 32 := Scalar.addi c0_i32_323 c122_i32_324
  let c1_i32_325 : BitVec 32 := 1#32
  ⟨c0_i32_323, v481, c1_i32_325⟩

def k1_chk115 (arg19 : IVec S16 32) : Prop :=
  (∀ a x, ((![arg19] : Fin 1 → IVec S16 32) a x).toNat < S100096.size a)
theorem k1_idx115_inb : ∀ (arg19 : IVec S16 32) (k1_hw115 : k1_chk115 arg19), ∀ a x, ((![arg19] : Fin 1 → IVec S16 32) a x).toNat < S100096.size a := fun arg19 k1_hw115 => k1_hw115
def k1_off97 (k1_t41 : Fin k1_t41_loop.trips) : Fin 1 → Nat :=
  let c0_i32_323 : BitVec 32 := 0#32
  let c1_i32_325 : BitVec 32 := 1#32
  let arg18 : BitVec 32 := Scf.iv c0_i32_323 c1_i32_325 k1_t41
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk116 (v482_0 : IVec S16 32) : Prop :=
  (∀ a x, ((![v482_0] : Fin 1 → IVec S16 32) a x).toNat < S100096.size a)
theorem k1_idx116_inb : ∀ (v482_0 : IVec S16 32) (k1_hw116 : k1_chk116 v482_0), ∀ a x, ((![v482_0] : Fin 1 → IVec S16 32) a x).toNat < S100096.size a := fun v482_0 k1_hw116 => k1_hw116

def k1_chk117 (v482_2 : IVec S16 32) : Prop :=
  (∀ a x, ((![v482_2] : Fin 1 → IVec S16 32) a x).toNat < S100096.size a)
theorem k1_idx117_inb : ∀ (v482_2 : IVec S16 32) (k1_hw117 : k1_chk117 v482_2), ∀ a x, ((![v482_2] : Fin 1 → IVec S16 32) a x).toNat < S100096.size a := fun v482_2 k1_hw117 => k1_hw117

def k1_chk118 (v482_4 : IVec S16 32) : Prop :=
  (∀ a x, ((![v482_4] : Fin 1 → IVec S16 32) a x).toNat < S100096.size a)
theorem k1_idx118_inb : ∀ (v482_4 : IVec S16 32) (k1_hw118 : k1_chk118 v482_4), ∀ a x, ((![v482_4] : Fin 1 → IVec S16 32) a x).toNat < S100096.size a := fun v482_4 k1_hw118 => k1_hw118
def k1_off98 (i : grid1.Coords) : Fin 3 → Nat :=
  let c1_i32_330 : BitVec 32 := 1#32
  let arg0 : BitVec 32 := BitVec.ofNat 32 (i 0).val
  let c64_i32_327 : BitVec 32 := 64#32
  let v484 : BitVec 32 := Scalar.muli arg0 c64_i32_327
  let arg1 : BitVec 32 := BitVec.ofNat 32 (i 1).val
  let c4_i32_328 : BitVec 32 := 4#32
  let v485 : BitVec 32 := Scalar.muli arg1 c4_i32_328
  let v486 : BitVec 32 := Scalar.addi v484 v485
  let c3_i32_329 : BitVec 32 := 3#32
  let v487 : BitVec 32 := Scalar.addi v486 c3_i32_329
  let c0_i32_331 : BitVec 32 := 0#32
  ![1, v487.toNat, 0]
def k1_off99 (i : grid1.Coords) : Fin 3 → Nat :=
  let c48_i32_333 : BitVec 32 := 48#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_334 : BitVec 32 := 0#32
  ![48, v386.toNat, 0]
@[reducible] def k1_t42_loop : Scf.Loop 32 :=
  let c0_i32_339 : BitVec 32 := 0#32
  let c122_i32_340 : BitVec 32 := 122#32
  let v501 : BitVec 32 := Scalar.addi c0_i32_339 c122_i32_340
  let c1_i32_341 : BitVec 32 := 1#32
  ⟨c0_i32_339, v501, c1_i32_341⟩

def k1_chk119 (arg19 : IVec S16 32) : Prop :=
  (∀ a x, ((![arg19] : Fin 1 → IVec S16 32) a x).toNat < S100096.size a)
theorem k1_idx119_inb : ∀ (arg19 : IVec S16 32) (k1_hw119 : k1_chk119 arg19), ∀ a x, ((![arg19] : Fin 1 → IVec S16 32) a x).toNat < S100096.size a := fun arg19 k1_hw119 => k1_hw119
def k1_off100 (k1_t42 : Fin k1_t42_loop.trips) : Fin 1 → Nat :=
  let c0_i32_339 : BitVec 32 := 0#32
  let c1_i32_341 : BitVec 32 := 1#32
  let arg18 : BitVec 32 := Scf.iv c0_i32_339 c1_i32_341 k1_t42
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk120 (v502_0 : IVec S16 32) : Prop :=
  (∀ a x, ((![v502_0] : Fin 1 → IVec S16 32) a x).toNat < S100096.size a)
theorem k1_idx120_inb : ∀ (v502_0 : IVec S16 32) (k1_hw120 : k1_chk120 v502_0), ∀ a x, ((![v502_0] : Fin 1 → IVec S16 32) a x).toNat < S100096.size a := fun v502_0 k1_hw120 => k1_hw120

def k1_chk121 (v502_2 : IVec S16 32) : Prop :=
  (∀ a x, ((![v502_2] : Fin 1 → IVec S16 32) a x).toNat < S100096.size a)
theorem k1_idx121_inb : ∀ (v502_2 : IVec S16 32) (k1_hw121 : k1_chk121 v502_2), ∀ a x, ((![v502_2] : Fin 1 → IVec S16 32) a x).toNat < S100096.size a := fun v502_2 k1_hw121 => k1_hw121

def k1_chk122 (v502_4 : IVec S16 32) : Prop :=
  (∀ a x, ((![v502_4] : Fin 1 → IVec S16 32) a x).toNat < S100096.size a)
theorem k1_idx122_inb : ∀ (v502_4 : IVec S16 32) (k1_hw122 : k1_chk122 v502_4), ∀ a x, ((![v502_4] : Fin 1 → IVec S16 32) a x).toNat < S100096.size a := fun v502_4 k1_hw122 => k1_hw122
def k1_off101 (i : grid1.Coords) : Fin 3 → Nat :=
  let c2_i32_346 : BitVec 32 := 2#32
  let arg0 : BitVec 32 := BitVec.ofNat 32 (i 0).val
  let c64_i32_343 : BitVec 32 := 64#32
  let v504 : BitVec 32 := Scalar.muli arg0 c64_i32_343
  let arg1 : BitVec 32 := BitVec.ofNat 32 (i 1).val
  let c4_i32_344 : BitVec 32 := 4#32
  let v505 : BitVec 32 := Scalar.muli arg1 c4_i32_344
  let v506 : BitVec 32 := Scalar.addi v504 v505
  let c3_i32_345 : BitVec 32 := 3#32
  let v507 : BitVec 32 := Scalar.addi v506 c3_i32_345
  let c0_i32_347 : BitVec 32 := 0#32
  ![2, v507.toNat, 0]
def k1_off102 (i : grid1.Coords) : Fin 3 → Nat :=
  let c49_i32_349 : BitVec 32 := 49#32
  let arg0 : BitVec 32 := BitVec.ofNat 32 (i 0).val
  let c64_i32_253 : BitVec 32 := 64#32
  let v383 : BitVec 32 := Scalar.muli arg0 c64_i32_253
  let arg1 : BitVec 32 := BitVec.ofNat 32 (i 1).val
  let c4_i32_254 : BitVec 32 := 4#32
  let v384 : BitVec 32 := Scalar.muli arg1 c4_i32_254
  let v385 : BitVec 32 := Scalar.addi v383 v384
  let c2_i32_255 : BitVec 32 := 2#32
  let v386 : BitVec 32 := Scalar.addi v385 c2_i32_255
  let c0_i32_350 : BitVec 32 := 0#32
  ![49, v386.toNat, 0]
@[reducible] def k1_t43_loop : Scf.Loop 32 :=
  let c0_i32_355 : BitVec 32 := 0#32
  let c122_i32_356 : BitVec 32 := 122#32
  let v521 : BitVec 32 := Scalar.addi c0_i32_355 c122_i32_356
  let c1_i32_357 : BitVec 32 := 1#32
  ⟨c0_i32_355, v521, c1_i32_357⟩

def k1_chk123 (arg19 : IVec S16 32) : Prop :=
  (∀ a x, ((![arg19] : Fin 1 → IVec S16 32) a x).toNat < S100096.size a)
theorem k1_idx123_inb : ∀ (arg19 : IVec S16 32) (k1_hw123 : k1_chk123 arg19), ∀ a x, ((![arg19] : Fin 1 → IVec S16 32) a x).toNat < S100096.size a := fun arg19 k1_hw123 => k1_hw123
def k1_off103 (k1_t43 : Fin k1_t43_loop.trips) : Fin 1 → Nat :=
  let c0_i32_355 : BitVec 32 := 0#32
  let c1_i32_357 : BitVec 32 := 1#32
  let arg18 : BitVec 32 := Scf.iv c0_i32_355 c1_i32_357 k1_t43
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk124 (v522_0 : IVec S16 32) : Prop :=
  (∀ a x, ((![v522_0] : Fin 1 → IVec S16 32) a x).toNat < S100096.size a)
theorem k1_idx124_inb : ∀ (v522_0 : IVec S16 32) (k1_hw124 : k1_chk124 v522_0), ∀ a x, ((![v522_0] : Fin 1 → IVec S16 32) a x).toNat < S100096.size a := fun v522_0 k1_hw124 => k1_hw124

def k1_chk125 (v522_2 : IVec S16 32) : Prop :=
  (∀ a x, ((![v522_2] : Fin 1 → IVec S16 32) a x).toNat < S100096.size a)
theorem k1_idx125_inb : ∀ (v522_2 : IVec S16 32) (k1_hw125 : k1_chk125 v522_2), ∀ a x, ((![v522_2] : Fin 1 → IVec S16 32) a x).toNat < S100096.size a := fun v522_2 k1_hw125 => k1_hw125

def k1_chk126 (v522_4 : IVec S16 32) : Prop :=
  (∀ a x, ((![v522_4] : Fin 1 → IVec S16 32) a x).toNat < S100096.size a)
theorem k1_idx126_inb : ∀ (v522_4 : IVec S16 32) (k1_hw126 : k1_chk126 v522_4), ∀ a x, ((![v522_4] : Fin 1 → IVec S16 32) a x).toNat < S100096.size a := fun v522_4 k1_hw126 => k1_hw126
def k1_off104 (i : grid1.Coords) : Fin 3 → Nat :=
  let c3_i32_362 : BitVec 32 := 3#32
  let arg0 : BitVec 32 := BitVec.ofNat 32 (i 0).val
  let c64_i32_359 : BitVec 32 := 64#32
  let v524 : BitVec 32 := Scalar.muli arg0 c64_i32_359
  let arg1 : BitVec 32 := BitVec.ofNat 32 (i 1).val
  let c4_i32_360 : BitVec 32 := 4#32
  let v525 : BitVec 32 := Scalar.muli arg1 c4_i32_360
  let v526 : BitVec 32 := Scalar.addi v524 v525
  let c3_i32_361 : BitVec 32 := 3#32
  let v527 : BitVec 32 := Scalar.addi v526 c3_i32_361
  let c0_i32_363 : BitVec 32 := 0#32
  ![3, v527.toNat, 0]
@[reducible] def k1_t44_loop (v395 : BitVec 32) : Scf.Loop 32 :=
  let c0_i32_366 : BitVec 32 := 0#32
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v532 : BitVec 32 := Scalar.subi v413 c0_i32_366
  let c1_i32_367 : BitVec 32 := 1#32
  let v534 : BitVec 32 := Scalar.divsi v532 c1_i32_367
  let v535 : BitVec 32 := Scalar.muli v534 c1_i32_367
  let v536 : BitVec 32 := Scalar.addi c0_i32_366 v535
  let c1_i32_368 : BitVec 32 := 1#32
  ⟨c0_i32_366, v536, c1_i32_368⟩
def k1_off105 (v395 : BitVec 32) (k1_t44 : Fin (k1_t44_loop v395).trips) (c0_i32_478 : BitVec 32) : Fin 1 → Nat :=
  let c0_i32_366 : BitVec 32 := 0#32
  let c1_i32_368 : BitVec 32 := 1#32
  let arg18 : BitVec 32 := Scf.iv c0_i32_366 c1_i32_368 k1_t44
  let c128_i32_477 : BitVec 32 := 128#32
  let v703 : BitVec 32 := Scalar.muli arg18 c128_i32_477
  let v704 : BitVec 32 := Scalar.addi v703 c0_i32_478
  let v705 : Index := Scalar.indexCast v704
  ![v705.toNat]
@[reducible] def k1_t45_loop (v395 : BitVec 32) : Scf.Loop 32 :=
  let c0_i32_366 : BitVec 32 := 0#32
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v532 : BitVec 32 := Scalar.subi v413 c0_i32_366
  let c1_i32_367 : BitVec 32 := 1#32
  let v534 : BitVec 32 := Scalar.divsi v532 c1_i32_367
  let v535 : BitVec 32 := Scalar.muli v534 c1_i32_367
  let v536 : BitVec 32 := Scalar.addi c0_i32_366 v535
  let v533 : BitVec 32 := Scalar.addi c0_i32_366 v532
  let c1_i32_369 : BitVec 32 := 1#32
  ⟨v536, v533, c1_i32_369⟩
def k1_off106 (v395 : BitVec 32) (k1_t45 : Fin (k1_t45_loop v395).trips) (c0_i32_478 : BitVec 32) : Fin 1 → Nat :=
  let c0_i32_366 : BitVec 32 := 0#32
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let v532 : BitVec 32 := Scalar.subi v413 c0_i32_366
  let c1_i32_367 : BitVec 32 := 1#32
  let v534 : BitVec 32 := Scalar.divsi v532 c1_i32_367
  let v535 : BitVec 32 := Scalar.muli v534 c1_i32_367
  let v536 : BitVec 32 := Scalar.addi c0_i32_366 v535
  let c1_i32_369 : BitVec 32 := 1#32
  let arg18 : BitVec 32 := Scf.iv v536 c1_i32_369 k1_t45
  let c128_i32_477 : BitVec 32 := 128#32
  let v703 : BitVec 32 := Scalar.muli arg18 c128_i32_477
  let v704 : BitVec 32 := Scalar.addi v703 c0_i32_478
  let v705 : Index := Scalar.indexCast v704
  ![v705.toNat]

def k1_chk86 (v222 : BitVec 32) (v395 : BitVec 32) : Prop :=
  ((k1_t31_loop v222 v395).OK) ∧
  (∀ k1_t31 : Fin (k1_t31_loop v222 v395).trips, ∀ (r : Fin 8), ∀ a, (k1_off73 v222 v395 k1_t31 (BitVec.ofNat 32 (16 * r.val))) a + S16.size a ≤ S100096.size a) ∧
  ((k1_t32_loop v222 v395).OK) ∧
  (∀ k1_t32 : Fin (k1_t32_loop v222 v395).trips, ∀ (r : Fin 8), ∀ a, (k1_off74 v222 v395 k1_t32 (BitVec.ofNat 32 (16 * r.val))) a + S16.size a ≤ S100096.size a) ∧
  ((k1_t44_loop v395).OK) ∧
  (∀ k1_t44 : Fin (k1_t44_loop v395).trips, ∀ (r : Fin 8), ∀ a, (k1_off105 v395 k1_t44 (BitVec.ofNat 32 (16 * r.val))) a + S16.size a ≤ S100096.size a) ∧
  ((k1_t45_loop v395).OK) ∧
  (∀ k1_t45 : Fin (k1_t45_loop v395).trips, ∀ (r : Fin 8), ∀ a, (k1_off106 v395 k1_t45 (BitVec.ofNat 32 (16 * r.val))) a + S16.size a ≤ S100096.size a)
theorem k1_t31_ok : ∀ (v222 : BitVec 32) (v395 : BitVec 32) (k1_hw86 : k1_chk86 v222 v395), (k1_t31_loop v222 v395).OK := fun v222 v395 k1_hw86 => k1_hw86.1
theorem k1_off73_inb : ∀ (v222 : BitVec 32) (v395 : BitVec 32) (k1_hw86 : k1_chk86 v222 v395) (k1_t31 : Fin (k1_t31_loop v222 v395).trips), ∀ (r : Fin 8), ∀ a, (k1_off73 v222 v395 k1_t31 (BitVec.ofNat 32 (16 * r.val))) a + S16.size a ≤ S100096.size a := fun v222 v395 k1_hw86 k1_t31 r => k1_hw86.2.1 k1_t31 r
theorem k1_t32_ok : ∀ (v222 : BitVec 32) (v395 : BitVec 32) (k1_hw86 : k1_chk86 v222 v395), (k1_t32_loop v222 v395).OK := fun v222 v395 k1_hw86 => k1_hw86.2.2.1
theorem k1_off74_inb : ∀ (v222 : BitVec 32) (v395 : BitVec 32) (k1_hw86 : k1_chk86 v222 v395) (k1_t32 : Fin (k1_t32_loop v222 v395).trips), ∀ (r : Fin 8), ∀ a, (k1_off74 v222 v395 k1_t32 (BitVec.ofNat 32 (16 * r.val))) a + S16.size a ≤ S100096.size a := fun v222 v395 k1_hw86 k1_t32 r => k1_hw86.2.2.2.1 k1_t32 r
theorem k1_t44_ok : ∀ (v222 : BitVec 32) (v395 : BitVec 32) (k1_hw86 : k1_chk86 v222 v395), (k1_t44_loop v395).OK := fun v222 v395 k1_hw86 => k1_hw86.2.2.2.2.1
theorem k1_off105_inb : ∀ (v222 : BitVec 32) (v395 : BitVec 32) (k1_hw86 : k1_chk86 v222 v395) (k1_t44 : Fin (k1_t44_loop v395).trips), ∀ (r : Fin 8), ∀ a, (k1_off105 v395 k1_t44 (BitVec.ofNat 32 (16 * r.val))) a + S16.size a ≤ S100096.size a := fun v222 v395 k1_hw86 k1_t44 r => k1_hw86.2.2.2.2.2.1 k1_t44 r
theorem k1_t45_ok : ∀ (v222 : BitVec 32) (v395 : BitVec 32) (k1_hw86 : k1_chk86 v222 v395), (k1_t45_loop v395).OK := fun v222 v395 k1_hw86 => k1_hw86.2.2.2.2.2.2.1
theorem k1_off106_inb : ∀ (v222 : BitVec 32) (v395 : BitVec 32) (k1_hw86 : k1_chk86 v222 v395) (k1_t45 : Fin (k1_t45_loop v395).trips), ∀ (r : Fin 8), ∀ a, (k1_off106 v395 k1_t45 (BitVec.ofNat 32 (16 * r.val))) a + S16.size a ≤ S100096.size a := fun v222 v395 k1_hw86 k1_t45 r => k1_hw86.2.2.2.2.2.2.2 k1_t45 r

def k1_chk127 (v560 : IVec S16 32) : Prop :=
  (∀ a x, ((![v560] : Fin 1 → IVec S16 32) a x).toNat < S128.size a) ∧
  (∀ a x, ((![v560] : Fin 1 → IVec S16 32) a x).toNat < S128.size a)
theorem k1_idx127_inb : ∀ (v560 : IVec S16 32) (k1_hw127 : k1_chk127 v560), ∀ a x, ((![v560] : Fin 1 → IVec S16 32) a x).toNat < S128.size a := fun v560 k1_hw127 => k1_hw127.1
theorem k1_idx128_inb : ∀ (v560 : IVec S16 32) (k1_hw127 : k1_chk127 v560), ∀ a x, ((![v560] : Fin 1 → IVec S16 32) a x).toNat < S128.size a := fun v560 k1_hw127 => k1_hw127.2
@[reducible] def k1_t46_loop (v395 : BitVec 32) (v568 : BitVec 32) : Scf.Loop 32 :=
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v587 : BitVec 32 := Scalar.subi v586 v413
  let c1_i32_390 : BitVec 32 := 1#32
  let v589 : BitVec 32 := Scalar.divsi v587 c1_i32_390
  let v590 : BitVec 32 := Scalar.muli v589 c1_i32_390
  let v591 : BitVec 32 := Scalar.addi v413 v590
  let c1_i32_391 : BitVec 32 := 1#32
  ⟨v413, v591, c1_i32_391⟩

def k1_off107 (v395 : BitVec 32) (v568 : BitVec 32) (k1_t46 : Fin (k1_t46_loop v395 v568).trips) (c0_i32_477 : BitVec 32) : Fin 1 → Nat :=
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let c1_i32_391 : BitVec 32 := 1#32
  let arg18 : BitVec 32 := Scf.iv v413 c1_i32_391 k1_t46
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t47_loop (v395 : BitVec 32) (v568 : BitVec 32) : Scf.Loop 32 :=
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v587 : BitVec 32 := Scalar.subi v586 v413
  let c1_i32_390 : BitVec 32 := 1#32
  let v589 : BitVec 32 := Scalar.divsi v587 c1_i32_390
  let v590 : BitVec 32 := Scalar.muli v589 c1_i32_390
  let v591 : BitVec 32 := Scalar.addi v413 v590
  let v588 : BitVec 32 := Scalar.addi v413 v587
  let c1_i32_392 : BitVec 32 := 1#32
  ⟨v591, v588, c1_i32_392⟩
def k1_off108 (v395 : BitVec 32) (v568 : BitVec 32) (k1_t47 : Fin (k1_t47_loop v395 v568).trips) (c0_i32_477 : BitVec 32) : Fin 1 → Nat :=
  let c0_i32_259 : BitVec 32 := 0#32
  let v397 : BitVec 1 := Scalar.cmpi .sgt v395 c0_i32_259
  let v398 : BitVec 32 := Scalar.extui v397
  let c0_i32_260 : BitVec 32 := 0#32
  let v399 : BitVec 1 := Scalar.cmpi .slt v395 c0_i32_260
  let v400 : BitVec 32 := Scalar.extui v399
  let v401 : BitVec 32 := Scalar.subi v398 v400
  let c128_i32_258 : BitVec 32 := 128#32
  let c0_i32_261 : BitVec 32 := 0#32
  let v402 : BitVec 1 := Scalar.cmpi .sgt c128_i32_258 c0_i32_261
  let v403 : BitVec 32 := Scalar.extui v402
  let c0_i32_262 : BitVec 32 := 0#32
  let v404 : BitVec 1 := Scalar.cmpi .slt c128_i32_258 c0_i32_262
  let v405 : BitVec 32 := Scalar.extui v404
  let v406 : BitVec 32 := Scalar.subi v403 v405
  let v407 : BitVec 1 := Scalar.cmpi .ne v401 v406
  let v408 : BitVec 32 := Scalar.remsi v395 c128_i32_258
  let c0_i32_263 : BitVec 32 := 0#32
  let v409 : BitVec 1 := Scalar.cmpi .ne v408 c0_i32_263
  let v410 : BitVec 1 := Scalar.andi v407 v409
  let v396 : BitVec 32 := Scalar.divsi v395 c128_i32_258
  let c1_i32_264 : BitVec 32 := 1#32
  let v411 : BitVec 32 := Scalar.subi v396 c1_i32_264
  let v412 : BitVec 32 := Scalar.select v410 v411 v396
  let c1_i32_265 : BitVec 32 := 1#32
  let v413 : BitVec 32 := Scalar.addi v412 c1_i32_265
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v587 : BitVec 32 := Scalar.subi v586 v413
  let c1_i32_390 : BitVec 32 := 1#32
  let v589 : BitVec 32 := Scalar.divsi v587 c1_i32_390
  let v590 : BitVec 32 := Scalar.muli v589 c1_i32_390
  let v591 : BitVec 32 := Scalar.addi v413 v590
  let c1_i32_392 : BitVec 32 := 1#32
  let arg18 : BitVec 32 := Scf.iv v591 c1_i32_392 k1_t47
  let c128_i32_476 : BitVec 32 := 128#32
  let v700 : BitVec 32 := Scalar.muli arg18 c128_i32_476
  let v701 : BitVec 32 := Scalar.addi v700 c0_i32_477
  let v702 : Index := Scalar.indexCast v701
  ![v702.toNat]
@[reducible] def k1_t48_loop : Scf.Loop 32 :=
  let c0_i32_394 : BitVec 32 := 0#32
  let c11_i32_395 : BitVec 32 := 11#32
  let v592 : BitVec 32 := Scalar.addi c0_i32_394 c11_i32_395
  let c1_i32_396 : BitVec 32 := 1#32
  ⟨c0_i32_394, v592, c1_i32_396⟩
def k1_off109 (i : grid1.Coords) (k1_t48 : Fin k1_t48_loop.trips) : Fin 3 → Nat :=
  let c4_i32_476 : BitVec 32 := 4#32
  let c0_i32_394 : BitVec 32 := 0#32
  let c1_i32_396 : BitVec 32 := 1#32
  let arg18 : BitVec 32 := Scf.iv c0_i32_394 c1_i32_396 k1_t48
  let v700 : BitVec 32 := Scalar.muli c4_i32_476 arg18
  let c0_i32_477 : BitVec 32 := 0#32
  let v701 : BitVec 32 := Scalar.addi v700 c0_i32_477
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_478 : BitVec 32 := 0#32
  ![v701.toNat, v559.toNat, 0]
@[reducible] def k1_t49_loop : Scf.Loop 32 :=
  let c0_i32_483 : BitVec 32 := 0#32
  let c122_i32_484 : BitVec 32 := 122#32
  let v711 : BitVec 32 := Scalar.addi c0_i32_483 c122_i32_484
  let c1_i32_485 : BitVec 32 := 1#32
  ⟨c0_i32_483, v711, c1_i32_485⟩

def k1_chk129 (arg20 : IVec S16 32) : Prop :=
  (∀ a x, ((![arg20] : Fin 1 → IVec S16 32) a x).toNat < S100096.size a)
theorem k1_idx129_inb : ∀ (arg20 : IVec S16 32) (k1_hw129 : k1_chk129 arg20), ∀ a x, ((![arg20] : Fin 1 → IVec S16 32) a x).toNat < S100096.size a := fun arg20 k1_hw129 => k1_hw129
def k1_off110 (k1_t49 : Fin k1_t49_loop.trips) : Fin 1 → Nat :=
  let c0_i32_483 : BitVec 32 := 0#32
  let c1_i32_485 : BitVec 32 := 1#32
  let arg19 : BitVec 32 := Scf.iv c0_i32_483 c1_i32_485 k1_t49
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk130 (v712_0 : IVec S16 32) : Prop :=
  (∀ a x, ((![v712_0] : Fin 1 → IVec S16 32) a x).toNat < S100096.size a)
theorem k1_idx130_inb : ∀ (v712_0 : IVec S16 32) (k1_hw130 : k1_chk130 v712_0), ∀ a x, ((![v712_0] : Fin 1 → IVec S16 32) a x).toNat < S100096.size a := fun v712_0 k1_hw130 => k1_hw130

def k1_chk131 (v712_2 : IVec S16 32) : Prop :=
  (∀ a x, ((![v712_2] : Fin 1 → IVec S16 32) a x).toNat < S100096.size a)
theorem k1_idx131_inb : ∀ (v712_2 : IVec S16 32) (k1_hw131 : k1_chk131 v712_2), ∀ a x, ((![v712_2] : Fin 1 → IVec S16 32) a x).toNat < S100096.size a := fun v712_2 k1_hw131 => k1_hw131

def k1_chk132 (v712_4 : IVec S16 32) : Prop :=
  (∀ a x, ((![v712_4] : Fin 1 → IVec S16 32) a x).toNat < S100096.size a)
theorem k1_idx132_inb : ∀ (v712_4 : IVec S16 32) (k1_hw132 : k1_chk132 v712_4), ∀ a x, ((![v712_4] : Fin 1 → IVec S16 32) a x).toNat < S100096.size a := fun v712_4 k1_hw132 => k1_hw132
def k1_off111 (i : grid1.Coords) (k1_t48 : Fin k1_t48_loop.trips) : Fin 3 → Nat :=
  let c4_i32_476 : BitVec 32 := 4#32
  let c0_i32_394 : BitVec 32 := 0#32
  let c1_i32_396 : BitVec 32 := 1#32
  let arg18 : BitVec 32 := Scf.iv c0_i32_394 c1_i32_396 k1_t48
  let v700 : BitVec 32 := Scalar.muli c4_i32_476 arg18
  let c0_i32_477 : BitVec 32 := 0#32
  let v701 : BitVec 32 := Scalar.addi v700 c0_i32_477
  let c4_i32_487 : BitVec 32 := 4#32
  let v714 : BitVec 32 := Scalar.addi v701 c4_i32_487
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_488 : BitVec 32 := 0#32
  ![v714.toNat, v559.toNat, 0]
def k1_off112 (i : grid1.Coords) (k1_t48 : Fin k1_t48_loop.trips) : Fin 3 → Nat :=
  let c4_i32_490 : BitVec 32 := 4#32
  let c0_i32_394 : BitVec 32 := 0#32
  let c1_i32_396 : BitVec 32 := 1#32
  let arg18 : BitVec 32 := Scf.iv c0_i32_394 c1_i32_396 k1_t48
  let v719 : BitVec 32 := Scalar.muli c4_i32_490 arg18
  let c1_i32_491 : BitVec 32 := 1#32
  let v720 : BitVec 32 := Scalar.addi v719 c1_i32_491
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_492 : BitVec 32 := 0#32
  ![v720.toNat, v559.toNat, 0]
@[reducible] def k1_t50_loop : Scf.Loop 32 :=
  let c0_i32_497 : BitVec 32 := 0#32
  let c122_i32_498 : BitVec 32 := 122#32
  let v730 : BitVec 32 := Scalar.addi c0_i32_497 c122_i32_498
  let c1_i32_499 : BitVec 32 := 1#32
  ⟨c0_i32_497, v730, c1_i32_499⟩

def k1_chk133 (arg20 : IVec S16 32) : Prop :=
  (∀ a x, ((![arg20] : Fin 1 → IVec S16 32) a x).toNat < S100096.size a)
theorem k1_idx133_inb : ∀ (arg20 : IVec S16 32) (k1_hw133 : k1_chk133 arg20), ∀ a x, ((![arg20] : Fin 1 → IVec S16 32) a x).toNat < S100096.size a := fun arg20 k1_hw133 => k1_hw133
def k1_off113 (k1_t50 : Fin k1_t50_loop.trips) : Fin 1 → Nat :=
  let c0_i32_497 : BitVec 32 := 0#32
  let c1_i32_499 : BitVec 32 := 1#32
  let arg19 : BitVec 32 := Scf.iv c0_i32_497 c1_i32_499 k1_t50
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk134 (v731_0 : IVec S16 32) : Prop :=
  (∀ a x, ((![v731_0] : Fin 1 → IVec S16 32) a x).toNat < S100096.size a)
theorem k1_idx134_inb : ∀ (v731_0 : IVec S16 32) (k1_hw134 : k1_chk134 v731_0), ∀ a x, ((![v731_0] : Fin 1 → IVec S16 32) a x).toNat < S100096.size a := fun v731_0 k1_hw134 => k1_hw134

def k1_chk135 (v731_2 : IVec S16 32) : Prop :=
  (∀ a x, ((![v731_2] : Fin 1 → IVec S16 32) a x).toNat < S100096.size a)
theorem k1_idx135_inb : ∀ (v731_2 : IVec S16 32) (k1_hw135 : k1_chk135 v731_2), ∀ a x, ((![v731_2] : Fin 1 → IVec S16 32) a x).toNat < S100096.size a := fun v731_2 k1_hw135 => k1_hw135

def k1_chk136 (v731_4 : IVec S16 32) : Prop :=
  (∀ a x, ((![v731_4] : Fin 1 → IVec S16 32) a x).toNat < S100096.size a)
theorem k1_idx136_inb : ∀ (v731_4 : IVec S16 32) (k1_hw136 : k1_chk136 v731_4), ∀ a x, ((![v731_4] : Fin 1 → IVec S16 32) a x).toNat < S100096.size a := fun v731_4 k1_hw136 => k1_hw136
def k1_off114 (i : grid1.Coords) (k1_t48 : Fin k1_t48_loop.trips) : Fin 3 → Nat :=
  let c4_i32_490 : BitVec 32 := 4#32
  let c0_i32_394 : BitVec 32 := 0#32
  let c1_i32_396 : BitVec 32 := 1#32
  let arg18 : BitVec 32 := Scf.iv c0_i32_394 c1_i32_396 k1_t48
  let v719 : BitVec 32 := Scalar.muli c4_i32_490 arg18
  let c1_i32_491 : BitVec 32 := 1#32
  let v720 : BitVec 32 := Scalar.addi v719 c1_i32_491
  let c4_i32_501 : BitVec 32 := 4#32
  let v733 : BitVec 32 := Scalar.addi v720 c4_i32_501
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_502 : BitVec 32 := 0#32
  ![v733.toNat, v559.toNat, 0]
def k1_off115 (i : grid1.Coords) (k1_t48 : Fin k1_t48_loop.trips) : Fin 3 → Nat :=
  let c4_i32_504 : BitVec 32 := 4#32
  let c0_i32_394 : BitVec 32 := 0#32
  let c1_i32_396 : BitVec 32 := 1#32
  let arg18 : BitVec 32 := Scf.iv c0_i32_394 c1_i32_396 k1_t48
  let v738 : BitVec 32 := Scalar.muli c4_i32_504 arg18
  let c2_i32_505 : BitVec 32 := 2#32
  let v739 : BitVec 32 := Scalar.addi v738 c2_i32_505
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_506 : BitVec 32 := 0#32
  ![v739.toNat, v559.toNat, 0]
@[reducible] def k1_t51_loop : Scf.Loop 32 :=
  let c0_i32_511 : BitVec 32 := 0#32
  let c122_i32_512 : BitVec 32 := 122#32
  let v749 : BitVec 32 := Scalar.addi c0_i32_511 c122_i32_512
  let c1_i32_513 : BitVec 32 := 1#32
  ⟨c0_i32_511, v749, c1_i32_513⟩

def k1_chk137 (arg20 : IVec S16 32) : Prop :=
  (∀ a x, ((![arg20] : Fin 1 → IVec S16 32) a x).toNat < S100096.size a)
theorem k1_idx137_inb : ∀ (arg20 : IVec S16 32) (k1_hw137 : k1_chk137 arg20), ∀ a x, ((![arg20] : Fin 1 → IVec S16 32) a x).toNat < S100096.size a := fun arg20 k1_hw137 => k1_hw137
def k1_off116 (k1_t51 : Fin k1_t51_loop.trips) : Fin 1 → Nat :=
  let c0_i32_511 : BitVec 32 := 0#32
  let c1_i32_513 : BitVec 32 := 1#32
  let arg19 : BitVec 32 := Scf.iv c0_i32_511 c1_i32_513 k1_t51
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk138 (v750_0 : IVec S16 32) : Prop :=
  (∀ a x, ((![v750_0] : Fin 1 → IVec S16 32) a x).toNat < S100096.size a)
theorem k1_idx138_inb : ∀ (v750_0 : IVec S16 32) (k1_hw138 : k1_chk138 v750_0), ∀ a x, ((![v750_0] : Fin 1 → IVec S16 32) a x).toNat < S100096.size a := fun v750_0 k1_hw138 => k1_hw138

def k1_chk139 (v750_2 : IVec S16 32) : Prop :=
  (∀ a x, ((![v750_2] : Fin 1 → IVec S16 32) a x).toNat < S100096.size a)
theorem k1_idx139_inb : ∀ (v750_2 : IVec S16 32) (k1_hw139 : k1_chk139 v750_2), ∀ a x, ((![v750_2] : Fin 1 → IVec S16 32) a x).toNat < S100096.size a := fun v750_2 k1_hw139 => k1_hw139

def k1_chk140 (v750_4 : IVec S16 32) : Prop :=
  (∀ a x, ((![v750_4] : Fin 1 → IVec S16 32) a x).toNat < S100096.size a)
theorem k1_idx140_inb : ∀ (v750_4 : IVec S16 32) (k1_hw140 : k1_chk140 v750_4), ∀ a x, ((![v750_4] : Fin 1 → IVec S16 32) a x).toNat < S100096.size a := fun v750_4 k1_hw140 => k1_hw140
def k1_off117 (i : grid1.Coords) (k1_t48 : Fin k1_t48_loop.trips) : Fin 3 → Nat :=
  let c4_i32_504 : BitVec 32 := 4#32
  let c0_i32_394 : BitVec 32 := 0#32
  let c1_i32_396 : BitVec 32 := 1#32
  let arg18 : BitVec 32 := Scf.iv c0_i32_394 c1_i32_396 k1_t48
  let v738 : BitVec 32 := Scalar.muli c4_i32_504 arg18
  let c2_i32_505 : BitVec 32 := 2#32
  let v739 : BitVec 32 := Scalar.addi v738 c2_i32_505
  let c4_i32_515 : BitVec 32 := 4#32
  let v752 : BitVec 32 := Scalar.addi v739 c4_i32_515
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_516 : BitVec 32 := 0#32
  ![v752.toNat, v559.toNat, 0]
def k1_off118 (i : grid1.Coords) (k1_t48 : Fin k1_t48_loop.trips) : Fin 3 → Nat :=
  let c4_i32_518 : BitVec 32 := 4#32
  let c0_i32_394 : BitVec 32 := 0#32
  let c1_i32_396 : BitVec 32 := 1#32
  let arg18 : BitVec 32 := Scf.iv c0_i32_394 c1_i32_396 k1_t48
  let v757 : BitVec 32 := Scalar.muli c4_i32_518 arg18
  let c3_i32_519 : BitVec 32 := 3#32
  let v758 : BitVec 32 := Scalar.addi v757 c3_i32_519
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_520 : BitVec 32 := 0#32
  ![v758.toNat, v559.toNat, 0]
@[reducible] def k1_t52_loop : Scf.Loop 32 :=
  let c0_i32_525 : BitVec 32 := 0#32
  let c122_i32_526 : BitVec 32 := 122#32
  let v768 : BitVec 32 := Scalar.addi c0_i32_525 c122_i32_526
  let c1_i32_527 : BitVec 32 := 1#32
  ⟨c0_i32_525, v768, c1_i32_527⟩

def k1_chk141 (arg20 : IVec S16 32) : Prop :=
  (∀ a x, ((![arg20] : Fin 1 → IVec S16 32) a x).toNat < S100096.size a)
theorem k1_idx141_inb : ∀ (arg20 : IVec S16 32) (k1_hw141 : k1_chk141 arg20), ∀ a x, ((![arg20] : Fin 1 → IVec S16 32) a x).toNat < S100096.size a := fun arg20 k1_hw141 => k1_hw141
def k1_off119 (k1_t52 : Fin k1_t52_loop.trips) : Fin 1 → Nat :=
  let c0_i32_525 : BitVec 32 := 0#32
  let c1_i32_527 : BitVec 32 := 1#32
  let arg19 : BitVec 32 := Scf.iv c0_i32_525 c1_i32_527 k1_t52
  let c16_i32_532 : BitVec 32 := 16#32
  let v777 : BitVec 32 := Scalar.muli arg19 c16_i32_532
  let c48_i32_533 : BitVec 32 := 48#32
  let v778 : BitVec 32 := Scalar.addi v777 c48_i32_533
  let v779 : Index := Scalar.indexCast v778
  ![v779.toNat]

def k1_chk142 (v769_0 : IVec S16 32) : Prop :=
  (∀ a x, ((![v769_0] : Fin 1 → IVec S16 32) a x).toNat < S100096.size a)
theorem k1_idx142_inb : ∀ (v769_0 : IVec S16 32) (k1_hw142 : k1_chk142 v769_0), ∀ a x, ((![v769_0] : Fin 1 → IVec S16 32) a x).toNat < S100096.size a := fun v769_0 k1_hw142 => k1_hw142

def k1_chk143 (v769_2 : IVec S16 32) : Prop :=
  (∀ a x, ((![v769_2] : Fin 1 → IVec S16 32) a x).toNat < S100096.size a)
theorem k1_idx143_inb : ∀ (v769_2 : IVec S16 32) (k1_hw143 : k1_chk143 v769_2), ∀ a x, ((![v769_2] : Fin 1 → IVec S16 32) a x).toNat < S100096.size a := fun v769_2 k1_hw143 => k1_hw143

def k1_chk144 (v769_4 : IVec S16 32) : Prop :=
  (∀ a x, ((![v769_4] : Fin 1 → IVec S16 32) a x).toNat < S100096.size a)
theorem k1_idx144_inb : ∀ (v769_4 : IVec S16 32) (k1_hw144 : k1_chk144 v769_4), ∀ a x, ((![v769_4] : Fin 1 → IVec S16 32) a x).toNat < S100096.size a := fun v769_4 k1_hw144 => k1_hw144
def k1_off120 (i : grid1.Coords) (k1_t48 : Fin k1_t48_loop.trips) : Fin 3 → Nat :=
  let c4_i32_518 : BitVec 32 := 4#32
  let c0_i32_394 : BitVec 32 := 0#32
  let c1_i32_396 : BitVec 32 := 1#32
  let arg18 : BitVec 32 := Scf.iv c0_i32_394 c1_i32_396 k1_t48
  let v757 : BitVec 32 := Scalar.muli c4_i32_518 arg18
  let c3_i32_519 : BitVec 32 := 3#32
  let v758 : BitVec 32 := Scalar.addi v757 c3_i32_519
  let c4_i32_529 : BitVec 32 := 4#32
  let v771 : BitVec 32 := Scalar.addi v758 c4_i32_529
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_530 : BitVec 32 := 0#32
  ![v771.toNat, v559.toNat, 0]
def k1_off121 (i : grid1.Coords) : Fin 3 → Nat :=
  let c44_i32_398 : BitVec 32 := 44#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_399 : BitVec 32 := 0#32
  ![44, v559.toNat, 0]
@[reducible] def k1_t53_loop : Scf.Loop 32 :=
  let c0_i32_404 : BitVec 32 := 0#32
  let c122_i32_405 : BitVec 32 := 122#32
  let v602 : BitVec 32 := Scalar.addi c0_i32_404 c122_i32_405
  let c1_i32_406 : BitVec 32 := 1#32
  ⟨c0_i32_404, v602, c1_i32_406⟩

def k1_chk145 (arg19 : IVec S16 32) : Prop :=
  (∀ a x, ((![arg19] : Fin 1 → IVec S16 32) a x).toNat < S100096.size a)
theorem k1_idx145_inb : ∀ (arg19 : IVec S16 32) (k1_hw145 : k1_chk145 arg19), ∀ a x, ((![arg19] : Fin 1 → IVec S16 32) a x).toNat < S100096.size a := fun arg19 k1_hw145 => k1_hw145
def k1_off122 (k1_t53 : Fin k1_t53_loop.trips) : Fin 1 → Nat :=
  let c0_i32_404 : BitVec 32 := 0#32
  let c1_i32_406 : BitVec 32 := 1#32
  let arg18 : BitVec 32 := Scf.iv c0_i32_404 c1_i32_406 k1_t53
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk146 (v603_0 : IVec S16 32) : Prop :=
  (∀ a x, ((![v603_0] : Fin 1 → IVec S16 32) a x).toNat < S100096.size a)
theorem k1_idx146_inb : ∀ (v603_0 : IVec S16 32) (k1_hw146 : k1_chk146 v603_0), ∀ a x, ((![v603_0] : Fin 1 → IVec S16 32) a x).toNat < S100096.size a := fun v603_0 k1_hw146 => k1_hw146

def k1_chk147 (v603_2 : IVec S16 32) : Prop :=
  (∀ a x, ((![v603_2] : Fin 1 → IVec S16 32) a x).toNat < S100096.size a)
theorem k1_idx147_inb : ∀ (v603_2 : IVec S16 32) (k1_hw147 : k1_chk147 v603_2), ∀ a x, ((![v603_2] : Fin 1 → IVec S16 32) a x).toNat < S100096.size a := fun v603_2 k1_hw147 => k1_hw147

def k1_chk148 (v603_4 : IVec S16 32) : Prop :=
  (∀ a x, ((![v603_4] : Fin 1 → IVec S16 32) a x).toNat < S100096.size a)
theorem k1_idx148_inb : ∀ (v603_4 : IVec S16 32) (k1_hw148 : k1_chk148 v603_4), ∀ a x, ((![v603_4] : Fin 1 → IVec S16 32) a x).toNat < S100096.size a := fun v603_4 k1_hw148 => k1_hw148
def k1_off123 (i : grid1.Coords) : Fin 3 → Nat :=
  let c48_i32_408 : BitVec 32 := 48#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_409 : BitVec 32 := 0#32
  ![48, v559.toNat, 0]
def k1_off124 (i : grid1.Coords) : Fin 3 → Nat :=
  let c45_i32_411 : BitVec 32 := 45#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_412 : BitVec 32 := 0#32
  ![45, v559.toNat, 0]
@[reducible] def k1_t54_loop : Scf.Loop 32 :=
  let c0_i32_417 : BitVec 32 := 0#32
  let c122_i32_418 : BitVec 32 := 122#32
  let v618 : BitVec 32 := Scalar.addi c0_i32_417 c122_i32_418
  let c1_i32_419 : BitVec 32 := 1#32
  ⟨c0_i32_417, v618, c1_i32_419⟩

def k1_chk149 (arg19 : IVec S16 32) : Prop :=
  (∀ a x, ((![arg19] : Fin 1 → IVec S16 32) a x).toNat < S100096.size a)
theorem k1_idx149_inb : ∀ (arg19 : IVec S16 32) (k1_hw149 : k1_chk149 arg19), ∀ a x, ((![arg19] : Fin 1 → IVec S16 32) a x).toNat < S100096.size a := fun arg19 k1_hw149 => k1_hw149
def k1_off125 (k1_t54 : Fin k1_t54_loop.trips) : Fin 1 → Nat :=
  let c0_i32_417 : BitVec 32 := 0#32
  let c1_i32_419 : BitVec 32 := 1#32
  let arg18 : BitVec 32 := Scf.iv c0_i32_417 c1_i32_419 k1_t54
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk150 (v619_0 : IVec S16 32) : Prop :=
  (∀ a x, ((![v619_0] : Fin 1 → IVec S16 32) a x).toNat < S100096.size a)
theorem k1_idx150_inb : ∀ (v619_0 : IVec S16 32) (k1_hw150 : k1_chk150 v619_0), ∀ a x, ((![v619_0] : Fin 1 → IVec S16 32) a x).toNat < S100096.size a := fun v619_0 k1_hw150 => k1_hw150

def k1_chk151 (v619_2 : IVec S16 32) : Prop :=
  (∀ a x, ((![v619_2] : Fin 1 → IVec S16 32) a x).toNat < S100096.size a)
theorem k1_idx151_inb : ∀ (v619_2 : IVec S16 32) (k1_hw151 : k1_chk151 v619_2), ∀ a x, ((![v619_2] : Fin 1 → IVec S16 32) a x).toNat < S100096.size a := fun v619_2 k1_hw151 => k1_hw151

def k1_chk152 (v619_4 : IVec S16 32) : Prop :=
  (∀ a x, ((![v619_4] : Fin 1 → IVec S16 32) a x).toNat < S100096.size a)
theorem k1_idx152_inb : ∀ (v619_4 : IVec S16 32) (k1_hw152 : k1_chk152 v619_4), ∀ a x, ((![v619_4] : Fin 1 → IVec S16 32) a x).toNat < S100096.size a := fun v619_4 k1_hw152 => k1_hw152
def k1_off126 (i : grid1.Coords) : Fin 3 → Nat :=
  let c49_i32_421 : BitVec 32 := 49#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_422 : BitVec 32 := 0#32
  ![49, v559.toNat, 0]
def k1_off127 (i : grid1.Coords) : Fin 3 → Nat :=
  let c46_i32_424 : BitVec 32 := 46#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_425 : BitVec 32 := 0#32
  ![46, v559.toNat, 0]
@[reducible] def k1_t55_loop : Scf.Loop 32 :=
  let c0_i32_430 : BitVec 32 := 0#32
  let c122_i32_431 : BitVec 32 := 122#32
  let v634 : BitVec 32 := Scalar.addi c0_i32_430 c122_i32_431
  let c1_i32_432 : BitVec 32 := 1#32
  ⟨c0_i32_430, v634, c1_i32_432⟩

def k1_chk153 (arg19 : IVec S16 32) : Prop :=
  (∀ a x, ((![arg19] : Fin 1 → IVec S16 32) a x).toNat < S100096.size a)
theorem k1_idx153_inb : ∀ (arg19 : IVec S16 32) (k1_hw153 : k1_chk153 arg19), ∀ a x, ((![arg19] : Fin 1 → IVec S16 32) a x).toNat < S100096.size a := fun arg19 k1_hw153 => k1_hw153
def k1_off128 (k1_t55 : Fin k1_t55_loop.trips) : Fin 1 → Nat :=
  let c0_i32_430 : BitVec 32 := 0#32
  let c1_i32_432 : BitVec 32 := 1#32
  let arg18 : BitVec 32 := Scf.iv c0_i32_430 c1_i32_432 k1_t55
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk154 (v635_0 : IVec S16 32) : Prop :=
  (∀ a x, ((![v635_0] : Fin 1 → IVec S16 32) a x).toNat < S100096.size a)
theorem k1_idx154_inb : ∀ (v635_0 : IVec S16 32) (k1_hw154 : k1_chk154 v635_0), ∀ a x, ((![v635_0] : Fin 1 → IVec S16 32) a x).toNat < S100096.size a := fun v635_0 k1_hw154 => k1_hw154

def k1_chk155 (v635_2 : IVec S16 32) : Prop :=
  (∀ a x, ((![v635_2] : Fin 1 → IVec S16 32) a x).toNat < S100096.size a)
theorem k1_idx155_inb : ∀ (v635_2 : IVec S16 32) (k1_hw155 : k1_chk155 v635_2), ∀ a x, ((![v635_2] : Fin 1 → IVec S16 32) a x).toNat < S100096.size a := fun v635_2 k1_hw155 => k1_hw155

def k1_chk156 (v635_4 : IVec S16 32) : Prop :=
  (∀ a x, ((![v635_4] : Fin 1 → IVec S16 32) a x).toNat < S100096.size a)
theorem k1_idx156_inb : ∀ (v635_4 : IVec S16 32) (k1_hw156 : k1_chk156 v635_4), ∀ a x, ((![v635_4] : Fin 1 → IVec S16 32) a x).toNat < S100096.size a := fun v635_4 k1_hw156 => k1_hw156
def k1_off129 (i : grid1.Coords) : Fin 3 → Nat :=
  let c47_i32_434 : BitVec 32 := 47#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_435 : BitVec 32 := 0#32
  ![47, v559.toNat, 0]
@[reducible] def k1_t56_loop : Scf.Loop 32 :=
  let c0_i32_440 : BitVec 32 := 0#32
  let c122_i32_441 : BitVec 32 := 122#32
  let v646 : BitVec 32 := Scalar.addi c0_i32_440 c122_i32_441
  let c1_i32_442 : BitVec 32 := 1#32
  ⟨c0_i32_440, v646, c1_i32_442⟩

def k1_chk157 (arg19 : IVec S16 32) : Prop :=
  (∀ a x, ((![arg19] : Fin 1 → IVec S16 32) a x).toNat < S100096.size a)
theorem k1_idx157_inb : ∀ (arg19 : IVec S16 32) (k1_hw157 : k1_chk157 arg19), ∀ a x, ((![arg19] : Fin 1 → IVec S16 32) a x).toNat < S100096.size a := fun arg19 k1_hw157 => k1_hw157
def k1_off130 (k1_t56 : Fin k1_t56_loop.trips) : Fin 1 → Nat :=
  let c0_i32_440 : BitVec 32 := 0#32
  let c1_i32_442 : BitVec 32 := 1#32
  let arg18 : BitVec 32 := Scf.iv c0_i32_440 c1_i32_442 k1_t56
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk158 (v647_0 : IVec S16 32) : Prop :=
  (∀ a x, ((![v647_0] : Fin 1 → IVec S16 32) a x).toNat < S100096.size a)
theorem k1_idx158_inb : ∀ (v647_0 : IVec S16 32) (k1_hw158 : k1_chk158 v647_0), ∀ a x, ((![v647_0] : Fin 1 → IVec S16 32) a x).toNat < S100096.size a := fun v647_0 k1_hw158 => k1_hw158

def k1_chk159 (v647_2 : IVec S16 32) : Prop :=
  (∀ a x, ((![v647_2] : Fin 1 → IVec S16 32) a x).toNat < S100096.size a)
theorem k1_idx159_inb : ∀ (v647_2 : IVec S16 32) (k1_hw159 : k1_chk159 v647_2), ∀ a x, ((![v647_2] : Fin 1 → IVec S16 32) a x).toNat < S100096.size a := fun v647_2 k1_hw159 => k1_hw159

def k1_chk160 (v647_4 : IVec S16 32) : Prop :=
  (∀ a x, ((![v647_4] : Fin 1 → IVec S16 32) a x).toNat < S100096.size a)
theorem k1_idx160_inb : ∀ (v647_4 : IVec S16 32) (k1_hw160 : k1_chk160 v647_4), ∀ a x, ((![v647_4] : Fin 1 → IVec S16 32) a x).toNat < S100096.size a := fun v647_4 k1_hw160 => k1_hw160
def k1_off131 (i : grid1.Coords) : Fin 3 → Nat :=
  let c48_i32_444 : BitVec 32 := 48#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_445 : BitVec 32 := 0#32
  ![48, v559.toNat, 0]
@[reducible] def k1_t57_loop : Scf.Loop 32 :=
  let c0_i32_450 : BitVec 32 := 0#32
  let c122_i32_451 : BitVec 32 := 122#32
  let v658 : BitVec 32 := Scalar.addi c0_i32_450 c122_i32_451
  let c1_i32_452 : BitVec 32 := 1#32
  ⟨c0_i32_450, v658, c1_i32_452⟩

def k1_chk161 (arg19 : IVec S16 32) : Prop :=
  (∀ a x, ((![arg19] : Fin 1 → IVec S16 32) a x).toNat < S100096.size a)
theorem k1_idx161_inb : ∀ (arg19 : IVec S16 32) (k1_hw161 : k1_chk161 arg19), ∀ a x, ((![arg19] : Fin 1 → IVec S16 32) a x).toNat < S100096.size a := fun arg19 k1_hw161 => k1_hw161
def k1_off132 (k1_t57 : Fin k1_t57_loop.trips) : Fin 1 → Nat :=
  let c0_i32_450 : BitVec 32 := 0#32
  let c1_i32_452 : BitVec 32 := 1#32
  let arg18 : BitVec 32 := Scf.iv c0_i32_450 c1_i32_452 k1_t57
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk162 (v659_0 : IVec S16 32) : Prop :=
  (∀ a x, ((![v659_0] : Fin 1 → IVec S16 32) a x).toNat < S100096.size a)
theorem k1_idx162_inb : ∀ (v659_0 : IVec S16 32) (k1_hw162 : k1_chk162 v659_0), ∀ a x, ((![v659_0] : Fin 1 → IVec S16 32) a x).toNat < S100096.size a := fun v659_0 k1_hw162 => k1_hw162

def k1_chk163 (v659_2 : IVec S16 32) : Prop :=
  (∀ a x, ((![v659_2] : Fin 1 → IVec S16 32) a x).toNat < S100096.size a)
theorem k1_idx163_inb : ∀ (v659_2 : IVec S16 32) (k1_hw163 : k1_chk163 v659_2), ∀ a x, ((![v659_2] : Fin 1 → IVec S16 32) a x).toNat < S100096.size a := fun v659_2 k1_hw163 => k1_hw163

def k1_chk164 (v659_4 : IVec S16 32) : Prop :=
  (∀ a x, ((![v659_4] : Fin 1 → IVec S16 32) a x).toNat < S100096.size a)
theorem k1_idx164_inb : ∀ (v659_4 : IVec S16 32) (k1_hw164 : k1_chk164 v659_4), ∀ a x, ((![v659_4] : Fin 1 → IVec S16 32) a x).toNat < S100096.size a := fun v659_4 k1_hw164 => k1_hw164
def k1_off133 (i : grid1.Coords) : Fin 3 → Nat :=
  let c49_i32_454 : BitVec 32 := 49#32
  let arg0 : BitVec 32 := BitVec.ofNat 32 (i 0).val
  let c64_i32_376 : BitVec 32 := 64#32
  let v556 : BitVec 32 := Scalar.muli arg0 c64_i32_376
  let arg1 : BitVec 32 := BitVec.ofNat 32 (i 1).val
  let c4_i32_377 : BitVec 32 := 4#32
  let v557 : BitVec 32 := Scalar.muli arg1 c4_i32_377
  let v558 : BitVec 32 := Scalar.addi v556 v557
  let c3_i32_378 : BitVec 32 := 3#32
  let v559 : BitVec 32 := Scalar.addi v558 c3_i32_378
  let c0_i32_455 : BitVec 32 := 0#32
  ![49, v559.toNat, 0]
@[reducible] def k1_t58_loop : Scf.Loop 32 :=
  let c0_i32_460 : BitVec 32 := 0#32
  let c122_i32_461 : BitVec 32 := 122#32
  let v670 : BitVec 32 := Scalar.addi c0_i32_460 c122_i32_461
  let c1_i32_462 : BitVec 32 := 1#32
  ⟨c0_i32_460, v670, c1_i32_462⟩

def k1_chk165 (arg19 : IVec S16 32) : Prop :=
  (∀ a x, ((![arg19] : Fin 1 → IVec S16 32) a x).toNat < S100096.size a)
theorem k1_idx165_inb : ∀ (arg19 : IVec S16 32) (k1_hw165 : k1_chk165 arg19), ∀ a x, ((![arg19] : Fin 1 → IVec S16 32) a x).toNat < S100096.size a := fun arg19 k1_hw165 => k1_hw165
def k1_off134 (k1_t58 : Fin k1_t58_loop.trips) : Fin 1 → Nat :=
  let c0_i32_460 : BitVec 32 := 0#32
  let c1_i32_462 : BitVec 32 := 1#32
  let arg18 : BitVec 32 := Scf.iv c0_i32_460 c1_i32_462 k1_t58
  let c16_i32_476 : BitVec 32 := 16#32
  let v701 : BitVec 32 := Scalar.muli arg18 c16_i32_476
  let c48_i32_477 : BitVec 32 := 48#32
  let v702 : BitVec 32 := Scalar.addi v701 c48_i32_477
  let v703 : Index := Scalar.indexCast v702
  ![v703.toNat]

def k1_chk166 (v671_0 : IVec S16 32) : Prop :=
  (∀ a x, ((![v671_0] : Fin 1 → IVec S16 32) a x).toNat < S100096.size a)
theorem k1_idx166_inb : ∀ (v671_0 : IVec S16 32) (k1_hw166 : k1_chk166 v671_0), ∀ a x, ((![v671_0] : Fin 1 → IVec S16 32) a x).toNat < S100096.size a := fun v671_0 k1_hw166 => k1_hw166

def k1_chk167 (v671_2 : IVec S16 32) : Prop :=
  (∀ a x, ((![v671_2] : Fin 1 → IVec S16 32) a x).toNat < S100096.size a)
theorem k1_idx167_inb : ∀ (v671_2 : IVec S16 32) (k1_hw167 : k1_chk167 v671_2), ∀ a x, ((![v671_2] : Fin 1 → IVec S16 32) a x).toNat < S100096.size a := fun v671_2 k1_hw167 => k1_hw167

def k1_chk168 (v671_4 : IVec S16 32) : Prop :=
  (∀ a x, ((![v671_4] : Fin 1 → IVec S16 32) a x).toNat < S100096.size a)
theorem k1_idx168_inb : ∀ (v671_4 : IVec S16 32) (k1_hw168 : k1_chk168 v671_4), ∀ a x, ((![v671_4] : Fin 1 → IVec S16 32) a x).toNat < S100096.size a := fun v671_4 k1_hw168 => k1_hw168
@[reducible] def k1_t59_loop (v568 : BitVec 32) : Scf.Loop 32 :=
  let c0_i32_465 : BitVec 32 := 0#32
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v673 : BitVec 32 := Scalar.subi v586 c0_i32_465
  let c1_i32_466 : BitVec 32 := 1#32
  let v675 : BitVec 32 := Scalar.divsi v673 c1_i32_466
  let v676 : BitVec 32 := Scalar.muli v675 c1_i32_466
  let v677 : BitVec 32 := Scalar.addi c0_i32_465 v676
  let c1_i32_467 : BitVec 32 := 1#32
  ⟨c0_i32_465, v677, c1_i32_467⟩
def k1_off135 (v568 : BitVec 32) (k1_t59 : Fin (k1_t59_loop v568).trips) (c0_i32_478 : BitVec 32) : Fin 1 → Nat :=
  let c0_i32_465 : BitVec 32 := 0#32
  let c1_i32_467 : BitVec 32 := 1#32
  let arg18 : BitVec 32 := Scf.iv c0_i32_465 c1_i32_467 k1_t59
  let c128_i32_477 : BitVec 32 := 128#32
  let v703 : BitVec 32 := Scalar.muli arg18 c128_i32_477
  let v704 : BitVec 32 := Scalar.addi v703 c0_i32_478
  let v705 : Index := Scalar.indexCast v704
  ![v705.toNat]
@[reducible] def k1_t60_loop (v568 : BitVec 32) : Scf.Loop 32 :=
  let c0_i32_465 : BitVec 32 := 0#32
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v673 : BitVec 32 := Scalar.subi v586 c0_i32_465
  let c1_i32_466 : BitVec 32 := 1#32
  let v675 : BitVec 32 := Scalar.divsi v673 c1_i32_466
  let v676 : BitVec 32 := Scalar.muli v675 c1_i32_466
  let v677 : BitVec 32 := Scalar.addi c0_i32_465 v676
  let v674 : BitVec 32 := Scalar.addi c0_i32_465 v673
  let c1_i32_468 : BitVec 32 := 1#32
  ⟨v677, v674, c1_i32_468⟩
def k1_off136 (v568 : BitVec 32) (k1_t60 : Fin (k1_t60_loop v568).trips) (c0_i32_478 : BitVec 32) : Fin 1 → Nat :=
  let c0_i32_465 : BitVec 32 := 0#32
  let c0_i32_382 : BitVec 32 := 0#32
  let v570 : BitVec 1 := Scalar.cmpi .sgt v568 c0_i32_382
  let v571 : BitVec 32 := Scalar.extui v570
  let c0_i32_383 : BitVec 32 := 0#32
  let v572 : BitVec 1 := Scalar.cmpi .slt v568 c0_i32_383
  let v573 : BitVec 32 := Scalar.extui v572
  let v574 : BitVec 32 := Scalar.subi v571 v573
  let c128_i32_381 : BitVec 32 := 128#32
  let c0_i32_384 : BitVec 32 := 0#32
  let v575 : BitVec 1 := Scalar.cmpi .sgt c128_i32_381 c0_i32_384
  let v576 : BitVec 32 := Scalar.extui v575
  let c0_i32_385 : BitVec 32 := 0#32
  let v577 : BitVec 1 := Scalar.cmpi .slt c128_i32_381 c0_i32_385
  let v578 : BitVec 32 := Scalar.extui v577
  let v579 : BitVec 32 := Scalar.subi v576 v578
  let v580 : BitVec 1 := Scalar.cmpi .ne v574 v579
  let v581 : BitVec 32 := Scalar.remsi v568 c128_i32_381
  let c0_i32_386 : BitVec 32 := 0#32
  let v582 : BitVec 1 := Scalar.cmpi .ne v581 c0_i32_386
  let v583 : BitVec 1 := Scalar.andi v580 v582
  let v569 : BitVec 32 := Scalar.divsi v568 c128_i32_381
  let c1_i32_387 : BitVec 32 := 1#32
  let v584 : BitVec 32 := Scalar.subi v569 c1_i32_387
  let v585 : BitVec 32 := Scalar.select v583 v584 v569
  let c1_i32_388 : BitVec 32 := 1#32
  let v586 : BitVec 32 := Scalar.addi v585 c1_i32_388
  let v673 : BitVec 32 := Scalar.subi v586 c0_i32_465
  let c1_i32_466 : BitVec 32 := 1#32
  let v675 : BitVec 32 := Scalar.divsi v673 c1_i32_466
  let v676 : BitVec 32 := Scalar.muli v675 c1_i32_466
  let v677 : BitVec 32 := Scalar.addi c0_i32_465 v676
  let c1_i32_468 : BitVec 32 := 1#32
  let arg18 : BitVec 32 := Scf.iv v677 c1_i32_468 k1_t60
  let c128_i32_477 : BitVec 32 := 128#32
  let v703 : BitVec 32 := Scalar.muli arg18 c128_i32_477
  let v704 : BitVec 32 := Scalar.addi v703 c0_i32_478
  let v705 : Index := Scalar.indexCast v704
  ![v705.toNat]

def k1_chk128 (v395 : BitVec 32) (v568 : BitVec 32) : Prop :=
  ((k1_t46_loop v395 v568).OK) ∧
  (∀ k1_t46 : Fin (k1_t46_loop v395 v568).trips, ∀ (r : Fin 8), ∀ a, (k1_off107 v395 v568 k1_t46 (BitVec.ofNat 32 (16 * r.val))) a + S16.size a ≤ S100096.size a) ∧
  ((k1_t47_loop v395 v568).OK) ∧
  (∀ k1_t47 : Fin (k1_t47_loop v395 v568).trips, ∀ (r : Fin 8), ∀ a, (k1_off108 v395 v568 k1_t47 (BitVec.ofNat 32 (16 * r.val))) a + S16.size a ≤ S100096.size a) ∧
  ((k1_t59_loop v568).OK) ∧
  (∀ k1_t59 : Fin (k1_t59_loop v568).trips, ∀ (r : Fin 8), ∀ a, (k1_off135 v568 k1_t59 (BitVec.ofNat 32 (16 * r.val))) a + S16.size a ≤ S100096.size a) ∧
  ((k1_t60_loop v568).OK) ∧
  (∀ k1_t60 : Fin (k1_t60_loop v568).trips, ∀ (r : Fin 8), ∀ a, (k1_off136 v568 k1_t60 (BitVec.ofNat 32 (16 * r.val))) a + S16.size a ≤ S100096.size a)
theorem k1_t46_ok : ∀ (v395 : BitVec 32) (v568 : BitVec 32) (k1_hw128 : k1_chk128 v395 v568), (k1_t46_loop v395 v568).OK := fun v395 v568 k1_hw128 => k1_hw128.1
theorem k1_off107_inb : ∀ (v395 : BitVec 32) (v568 : BitVec 32) (k1_hw128 : k1_chk128 v395 v568) (k1_t46 : Fin (k1_t46_loop v395 v568).trips), ∀ (r : Fin 8), ∀ a, (k1_off107 v395 v568 k1_t46 (BitVec.ofNat 32 (16 * r.val))) a + S16.size a ≤ S100096.size a := fun v395 v568 k1_hw128 k1_t46 r => k1_hw128.2.1 k1_t46 r
theorem k1_t47_ok : ∀ (v395 : BitVec 32) (v568 : BitVec 32) (k1_hw128 : k1_chk128 v395 v568), (k1_t47_loop v395 v568).OK := fun v395 v568 k1_hw128 => k1_hw128.2.2.1
theorem k1_off108_inb : ∀ (v395 : BitVec 32) (v568 : BitVec 32) (k1_hw128 : k1_chk128 v395 v568) (k1_t47 : Fin (k1_t47_loop v395 v568).trips), ∀ (r : Fin 8), ∀ a, (k1_off108 v395 v568 k1_t47 (BitVec.ofNat 32 (16 * r.val))) a + S16.size a ≤ S100096.size a := fun v395 v568 k1_hw128 k1_t47 r => k1_hw128.2.2.2.1 k1_t47 r
theorem k1_t59_ok : ∀ (v395 : BitVec 32) (v568 : BitVec 32) (k1_hw128 : k1_chk128 v395 v568), (k1_t59_loop v568).OK := fun v395 v568 k1_hw128 => k1_hw128.2.2.2.2.1
theorem k1_off135_inb : ∀ (v395 : BitVec 32) (v568 : BitVec 32) (k1_hw128 : k1_chk128 v395 v568) (k1_t59 : Fin (k1_t59_loop v568).trips), ∀ (r : Fin 8), ∀ a, (k1_off135 v568 k1_t59 (BitVec.ofNat 32 (16 * r.val))) a + S16.size a ≤ S100096.size a := fun v395 v568 k1_hw128 k1_t59 r => k1_hw128.2.2.2.2.2.1 k1_t59 r
theorem k1_t60_ok : ∀ (v395 : BitVec 32) (v568 : BitVec 32) (k1_hw128 : k1_chk128 v395 v568), (k1_t60_loop v568).OK := fun v395 v568 k1_hw128 => k1_hw128.2.2.2.2.2.2.1
theorem k1_off136_inb : ∀ (v395 : BitVec 32) (v568 : BitVec 32) (k1_hw128 : k1_chk128 v395 v568) (k1_t60 : Fin (k1_t60_loop v568).trips), ∀ (r : Fin 8), ∀ a, (k1_off136 v568 k1_t60 (BitVec.ofNat 32 (16 * r.val))) a + S16.size a ≤ S100096.size a := fun v395 v568 k1_hw128 k1_t60 r => k1_hw128.2.2.2.2.2.2.2 k1_t60 r

def k1_off137 (i : grid1.Coords) : Fin 2 → Nat :=
  let arg0 : BitVec 32 := BitVec.ofNat 32 (i 0).val
  let c16_i32 : BitVec 32 := 16#32
  let v698 : BitVec 32 := Scalar.muli arg0 c16_i32
  let arg1 : BitVec 32 := BitVec.ofNat 32 (i 1).val
  let v699 : BitVec 32 := Scalar.addi v698 arg1
  let c0_i32_476_r2 : BitVec 32 := 0#32
  ![v699.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S_ : Shape := ⟨0, ![]⟩
abbrev S128x100000 : Shape := ⟨2, ![128, 100000]⟩
abbrev S128x100000x1 : Shape := ⟨3, ![128, 100000, 1]⟩
abbrev S1 : Shape := ⟨1, ![1]⟩
abbrev S1x1x1 : Shape := ⟨3, ![1, 1, 1]⟩
abbrev S1x100000 : Shape := ⟨2, ![1, 100000]⟩
abbrev S128 : Shape := ⟨1, ![128]⟩
abbrev S128x1 : Shape := ⟨2, ![128, 1]⟩
abbrev S128x100000x2 : Shape := ⟨3, ![128, 100000, 2]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000, .f32⟩
  | .hbm, ⟨3, _⟩ => ⟨S_, .f32⟩
  | .hbm, ⟨4, _⟩ => ⟨S100000, .f32⟩
  | .hbm, ⟨5, _⟩ => ⟨S100000, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S128x100000, .f32⟩
  | .hbm, ⟨26, _⟩ => ⟨S128x100000, .i32⟩
  | .hbm, ⟨27, _⟩ => ⟨S128x100000, .f32⟩
  | .hbm, ⟨28, _⟩ => ⟨S128x100000, .i32⟩
  | .hbm, ⟨29, _⟩ => ⟨S_, .i32⟩
  | .hbm, ⟨30, _⟩ => ⟨S128x100000, .i32⟩
  | .hbm, ⟨31, _⟩ => ⟨S128x100000, .i1⟩
  | .hbm, ⟨32, _⟩ => ⟨S_, .i32⟩
  | .hbm, ⟨33, _⟩ => ⟨S128x100000, .i32⟩
  | .hbm, ⟨34, _⟩ => ⟨S128x100000, .i32⟩
  | .hbm, ⟨35, _⟩ => ⟨S128x100000, .i32⟩
  | .hbm, ⟨36, _⟩ => ⟨S128x100000x1, .i32⟩
  | .hbm, ⟨37, _⟩ => ⟨S1, .i32⟩
  | .hbm, ⟨38, _⟩ => ⟨S_, .i32⟩
  | .hbm, ⟨39, _⟩ => ⟨S128x100000x1, .i32⟩
  | .hbm, ⟨40, _⟩ => ⟨S128x100000x1, .i1⟩
  | .hbm, ⟨41, _⟩ => ⟨S1x1x1, .i32⟩
  | .hbm, ⟨42, _⟩ => ⟨S128x100000x1, .i32⟩
  | .hbm, ⟨43, _⟩ => ⟨S128x100000x1, .i1⟩
  | .hbm, ⟨44, _⟩ => ⟨S128x100000x1, .i1⟩
  | .hbm, ⟨45, _⟩ => ⟨S_, .i1⟩
  | .hbm, ⟨46, _⟩ => ⟨S128x100000, .i1⟩
  | .hbm, ⟨47, _⟩ => ⟨S128x100000, .f32⟩
  | .hbm, ⟨48, _⟩ => ⟨S_, .f32⟩
  | .hbm, ⟨49, _⟩ => ⟨S128x100000, .f32⟩
  | .hbm, ⟨50, _⟩ => ⟨S128x100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S1x100000, .f32⟩
  | .hbm, ⟨55, _⟩ => ⟨S128x100000, .f32⟩
  | .hbm, ⟨56, _⟩ => ⟨S128x100000, .i1⟩
  | .hbm, ⟨57, _⟩ => ⟨S_, .i1⟩
  | .hbm, ⟨58, _⟩ => ⟨S128, .i1⟩
  | .hbm, ⟨59, _⟩ => ⟨S128x1, .i1⟩
  | .hbm, ⟨60, _⟩ => ⟨S100000, .i32⟩
  | .hbm, ⟨61, _⟩ => ⟨S1x100000, .i32⟩
  | .hbm, ⟨62, _⟩ => ⟨S_, .i32⟩
  | .hbm, ⟨63, _⟩ => ⟨S_, .i32⟩
  | .hbm, ⟨64, _⟩ => ⟨S128x100000, .i32⟩
  | .hbm, ⟨65, _⟩ => ⟨S128x100000, .i32⟩
  | .hbm, ⟨66, _⟩ => ⟨S128x100000, .i32⟩
  | .hbm, ⟨67, _⟩ => ⟨S_, .i32⟩
  | .hbm, ⟨68, _⟩ => ⟨S128, .i32⟩
  | .hbm, ⟨69, _⟩ => ⟨S128x1, .i32⟩
  | .hbm, ⟨70, _⟩ => ⟨S128x100000, .i32⟩
  | .hbm, ⟨71, _⟩ => ⟨S128x100000, .i32⟩
  | .hbm, ⟨72, _⟩ => ⟨S128x100000, .i1⟩
  | .hbm, ⟨73, _⟩ => ⟨S128x100000, .i1⟩
  | .hbm, ⟨74, _⟩ => ⟨S128x100000, .i1⟩
  | .hbm, ⟨75, _⟩ => ⟨S128x100000, .i1⟩
  | .hbm, ⟨76, _⟩ => ⟨S128, .i32⟩
  | .hbm, ⟨77, _⟩ => ⟨S128x1, .i32⟩
  | .hbm, ⟨78, _⟩ => ⟨S_, .i1⟩
  | .hbm, ⟨79, _⟩ => ⟨S128x100000, .i1⟩
  | .hbm, ⟨80, _⟩ => ⟨S_, .i32⟩
  | .hbm, ⟨81, _⟩ => ⟨S128x1, .i32⟩
  | .hbm, ⟨82, _⟩ => ⟨S128x1, .i1⟩
  | .hbm, ⟨83, _⟩ => ⟨S_, .i32⟩
  | .hbm, ⟨84, _⟩ => ⟨S128x1, .i32⟩
  | .hbm, ⟨85, _⟩ => ⟨S128x1, .i32⟩
  | .hbm, ⟨86, _⟩ => ⟨S128x1, .i32⟩
  | .hbm, ⟨87, _⟩ => ⟨S_, .i32⟩
  | .hbm, ⟨88, _⟩ => ⟨S128x100000, .i32⟩
  | .hbm, ⟨89, _⟩ => ⟨S128x100000, .i1⟩
  | .hbm, ⟨90, _⟩ => ⟨S_, .i32⟩
  | .hbm, ⟨91, _⟩ => ⟨S128x100000, .i32⟩
  | .hbm, ⟨92, _⟩ => ⟨S128x100000, .i32⟩
  | .hbm, ⟨93, _⟩ => ⟨S128x100000, .i32⟩
  | .hbm, ⟨94, _⟩ => ⟨S128x100000, .i32⟩
  | .hbm, ⟨95, _⟩ => ⟨S128x100000x1, .i32⟩
  | .hbm, ⟨96, _⟩ => ⟨S128x100000x1, .i32⟩
  | .hbm, ⟨97, _⟩ => ⟨S128x100000x2, .i32⟩
  | .hbm, ⟨98, _⟩ => ⟨S128x100000, .i1⟩
  | .hbm, ⟨99, _⟩ => ⟨S_, .f32⟩
  | .hbm, ⟨100, _⟩ => ⟨S_, .f32⟩
  | .hbm, ⟨101, _⟩ => ⟨S128x100000, .f32⟩
  | .hbm, ⟨102, _⟩ => ⟨S128x100000, .f32⟩
  | .hbm, ⟨103, _⟩ => ⟨S128x100000, .f32⟩
  | .hbm, ⟨104, _⟩ => ⟨S_, .f32⟩
  | .hbm, ⟨105, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v29 : Ref sig .tc := ⟨.hbm, 66, rfl⟩
abbrev main_c_7 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_8 : Ref sig .tc := ⟨.hbm, 78, rfl⟩
abbrev main_v39 : Ref sig .tc := ⟨.hbm, 79, rfl⟩
abbrev main_c_9 : Ref sig .tc := ⟨.hbm, 80, rfl⟩
abbrev main_v40 : Ref sig .tc := ⟨.hbm, 81, rfl⟩
abbrev main_v41 : Ref sig .tc := ⟨.hbm, 82, rfl⟩
abbrev main_c_10 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_11 : Ref sig .tc := ⟨.hbm, 87, rfl⟩
abbrev main_v45 : Ref sig .tc := ⟨.hbm, 88, rfl⟩
abbrev main_v46 : Ref sig .tc := ⟨.hbm, 89, rfl⟩
abbrev main_c_12 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_13 : Ref sig .tc := ⟨.hbm, 99, rfl⟩
abbrev main_cst_14 : Ref sig .tc := ⟨.hbm, 100, rfl⟩
abbrev main_call4_v0 : Ref sig .tc := ⟨.hbm, 101, rfl⟩
abbrev main_call4_v1 : Ref sig .tc := ⟨.hbm, 102, rfl⟩
abbrev main_v55 : Ref sig .tc := ⟨.hbm, 103, rfl⟩
abbrev main_cst_15 : Ref sig .tc := ⟨.hbm, 104, rfl⟩
abbrev main_v56 : Ref sig .tc := ⟨.hbm, 105, rfl⟩

abbrev nD : Nat := 1
abbrev τ : Topo := Topo.v7x

variable {F : FTy → Type} [FloatOps F]
-- ==== Proof.Setup.lean ====
/-
  The program as the launch theorems see it, its resource algebra, and its buffers as locations of a device.
-/
module

public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Regions

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's cells, the transfers' counters. -/
abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by
  unfold EP; infer_instance

/-- The prefetched tables' contents: no table. -/
abbrev adm : (p : Fin 1) → (pcfgs (F := F) p).Adm := fun p => (cfgs p).toPCfg_adm

end Cert.Proof

end
-- ==== Proof.ScRules.lean ====
/-
  Rules for a tile's memory operations, stated on what a memref reads: a load of a rectangle, a store to one, a scatter and a
  gather through index vectors, and a local copy from a piece of an array held by a read share.
-/
module

public import Idealize.ShloMosaic.Lib.SparseCore.Ops
public import Idealize.ShloMosaic.Lib.Memref
public import Idealize.ShloMosaic.Lib.Transfers
public import Idealize.ShloMosaic.Lib.Scf

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

section Local

variable {s t : Shape} {e : EltTy}

/-- A load of a rectangle of a memref that reads `X` yields `X` on the rectangle. -/
theorem load_owns {m : Memref sig c.2.kind .vmem s e} {r : Rect s} {hl : m.view.LoadsAt r.toLoadRect}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) E (k (fun j => X (r.emb j))) Q)
        -∗ wp frame (wpE defs 𝒱 c bd) E (.op (.load m r.toLoadRect hl) k) Q) := by
  unfold owns
  iintro ⟨%f, %hf, H⟩ Hk
  iapply (wp_load (defs := defs) 𝒱 c bd E (Q := Q) (m := m) (r := r.toLoadRect) (hl := hl) (k := k) (S := m.view.set) (q := q) (f := f)
    (by have h := View.set_slice_subset m.view r; rwa [View.set_slice] at h)) $$ H
  iintro H
  have h : m.view.readAt (Elt F) r.toLoadRect f = fun j => X (r.emb j) := by subst hf; rfl
  rw [h]
  iapply Hk
  iexists f; isplitr
  · ipureintro; exact hf
  · iexact H

/-- A store of `w` to a rectangle of a memref: it reads `w` there and what it read elsewhere. -/
theorem store_owns {m : Memref sig c.2.kind .vmem s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ c.2) α} {X X' : s.Idx → Elt F e}
    (hin : ∀ j, X' (r.emb j) = w j) (hout : ∀ i, (∀ j, r.emb j ≠ i) → X' i = X i) :
    (owns c m fullShare X : sProp 𝕄)
      ⊢ iprop((owns c m fullShare X' -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store (defs := defs) 𝒱 c bd E (Q := Q) (m := m) (r := r) (w := w) (Mk := Finset.univ) (hx := hx) (hm := hm) (k := k) (S := m.view.set) (f := f)
    (View.set_slice_subset m.view r)) $$ H
  iintro H
  iapply Hk
  iexists _; isplitr
  rotate_left
  · iexact H
  · ipureintro
    funext i
    by_cases h : ∃ j, r.emb j = i
    · obtain ⟨j, rfl⟩ := h
      rw [hin, View.read_slice_write_emb _ _ _ (Finset.mem_univ _)]
    · rw [hout i fun j hj => h ⟨j, hj⟩, View.read_slice_write_of_not_mem, hf]
      intro hi
      obtain ⟨j, -, hj⟩ := Finset.mem_map.mp hi
      exact h ⟨j, hj⟩

theorem read_access_whole' {κ : Kind} {sp : Space} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

theorem set_access_whole' {κ : Kind} {sp : Space} (m : Memref sig κ sp s e) :
    (m.access (.whole s)).set = m.view.set := by
  rw [View.set_slice, Rect.set_whole]; rfl

/-- A gather through index vectors of a memref that reads `X`. -/
theorem gather_owns {m : Memref sig c.2.kind .vmem s e} {idxs : Fin s.rank → IVec t 32}
    {h : ∀ a x, (idxs a x).toNat < s.size a} {hl : m.view.Loads} {k : Vec F t e → Prog (TpuEff nD τ sig (Elt F) Λ c.2) α}
    {q : PosShare TreeShare} {X : s.Idx → Elt F e} :
    (owns c m q X : sProp 𝕄)
      ⊢ iprop((owns c m q X -∗ wp frame (wpE defs 𝒱 c bd) E (k (loadIdx X idxs h)) Q)
        -∗ wp frame (wpE defs 𝒱 c bd) E (SparseCore.vectorLoadIdx m idxs h hl >>= k) Q) := by
  unfold owns
  iintro ⟨%f, %hf, H⟩ Hk
  iapply (SparseCore.wp_vectorLoadIdx (defs := defs) 𝒱 c bd E (Q := Q) (base := m) (idxs := idxs) (h := h) (hl := hl) (k := k)
    (S := m.view.set) (q := q) (f := f) (subset_of_eq (set_access_whole' m))) $$ H
  iintro H
  rw [read_access_whole', hf]
  iapply Hk
  iexists f; isplitr
  · ipureintro; exact hf
  · iexact H

/-- A scatter through index vectors into a memref that reads `X`. -/
theorem scatter_owns {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {X : s.Idx → Elt F e} :
    (owns c m fullShare X : sProp 𝕄)
      ⊢ iprop((owns c m fullShare (storeIdx X idxs v mask add h) -∗ wp frame (wpE defs 𝒱 c bd) E (k ⟨⟩) Q)
        -∗ wp frame (wpE defs 𝒱 c bd) E (SparseCore.vectorStoreIdx m idxs v mask add h hs >>= k) Q) := by
  unfold owns
  iintro ⟨%f, %hf, H⟩ Hk
  ihave H' := (Entails.of_eq (show (m.view.loc c ↦[m.view.set]{fullShare} f : sProp 𝕄)
    = ((m.access (.whole s)).loc c ↦[(m.access (.whole s)).set]{fullShare} f) by rw [set_access_whole'])) $$ H
  iapply (SparseCore.wp_vectorStoreIdx (defs := defs) 𝒱 c bd E (Q := Q) (base := m) (idxs := idxs) (v := v) (mask := mask) (add := add)
    (h := h) (hs := hs) (k := k) (f := f)) $$ H'
  iintro H
  rw [read_access_whole', hf]
  iapply Hk
  iexists _; isplitr
  rotate_left
  · iapply (Entails.of_eq (show ((m.access (.whole s)).loc c ↦[(m.access (.whole s)).set]{fullShare} _ : sProp 𝕄)
      = (m.view.loc c ↦[m.view.set]{fullShare} _) by rw [set_access_whole'])); iexact H
  · ipureintro
    rw [← read_access_whole', View.read_write_univ]

end Local

section Copies

variable {sp sp' : Space} {s t : Shape} {e : EltTy}

/-- A copy under way on semaphore `sem` into `buf` of words `X` read off a piece of the array `A`, held by the share `q` at contents `f`:
    the copy's delivery, and the share of the elements the copy does not read. -/
def InFlight [CountersIn U] (A : Memref sig c.2.kind sp s e) (buf : Memref sig c.2.kind sp' t e) (sem : DmaSem sig) (ι : Ix)
    (q : PosShare TreeShare) (f : Buf (Elt F) (A.view.loc c)) (X : t.Idx → Elt F e) : sProp 𝕄 :=
  iprop(∃ S : Finset (Idx (A.view.loc c)),
    Transfers.Flight countersEmb c (.dma sem) ι buf.view.dmaCredit iprop(owns c buf fullShare X ∗ (A.view.loc c ↦[S]{q} f))
    ∗ (A.view.loc c ↦[Finset.univ \ S]{q} f))

variable [CountersIn U] [Infinite Name]

/-- Starting a copy of a piece of `A` into `buf`. -/
theorem start_owns {A : Memref sig c.2.kind sp s e} {r : Rect s} {hr : ∀ a, r.stride a = 1} {hsq : r.shape.Squeezes t}
    {buf : Memref sig c.2.kind sp' t e} {sem : DmaSem sig}
    {hsrc : ((A.slice r hr).squeeze t hsq).view.WordExact} {hdst : buf.view.WordExact}
    {hsem : DmaTarget.Typed (nD := nD) sp (.dma sem) (.here buf)}
    {k : PUnit → Prog (TpuEff nD τ sig (Elt F) Λ c.2) α} {q : PosShare TreeShare} {f : Buf (Elt F) (A.view.loc c)}
    {X₀ : t.Idx → Elt F e} (ι : Ix) (ht : 0 < t.numel) (X : t.Idx → Elt F e)
    (hX : ((A.slice r hr).squeeze t hsq).view.read (Elt F) f = X) :
    iprop((A.view.loc c ↦{q} f) ∗ owns c buf fullShare X₀ ∗ semVal (c, .dma sem) 0 : sProp 𝕄)
      ⊢ iprop((InFlight c A buf sem ι q f X -∗ wp frame (wpE defs 𝒱 c bd) Set.univ (k ⟨⟩) Q)
        -∗ wp frame (wpE defs 𝒱 c bd) Set.univ (.op (.enqueueDma ((A.slice r hr).squeeze t hsq) (.here buf) (.dma sem) hsrc hdst hsem) k) Q) := by
  unfold InFlight owns
  iintro ⟨HA, ⟨%g, %hg, Hb⟩, Hs⟩ Hk
  ihave HA' := (pointsTo_split_subset (Finset.subset_univ ((A.slice r hr).squeeze t hsq).view.set)).1 $$ HA
  icases HA' with ⟨HA, HR⟩
  iapply (Transfers.wp_dmaLocal countersEmb 𝒱 c bd (defs := defs) (Q := Q) (src := (A.slice r hr).squeeze t hsq) (via := .same) (dst := buf) (sm := .dma sem)
    (hsrc := hsrc) (hdst := hdst) (hsem := hsem) (k := k) (q := q) (fs := f) (Sd := buf.view.set) (fd := g) ι buf.view.dmaCredit rfl
    (View.dmaCredit_pos _ ht) subset_rfl) $$ [HA Hb Hs]
  · isplitl [HA]; · iexact HA
    isplitl [Hb] <;> iassumption
  iintro HF
  iapply Hk
  iexists ((A.slice r hr).squeeze t hsq).view.set
  isplitl [HF]
  · iapply (Transfers.Flight_mono countersEmb c ?_) $$ HF
    iintro ⟨H, HA⟩
    isplitl [H]
    · iexists _; isplitr
      rotate_left
      · iexact H
      · ipureintro
        rw [View.read_write_univ]
        exact hX
    · iexact HA
  · iexact HR

/-- Waiting for a copy under way. -/
theorem wait_owns {A : Memref sig c.2.kind sp s e} {buf : Memref sig c.2.kind sp' t e} {sem : DmaSem sig} {t' : Shape} {e' : EltTy}
    {srcw : Memref sig c.2.kind sp t' e'}
    {hsrc : srcw.view.WordExact} {hdst : buf.view.WordExact}
    {k : PUnit → Prog (TpuEff nD τ sig (Elt F) Λ c.2) α} {q : PosShare TreeShare} {f : Buf (Elt F) (A.view.loc c)}
    {X : t.Idx → Elt F e} {ι : Ix} {O : CellTallies nD τ sig Ix} {W : Waits sig Ix} :
    iprop(InFlight c A buf sem ι q f X ∗ (∃ W', ⌜∀ p ∈ W', p ∈ W ∨ p.2 = ι⌝ ∗ owes c O W') ∗ Transfers.MayWaits c ι O : sProp 𝕄)
      ⊢ iprop((iprop((A.view.loc c ↦{q} f) ∗ owns c buf fullShare X ∗ semVal (c, .dma sem) 0 ∗ ∃ W', ⌜∀ p ∈ W', p ∈ W ∨ p.2 = ι⌝ ∗ owes c O W')
          -∗ wp frame (wpE defs 𝒱 c bd) Set.univ (k ⟨⟩) Q)
        -∗ wp frame (wpE defs 𝒱 c bd) Set.univ (.op (.waitDma2 sem srcw buf hsrc hdst) k) Q) := by
  unfold InFlight
  iintro ⟨⟨%S, HF, HR⟩, ⟨%W', %hW', HO⟩, Hmw⟩ Hk
  iapply (Transfers.wp_waitLocalO countersEmb 𝒱 c bd (defs := defs) (Q := Q) (sem := sem) (srcw := srcw) (dstw := buf)
    (hsrc := hsrc) (hdst := hdst) (k := k) ι rfl) $$ [HF HO Hmw]
  · isplitl [HF]; · iexact HF
    isplitl [HO]; · iexact HO
    iapply (Transfers.MayWaits.elim (SemLoc.dma sem)) $$ Hmw
  iintro ⟨⟨Hb, HA⟩, Hs, HO⟩
  iapply Hk
  isplitl [HA HR]
  · iapply (pointsTo_split_subset (Finset.subset_univ S)).2
    isplitl [HA] <;> iassumption
  isplitl [Hb]; · iexact Hb
  isplitl [Hs]; · iexact Hs
  iexists _; isplitr
  rotate_left
  · iexact HO
  · ipureintro
    intro p hp
    rcases Finset.mem_insert.mp hp with hp | hp
    · exact .inr (hp ▸ rfl)
    · exact hW' p hp

end Copies

end Cert.Proof.Sc
-- ==== Proof.TcBody.lean ====
/-
  The first program at one grid point, on any staging memrefs: the two blocks read, the words of the block stored, and the two
  row counts set at the first point and added to at every later one.
-/
module

public import proofs.«01_k».proof.Proof.Gen.KernelIdeal.Skeleton
public import proofs.«01_k».proof.Proof.ScRules
public import Idealize.ShloMosaic.Lib.Pipeline.Kit

@[expose] public section

noncomputable section

namespace Cert.Proof.Tc

open Idealize.ShloMosaic Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen
open Cert.Proof.Sc (load_owns store_owns)

variable {F : FTy → Type} [FloatOps F]

/-- The least position at which a value passes its threshold, for each value of a block. -/
def blkB (mu va : Vec F S2000x128 .f32) : IVec S2000x128 32 :=
  k0_pay10 (k0_pay3 mu va) (k0_pay5 mu va) (k0_pay6 mu va) (k0_pay7 mu va) k0_pay8 k0_pay9
/-- The words a block leaves, transposed. -/
def blkBins (mu va : Vec F S2000x128 .f32) : IVec S1x128x2000 32 :=
  k0_pay13 (k0_pay3 mu va) (k0_pay5 mu va) (k0_pay6 mu va) (k0_pay7 mu va) k0_pay8 k0_pay9
/-- How many values of a block pass at every position, row by row. -/
def blkC (mu va : Vec F S2000x128 .f32) : IVec S1x128 32 :=
  k0_pay11 (k0_pay3 mu va) (k0_pay5 mu va) (k0_pay6 mu va) (k0_pay7 mu va) k0_pay8 k0_pay9
/-- How many values of a block pass at some position, row by row. -/
def blkK (mu va : Vec F S2000x128 .f32) : IVec S1x128 32 :=
  k0_pay12 (k0_pay3 mu va) (k0_pay5 mu va) (k0_pay6 mu va) (k0_pay7 mu va) k0_pay8 k0_pay9

/-- A whole rectangle places every index where it is. -/
theorem emb_whole {s : Shape} {off : Fin s.rank → ℕ} {inb : ∀ a, off a + s.size a ≤ s.size a} (j : s.Idx) :
    (Rect.unit off s.size inb).emb j = j := by
  funext a
  refine Fin.ext ?_
  rw [Rect.emb_apply]
  have h := inb a
  show off a + 1 * (j a : ℕ) = j a
  omega

section Body

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)
variable {α : Type} {Q : α → sProp (MT nD τ sig Ix (Elt F) Name U Lvl)}

local notation "𝕄" => MT nD τ sig Ix (Elt F) Name U Lvl

/-- A whole load yields what the memref reads. -/
theorem load_all {s : Shape} {e : EltTy} {m : Memref sig .tc .vmem s e} {off : Fin s.rank → ℕ} {inb : ∀ a, off a + s.size a ≤ s.size a}
    {hl : m.view.LoadsAt (Rect.unit off s.size inb).toLoadRect} {k : (s.Idx → Elt F e) → Prog (TpuEff nD τ sig (Elt F) Λ₀ .tc) α}
    {q : PosShare TreeShare} {X : s.Idx → Elt F e} :
    (owns (c : Thread nD τ) m q X : sProp 𝕄)
      ⊢ iprop((owns (c : Thread nD τ) m q X -∗ wp frame (wpE defs 𝒱 (c : Thread nD τ) bd) E (k X) Q)
        -∗ wp frame (wpE defs 𝒱 (c : Thread nD τ) bd) E (.op (.load m (Rect.unit off s.size inb).toLoadRect hl) k) Q) := by
  have h := load_owns (defs := defs) 𝒱 (c : Thread nD τ) bd E (Q := Q) (m := m) (r := Rect.unit off s.size inb) (hl := hl) (k := k) (q := q) (X := X)
  rwa [show (fun j => X ((Rect.unit off s.size inb).emb j)) = X from funext fun j => congrArg X (emb_whole j)] at h

/-- A whole store leaves the memref reading what is stored. -/
theorem store_all {s : Shape} {e : EltTy} {m : Memref sig .tc .vmem s e} {off : Fin s.rank → ℕ} {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wp frame (wpE defs 𝒱 (c : Thread nD τ) bd) E (k ⟨⟩) Q)
        -∗ wp frame (wpE defs 𝒱 (c : Thread nD τ) bd) E (.op (.store m (Rect.unit off s.size inb) w Finset.univ hx hm) k) Q) :=
  store_owns (defs := defs) 𝒱 (c : Thread nD τ) bd E (Q := Q) (m := m) (r := Rect.unit off s.size inb) (w := w) (hx := hx) (hm := hm) (k := k) (X := X) (X' := w)
    (fun j => congrArg w (emb_whole j)) (fun i h => absurd (emb_whole (inb := inb) i) (h i))

/-- The first point's guard. -/
theorem cond1_iff : ∀ i : grid0.Coords, k0_cond1 i = 1#1 ↔ (i 0).val = 0 := by
  intro i
  have h : ∀ n : Fin 50, (Scalar.cmpi .ne (Scalar.extui (Scalar.cmpi .eq (BitVec.ofNat 32 n.val) 0#32) : BitVec 32) 0#32 = 1#1) ↔ n.val = 0 := by decide +kernel
  exact h (i 0)
/-- The later points' guard. -/
theorem cond2_iff : ∀ i : grid0.Coords, k0_cond2 i = 1#1 ↔ (i 0).val ≠ 0 := by
  intro i
  have h : ∀ n : Fin 50, (Scalar.cmpi .ne (Scalar.extui (Scalar.cmpi .ne (BitVec.ofNat 32 n.val) 0#32) : BitVec 32) 0#32 = 1#1) ↔ n.val ≠ 0 := by decide +kernel
  exact h (i 0)

/-- The counts after a point: the block's own at the first, added to what was there at a later one. -/
def accC (i : grid0.Coords) (mu va : Vec F S2000x128 .f32) (X : IVec S1x128 32) : IVec S1x128 32 :=
  if (i 0).val = 0 then blkC mu va else k0_pay1 (F := F) (blkC mu va) X
def accK (i : grid0.Coords) (mu va : Vec F S2000x128 .f32) (X : IVec S1x128 32) : IVec S1x128 32 :=
  if (i 0).val = 0 then blkK mu va else k0_pay2 (F := F) (blkK mu va) X

/-- One point of the first program. -/
theorem body_wp (i : grid0.Coords) (arg1 : Memref sig .tc .vmem S2000x128 .f32) (harg1 : arg1.IsWhole) (arg2 : Memref sig .tc .vmem S2000x128 .f32) (harg2 : arg2.IsWhole) (arg3 : Memref sig .tc .vmem S1x128x2000 .i32) (harg3 : arg3.IsWhole) (arg4 : Memref sig .tc .vmem S1x128 .i32) (harg4 : arg4.IsWhole) (arg5 : Memref sig .tc .vmem S1x128 .i32) (harg5 : arg5.IsWhole)
    (mu va : Vec F S2000x128 .f32) (X3 : IVec S1x128x2000 32) (X4 X5 : IVec S1x128 32) (Q : PUnit → sProp 𝕄) :
    iprop(owns (c : Thread nD τ) arg1 fullShare mu ∗ owns (c : Thread nD τ) arg2 fullShare va ∗ owns (c : Thread nD τ) arg3 fullShare X3
        ∗ owns (c : Thread nD τ) arg4 fullShare X4 ∗ owns (c : Thread nD τ) arg5 fullShare X5
        ∗ ((owns (c : Thread nD τ) arg1 fullShare mu ∗ owns (c : Thread nD τ) arg2 fullShare va ∗ owns (c : Thread nD τ) arg3 fullShare (blkBins mu va)
          ∗ owns (c : Thread nD τ) arg4 fullShare (accC i mu va X4) ∗ owns (c : Thread nD τ) arg5 fullShare (accK i mu va X5)) -∗ Q ⟨⟩))
      ⊢ wp frame (wpE defs 𝒱 (c : Thread nD τ) bd) E (cc0__tc_body i arg1 harg1 arg2 harg2 arg3 harg3 arg4 harg4 arg5 harg5) Q := by
  rw [cc0__tc_body_eq_skeleton]
  unfold cc0__tc_body_skel
  rw [k0_part1_eq_skeleton, k0_part2_eq_skeleton]
  unfold k0_part1_skel k0_part2_skel
  simp only [Prog.bind, Bind.bind, Pure.pure, Prog.lift]
  iintro ⟨H1, H2, H3, H4, H5, Hk⟩
  iapply (load_all 𝒱 c bd E) $$ H1
  iintro H1
  iapply (load_all 𝒱 c bd E) $$ H2
  iintro H2
  iapply (load_all 𝒱 c bd E) $$ H3
  iintro H3
  iapply (store_all 𝒱 c bd E) $$ H3
  iintro H3
  simp only [Prog.bind, Pure.pure]
  by_cases h : (i 0).val = 0
  · have h1 : k0_cond1 i = 1#1 := (cond1_iff i).mpr h
    have h2 : ¬ k0_cond2 i = 1#1 := fun e => (cond2_iff i).mp e h
    simp only [h1, h2, ↓reduceDIte, Prog.bind]
    iapply (load_all 𝒱 c bd E) $$ H4
    iintro H4
    iapply (store_all 𝒱 c bd E) $$ H4
    iintro H4
    iapply (load_all 𝒱 c bd E) $$ H5
    iintro H5
    iapply (store_all 𝒱 c bd E) $$ H5
    iintro H5
    simp only [Pure.pure]; rw [wp_ret]; imodintro
    iapply Hk
    unfold accC accK
    rw [if_pos h, if_pos h]
    isplitl [H1]; · iexact H1
    isplitl [H2]; · iexact H2
    isplitl [H3]; · iexact H3
    isplitl [H4]; · iexact H4
    iexact H5
  · have h1 : ¬ k0_cond1 i = 1#1 := fun e => h ((cond1_iff i).mp e)
    have h2 : k0_cond2 i = 1#1 := (cond2_iff i).mpr h
    simp only [h1, h2, ↓reduceDIte, Prog.bind]
    iapply (load_all 𝒱 c bd E) $$ H4
    iintro H4
    iapply (load_all 𝒱 c bd E) $$ H4
    iintro H4
    iapply (store_all 𝒱 c bd E) $$ H4
    iintro H4
    iapply (load_all 𝒱 c bd E) $$ H5
    iintro H5
    iapply (load_all 𝒱 c bd E) $$ H5
    iintro H5
    iapply (store_all 𝒱 c bd E) $$ H5
    iintro H5
    simp only [Pure.pure]; rw [wp_ret]; imodintro
    iapply Hk
    unfold accC accK
    rw [if_neg h, if_neg h]
    isplitl [H1]; · iexact H1
    isplitl [H2]; · iexact H2
    isplitl [H3]; · iexact H3
    isplitl [H4]; · iexact H4
    iexact H5

end Body

end Cert.Proof.Tc

end
-- ==== Proof.TcRun.lean ====
/-
  The first call as a region of @main: its proof data, its body obligation, and the region's segment.
-/
module

public import proofs.«01_k».proof.Proof.Setup
public import proofs.«01_k».proof.Proof.TcBody
public import Idealize.ShloMosaic.Lib.Pipeline.FrameBody

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Cert.Proof.Tc

variable {F : FTy → Type} [FloatOps F]

local notation "𝕄" => MT nD τ sig (HIx 1) (Elt F) ℕ UU ℕ

variable (m : (ℓ : Loc nD τ sig) → Buf (Elt F) ℓ)

/-- The block of the first and of the second argument that a point reads. -/
def mu (c : Dev nD) (t : Fin cfg0.N) : Vec F S2000x128 .f32 :=
  ((cfg0.win 0).blk t).view.read (Elt F) (m ((cfg0.win 0).arr.view.loc (c : Thread nD τ)))
def va (c : Dev nD) (t : Fin cfg0.N) : Vec F S2000x128 .f32 :=
  ((cfg0.win 1).blk t).view.read (Elt F) (m ((cfg0.win 1).arr.view.loc (c : Thread nD τ)))

/-- A number as a point of the grid. -/
def pt (n : ℕ) : Fin cfg0.N := ⟨n % 50, by rw [show cfg0.N = 50 from N_0]; exact Nat.mod_lt _ (by omega)⟩
theorem pt_val (t : Fin cfg0.N) : pt t.val = t :=
  Fin.ext (Nat.mod_eq_of_lt (lt_of_lt_of_eq t.isLt N_0))

/-- The two row counts after a point. -/
def cntC (c : Dev nD) : ℕ → IVec S1x128 32
  | 0 => blkC (mu m c (pt 0)) (va m c (pt 0))
  | n + 1 => k0_pay1 (F := F) (blkC (mu m c (pt (n + 1))) (va m c (pt (n + 1)))) (cntC c n)
def cntK (c : Dev nD) : ℕ → IVec S1x128 32
  | 0 => blkK (mu m c (pt 0)) (va m c (pt 0))
  | n + 1 => k0_pay2 (F := F) (blkK (mu m c (pt (n + 1))) (va m c (pt (n + 1)))) (cntK c n)

/-- What the recorded waits are known to be. -/
def rec0 (c : Dev nD) : Set (SemLoc sig × HIx 1) := {p | (K (F := F)).lev (T c, p.1) p.2 ≤ 8 * SparseCore.Cfg.Blocks.fst 1 1 0}

/-- The proof data: every argument block left in place, the words of the block, the counts so far; the start of the second
    call owed throughout. -/
def dats (_ : Fin 1) (c : Dev nD) : Dat τ (Elt F) (HIx 1) ℕ UU ℕ cfg0 c where
  A w := m ((c : Thread nD τ).loc (Pipeline.arrRef spec0 w))
  after w t := match w with
    | ⟨0, _⟩ => mu m c t
    | ⟨1, _⟩ => va m c t
    | ⟨2, _⟩ => blkBins (mu m c t) (va m c t)
    | ⟨3, _⟩ => cntC m c t.val
    | ⟨4, _⟩ => cntK m c t.val
  Φ _ := iprop(emp)
  q _ := fullShare
  owed _ := (K (F := F)).Otc c 0
  recorded _ := rec0 (F := F) c

theorem A_eq (c : Dev nD) (w : Fin cfg0.W) : (dats m 0 c).A w = m ((c : Thread nD τ).loc (Pipeline.arrRef spec0 w)) := by
  dsimp only [dats]

theorem before0 (c : Dev nD) (t : Fin cfg0.N) (d) : (dats m 0 c).before 0 t d = mu m c t := by
  unfold Dat.before; rw [if_pos (fetch0_0 t)]; rfl
theorem before1 (c : Dev nD) (t : Fin cfg0.N) (d) : (dats m 0 c).before 1 t d = va m c t := by
  unfold Dat.before; rw [if_pos (fetch0_1 t)]; rfl

theorem live (w : Fin cfg0.W) (i : cfg0.grid.Coords) : cfg0.idle w i = false := by
  have h : (!(k0_cond1 i == 1#1) && !(k0_cond2 i == 1#1)) = false := by
    by_cases h : (i 0).val = 0
    · rw [(cond1_iff i).mpr h]; rfl
    · rw [(cond2_iff i).mpr h]; simp
  match w with
  | ⟨0, _⟩ => rfl
  | ⟨1, _⟩ => rfl
  | ⟨2, _⟩ => rfl
  | ⟨3, _⟩ => exact h
  | ⟨4, _⟩ => exact h

theorem coord (t : Fin cfg0.N) : (grid0.coords t 0).val = t.val := by
  have h : ∀ t : Fin grid0.N, (grid0.coords t 0).val = t.val := by decide +kernel
  exact h t

theorem noFlush3 (t : Fin cfg0.N) (ht : t.val ≠ 0) :
    (cfg0.win 3).flush ⟨t.val - 1, Nat.lt_of_le_of_lt (Nat.sub_le _ _) t.isLt⟩ = false := by
  rw [Bool.eq_false_iff]
  intro e
  have h := (flush0_3 _).mp e
  have h' : t.val < 50 := lt_of_lt_of_eq t.isLt N_0
  dsimp only at h
  omega
theorem noFlush4 (t : Fin cfg0.N) (ht : t.val ≠ 0) :
    (cfg0.win 4).flush ⟨t.val - 1, Nat.lt_of_le_of_lt (Nat.sub_le _ _) t.isLt⟩ = false := by
  rw [Bool.eq_false_iff]
  intro e
  have h := (flush0_4 _).mp e
  have h' : t.val < 50 := lt_of_lt_of_eq t.isLt N_0
  dsimp only at h
  omega

theorem before3 (c : Dev nD) (t : Fin cfg0.N) (d) :
    accC (F := F) (grid0.coords t) (mu m c t) (va m c t) ((dats m 0 c).before 3 t d) = cntC m c t.val := by
  unfold accC
  rw [coord]
  by_cases ht : t.val = 0
  · rw [if_pos ht, ht]
    show _ = blkC (mu m c (pt 0)) (va m c (pt 0))
    rw [← ht, pt_val]
  · rw [if_neg ht, (dats m 0 c).before_out_kept 3 rfl t ht (noFlush3 t ht) (live 3) (fun _ _ => rfl) d]
    obtain ⟨n, hn⟩ : ∃ n, t.val = n + 1 := ⟨t.val - 1, by omega⟩
    have e : pt (n + 1) = t := by rw [← hn, pt_val]
    dsimp only [dats]
    rw [hn]
    show _ = k0_pay1 (F := F) (blkC (mu m c (pt (n + 1))) (va m c (pt (n + 1)))) (cntC m c n)
    rw [e]
    rfl
theorem before4 (c : Dev nD) (t : Fin cfg0.N) (d) :
    accK (F := F) (grid0.coords t) (mu m c t) (va m c t) ((dats m 0 c).before 4 t d) = cntK m c t.val := by
  unfold accK
  rw [coord]
  by_cases ht : t.val = 0
  · rw [if_pos ht, ht]
    show _ = blkK (mu m c (pt 0)) (va m c (pt 0))
    rw [← ht, pt_val]
  · rw [if_neg ht, (dats m 0 c).before_out_kept 4 rfl t ht (noFlush4 t ht) (live 4) (fun _ _ => rfl) d]
    obtain ⟨n, hn⟩ : ∃ n, t.val = n + 1 := ⟨t.val - 1, by omega⟩
    have e : pt (n + 1) = t := by rw [← hn, pt_val]
    dsimp only [dats]
    rw [hn]
    show _ = k0_pay2 (F := F) (blkK (mu m c (pt (n + 1))) (va m c (pt (n + 1)))) (cntK m c n)
    rw [e]
    rfl

/-- The body at a point. -/
theorem body_obligation (c : Dev nD) : BodyObligation (dats m 0 c) (defs₀ (F := F)) 𝒱₀ (none : HIx 1) Set.univ := fun t => by
  rw [bigSep_W0, bigSep_W0]
  simp only [show ∀ i, idle0 3 i = false from live 3, show ∀ i, idle0 4 i = false from live 4]
  rw [show (dats m 0 c).Φ t.castSucc = iprop(emp) from rfl, show (dats m 0 c).Φ t.succ = iprop(emp) from rfl]
  iintro ⟨HΦ, HO, ⟨%d0, H0⟩, ⟨%d1, H1⟩, ⟨%d2, H2⟩, ⟨%d3, H3⟩, ⟨%d4, H4⟩⟩
  rw [before0, before1]
  iapply (body_wp (defs := defs₀ (F := F)) 𝒱₀ c none Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (mu m c t) (va m c t) _ _ _)
  isplitl [H0]; · iexact H0
  isplitl [H1]; · iexact H1
  isplitl [H2]; · iexact H2
  isplitl [H3]; · iexact H3
  isplitl [H4]; · iexact H4
  rw [before3, before4]
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- No wait of the region is bounded by what is owed: the call's start lies above. -/
theorem Otc_none (c : Dev nD) (g : GSem nD τ sig) : (K (F := F)).Otc c 0 g none = 0 := by
  by_contra h
  have h' := SparseCore.Cfg.lev_of_Otc_pos (K := K (F := F)) (Nat.pos_of_ne_zero h)
  rw [SparseCore.Cfg.lev_none] at h'
  omega

/-- The region's program has no semaphore of its own. -/
theorem noSems : Pipeline.OwnSemFacts spec0 (Fin.elim0 : Fin 0 → SemLoc sig) := by decide

/-- What a core owes from the launch, its recorded waits low. -/
def Owing (c : Dev nD) : sProp 𝕄 :=
  iprop(∃ W, ⌜(K (F := F)).WBelow (T c) W (8 * SparseCore.Cfg.Blocks.fst 1 1 0)⌝ ∗ owes (T c) ((K (F := F)).Otc c 0) W)

/-- The buffers no window stages, as launched. -/
def Rest (c : Dev nD) : sProp 𝕄 := Pipeline.unscopedRest spec0 c (fun b => m ((c : Thread nD τ).loc b))

set_option backward.isDefEq.respectTransparency.types false in
/-- The region: entered from the launch's buffers, left with the windows' arrays at their final contents. -/
def reg0 : Pipeline.RegionSeg (pcfgs (F := F)) adm (dats m) (none : HIx 1) defs₀ 𝒱₀ (K (F := F)).L (K (F := F)).lev 0 where
  win := launch0.win.to₀
  block_pos := launch0.block_pos
  stage_whole := launch0.stage_whole
  K := Fin 0
  osem := Fin.elim0
  ho := noSems
  hbody c := (body_obligation m c).loose
  hwaits c := Pipeline.cellsWaits_intro (Pipeline.pin (pcfgs (F := F)) adm) (dats m) (none : HIx 1) 0 c fun w s t =>
    (K (F := F)).mayWait_none _ (Otc_none c)
  pre c := iprop(unscopedBufs c (fun b => m ((c : Thread nD τ).loc b)) ∗ Owing (F := F) c)
  post c := iprop((dats m 0 c).arrays ((dats m 0 c).arrAt · cfg0.N) ∗ Rest m c ∗ Owing (F := F) c)
  X _ := iprop(emp)
  Y _ := iprop(emp)
  Z c := Rest m c
  hentry c := by
    have hsplit := (Pipeline.arrays_of_unscopedBufs (pcfgs (F := F)) adm (dats m) launch0.win launch0.arr_whole c
      ((dats m 0 c).share_full fun _ => rfl) (fun b => m ((c : Thread nD τ).loc b)) (A_eq m c))
    unfold Owing
    unfold Rest
    iintro ⟨⟨Hub, ⟨%W, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    rw [show (dats m 0 c).Φ 0 = iprop(emp) from rfl, scopedRest0_eq]
    iintro ⟨-, -, -⟩
    iempintro
  hout c := by
    rw [show (dats m 0 c).Φ (Fin.last cfg0.N) = iprop(emp) from rfl, scopedRest0_eq]
    unfold Pipeline.ownSems0
    rw [show (Finset.univ : Finset (Fin 0)) = ∅ from rfl, BI.bigSep_empty]
    iintro -
    isplitr; · iempintro
    isplitr <;> iempintro
  hexit c := by
    unfold Pipeline.Dat.owesAt Pipeline.owesWithin Owing
    iintro ⟨Ha, ⟨%W, %hW, HO⟩, -, HZ⟩
    imodintro
    isplitl [Ha]; · iexact Ha
    isplitl [HZ]; · iexact HZ
    iexists W
    isplitr
    · ipureintro
      intro p hp
      rcases hW hp with h | ⟨w, s, e⟩
      · exact h
      · rw [e]; exact Nat.zero_le _
    iexact HO

end Cert.Proof

end
-- ==== Proof.ScVec.lean ====
/-
  Words and counts of the counting pass: what a masked add of ones through an index vector does to a table of words, in terms
  of the number of entries that name each element.
-/
module

public import proofs.«01_k».proof.Proof.ScRules

@[expose] public section

noncomputable section

namespace Cert.Proof.Sc

open Idealize.ShloMosaic

/-- A rank-one vector whose entry at place `l` is `f l`. -/
def vec {α : Type} {d : Fin 1 → ℕ} (f : ℕ → α) : Shape.Idx ⟨1, d⟩ → α := fun j => f (j 0).val

theorem vec_ofLane {α : Type} {d : Fin 1 → ℕ} (f : ℕ → α) (k : Fin (d 0)) : vec f (Shape.ofLane k) = f k.val := rfl

/-- The entries of `w` at places `a ≤ x < b` that are below `kw` and name `n`. -/
def hitSet (w : ℕ → BitVec 32) (kw : BitVec 32) (a b n : ℕ) : Finset ℕ :=
  (Finset.Ico a b).filter fun x => (w x).slt kw = true ∧ (w x).toNat = n

/-- Their number. -/
def hits (w : ℕ → BitVec 32) (kw : BitVec 32) (a b n : ℕ) : ℕ := (hitSet w kw a b n).card

theorem hits_self (w : ℕ → BitVec 32) (kw : BitVec 32) (a n : ℕ) : hits w kw a a n = 0 := by
  simp [hits, hitSet]

theorem hits_add (w : ℕ → BitVec 32) (kw : BitVec 32) {a b c : ℕ} (hab : a ≤ b) (hbc : b ≤ c) (n : ℕ) :
    hits w kw a b n + hits w kw b c n = hits w kw a c n := by
  unfold hits hitSet
  rw [← Finset.card_union_of_disjoint, ← Finset.filter_union, Finset.Ico_union_Ico_eq_Ico hab hbc]
  exact Finset.disjoint_filter_filter (Finset.Ico_disjoint_Ico_consecutive a b c)

theorem hits_succ (w : ℕ → BitVec 32) (kw : BitVec 32) {a b : ℕ} (hab : a ≤ b) (n : ℕ) :
    hits w kw a (b + 1) n = hits w kw a b n + if (w b).slt kw = true ∧ (w b).toNat = n then 1 else 0 := by
  rw [← hits_add w kw hab (Nat.le_succ b) n]
  congr 1
  unfold hits hitSet
  rw [Nat.Ico_succ_singleton, Finset.filter_singleton]
  split <;> simp

/-- The table after counting the entries at `a ≤ x < b`. -/
def bump (H : ℕ → BitVec 32) (w : ℕ → BitVec 32) (kw : BitVec 32) (a b : ℕ) : ℕ → BitVec 32 :=
  fun n => H n + BitVec.ofNat 32 (hits w kw a b n)

theorem bump_self (H w : ℕ → BitVec 32) (kw : BitVec 32) (a : ℕ) : bump H w kw a a = H := by
  funext n; simp [bump, hits_self]

theorem bump_bump (H w : ℕ → BitVec 32) (kw : BitVec 32) {a b c : ℕ} (hab : a ≤ b) (hbc : b ≤ c) :
    bump (bump H w kw a b) w kw b c = bump H w kw a c := by
  funext n
  simp only [bump]
  rw [← hits_add w kw hab hbc n, BitVec.add_assoc, BitVec.ofNat_add]

variable {F : FTy → Type} [FloatOps F]

/-- The scatter's running table after its first lanes. -/
theorem storeIdx_fold {N d : Fin 1 → ℕ} (H w : ℕ → BitVec 32) (kw : BitVec 32) (b : ℕ) (idxs : Fin 1 → IVec ⟨1, d⟩ 32) (hidx : idxs 0 = vec fun l => w (b + l))
    (mask : IVec ⟨1, d⟩ 1) (hm : mask = vec fun l => IntOp.cmpi .slt (w (b + l)) kw)
    (h : ∀ (a : Fin (Shape.rank ⟨1, N⟩)) x, (idxs a x).toNat < Shape.size ⟨1, N⟩ a) :
    ∀ (m : ℕ) (hmn : m ≤ d 0),
    ((List.finRange (d 0)).take m).foldl (fun (g : Vec F ⟨1, N⟩ .i32) (k : Fin (d 0)) =>
      let x := Shape.ofLane k
      if mask x = 1 then
        let i := idxAt (s := ⟨1, N⟩) idxs h x
        let y := if true then Elt.idxAdd .i32 (g i) ((vec fun _ => (1#32 : BitVec 32)) x) else (vec fun _ => (1#32 : BitVec 32)) x
        fun j => if (∀ a, (j a).val = (i a).val) then y else g j
      else g) (vec (d := N) H) = vec (bump H w kw b (b + m)) := by
  intro m
  induction m with
  | zero => intro _; simp [bump_self]
  | succ m ih =>
    intro hmn
    have hm' : m < d 0 := hmn
    have hlen : m < (List.finRange (d 0)).length := by simpa using hm'
    rw [List.take_succ_eq_append_getElem hlen, List.foldl_append, ih (by omega)]
    simp only [List.foldl_cons, List.foldl_nil, List.getElem_finRange]
    have hmask : mask (Shape.ofLane ⟨m, hm'⟩) = IntOp.cmpi .slt (w (b + m)) kw := by rw [hm]; rfl
    have hi : (idxs 0 (Shape.ofLane ⟨m, hm'⟩)) = w (b + m) := by rw [hidx]; rfl
    simp only [Fin.cast_mk] at *
    rw [hmask]
    have hc : (IntOp.cmpi .slt (w (b + m)) kw = 1) ↔ (w (b + m)).slt kw = true := by
      show BitVec.ofBool ((w (b + m)).slt kw) = 1 ↔ _
      cases (w (b + m)).slt kw <;> decide
    funext j
    by_cases hs : (w (b + m)).slt kw = true
    · rw [if_pos (hc.mpr hs)]
      simp only [if_true]
      have hj : (∀ a : Fin 1, (j a).val = (idxAt (s := ⟨1, N⟩) idxs h (Shape.ofLane ⟨m, hm'⟩) a).val) ↔ (w (b + m)).toNat = (j 0).val := by
        constructor
        · intro ha; have := ha 0; rw [this]; show _ = (idxs 0 _).toNat; rw [hi]
        · intro ha a; obtain rfl := Fin.eq_zero a; rw [← ha]; show _ = (idxs 0 _).toNat; rw [hi]
      by_cases hn : (w (b + m)).toNat = (j 0).val
      · rw [if_pos (hj.mpr hn)]
        show vec (bump H w kw b (b + m)) _ + 1#32 = bump H w kw b (b + (m + 1)) (j 0).val
        have he : vec (bump H w kw b (b + m)) (idxAt (s := ⟨1, N⟩) idxs h (Shape.ofLane ⟨m, hm'⟩)) = bump H w kw b (b + m) (j 0).val := by
          show bump H w kw b (b + m) (idxs 0 _).toNat = _
          rw [hi, hn]
        rw [he]
        simp only [bump]
        rw [← Nat.add_assoc, hits_succ w kw (Nat.le_add_right b m), if_pos ⟨hs, hn⟩, BitVec.ofNat_add, BitVec.add_assoc]
      · rw [if_neg (fun q => hn (hj.mp q))]
        show bump H w kw b (b + m) (j 0).val = bump H w kw b (b + (m + 1)) (j 0).val
        simp only [bump]
        rw [← Nat.add_assoc, hits_succ w kw (Nat.le_add_right b m), if_neg (fun q => hn q.2)]; rfl
    · rw [if_neg (fun q => hs (hc.mp q))]
      show bump H w kw b (b + m) (j 0).val = bump H w kw b (b + (m + 1)) (j 0).val
      simp only [bump]
      rw [← Nat.add_assoc, hits_succ w kw (Nat.le_add_right b m), if_neg (fun q => hs q.1)]; rfl

/-- A masked add of ones at the entries `w (b + l)` counts them. -/
theorem storeIdx_ones {N d : Fin 1 → ℕ} (H w : ℕ → BitVec 32) (kw : BitVec 32) (b : ℕ) (idxs : Fin 1 → IVec ⟨1, d⟩ 32) (hidx : idxs 0 = vec fun l => w (b + l))
    (mask : IVec ⟨1, d⟩ 1) (hm : mask = vec fun l => IntOp.cmpi .slt (w (b + l)) kw) (ones : Vec F ⟨1, d⟩ .i32) (ho : ones = vec fun _ => (1#32 : BitVec 32))
    (h : ∀ (a : Fin (Shape.rank ⟨1, N⟩)) x, (idxs a x).toNat < Shape.size ⟨1, N⟩ a) :
    storeIdx (F := F) (s := ⟨1, N⟩) (e := .i32) (vec H) idxs ones mask true h = vec (bump H w kw b (b + d 0)) := by
  subst ho
  have := storeIdx_fold (F := F) (N := N) H w kw b idxs hidx mask hm h (d 0) le_rfl
  rw [List.take_of_length_le (by simp)] at this
  refine Eq.trans ?_ this
  unfold storeIdx
  congr 1
  funext g k
  dsimp only
  split
  · funext j
    congr
  · rfl

end Cert.Proof.Sc
-- ==== Proof.ScProg.lean ====
/-
  The tile program as a sequence of named pieces: start a copy of a chunk, wait for it, count a chunk, clear a run of blocks of
  the table, scan the table. The printed body is these pieces in order (`colC` is what a tile does for one column).
-/
module

public import proofs.«01_k».proof.Proof.ScVec
public import Idealize.ShloMosaic.Lib.LoopRemainder
public import proofs.«01_k».proof.Proof.Gen.KernelIdeal.Skeleton

@[expose] public section

noncomputable section

namespace Cert.Proof.Sc

open Idealize.ShloMosaic Idealize.SL.Sem
open Cert.KernelIdeal Cert.KernelIdeal.Gen

variable {F : FTy → Type} [FloatOps F]

/-- A program of the tile at coordinates `i`. -/
abbrev PR (F : FTy → Type) (i : grid1.Coords) (α : Type) : Type 1 :=
  Prog (TpuEff nD τ sig (Elt F) Λ₀ (.scVector ((i 0).castLE hcore1) ((i 1).castLE hsub1))) α

variable {i : grid1.Coords} {α : Type}

/-- A tile's chunk buffer. -/
abbrev Buf1 : Type := Memref sig .scVector .vmem S2000 .i32
/-- The array of bins. -/
abbrev Bins : Type := Memref sig .scVector .hbm S50x128x2000 .i32
/-- The table of counts. -/
abbrev Hist : Type := Memref sig .scVector .vmem S100096 .i32

/-- A chunk's place in the array of bins. -/
structure Off : Type where
  o : Fin 3 → ℕ
  inb : ∀ a, o a + S1x1x2000.size a ≤ S50x128x2000.size a

/-- Start copying a chunk, then go on. -/
def startC (A : Bins) (x : Off) (b : Buf1) (hb : b.IsWhole) (s : DmaSems sig S_) (rest : PR F i α) : PR F i α :=
  .op (.enqueueDma ((A.slice (Rect.unit (s := S50x128x2000) x.o S1x1x2000.size x.inb) (fun _ => rfl)).squeeze S2000 squeezes_S1x1x2000_S2000)
    (.here b) (.dma s.sem) ((View.wordExact_bits rfl).reshape _ _) hb.wordExact ⟨Or.inl rfl, trivial⟩) fun _ => rest

/-- Start copying a chunk if there is one, then go on. -/
def startO (A : Bins) (x : Option Off) (b : Buf1) (hb : b.IsWhole) (s : DmaSems sig S_) (rest : PR F i α) : PR F i α :=
  match x with
  | none => rest
  | some x => startC A x b hb s rest

/-- Wait for a chunk, then go on. -/
def waitC (w : Memref sig .scVector .hbm S2000 .i32) (hw : w.view.WordExact) (b : Buf1) (hb : b.IsWhole) (s : DmaSems sig S_) (rest : PR F i α) : PR F i α :=
  .op (.waitDma2 s.sem w b hw hb.wordExact) fun _ => rest

/-- What the counting loop carries: two index vectors with their masks, and the next vector. -/
abbrev Car (F : FTy → Type) : Type := Vec F S16 .i32 × IVec S16 1 × Vec F S16 .i32 × IVec S16 1 × Vec F S16 .i32

/-- One trip of the counting loop: add the oldest vector's entries, load one more. -/
def chunkTrip (hist : Hist) (b : Buf1) (v2 : IVec S16 32) (kv : Vec F S16 .i32) (t : Fin k1_t8_loop.trips) (x : Car F) : PR F i (Car F) :=
  .op (TpuEff.assume (k1_chk3 x.1) (k1_chk3.dec x.1)) fun hw =>
  SparseCore.vectorStoreIdx hist ![x.1] v2 x.2.1 true (k1_idx3_inb x.1 hw.down) (View.stores_vmem_bits_univ h_S100096 rfl) >>= fun _ =>
  .op (.load b (Rect.unit (s := S2000) (k1_off20 t) S16.size (k1_off20_inb t)).toLoadRect (View.loadsAt_vmem h_S16)) fun d =>
  .ret (x.2.2.1, x.2.2.2.1, x.2.2.2.2, cmpi .slt x.2.2.2.2 kv, d)

/-- Count a chunk, then go on. -/
def chunkC (hist : Hist) (b : Buf1) (v2 : IVec S16 32) (kv : Vec F S16 .i32) (rest : PR F i α) : PR F i α :=
  .op (.load b (Rect.unit (s := S2000) ![0] S16.size inb_S2000_S16_0).toLoadRect (View.loadsAt_vmem h_S16)) fun d0 =>
  .op (.load b (Rect.unit (s := S2000) ![16] S16.size inb_S2000_S16_16).toLoadRect (View.loadsAt_vmem h_S16)) fun d1 =>
  .op (.load b (Rect.unit (s := S2000) ![32] S16.size inb_S2000_S16_32).toLoadRect (View.loadsAt_vmem h_S16)) fun d2 =>
  Scf.Loop.for k1_t8_loop k1_t8_ok (d0, cmpi .slt d0 kv, d1, cmpi .slt d1 kv, d2) (chunkTrip hist b v2 kv) >>= fun x =>
  .op (TpuEff.assume (k1_chk3 x.2.2.2.2) (k1_chk3.dec x.2.2.2.2)) fun h4 =>
  .op (TpuEff.assume (k1_chk3 x.2.2.1) (k1_chk3.dec x.2.2.1)) fun h2 =>
  .op (TpuEff.assume (k1_chk3 x.1) (k1_chk3.dec x.1)) fun h0 =>
  SparseCore.vectorStoreIdx hist ![x.1] v2 x.2.1 true (k1_idx3_inb x.1 h0.down) (View.stores_vmem_bits_univ h_S100096 rfl) >>= fun _ =>
  SparseCore.vectorStoreIdx hist ![x.2.2.1] v2 x.2.2.2.1 true (k1_idx3_inb x.2.2.1 h2.down) (View.stores_vmem_bits_univ h_S100096 rfl) >>= fun _ =>
  SparseCore.vectorStoreIdx hist ![x.2.2.2.2] v2 (cmpi .slt x.2.2.2.2 kv) true (k1_idx3_inb x.2.2.2.2 h4.down) (View.stores_vmem_bits_univ h_S100096 rfl) >>= fun _ =>
  rest

/-- The waited-for source a wait names, with the fact that it is made of whole words. -/
structure Src : Type where
  w : Memref sig .scVector .hbm S2000 .i32
  hw : w.view.WordExact

/-- The source that names a chunk's place. -/
def srcAt (A : Bins) (x : Off) : Src :=
  ⟨(A.slice (Rect.unit (s := S50x128x2000) x.o S1x1x2000.size x.inb) (fun _ => rfl)).squeeze S2000 squeezes_S1x1x2000_S2000, (View.wordExact_bits rfl).reshape _ _⟩

/-- Wait for a chunk, count it, start the copy of another into the same buffer. -/
def turnC (A : Bins) (hist : Hist) (b : Buf1) (hb : b.IsWhole) (s : DmaSems sig S_) (w : Off) (v2 : IVec S16 32) (kv : Vec F S16 .i32) (nx : Option Off) (rest : PR F i α) : PR F i α :=
  waitC (srcAt A w).w (srcAt A w).hw b hb s (chunkC hist b v2 kv (startO A nx b hb s rest))

/-- A run of sixteen words of the table. -/
abbrev hrect (o : Fin 1 → ℕ) (h : ∀ a, o a + S16.size a ≤ S100096.size a) : Rect S100096 := Rect.unit (s := S100096) o S16.size h

def hload (hist : Hist) (o : Fin 1 → ℕ) (h : ∀ a, o a + S16.size a ≤ S100096.size a) (k : Vec F S16 .i32 → PR F i α) : PR F i α :=
  .op (.load hist (hrect o h).toLoadRect (View.loadsAt_vmem h_S16)) k

/-- Read a run of the table, clear it, go on. -/
def hclear (hist : Hist) (v1 : IVec S16 32) (o : Fin 1 → ℕ) (h : ∀ a, o a + S16.size a ≤ S100096.size a) (rest : PR F i α) : PR F i α :=
  .op (.load hist (hrect o h).toLoadRect (View.loadsAt_vmem h_S16)) fun _ =>
  .op (.store hist (hrect o h) v1 Finset.univ (View.stores_vmem_bits_univ h_S16 rfl) (.inl rfl)) fun _ => rest

/-- The number of blocks of 128 words that hold the places below `k`, plus one, as the program computes it. -/
def blkW (k : BitVec 32) : BitVec 32 :=
  Scalar.addi (Scalar.select (Scalar.andi (Scalar.cmpi .ne (Scalar.subi (Scalar.extui (Scalar.cmpi .sgt k 0#32)) (Scalar.extui (Scalar.cmpi .slt k 0#32)))
    (Scalar.subi (Scalar.extui (Scalar.cmpi .sgt 128#32 0#32)) (Scalar.extui (Scalar.cmpi .slt 128#32 0#32)))) (Scalar.cmpi .ne (Scalar.remsi k 128#32) 0#32))
    (Scalar.subi (Scalar.divsi k 128#32) 1#32) (Scalar.divsi k 128#32)) 1#32

/-- The loop over the blocks from `lo` up to `hi`. -/
abbrev mainL (lo hi : BitVec 32) : Scf.Loop 32 := ⟨lo, Scalar.addi lo (Scalar.muli (Scalar.divsi (Scalar.subi hi lo) 1#32) 1#32), 1#32⟩
/-- The loop over the blocks the first loop leaves: there are none. -/
abbrev remL (lo hi : BitVec 32) : Scf.Loop 32 :=
  ⟨Scalar.addi lo (Scalar.muli (Scalar.divsi (Scalar.subi hi lo) 1#32) 1#32), Scalar.addi lo (Scalar.subi hi lo), 1#32⟩
/-- The place of the run at `c` of block `t` of a loop that begins at `lo`. -/
def runOff (lo : BitVec 32) (t : ℕ) (c : BitVec 32) : Fin 1 → ℕ :=
  ![(Scalar.indexCast (Scalar.addi (Scalar.muli (Scf.iv lo 1#32 t) 128#32) c) : Index).toNat]
/-- Every run of a loop's blocks lies in the table. -/
def RunsIn (l : Scf.Loop 32) : Prop := ∀ (t : Fin l.trips) (r : Fin 8), ∀ a, runOff l.lb t (BitVec.ofNat 32 (16 * r.val)) a + S16.size a ≤ S100096.size a

/-- What the program assumes of a column's loops over the table. -/
def chkG (lo hi : BitVec 32) : Prop :=
  (mainL lo hi).OK ∧ RunsIn (mainL lo hi) ∧ (remL lo hi).OK ∧ RunsIn (remL lo hi) ∧ (mainL 0#32 hi).OK ∧ RunsIn (mainL 0#32 hi) ∧ (remL 0#32 hi).OK ∧ RunsIn (remL 0#32 hi)

/-- A loop over blocks of 128 words of the table. -/
structure Blocks : Type where
  lo : BitVec 32
  hi : BitVec 32
  ok : (mainL lo hi).OK
  inb : RunsIn (mainL lo hi)

abbrev Blocks.L (Z : Blocks) : Scf.Loop 32 := mainL Z.lo Z.hi
abbrev Blocks.off (Z : Blocks) (t : Fin Z.L.trips) (c : BitVec 32) : Fin 1 → ℕ := runOff Z.lo t c

/-- Clear a block. -/
def clearC (hist : Hist) (v1 : IVec S16 32) (Z : Blocks) (t : Fin Z.L.trips) (rest : PR F i α) : PR F i α :=
  hclear hist v1 (Z.off t 0#32) (Z.inb t 0) <| hclear hist v1 (Z.off t 16#32) (Z.inb t 1) <|
  hclear hist v1 (Z.off t 32#32) (Z.inb t 2) <| hclear hist v1 (Z.off t 48#32) (Z.inb t 3) <|
  hclear hist v1 (Z.off t 64#32) (Z.inb t 4) <| hclear hist v1 (Z.off t 80#32) (Z.inb t 5) <|
  hclear hist v1 (Z.off t 96#32) (Z.inb t 6) <| hclear hist v1 (Z.off t 112#32) (Z.inb t 7) rest

/-- What the scan carries: how many of the lane's places pass, the first of them, the sum so far. -/
abbrev SCar : Type := IVec S16 32 × IVec S16 32 × IVec S16 32

/-- The scan's pure step on sixteen words `h` at place `d` of the block: the counts, the least places, the sum of the words before. -/
def gstep (pos c0v run : IVec S16 32) (d : BitVec 32) (h : IVec S16 32) (x : IVec S16 32 × IVec S16 32 × BitVec 32) : IVec S16 32 × IVec S16 32 × BitVec 32 :=
  let p := addi pos (broadcast S16 d)
  let ok := cmpi .sge (addi (addi (scan .sum h) (addi run (broadcast S16 x.2.2))) c0v) (addi p (broadcast S16 1#32))
  (addi x.1 (select ok (broadcast S16 1#32) (broadcast S16 0#32)), minsi x.2.1 (select ok p (broadcast S16 1073741824#32)),
    Scalar.addi x.2.2 (extractAt ![15] (scan .sum h) inpos_S16_p15))

/-- The scan's pure step on a block. -/
def bstep (pos c0v : IVec S16 32) (h0 h1 h2 h3 h4 h5 h6 h7 : IVec S16 32) (x : SCar) : SCar :=
  let y := gstep pos c0v x.2.2 112#32 h7 <| gstep pos c0v x.2.2 96#32 h6 <| gstep pos c0v x.2.2 80#32 h5 <| gstep pos c0v x.2.2 64#32 h4 <|
    gstep pos c0v x.2.2 48#32 h3 <| gstep pos c0v x.2.2 32#32 h2 <| gstep pos c0v x.2.2 16#32 h1 <| gstep pos c0v x.2.2 0#32 h0 (x.1, x.2.1, 0#32)
  (y.1, y.2.1, addi x.2.2 (broadcast S16 y.2.2))

/-- One trip of the scan: read a block, clear it, step. -/
def scanTrip (hist : Hist) (v1 c0v : IVec S16 32) (v0 : IVec S16 32) (Z : Blocks) (t : Fin Z.L.trips) (x : SCar) : PR F i SCar :=
  hload hist (Z.off t 0#32) (Z.inb t 0) fun h0 => hload hist (Z.off t 16#32) (Z.inb t 1) fun h1 =>
  hload hist (Z.off t 32#32) (Z.inb t 2) fun h2 => hload hist (Z.off t 48#32) (Z.inb t 3) fun h3 =>
  hload hist (Z.off t 64#32) (Z.inb t 4) fun h4 => hload hist (Z.off t 80#32) (Z.inb t 5) fun h5 =>
  hload hist (Z.off t 96#32) (Z.inb t 6) fun h6 => hload hist (Z.off t 112#32) (Z.inb t 7) fun h7 =>
  clearC hist v1 Z t (.ret (bstep (addi (broadcast S16 (Scalar.muli (Scf.iv Z.lo 1#32 t) 128#32)) v0) c0v h0 h1 h2 h3 h4 h5 h6 h7 x))

/-- A tile's four chunk buffers, in the order in which a column uses them. -/
structure Ring : Type where
  b0 : Buf1
  h0 : b0.IsWhole
  s0 : DmaSems sig S_
  b1 : Buf1
  h1 : b1.IsWhole
  s1 : DmaSems sig S_
  b2 : Buf1
  h2 : b2.IsWhole
  s2 : DmaSems sig S_
  b3 : Buf1
  h3 : b3.IsWhole
  s3 : DmaSems sig S_

/-- Four turns: one trip of the loop over the chunks. -/
def gTrip (A : Bins) (hist : Hist) (R : Ring) (v2 : IVec S16 32) (kv : Vec F S16 .i32) (w : Fin k1_t3_loop.trips → Fin 4 → Off) (n : Fin k1_t3_loop.trips → Fin 4 → Off)
    (t : Fin k1_t3_loop.trips) (_ : Unit) : PR F i Unit :=
  turnC A hist R.b0 R.h0 R.s0 (w t 0) v2 kv (some (n t 0)) <| turnC A hist R.b1 R.h1 R.s1 (w t 1) v2 kv (some (n t 1)) <|
  turnC A hist R.b2 R.h2 R.s2 (w t 2) v2 kv (some (n t 2)) <| turnC A hist R.b3 R.h3 R.s3 (w t 3) v2 kv (some (n t 3)) <| .ret ⟨⟩

/-- Where a column's chunks lie: of the turns' waits, of the starts in the loop, and of the starts after it. -/
structure ColD : Type where
  w : Fin k1_t3_loop.trips → Fin 4 → Off
  n : Fin k1_t3_loop.trips → Fin 4 → Off
  tw : Fin 6 → Off
  n0 : Off
  n1 : Off
  nx : Option (Fin 4 → Off)

/-- What a tile does for one column once it has the column's words: clear blocks of the table, count the column's fifty chunks, scan the table. -/
def colC (A : Bins) (hist : Hist) (R : Ring) (v0 v1 v2 v4 : IVec S16 32) (D : ColD) (kv c0v : Vec F S16 .i32) (lo hi : BitVec 32) (hk : chkG lo hi)
    (rest : SCar → PR F i α) : PR F i α :=
  Scf.Loop.for (mainL lo hi) hk.1 ⟨⟩ (fun t _ => clearC hist v1 ⟨lo, hi, hk.1, hk.2.1⟩ t (.ret ⟨⟩)) >>= fun (_ : Unit) =>
  Scf.Loop.for k1_t3_loop k1_t3_ok ⟨⟩ (gTrip A hist R v2 kv D.w D.n) >>= fun _ =>
  turnC A hist R.b0 R.h0 R.s0 (D.tw 0) v2 kv (some D.n0) <| turnC A hist R.b1 R.h1 R.s1 (D.tw 1) v2 kv (some D.n1) <|
  turnC A hist R.b2 R.h2 R.s2 (D.tw 2) v2 kv (D.nx.map (· 0)) <| turnC A hist R.b3 R.h3 R.s3 (D.tw 3) v2 kv (D.nx.map (· 1)) <|
  turnC A hist R.b0 R.h0 R.s0 (D.tw 4) v2 kv (D.nx.map (· 2)) <| turnC A hist R.b1 R.h1 R.s1 (D.tw 5) v2 kv (D.nx.map (· 3)) <|
  Scf.Loop.for (mainL 0#32 hi) hk.2.2.2.2.1 (v1, v4, v1) (scanTrip hist v1 c0v v0 ⟨0#32, hi, hk.2.2.2.2.1, hk.2.2.2.2.2.1⟩) >>= fun x =>
  rest (x.1, x.2.1, x.2.2)

/-- The largest of sixteen words (they are all the same word): what the program takes as the column's number of bins. -/
abbrev wordOf (kv : Vec F S16 .i32) : BitVec 32 := extractAt ![15] (k1_pay349 kv) inpos_S16_p15

/-- A column's row of the batch. -/
abbrev rowW (i : grid1.Coords) (j : BitVec 32) : BitVec 32 :=
  Scalar.addi (Scalar.addi (Scalar.muli (BitVec.ofNat 32 (i 0).val) 64#32) (Scalar.muli (BitVec.ofNat 32 (i 1).val) 4#32)) j

/-- A column: fetch its two words, then `colC`. -/
def columnC (A : Bins) (kq c0q : Memref sig .scVector .vmem S128 .i32) (hist : Hist) (R : Ring) (v0 v1 v2 v4 : IVec S16 32) (D : ColD) (j lo : BitVec 32)
    (P : BitVec 32 → Prop) (dec : ∀ k, Decidable (P k)) (hP : ∀ k, P k → chkG lo (blkW k))
    (rest : BitVec 32 → SCar → PR F i α) : PR F i α :=
  .op (TpuEff.assume (k1_chk1 (broadcast S16 (rowW i j))) (k1_chk1.dec (broadcast S16 (rowW i j)))) fun h =>
  SparseCore.vectorLoadIdx kq ![broadcast S16 (rowW i j)] (k1_idx1_inb _ h.down) (View.loads_vmem h_S128) >>= fun (kv : Vec F S16 .i32) =>
  SparseCore.vectorLoadIdx c0q ![broadcast S16 (rowW i j)] (k1_idx2_inb _ h.down) (View.loads_vmem h_S128) >>= fun (c0v : Vec F S16 .i32) =>
  .op (TpuEff.assume (P (wordOf kv)) (dec (wordOf kv))) fun hw =>
  colC A hist R v0 v1 v2 v4 D kv c0v lo (blkW (wordOf kv)) (hP _ hw.down) (rest (wordOf kv))

/-- The lane vector with a column's result put in at lane `j`. -/
def putRes (v0 : IVec S16 32) (j : BitVec 32) (y : SCar) (v : FVec F S16 .f32) : FVec F S16 .f32 :=
  select (cmpi .eq v0 (broadcast S16 j)) (broadcast S16 (k1_pay390 (F := F) y.1 y.2.1)) v

/-- Copy an array of the batch's words to the tile and wait. -/
def fetchC (A : Memref sig .scVector .hbm S128 .i32) (hA : A.IsWhole) (b : Memref sig .scVector .vmem S128 .i32) (hb : b.IsWhole) (s : DmaSems sig S_) (rest : PR F i α) : PR F i α :=
  .op (.enqueueDma A (.here b) (.dma s.sem) hA.wordExact hb.wordExact ⟨Or.inl rfl, trivial⟩) fun _ =>
  .op (.waitDma2 s.sem A b hA.wordExact hb.wordExact) fun _ => rest

/-! ### Two programs with the same steps -/

section Eq

variable {E : Type → Type} {β γ : Type}

theorem op_eq {e : E β} {c c' : β → Prog E α} (h : ∀ x, c x = c' x) : Prog.op e c = Prog.op e c' := congrArg _ (funext h)

theorem bind_eq {p p' : Prog E β} {c c' : β → Prog E α} (h0 : p = p') (h : ∀ x, c x = c' x) : (p >>= c) = (p' >>= c') := h0 ▸ congrArg _ (funext h)

theorem assoc_eq {p : Prog E β} {f : β → Prog E γ} {c : γ → Prog E α} {r : Prog E α} (h : (p >>= fun x => f x >>= c) = r) : (p >>= f) >>= c = r :=
  (Prog.bind_assoc p f c).trans h

theorem for_eq {l : Scf.Loop 32} {ok : l.OK} {x : β} {b b' : Fin l.trips → β → Prog E β} (h : ∀ t y, b t y = b' t y) :
    Scf.Loop.for l ok x b = Scf.Loop.for l ok x b' := by
  have : b = b' := funext fun t => funext (h t)
  rw [this]

theorem rem_eq {l : Scf.Loop 32} {ok : l.OK} {x : β} {b : Fin l.trips → β → Prog E β} {c : β → Prog E α} {r : Prog E α} (a y : BitVec 32)
    (hl : l = ⟨Scalar.addi a (Scalar.muli (Scalar.divsi y 1#32) 1#32), Scalar.addi a y, 1#32⟩) (h : c x = r) : (Scf.Loop.for l ok x b >>= c) = r := by
  subst hl
  rw [show Scf.Loop.for _ ok x b = .ret x from Scf.for_rem_eq a y ok x b]
  exact h

end Eq

end Cert.Proof.Sc
-- ==== Proof.ScChunk.lean ====
/-
  Counting a chunk: the pipelined loop adds, for every entry below the column's bound, one to the entry's place in the table.
-/
module

public import proofs.«01_k».proof.Proof.ScProg

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

/-- Sixteen words of a vector's words, read at a place. -/
theorem load_vec {α : Type} {N n : ℕ} (w : ℕ → α) (off : Fin 1 → ℕ) (b : ℕ) (hb : off 0 = b) (inb : ∀ a, off a + (![n] : Fin 1 → ℕ) a ≤ (![N] : Fin 1 → ℕ) a) :
    (fun j => (vec w : Shape.Idx ⟨1, ![N]⟩ → α) ((Rect.unit (s := ⟨1, ![N]⟩) off ![n] inb).emb j)) = (vec fun l => w (b + l) : Shape.Idx ⟨1, ![n]⟩ → α) := by
  funext j
  show w _ = w _
  congr 1
  rw [← hb]
  have := Rect.emb_apply (Rect.unit (s := ⟨1, ![N]⟩) off ![n] inb) j (0 : Fin 1)
  simpa using this

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

/-- The thread of the tile at coordinates `i` on device `d`. -/
abbrev tid (d : Fin nD) (i : grid1.Coords) : Thread nD τ := (d, .scVector ((i 0).castLE hcore1) ((i 1).castLE hsub1))

local notation "𝕄" => MT nD τ sig Ix (Elt F) Name U Lvl

variable (d : Fin nD) (i : grid1.Coords) (bd : Option 𝒱.V)
variable {α : Type} {Q : α → sProp (MT nD τ sig Ix (Elt F) Name U Lvl)}

/-- The carried values when entries from `16 t` on are still to be added. -/
def carAt (w : ℕ → BitVec 32) (kw : BitVec 32) (t : ℕ) : Car F :=
  (vec fun l => w (16 * t + l), vec fun l => IntOp.cmpi .slt (w (16 * t + l)) kw,
   vec fun l => w (16 * (t + 1) + l), vec fun l => IntOp.cmpi .slt (w (16 * (t + 1) + l)) kw, vec fun l => w (16 * (t + 2) + l))

theorem slt_vec (w : ℕ → BitVec 32) (kw : BitVec 32) (kv : Vec F S16 .i32) (hkv : kv = vec fun _ => kw) (b : ℕ) :
    cmpi .slt (vec fun l => w (b + l) : IVec S16 32) kv = vec fun l => IntOp.cmpi .slt (w (b + l)) kw := by
  subst hkv; rfl

theorem chk_vec {w : ℕ → BitVec 32} (hw : ∀ x < 2000, (w x).toNat < 100096) (b : ℕ) (hb : b + 16 ≤ 2000) :
    k1_chk3 (vec fun l => w (b + l) : IVec S16 32) := by
  intro a x
  have ha : a = 0 := Subsingleton.elim (α := Fin 1) a 0
  subst ha
  exact hw _ (by have := (x 0).isLt; simp [S16] at this; omega)

/-- Adding sixteen entries. -/
theorem add_entries (hist : Hist) (H w : ℕ → BitVec 32) (kw : BitVec 32) (b : ℕ) (v2 : IVec S16 32) (hv2 : v2 = fun _ => 1#32)
    {a : Vec F S16 .i32} {m : IVec S16 1} (ha : a = vec fun l => w (b + l)) (hm : m = vec fun l => IntOp.cmpi .slt (w (b + l)) kw)
    {h : ∀ ax x, ((![a] : Fin 1 → IVec S16 32) ax x).toNat < S100096.size ax} {hs : (hist.access (.whole S100096)).Stores Finset.univ}
    {k : PUnit → PR F i α} :
    (owns (tid d i) hist fullShare (vec H) : sProp 𝕄)
      ⊢ iprop((owns (tid d i) hist fullShare (vec (bump H w kw b (b + 16))) -∗ wp frame (wpE defs 𝒱 (tid d i) bd) Set.univ (k ⟨⟩) Q)
        -∗ wp frame (wpE defs 𝒱 (tid d i) bd) Set.univ (SparseCore.vectorStoreIdx hist ![a] v2 m true h hs >>= k) Q) := by
  iintro HH Hk
  iapply (scatter_owns (defs := defs) 𝒱 (tid d i) bd Set.univ) $$ HH
  rw [storeIdx_ones (F := F) (N := ![100096]) (d := ![16]) H w kw b ![a] ha m hm v2 hv2 h]
  iexact Hk

/-- Counting a chunk. -/
theorem chunk_wp (hist : Hist) (buf : Buf1) (v2 : IVec S16 32) (hv2 : v2 = fun _ => 1#32) (kv : Vec F S16 .i32) (kw : BitVec 32) (hkv : kv = vec fun _ => kw)
    (w H : ℕ → BitVec 32) (hw : ∀ x < 2000, (w x).toNat < 100096) (rest : PR F i α) :
    iprop(owns (tid d i) buf fullShare (vec w) ∗ owns (tid d i) hist fullShare (vec H) : sProp 𝕄)
      ⊢ iprop((iprop(owns (tid d i) buf fullShare (vec w) ∗ owns (tid d i) hist fullShare (vec (bump H w kw 0 2000)))
            -∗ wp frame (wpE defs 𝒱 (tid d i) bd) Set.univ rest Q)
        -∗ wp frame (wpE defs 𝒱 (tid d i) bd) Set.univ (chunkC hist buf v2 kv rest) Q) := by
  unfold chunkC
  iintro ⟨Hb, HH⟩ Hk
  iapply (load_owns (defs := defs) 𝒱 (tid d i) bd Set.univ (X := vec w)) $$ Hb
  iintro Hb
  iapply (load_owns (defs := defs) 𝒱 (tid d i) bd Set.univ (X := vec w)) $$ Hb
  iintro Hb
  iapply (load_owns (defs := defs) 𝒱 (tid d i) bd Set.univ (X := vec w)) $$ Hb
  iintro Hb
  rw [load_vec w ![0] 0 rfl, load_vec w ![16] 16 rfl, load_vec w ![32] 32 rfl]
  iapply (Scf.wp_for_bind frame (wpE defs 𝒱 (tid d i) bd) Set.univ _ _ _ k1_t8_ok _ (chunkTrip hist buf v2 kv)
    (fun t x => iprop(⌜x = carAt (F := F) w kw t⌝ ∗ owns (tid d i) buf fullShare (vec w) ∗ owns (tid d i) hist fullShare (vec (bump H w kw 0 (16 * t))))) ?_) $$ [Hb HH]
  case _ =>
    intro t x
    have ht : t.val < 122 := t.isLt
    unfold chunkTrip
    iintro ⟨%hx, Hb, HH⟩
    subst hx
    dsimp only [carAt]
    rw [wp_assume_of 𝒱 (tid d i) bd Set.univ (h := chk_vec hw (16 * t.val) (by omega))]
    iapply (add_entries 𝒱 d i bd hist _ w kw (16 * t.val) v2 hv2 rfl rfl) $$ HH
    iintro HH
    iapply (load_owns (defs := defs) 𝒱 (tid d i) bd Set.univ (X := vec w)) $$ Hb
    iintro Hb
    rw [load_vec w (k1_off20 t) (16 * (t.val + 1 + 2)) (by rw [k1_off20_eq]; simp; omega)]
    rw [wp_ret]
    imodintro
    isplitr
    · ipureintro
      simp only [carAt, slt_vec w kw kv hkv]
    isplitl [Hb]; · iexact Hb
    rw [bump_bump _ _ _ (Nat.zero_le _) (by omega), show 16 * t.val + 16 = 16 * (t.val + 1) by omega]
    iexact HH
  · isplitr
    · ipureintro
      simp only [carAt, slt_vec w kw kv hkv]
    isplitl [Hb]; · iexact Hb
    rw [show 16 * 0 = 0 from rfl, bump_self]
    iexact HH
  · iintro %x ⟨%hx, Hb, HH⟩
    have htr : Scf.trips k1_t8_loop.lb k1_t8_loop.ub k1_t8_loop.st = 122 := by decide
    rw [htr] at hx
    rw [htr]
    subst hx
    dsimp only [carAt]
    rw [wp_assume_of 𝒱 (tid d i) bd Set.univ (h := chk_vec hw (16 * (122 + 2)) (by omega))]
    rw [wp_assume_of 𝒱 (tid d i) bd Set.univ (h := chk_vec hw (16 * (122 + 1)) (by omega))]
    rw [wp_assume_of 𝒱 (tid d i) bd Set.univ (h := chk_vec hw (16 * 122) (by omega))]
    iapply (add_entries 𝒱 d i bd hist _ w kw (16 * 122) v2 hv2 rfl rfl) $$ HH
    iintro HH
    iapply (add_entries 𝒱 d i bd hist _ w kw (16 * (122 + 1)) v2 hv2 rfl rfl) $$ HH
    iintro HH
    iapply (add_entries 𝒱 d i bd hist _ w kw (16 * (122 + 2)) v2 hv2 rfl (slt_vec w kw kv hkv _)) $$ HH
    iintro HH
    iapply Hk
    isplitl [Hb]; · iexact Hb
    rw [bump_bump _ _ _ (by omega) (by omega), bump_bump _ _ _ (by omega) (by omega), bump_bump _ _ _ (by omega) (by omega)]
    iexact HH

end Cert.Proof.Sc
-- ==== Proof.ScWords.lean ====
/-
  Words of the loops over the table: the number of blocks a bound takes, the loops' trips, and where a block's runs lie.
-/
module

public import proofs.«01_k».proof.Proof.ScProg

@[expose] public section

noncomputable section

namespace Cert.Proof.Sc

open Idealize.ShloMosaic Idealize.SL.Sem
open Cert.KernelIdeal Cert.KernelIdeal.Gen

theorem toInt_small (k : BitVec 32) (h : k.toNat < 2 ^ 31) : k.toInt = k.toNat := by
  rw [BitVec.toInt_eq_toNat_cond, if_pos (by omega)]

/-- A quotient by 128 of a word that is not negative. -/
theorem divsi_128 (k : BitVec 32) (h : k.toNat < 2 ^ 31) : Scalar.divsi k 128#32 = BitVec.ofNat 32 (k.toNat / 128) := by
  unfold Scalar.divsi IntOp.divsi
  rw [if_neg]
  · apply BitVec.eq_of_toNat_eq
    have hm : k.msb = false := by rw [BitVec.msb_eq_decide]; simp; omega
    rw [BitVec.sdiv_eq, hm, show (128#32 : BitVec 32).msb = false by decide]
    simp
    omega
  · unfold IntOp.SDivCorner
    simp

/-- The number of blocks. -/
theorem blkW_eq (k : BitVec 32) (h : k.toNat < 2 ^ 31) : blkW k = BitVec.ofNat 32 (k.toNat / 128 + 1) := by
  have hz : ∀ {α : Type} (c x y : α) (b : BitVec 1), Scalar.select (Scalar.andi 0#1 b) x y = y := by
    intro α c x y b
    unfold Scalar.select Scalar.andi IntOp.andi
    rw [if_neg]
    rw [BitVec.zero_and]; decide
  by_cases h0 : k.toNat = 0
  · have : k = 0#32 := BitVec.eq_of_toNat_eq h0
    subst this
    decide
  · have hs : Scalar.cmpi .sgt k 0#32 = 1#1 := by
      show BitVec.ofBool ((0#32).slt k) = 1#1
      rw [show (0#32).slt k = true by rw [BitVec.slt_iff_toInt_lt, toInt_small k h]; simp; omega]
      rfl
    have hl : Scalar.cmpi .slt k 0#32 = 0#1 := by
      show BitVec.ofBool (k.slt 0#32) = 0#1
      rw [show k.slt 0#32 = false by rw [Bool.eq_false_iff]; intro hc; rw [BitVec.slt_iff_toInt_lt, toInt_small k h] at hc; simp at hc; omega]
      rfl
    unfold blkW
    rw [hs, hl, show Scalar.cmpi .ne (Scalar.subi (Scalar.extui 1#1) (Scalar.extui 0#1))
      (Scalar.subi (Scalar.extui (Scalar.cmpi .sgt 128#32 0#32)) (Scalar.extui (Scalar.cmpi .slt 128#32 0#32))) = 0#1 by decide,
      hz (0#32), divsi_128 k h]
    show _ + 1#32 = _
    rw [BitVec.ofNat_add]

theorem mainL_eq (lo hi : BitVec 32) : (mainL lo hi).ub = hi := by
  show Scalar.addi lo (Scalar.muli (Scalar.divsi (Scalar.subi hi lo) 1#32) 1#32) = hi
  rw [Scalar.muli_divsi_one]
  show lo + (hi - lo) = hi
  rw [BitVec.add_comm, BitVec.sub_add_cancel]

/-- The trips of a loop over blocks. -/
theorem mainL_trips (a b : ℕ) (ha : a < 2 ^ 31) (hb : b < 2 ^ 31) : (mainL (BitVec.ofNat 32 a) (BitVec.ofNat 32 b)).trips = b - a := by
  show Scf.trips (BitVec.ofNat 32 a) (mainL (BitVec.ofNat 32 a) (BitVec.ofNat 32 b)).ub 1#32 = _
  rw [mainL_eq]
  unfold Scf.trips
  rw [WordArith.toInt_ofNat_small a ha, WordArith.toInt_ofNat_small b hb, show (1#32 : BitVec 32).toInt = 1 by decide]
  omega

theorem mainL_ok (a b : ℕ) (ha : a < 2 ^ 30) (hb : b < 2 ^ 30) : (mainL (BitVec.ofNat 32 a) (BitVec.ofNat 32 b)).OK := by
  have ht := mainL_trips a b (by omega) (by omega)
  refine ⟨show (0:ℤ) < (1#32 : BitVec 32).toInt by decide, ?_⟩
  show (BitVec.ofNat 32 a).toInt + ((mainL (BitVec.ofNat 32 a) (BitVec.ofNat 32 b)).trips : ℤ) * (1#32 : BitVec 32).toInt < _
  rw [ht, WordArith.toInt_ofNat_small a (by omega), show (1#32 : BitVec 32).toInt = 1 by decide]
  omega

/-- Where a block's run begins. -/
theorem runOff_eq (a t c : ℕ) (h : 128 * (a + t) + c < 2 ^ 31) : runOff (BitVec.ofNat 32 a) t (BitVec.ofNat 32 c) = ![128 * (a + t) + c] := by
  unfold runOff Scf.iv Scalar.indexCast
  congr 1
  show ((BitVec.ofNat 32 a + BitVec.ofNat 32 t * 1#32) * 128#32 + BitVec.ofNat 32 c).toNat = _
  simp only [BitVec.toNat_add, BitVec.toNat_mul, BitVec.toNat_ofNat]
  omega

theorem runsIn_main (a b : ℕ) (ha : a ≤ 782) (hb : b ≤ 782) : RunsIn (mainL (BitVec.ofNat 32 a) (BitVec.ofNat 32 b)) := by
  intro t r x
  have ht : t.val < b - a := lt_of_lt_of_eq t.isLt (mainL_trips a b (by omega) (by omega))
  obtain rfl : x = 0 := Subsingleton.elim (α := Fin 1) x 0
  rw [show (mainL (BitVec.ofNat 32 a) (BitVec.ofNat 32 b)).lb = BitVec.ofNat 32 a from rfl, runOff_eq a t.val (16 * r.val) (by omega)]
  show 128 * (a + t.val) + 16 * r.val + 16 ≤ 100096
  omega

theorem remL_trips (lo hi : BitVec 32) : (remL lo hi).trips = 0 := Scf.rem_trips lo (Scalar.subi hi lo)

theorem remL_ok (lo hi : BitVec 32) : (remL lo hi).OK := Scf.rem_ok lo (Scalar.subi hi lo)

theorem runsIn_rem (lo hi : BitVec 32) : RunsIn (remL lo hi) := fun t => absurd (lt_of_lt_of_eq t.isLt (remL_trips lo hi)) (by omega)

/-- What a column assumes of its loops holds when both bounds are at most 782 blocks. -/
theorem chkG_small (a b : ℕ) (ha : a ≤ 782) (hb : b ≤ 782) : chkG (BitVec.ofNat 32 a) (BitVec.ofNat 32 b) :=
  ⟨mainL_ok a b (by omega) (by omega), runsIn_main a b ha hb, remL_ok _ _, runsIn_rem _ _, mainL_ok 0 b (by omega) (by omega), runsIn_main 0 b (by omega) hb,
    remL_ok _ _, runsIn_rem _ _⟩

/-! ### Scans of sixteen words -/

theorem scan_const (kind : ScanKind) (hs : ∀ x : BitVec 32, kind.step x x = x) (w : BitVec 32) (i : S16.Idx) :
    scan (d := ![16]) kind (fun _ => w) i = w := by
  have h : ∀ l : List (Fin 16), l.foldl (fun (r : BitVec 32) _ => kind.step r w) w = w := by
    intro l
    induction l with
    | nil => rfl
    | cons a l ih => rw [List.foldl_cons, hs]; exact ih
  exact h _

/-- The largest of sixteen equal words. -/
theorem wordOf_const {F : FTy → Type} (kw : BitVec 32) : wordOf (F := F) (vec fun _ => kw) = kw := by
  show (scan .max (fun _ => kw ^^^ 2147483648#32) _) ^^^ 2147483648#32 = kw
  rw [scan_const]
  · rw [BitVec.xor_assoc, BitVec.xor_self, BitVec.xor_zero]
  · intro x
    show IntOp.maxui x x = x
    unfold IntOp.maxui
    split <;> rfl

end Cert.Proof.Sc
-- ==== Proof.ScTurn.lean ====
/-
  A turn on a chunk buffer (wait for the chunk under way, count it, start the next), the loop of turns over a column's chunks, and
  the clearing of a run of blocks of the table.
-/
module

public import proofs.«01_k».proof.Proof.ScChunk
public import proofs.«01_k».proof.Proof.ScWords

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

local notation "𝕄" => MT nD τ sig Ix (Elt F) Name U Lvl

variable (d : Fin nD) (i : grid1.Coords) (bd : Option 𝒱.V)
variable {α : Type} {Q : α → sProp (MT nD τ sig Ix (Elt F) Name U Lvl)}

/-- The words of a chunk of the array at contents `f`. -/
def words (A : Bins) (f : Buf (Elt F) (A.view.loc (tid d i))) (x : Off) : ℕ → BitVec 32 := fun l =>
  if h : l < 2000 then ((srcAt A x).w.view.read (Elt F) f (fun _ => ⟨l, by simpa [S2000] using h⟩) : BitVec 32) else 0#32

theorem words_read (A : Bins) (f : Buf (Elt F) (A.view.loc (tid d i))) (x : Off) :
    (srcAt A x).w.view.read (Elt F) f = (vec (words d i A f x) : S2000.Idx → BitVec 32) := by
  funext j
  have hj : (j 0).val < 2000 := (j 0).isLt
  show _ = words d i A f x (j 0).val
  unfold words
  rw [dif_pos hj]
  congr 1
  funext a
  obtain rfl : a = 0 := Subsingleton.elim (α := Fin 1) a 0
  rfl

/-- The words of chunk `c` of row `r`. -/
def Bw (A : Bins) (f : Buf (Elt F) (A.view.loc (tid d i))) (c r : ℕ) : ℕ → BitVec 32 :=
  if h : ∀ a, (![c, r, 0] : Fin 3 → ℕ) a + S1x1x2000.size a ≤ S50x128x2000.size a then words d i A f ⟨![c, r, 0], h⟩ else fun _ => 0#32

theorem words_eq (A : Bins) (f : Buf (Elt F) (A.view.loc (tid d i))) (x : Off) {c r : ℕ} (h : x.o = ![c, r, 0]) :
    words d i A f x = Bw d i A f c r := by
  obtain ⟨o, hb⟩ := x
  dsimp only at h
  subst h
  unfold Bw
  rw [dif_pos hb]

section Copies

variable [CountersIn U] [Infinite Name]
variable (A : Bins) (f : Buf (Elt F) (A.view.loc (tid d i))) (ι : Ix) (O : CellTallies nD τ sig Ix) (W : Waits sig Ix)

/-- A chunk buffer and its semaphore: at rest, or with a copy of a chunk's words under way. -/
def Slot (b : Buf1) (s : DmaSems sig S_) (q : PosShare TreeShare) : Option (ℕ → BitVec 32) → sProp 𝕄
  | none => iprop((A.view.loc (tid d i) ↦{q} f) ∗ (∃ X, owns (tid d i) b fullShare X) ∗ semVal (tid d i, .dma s.sem) 0)
  | some w => InFlight (tid d i) A b s.sem ι q f (vec w)

/-- What the tile owes and the waits it has made. -/
def Owe : sProp 𝕄 := iprop(∃ W', ⌜∀ p ∈ W', p ∈ W ∨ p.2 = ι⌝ ∗ owes (tid d i) O W')

/-- Starting a chunk's copy. -/
theorem startC_wp (x : Off) (b : Buf1) (hb : b.IsWhole) (s : DmaSems sig S_) (q : PosShare TreeShare) (rest : PR F i α) :
    (Slot d i A f ι b s q none : sProp 𝕄)
      ⊢ iprop((Slot d i A f ι b s q (some (words d i A f x)) -∗ wp frame (wpE defs 𝒱 (tid d i) bd) Set.univ rest Q)
        -∗ wp frame (wpE defs 𝒱 (tid d i) bd) Set.univ (startC A x b hb s rest) Q) := by
  unfold startC Slot
  iintro ⟨HA, ⟨%X, Hb⟩, Hs⟩ Hk
  iapply (start_owns (defs := defs) 𝒱 (tid d i) bd ι (by decide) (vec (words d i A f x)) (words_read d i A f x)) $$ [HA Hb Hs]
  · isplitl [HA]; · iexact HA
    isplitl [Hb] <;> iassumption
  iexact Hk

/-- A turn: the chunk under way is counted, and the next is started if there is one. -/
theorem turn_wp (hist : Hist) (b : Buf1) (hb : b.IsWhole) (s : DmaSems sig S_) (q : PosShare TreeShare) (w : Off) (v2 : IVec S16 32) (hv2 : v2 = fun _ => 1#32)
    (kv : Vec F S16 .i32) (kw : BitVec 32) (hkv : kv = vec fun _ => kw) (ws H : ℕ → BitVec 32) (hw : ∀ x < 2000, (ws x).toNat < 100096)
    (nx : Option Off) (wn : Option (ℕ → BitVec 32)) (hn : nx.map (words d i A f) = wn) (rest : PR F i α) :
    iprop(Transfers.MayWaits (tid d i) ι O ∗ Slot d i A f ι b s q (some ws) ∗ owns (tid d i) hist fullShare (vec H) ∗ Owe d i ι O W : sProp 𝕄)
      ⊢ iprop((iprop(Slot d i A f ι b s q wn ∗ owns (tid d i) hist fullShare (vec (bump H ws kw 0 2000)) ∗ Owe d i ι O W)
            -∗ wp frame (wpE defs 𝒱 (tid d i) bd) Set.univ rest Q)
        -∗ wp frame (wpE defs 𝒱 (tid d i) bd) Set.univ (turnC A hist b hb s w v2 kv nx rest) Q) := by
  subst hn
  unfold turnC waitC Owe
  conv_lhs => unfold Slot
  iintro ⟨Hmw, HF, HH, HO⟩ Hk
  iapply (wait_owns (defs := defs) 𝒱 (tid d i) bd (A := A) (f := f) (X := vec ws) (ι := ι) (O := O) (W := W)) $$ [Hmw HF HO]
  · isplitl [HF]; · iexact HF
    isplitl [HO] <;> iassumption
  iintro ⟨HA, Hb, Hs, HO⟩
  iapply (chunk_wp (defs := defs) 𝒱 d i bd hist b v2 hv2 kv kw hkv ws H hw) $$ [Hb HH]
  · isplitl [Hb] <;> iassumption
  iintro ⟨Hb, HH⟩
  cases nx with
  | none =>
    dsimp only [startO, Option.map_none]
    iapply Hk
    isplitl [HA Hb Hs]
    · unfold Slot
      isplitl [HA]; · iexact HA
      isplitl [Hb]; · iexists _; iexact Hb
      iexact Hs
    isplitl [HH] <;> iassumption
  | some x =>
    dsimp only [startO, Option.map_some]
    iapply (startC_wp (defs := defs) 𝒱 d i bd A f ι x b hb s q) $$ [HA Hb Hs]
    · unfold Slot
      isplitl [HA]; · iexact HA
      isplitl [Hb]; · iexists _; iexact Hb
      iexact Hs
    iintro HF
    iapply Hk
    isplitl [HF]; · iexact HF
    isplitl [HH] <;> iassumption

end Copies

end Cert.Proof.Sc
-- ==== Proof.ScTable.lean ====
/-
  The table's passes: a run of blocks cleared, and the scan that reads each block, clears it, and carries the lanes' counts.
-/
module

public import proofs.«01_k».proof.Proof.ScTurn

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

/-- The table with the places `a ≤ n < b` cleared. -/
def clr (H : ℕ → BitVec 32) (a b : ℕ) : ℕ → BitVec 32 := fun n => if a ≤ n ∧ n < b then 0#32 else H n

theorem clr_self (H : ℕ → BitVec 32) (a : ℕ) : clr H a a = H := by
  funext n; unfold clr; rw [if_neg]; omega

theorem clr_clr (H : ℕ → BitVec 32) {a b c : ℕ} (hab : a ≤ b) (hbc : b ≤ c) : clr (clr H a b) b c = clr H a c := by
  funext n
  unfold clr
  by_cases h : a ≤ n ∧ n < c
  · rw [if_pos h]
    by_cases h' : b ≤ n ∧ n < c
    · rw [if_pos h']
    · rw [if_neg h', if_pos (by omega)]
  · rw [if_neg h, if_neg (by omega), if_neg (by omega)]

/-- The scan's carried values after `t` blocks of the table `H`. -/
def scanSt (v0 c0v : IVec S16 32) (H : ℕ → BitVec 32) : ℕ → SCar
  | 0 => (k1_pay345, k1_pay348, k1_pay345)
  | t + 1 => bstep (addi (broadcast S16 (Scalar.muli (Scf.iv 0#32 1#32 t) 128#32)) v0) c0v (vec fun l => H (128 * t + l)) (vec fun l => H (128 * t + 16 + l))
      (vec fun l => H (128 * t + 32 + l)) (vec fun l => H (128 * t + 48 + l)) (vec fun l => H (128 * t + 64 + l)) (vec fun l => H (128 * t + 80 + l))
      (vec fun l => H (128 * t + 96 + l)) (vec fun l => H (128 * t + 112 + l)) (scanSt v0 c0v H t)

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

local notation "𝕄" => MT nD τ sig Ix (Elt F) Name U Lvl

variable (d : Fin nD) (i : grid1.Coords) (bd : Option 𝒱.V)
variable {α : Type} {Q : α → sProp (MT nD τ sig Ix (Elt F) Name U Lvl)}

/-- Clearing sixteen words. -/
theorem hclear_wp (hist : Hist) (v1 : IVec S16 32) (hv1 : v1 = fun _ => 0#32) (o : Fin 1 → ℕ) (h : ∀ a, o a + S16.size a ≤ S100096.size a) (n : ℕ) (ho : o = ![n])
    (H : ℕ → BitVec 32) (a : ℕ) (ha : a ≤ n) (rest : PR F i α) :
    (owns (tid d i) hist fullShare (vec (clr H a n)) : sProp 𝕄)
      ⊢ iprop((owns (tid d i) hist fullShare (vec (clr H a (n + 16))) -∗ wp frame (wpE defs 𝒱 (tid d i) bd) Set.univ rest Q)
        -∗ wp frame (wpE defs 𝒱 (tid d i) bd) Set.univ (hclear hist v1 o h rest) Q) := by
  subst hv1 ho
  unfold hclear
  iintro HH Hk
  iapply (load_owns (defs := defs) 𝒱 (tid d i) bd Set.univ (X := vec (clr H a n))) $$ HH
  iintro HH
  iapply (store_owns (defs := defs) 𝒱 (tid d i) bd Set.univ (X := vec (clr H a n)) (X' := vec (clr H a (n + 16))) ?_ ?_) $$ HH
  case _ =>
    intro j
    have hj : (j 0).val < 16 := (j 0).isLt
    have he := Rect.emb_apply (hrect ![n] h) j (0 : Fin 1)
    have he' : ((hrect ![n] h).emb j 0).val = n + (j 0).val := by simpa using he
    show clr H a (n + 16) ((hrect ![n] h).emb j 0).val = 0#32
    rw [he']
    unfold clr
    rw [if_pos (by omega)]
  case _ =>
    intro x hx
    show clr H a (n + 16) (x 0).val = clr H a n (x 0).val
    have hn : ¬ (n ≤ (x 0).val ∧ (x 0).val < n + 16) := by
      intro ⟨h1, h2⟩
      have hlt : (x 0).val - n < 16 := by omega
      let y : (hrect ![n] h).shape.Idx := fun b => ⟨(x 0).val - n, by obtain rfl : b = 0 := Subsingleton.elim (α := Fin 1) b 0; exact hlt⟩
      refine hx y ?_
      funext b
      obtain rfl : b = 0 := Subsingleton.elim (α := Fin 1) b 0
      apply Fin.ext
      have he := Rect.emb_apply (hrect ![n] h) y (0 : Fin 1)
      rw [he]
      show n + 1 * ((x 0).val - n) = (x 0).val
      omega
    unfold clr
    by_cases hc : a ≤ (x 0).val ∧ (x 0).val < n
    · rw [if_pos hc, if_pos (by omega)]
    · rw [if_neg hc, if_neg (by omega)]
  iexact Hk

/-- Clearing a block. -/
theorem clearC_wp (hist : Hist) (v1 : IVec S16 32) (hv1 : v1 = fun _ => 0#32) (Z : Blocks) (t : Fin Z.L.trips) (n : ℕ)
    (ho : ∀ c : ℕ, c < 128 → Z.off t (BitVec.ofNat 32 c) = ![n + c])
    (H : ℕ → BitVec 32) (a : ℕ) (ha : a ≤ n) (rest : PR F i α) :
    (owns (tid d i) hist fullShare (vec (clr H a n)) : sProp 𝕄)
      ⊢ iprop((owns (tid d i) hist fullShare (vec (clr H a (n + 128))) -∗ wp frame (wpE defs 𝒱 (tid d i) bd) Set.univ rest Q)
        -∗ wp frame (wpE defs 𝒱 (tid d i) bd) Set.univ (clearC hist v1 Z t rest) Q) := by
  unfold clearC
  iintro HH Hk
  iapply (hclear_wp (defs := defs) 𝒱 d i bd hist v1 hv1 _ _ n (ho 0 (by omega)) H a ha) $$ HH
  iintro HH
  iapply (hclear_wp (defs := defs) 𝒱 d i bd hist v1 hv1 _ _ (n + 16) (ho 16 (by omega)) H a (by omega)) $$ HH
  iintro HH
  iapply (hclear_wp (defs := defs) 𝒱 d i bd hist v1 hv1 _ _ (n + 32) (ho 32 (by omega)) H a (by omega)) $$ HH
  iintro HH
  iapply (hclear_wp (defs := defs) 𝒱 d i bd hist v1 hv1 _ _ (n + 48) (ho 48 (by omega)) H a (by omega)) $$ HH
  iintro HH
  iapply (hclear_wp (defs := defs) 𝒱 d i bd hist v1 hv1 _ _ (n + 64) (ho 64 (by omega)) H a (by omega)) $$ HH
  iintro HH
  iapply (hclear_wp (defs := defs) 𝒱 d i bd hist v1 hv1 _ _ (n + 80) (ho 80 (by omega)) H a (by omega)) $$ HH
  iintro HH
  iapply (hclear_wp (defs := defs) 𝒱 d i bd hist v1 hv1 _ _ (n + 96) (ho 96 (by omega)) H a (by omega)) $$ HH
  iintro HH
  iapply (hclear_wp (defs := defs) 𝒱 d i bd hist v1 hv1 _ _ (n + 112) (ho 112 (by omega)) H a (by omega)) $$ HH
  iexact Hk

/-- The loop that clears blocks `lo` up to `hi`. -/
theorem zero_wp (hist : Hist) (v1 : IVec S16 32) (hv1 : v1 = fun _ => 0#32) (lo hi : ℕ) (hlo : lo ≤ 782) (hhi : hi ≤ 782)
    (hok : (mainL (BitVec.ofNat 32 lo) (BitVec.ofNat 32 hi)).OK) (hin : RunsIn (mainL (BitVec.ofNat 32 lo) (BitVec.ofNat 32 hi)))
    (H : ℕ → BitVec 32) (kk : Unit → PR F i α) :
    (owns (tid d i) hist fullShare (vec H) : sProp 𝕄)
      ⊢ iprop((owns (tid d i) hist fullShare (vec (clr H (128 * lo) (128 * hi))) -∗ wp frame (wpE defs 𝒱 (tid d i) bd) Set.univ (kk ⟨⟩) Q)
        -∗ wp frame (wpE defs 𝒱 (tid d i) bd) Set.univ (Scf.Loop.for (mainL (BitVec.ofNat 32 lo) (BitVec.ofNat 32 hi)) hok ⟨⟩
          (fun t _ => clearC hist v1 ⟨BitVec.ofNat 32 lo, BitVec.ofNat 32 hi, hok, hin⟩ t (.ret ⟨⟩)) >>= kk) Q) := by
  have htr := mainL_trips lo hi (by omega) (by omega)
  iintro HH Hk
  iapply (Scf.wp_for_bind frame (wpE defs 𝒱 (tid d i) bd) Set.univ _ _ _ hok _ (fun t _ => clearC hist v1 ⟨BitVec.ofNat 32 lo, BitVec.ofNat 32 hi, hok, hin⟩ t (.ret ⟨⟩))
    (fun t _ => owns (tid d i) hist fullShare (vec (clr H (128 * lo) (128 * (lo + t))))) ?_) $$ [HH]
  case _ =>
    intro t x
    have ht : t.val < hi - lo := lt_of_lt_of_eq t.isLt htr
    iintro HH
    iapply (clearC_wp (defs := defs) 𝒱 d i bd hist v1 hv1 ⟨BitVec.ofNat 32 lo, BitVec.ofNat 32 hi, hok, hin⟩ t (128 * (lo + t.val)) (fun c hc => runOff_eq lo t.val c (by omega)) H (128 * lo) (by omega)) $$ HH
    iintro HH
    rw [wp_ret]
    imodintro
    rw [show 128 * (lo + (t.val + 1)) = 128 * (lo + t.val) + 128 by omega]
    iexact HH
  · rw [Nat.add_zero, clr_self]
    iexact HH
  · iintro %x HH
    have he : clr H (128 * lo) (128 * (lo + (hi - lo))) = clr H (128 * lo) (128 * hi) := by
      by_cases h : lo ≤ hi
      · rw [show lo + (hi - lo) = hi by omega]
      · rw [show lo + (hi - lo) = lo by omega, clr_self]
        funext n
        unfold clr
        rw [if_neg (by omega)]
    have htr' : Scf.trips (mainL (BitVec.ofNat 32 lo) (BitVec.ofNat 32 hi)).lb (mainL (BitVec.ofNat 32 lo) (BitVec.ofNat 32 hi)).ub
      (mainL (BitVec.ofNat 32 lo) (BitVec.ofNat 32 hi)).st = hi - lo := htr
    rw [htr', he]
    iapply Hk
    iexact HH

/-- A run of the table read. -/
theorem hload_wp (hist : Hist) (o : Fin 1 → ℕ) (h : ∀ a, o a + S16.size a ≤ S100096.size a) (n : ℕ) (ho : o = ![n]) (H : ℕ → BitVec 32) (k : Vec F S16 .i32 → PR F i α) :
    (owns (tid d i) hist fullShare (vec H) : sProp 𝕄)
      ⊢ iprop((owns (tid d i) hist fullShare (vec H) -∗ wp frame (wpE defs 𝒱 (tid d i) bd) Set.univ (k (vec fun l => H (n + l))) Q)
        -∗ wp frame (wpE defs 𝒱 (tid d i) bd) Set.univ (hload hist o h k) Q) := by
  subst ho
  unfold hload
  iintro HH Hk
  iapply (load_owns (defs := defs) 𝒱 (tid d i) bd Set.univ (X := vec H)) $$ HH
  iintro HH
  rw [load_vec H ![n] n rfl]
  iapply Hk
  iexact HH

/-- Past the cleared places the table is as it was. -/
theorem clr_run (H : ℕ → BitVec 32) (n c : ℕ) : (vec fun l => clr H 0 n (n + c + l) : S16.Idx → BitVec 32) = vec fun l => H (n + c + l) := by
  funext j
  show clr H 0 n _ = H _
  unfold clr
  rw [if_neg (by omega)]

/-- The scan. -/
theorem scan_wp (hist : Hist) (v1 : IVec S16 32) (hv1 : v1 = k1_pay345) (v4 : IVec S16 32) (hv4 : v4 = k1_pay348) (c0v v0 : IVec S16 32) (hi : ℕ) (hhi : hi ≤ 782)
    (hok : (mainL 0#32 (BitVec.ofNat 32 hi)).OK) (hin : RunsIn (mainL 0#32 (BitVec.ofNat 32 hi)))
    (H : ℕ → BitVec 32) (kk : SCar → PR F i α) :
    (owns (tid d i) hist fullShare (vec H) : sProp 𝕄)
      ⊢ iprop((owns (tid d i) hist fullShare (vec (clr H 0 (128 * hi))) -∗ wp frame (wpE defs 𝒱 (tid d i) bd) Set.univ (kk (scanSt v0 c0v H hi)) Q)
        -∗ wp frame (wpE defs 𝒱 (tid d i) bd) Set.univ (Scf.Loop.for (mainL 0#32 (BitVec.ofNat 32 hi)) hok (v1, v4, v1)
          (scanTrip hist v1 c0v v0 ⟨0#32, BitVec.ofNat 32 hi, hok, hin⟩) >>= kk) Q) := by
  subst hv1 hv4
  have htr : (mainL 0#32 (BitVec.ofNat 32 hi)).trips = hi := mainL_trips 0 hi (by omega) (by omega)
  iintro HH Hk
  iapply (Scf.wp_for_bind frame (wpE defs 𝒱 (tid d i) bd) Set.univ _ _ _ hok _ (scanTrip hist k1_pay345 c0v v0 ⟨0#32, BitVec.ofNat 32 hi, hok, hin⟩)
    (fun t x => iprop(⌜x = scanSt v0 c0v H t⌝ ∗ owns (tid d i) hist fullShare (vec (clr H 0 (128 * t))))) ?_) $$ [HH]
  case _ =>
    intro t x
    have ht : t.val < hi := lt_of_lt_of_eq t.isLt htr
    have ho : ∀ c : ℕ, c < 128 → runOff 0#32 t.val (BitVec.ofNat 32 c) = ![128 * t.val + c] := fun c hc => by
      have := runOff_eq 0 t.val c (by omega)
      rw [Nat.zero_add] at this
      exact this
    unfold scanTrip
    iintro ⟨%hx, HH⟩
    subst hx
    iapply (hload_wp (defs := defs) 𝒱 d i bd hist _ _ (128 * t.val + 0) (ho 0 (by omega)) (clr H 0 (128 * t.val))) $$ HH
    iintro HH
    iapply (hload_wp (defs := defs) 𝒱 d i bd hist _ _ (128 * t.val + 16) (ho 16 (by omega)) (clr H 0 (128 * t.val))) $$ HH
    iintro HH
    iapply (hload_wp (defs := defs) 𝒱 d i bd hist _ _ (128 * t.val + 32) (ho 32 (by omega)) (clr H 0 (128 * t.val))) $$ HH
    iintro HH
    iapply (hload_wp (defs := defs) 𝒱 d i bd hist _ _ (128 * t.val + 48) (ho 48 (by omega)) (clr H 0 (128 * t.val))) $$ HH
    iintro HH
    iapply (hload_wp (defs := defs) 𝒱 d i bd hist _ _ (128 * t.val + 64) (ho 64 (by omega)) (clr H 0 (128 * t.val))) $$ HH
    iintro HH
    iapply (hload_wp (defs := defs) 𝒱 d i bd hist _ _ (128 * t.val + 80) (ho 80 (by omega)) (clr H 0 (128 * t.val))) $$ HH
    iintro HH
    iapply (hload_wp (defs := defs) 𝒱 d i bd hist _ _ (128 * t.val + 96) (ho 96 (by omega)) (clr H 0 (128 * t.val))) $$ HH
    iintro HH
    iapply (hload_wp (defs := defs) 𝒱 d i bd hist _ _ (128 * t.val + 112) (ho 112 (by omega)) (clr H 0 (128 * t.val))) $$ HH
    iintro HH
    simp only [clr_run]
    iapply (clearC_wp (defs := defs) 𝒱 d i bd hist k1_pay345 rfl ⟨0#32, BitVec.ofNat 32 hi, hok, hin⟩ t (128 * t.val) ho H 0 (by omega)) $$ HH
    iintro HH
    rw [wp_ret]
    imodintro
    isplitr
    · ipureintro; rfl
    rw [show 128 * (t.val + 1) = 128 * t.val + 128 by omega]
    iexact HH
  · isplitr
    · ipureintro; rfl
    rw [Nat.mul_zero, clr_self]
    iexact HH
  · iintro %x ⟨%hx, HH⟩
    have htr' : Scf.trips (mainL 0#32 (BitVec.ofNat 32 hi)).lb (mainL 0#32 (BitVec.ofNat 32 hi)).ub (mainL 0#32 (BitVec.ofNat 32 hi)).st = hi := htr
    rw [htr'] at hx
    rw [htr']
    subst hx
    iapply Hk
    iexact HH

end Cert.Proof.Sc
-- ==== Proof.ScCol.lean ====
/-
  A column: its loops in order. The tile's four buffers come in with the column's first four chunks under way and leave with the
  next column's; the table comes in clear below the last column's blocks and leaves clear below this column's.
-/
module

public import proofs.«01_k».proof.Proof.ScTable

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

/-- The table after counting the first `n` chunks of a row whose chunks are `B`. -/
def rowH (B : ℕ → ℕ → BitVec 32) (kw : BitVec 32) (H : ℕ → BitVec 32) : ℕ → ℕ → BitVec 32
  | 0 => H
  | n + 1 => bump (rowH B kw H n) (B n) kw 0 2000

/-- Where a column's chunks lie, in row `r`. -/
structure ColD.Ok (D : ColD) (r : ℕ) : Prop where
  n : ∀ t m, (D.n t m).o = ![4 * t.val + (4 + m.val), r, 0]
  n0 : D.n0.o = ![48, r, 0]
  n1 : D.n1.o = ![49, r, 0]
  nx : ∀ p, D.nx = some p → ∀ m, (p m).o = ![m.val, r + 1, 0]

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

local notation "𝕄" => MT nD τ sig Ix (Elt F) Name U Lvl

variable (d : Fin nD) (i : grid1.Coords) (bd : Option 𝒱.V)
variable {α : Type} {Q : α → sProp (MT nD τ sig Ix (Elt F) Name U Lvl)}
variable [CountersIn U] [Infinite Name]
variable (A : Bins) (f : Buf (Elt F) (A.view.loc (tid d i))) (ι : Ix) (O : CellTallies nD τ sig Ix) (W : Waits sig Ix)

theorem map_words (x : Off) {c r : ℕ} (h : x.o = ![c, r, 0]) : (some x).map (words d i A f) = some (Bw d i A f c r) := by
  rw [Option.map_some, words_eq d i A f x h]

/-- A turn at chunk `c` of a row. -/
theorem turn_row (hist : Hist) (b : Buf1) (hb : b.IsWhole) (s : DmaSems sig S_) (q : PosShare TreeShare) (w : Off) (v2 : IVec S16 32) (hv2 : v2 = fun _ => 1#32)
    (kv : Vec F S16 .i32) (kw : BitVec 32) (hkv : kv = vec fun _ => kw) (B : ℕ → ℕ → BitVec 32) (hB : ∀ c x, (B c x).toNat ≤ 100000) (H : ℕ → BitVec 32) (c : ℕ)
    (nx : Option Off) (wn : Option (ℕ → BitVec 32)) (hn : nx.map (words d i A f) = wn) (rest : PR F i α) :
    iprop(Transfers.MayWaits (tid d i) ι O ∗ Slot d i A f ι b s q (some (B c)) ∗ owns (tid d i) hist fullShare (vec (rowH B kw H c)) ∗ Owe d i ι O W : sProp 𝕄)
      ⊢ iprop((iprop(Slot d i A f ι b s q wn ∗ owns (tid d i) hist fullShare (vec (rowH B kw H (c + 1))) ∗ Owe d i ι O W)
            -∗ wp frame (wpE defs 𝒱 (tid d i) bd) Set.univ rest Q)
        -∗ wp frame (wpE defs 𝒱 (tid d i) bd) Set.univ (turnC A hist b hb s w v2 kv nx rest) Q) :=
  turn_wp (defs := defs) 𝒱 d i bd A f ι O W hist b hb s q w v2 hv2 kv kw hkv (B c) (rowH B kw H c) (fun x _ => by have := hB c x; omega) nx wn hn rest

/-- The ring's four buffers. -/
def Slots (R : Ring) (q0 q1 q2 q3 : PosShare TreeShare) (w0 w1 w2 w3 : Option (ℕ → BitVec 32)) : sProp 𝕄 :=
  iprop(Slot d i A f ι R.b0 R.s0 q0 w0 ∗ Slot d i A f ι R.b1 R.s1 q1 w1 ∗ Slot d i A f ι R.b2 R.s2 q2 w2 ∗ Slot d i A f ι R.b3 R.s3 q3 w3)

/-- The loop over a row's first forty-four chunks. -/
theorem gloop_wp (hist : Hist) (R : Ring) (q0 q1 q2 q3 : PosShare TreeShare) (v2 : IVec S16 32) (hv2 : v2 = fun _ => 1#32)
    (kv : Vec F S16 .i32) (kw : BitVec 32) (hkv : kv = vec fun _ => kw) (D : ColD) (r : ℕ) (hD : D.Ok r) (hB : ∀ c x, (Bw d i A f c r x).toNat ≤ 100000)
    (H : ℕ → BitVec 32) (kk : Unit → PR F i α) :
    iprop(□ Transfers.MayWaits (tid d i) ι O ∗ Slots d i A f ι R q0 q1 q2 q3 (some (Bw d i A f 0 r)) (some (Bw d i A f 1 r)) (some (Bw d i A f 2 r)) (some (Bw d i A f 3 r))
        ∗ owns (tid d i) hist fullShare (vec H) ∗ Owe d i ι O W : sProp 𝕄)
      ⊢ iprop((iprop(Slots d i A f ι R q0 q1 q2 q3 (some (Bw d i A f 44 r)) (some (Bw d i A f 45 r)) (some (Bw d i A f 46 r)) (some (Bw d i A f 47 r))
            ∗ owns (tid d i) hist fullShare (vec (rowH (fun c => Bw d i A f c r) kw H 44)) ∗ Owe d i ι O W)
            -∗ wp frame (wpE defs 𝒱 (tid d i) bd) Set.univ (kk ⟨⟩) Q)
        -∗ wp frame (wpE defs 𝒱 (tid d i) bd) Set.univ (Scf.Loop.for k1_t3_loop k1_t3_ok ⟨⟩ (gTrip A hist R v2 kv D.w D.n) >>= kk) Q) := by
  iintro ⟨#Hmw, HS, HH, HO⟩ Hk
  iapply (Scf.wp_for_bind frame (wpE defs 𝒱 (tid d i) bd) Set.univ _ _ _ k1_t3_ok _ (gTrip A hist R v2 kv D.w D.n)
    (fun t _ => iprop(□ Transfers.MayWaits (tid d i) ι O ∗ Slots d i A f ι R q0 q1 q2 q3 (some (Bw d i A f (4 * t) r)) (some (Bw d i A f (4 * t + 1) r))
        (some (Bw d i A f (4 * t + 2) r)) (some (Bw d i A f (4 * t + 3) r))
      ∗ owns (tid d i) hist fullShare (vec (rowH (fun c => Bw d i A f c r) kw H (4 * t))) ∗ Owe d i ι O W)) ?_) $$ [HS HH HO]
  case _ =>
    intro t x
    unfold gTrip Slots
    iintro ⟨#Hmw, ⟨H0, H1, H2, H3⟩, HH, HO⟩
    iapply (turn_row (defs := defs) 𝒱 d i bd A f ι O W hist R.b0 R.h0 R.s0 q0 (D.w t 0) v2 hv2 kv kw hkv (fun c => Bw d i A f c r) hB H (4 * t.val) _ _
      (map_words d i A f _ (hD.n t 0))) $$ [H0 HH HO]
    · isplitr; · iexact Hmw
      isplitl [H0]; · iexact H0
      isplitl [HH] <;> iassumption
    iintro ⟨H0, HH, HO⟩
    iapply (turn_row (defs := defs) 𝒱 d i bd A f ι O W hist R.b1 R.h1 R.s1 q1 (D.w t 1) v2 hv2 kv kw hkv (fun c => Bw d i A f c r) hB H (4 * t.val + 1) _ _
      (map_words d i A f _ (hD.n t 1))) $$ [H1 HH HO]
    · isplitr; · iexact Hmw
      isplitl [H1]; · iexact H1
      isplitl [HH] <;> iassumption
    iintro ⟨H1, HH, HO⟩
    iapply (turn_row (defs := defs) 𝒱 d i bd A f ι O W hist R.b2 R.h2 R.s2 q2 (D.w t 2) v2 hv2 kv kw hkv (fun c => Bw d i A f c r) hB H (4 * t.val + 1 + 1) _ _
      (map_words d i A f _ (hD.n t 2))) $$ [H2 HH HO]
    · isplitr; · iexact Hmw
      isplitl [H2]; · iexact H2
      isplitl [HH] <;> iassumption
    iintro ⟨H2, HH, HO⟩
    iapply (turn_row (defs := defs) 𝒱 d i bd A f ι O W hist R.b3 R.h3 R.s3 q3 (D.w t 3) v2 hv2 kv kw hkv (fun c => Bw d i A f c r) hB H (4 * t.val + 1 + 1 + 1) _ _
      (map_words d i A f _ (hD.n t 3))) $$ [H3 HH HO]
    · isplitr; · iexact Hmw
      isplitl [H3]; · iexact H3
      isplitl [HH] <;> iassumption
    iintro ⟨H3, HH, HO⟩
    rw [wp_ret]
    imodintro
    isplitr; · iexact Hmw
    isplitl [H0 H1 H2 H3]
    · isplitl [H0]; · iexact H0
      isplitl [H1]; · iexact H1
      isplitl [H2]; · iexact H2
      iexact H3
    isplitl [HH] <;> iassumption
  · isplitr; · iexact Hmw
    isplitl [HS]; · iexact HS
    isplitl [HH]; · iexact HH
    iexact HO
  · iintro %x ⟨-, HS, HH, HO⟩
    iapply Hk
    isplitl [HS]; · iexact HS
    isplitl [HH]; · iexact HH
    iexact HO

/-- What the next column's chunk `m` is, if there is a next column. -/
def nextW (D : ColD) (r m : ℕ) : Option (ℕ → BitVec 32) := D.nx.map fun _ => Bw d i A f m (r + 1)

theorem map_next (D : ColD) (r : ℕ) (hD : D.Ok r) (m : Fin 4) : (D.nx.map (· m)).map (words d i A f) = nextW d i A f D r m.val := by
  unfold nextW
  cases h : D.nx with
  | none => rfl
  | some p =>
    show some (words d i A f (p m)) = some _
    rw [words_eq d i A f _ (hD.nx p h m)]

/-- A column. -/
theorem colC_wp (hist : Hist) (R : Ring) (q0 q1 q2 q3 : PosShare TreeShare) (v0 v1 v2 v4 : IVec S16 32) (hv1 : v1 = k1_pay345) (hv2 : v2 = k1_pay346) (hv4 : v4 = k1_pay348)
    (kv c0v : Vec F S16 .i32) (kw : BitVec 32) (hkv : kv = vec fun _ => kw) (D : ColD) (r : ℕ) (hD : D.Ok r) (hB : ∀ c x, (Bw d i A f c r x).toNat ≤ 100000)
    (lo hi : BitVec 32) (a b : ℕ) (ha : a ≤ 782) (hb : b ≤ 782) (hlo : lo = BitVec.ofNat 32 a) (hhi : hi = BitVec.ofNat 32 b) (hk : chkG lo hi)
    (H : ℕ → BitVec 32) (rest : SCar → PR F i α) :
    iprop(□ Transfers.MayWaits (tid d i) ι O ∗ Slots d i A f ι R q0 q1 q2 q3 (some (Bw d i A f 0 r)) (some (Bw d i A f 1 r)) (some (Bw d i A f 2 r)) (some (Bw d i A f 3 r))
        ∗ owns (tid d i) hist fullShare (vec H) ∗ Owe d i ι O W : sProp 𝕄)
      ⊢ iprop((iprop(Slots d i A f ι R q0 q1 q2 q3 (nextW d i A f D r 2) (nextW d i A f D r 3) (nextW d i A f D r 0) (nextW d i A f D r 1)
            ∗ owns (tid d i) hist fullShare (vec (clr (rowH (fun c => Bw d i A f c r) kw (clr H (128 * a) (128 * b)) 50) 0 (128 * b))) ∗ Owe d i ι O W)
            -∗ wp frame (wpE defs 𝒱 (tid d i) bd) Set.univ (rest (scanSt v0 c0v (rowH (fun c => Bw d i A f c r) kw (clr H (128 * a) (128 * b)) 50) b)) Q)
        -∗ wp frame (wpE defs 𝒱 (tid d i) bd) Set.univ (colC A hist R v0 v1 v2 v4 D kv c0v lo hi hk rest) Q) := by
  subst hlo hhi
  have hv1' : v1 = fun _ => 0#32 := hv1
  have hv2' : v2 = fun _ => 1#32 := hv2
  unfold colC
  iintro ⟨#Hmw, HS, HH, HO⟩ Hk
  iapply (zero_wp (defs := defs) 𝒱 d i bd hist v1 hv1' a b ha hb) $$ HH
  iintro HH
  iapply (gloop_wp (defs := defs) 𝒱 d i bd A f ι O W hist R q0 q1 q2 q3 v2 hv2' kv kw hkv D r hD hB) $$ [HS HH HO]
  · isplitr; · iexact Hmw
    isplitl [HS]; · iexact HS
    isplitl [HH] <;> iassumption
  iintro ⟨HS, HH, HO⟩
  unfold Slots
  icases HS with ⟨H0, H1, H2, H3⟩
  iapply (turn_row (defs := defs) 𝒱 d i bd A f ι O W hist R.b0 R.h0 R.s0 q0 (D.tw 0) v2 hv2' kv kw hkv (fun c => Bw d i A f c r) hB _ 44 _ _
    (map_words d i A f _ hD.n0)) $$ [H0 HH HO]
  · isplitr; · iexact Hmw
    isplitl [H0]; · iexact H0
    isplitl [HH] <;> iassumption
  iintro ⟨H0, HH, HO⟩
  iapply (turn_row (defs := defs) 𝒱 d i bd A f ι O W hist R.b1 R.h1 R.s1 q1 (D.tw 1) v2 hv2' kv kw hkv (fun c => Bw d i A f c r) hB _ 45 _ _
    (map_words d i A f _ hD.n1)) $$ [H1 HH HO]
  · isplitr; · iexact Hmw
    isplitl [H1]; · iexact H1
    isplitl [HH] <;> iassumption
  iintro ⟨H1, HH, HO⟩
  iapply (turn_row (defs := defs) 𝒱 d i bd A f ι O W hist R.b2 R.h2 R.s2 q2 (D.tw 2) v2 hv2' kv kw hkv (fun c => Bw d i A f c r) hB _ 46 _ _
    (map_next d i A f D r hD 0)) $$ [H2 HH HO]
  · isplitr; · iexact Hmw
    isplitl [H2]; · iexact H2
    isplitl [HH] <;> iassumption
  iintro ⟨H2, HH, HO⟩
  iapply (turn_row (defs := defs) 𝒱 d i bd A f ι O W hist R.b3 R.h3 R.s3 q3 (D.tw 3) v2 hv2' kv kw hkv (fun c => Bw d i A f c r) hB _ 47 _ _
    (map_next d i A f D r hD 1)) $$ [H3 HH HO]
  · isplitr; · iexact Hmw
    isplitl [H3]; · iexact H3
    isplitl [HH] <;> iassumption
  iintro ⟨H3, HH, HO⟩
  iapply (turn_row (defs := defs) 𝒱 d i bd A f ι O W hist R.b0 R.h0 R.s0 q0 (D.tw 4) v2 hv2' kv kw hkv (fun c => Bw d i A f c r) hB _ 48 _ _
    (map_next d i A f D r hD 2)) $$ [H0 HH HO]
  · isplitr; · iexact Hmw
    isplitl [H0]; · iexact H0
    isplitl [HH] <;> iassumption
  iintro ⟨H0, HH, HO⟩
  iapply (turn_row (defs := defs) 𝒱 d i bd A f ι O W hist R.b1 R.h1 R.s1 q1 (D.tw 5) v2 hv2' kv kw hkv (fun c => Bw d i A f c r) hB _ 49 _ _
    (map_next d i A f D r hD 3)) $$ [H1 HH HO]
  · isplitr; · iexact Hmw
    isplitl [H1]; · iexact H1
    isplitl [HH] <;> iassumption
  iintro ⟨H1, HH, HO⟩
  iapply (scan_wp (defs := defs) 𝒱 d i bd hist v1 hv1 v4 hv4 c0v v0 b hb) $$ HH
  iintro HH
  iapply Hk
  isplitl [H0 H1 H2 H3]
  · isplitl [H0]; · iexact H0
    isplitl [H1]; · iexact H1
    isplitl [H2]; · iexact H2
    iexact H3
  isplitl [HH] <;> iassumption

end Cert.Proof.Sc
-- ==== Proof.ScColumn.lean ====
/-
  A whole column, with the fetch of its two words: what it yields in terms of the row's words alone.
-/
module

public import proofs.«01_k».proof.Proof.ScCol

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

/-- How often each place is named in a row whose chunks are `B`. -/
def rowCnt (B : ℕ → ℕ → BitVec 32) (kw : BitVec 32) : ℕ → BitVec 32 := rowH B kw (fun _ => 0#32) 50

theorem rowH_add (B : ℕ → ℕ → BitVec 32) (kw : BitVec 32) (H : ℕ → BitVec 32) (m n : ℕ) : rowH B kw H m n = H n + rowH B kw (fun _ => 0#32) m n := by
  induction m with
  | zero => simp [rowH]
  | succ m ih =>
    show rowH B kw H m n + _ = H n + (rowH B kw (fun _ => 0#32) m n + _)
    rw [ih, BitVec.add_assoc]

/-- The scan reads only the places below its last block's end. -/
theorem scanSt_congr (v0 c0v : IVec S16 32) (H H' : ℕ → BitVec 32) (b : ℕ) (h : ∀ n < 128 * b, H n = H' n) : scanSt v0 c0v H b = scanSt v0 c0v H' b := by
  induction b with
  | zero => rfl
  | succ b ih =>
    have hv : ∀ c : ℕ, c + 16 ≤ 128 → (vec fun l => H (128 * b + c + l) : S16.Idx → BitVec 32) = vec fun l => H' (128 * b + c + l) := by
      intro c hc
      funext j
      have hj : (j 0).val < 16 := (j 0).isLt
      exact h _ (by omega)
    have h0 := hv 0 (by omega)
    rw [Nat.add_zero] at h0
    unfold scanSt
    rw [ih fun n hn => h n (by omega), h0, hv 16 (by omega), hv 32 (by omega), hv 48 (by omega), hv 64 (by omega), hv 80 (by omega), hv 96 (by omega),
      hv 112 (by omega)]

/-- The table is clear below block `a`. -/
def Clear (H : ℕ → BitVec 32) (a : ℕ) : Prop := ∀ n < 128 * a, H n = 0#32

theorem clr_clear (H : ℕ → BitVec 32) (a b : ℕ) (h : Clear H a) : ∀ n < 128 * b, clr H (128 * a) (128 * b) n = 0#32 := by
  intro n hn
  unfold clr
  split
  · rfl
  · exact h n (by omega)

theorem clear_clr (H : ℕ → BitVec 32) (b : ℕ) : Clear (clr H 0 (128 * b)) b := by
  intro n hn
  unfold clr
  rw [if_pos ⟨Nat.zero_le _, hn⟩]

/-- What a column's scan yields. -/
def colRes (v0 : IVec S16 32) (B : ℕ → ℕ → BitVec 32) (kw c0w : BitVec 32) : SCar := scanSt v0 (vec fun _ => c0w) (rowCnt B kw) (kw.toNat / 128 + 1)

/-- A column's row. -/
def rowN (i : grid1.Coords) (j : ℕ) : ℕ := 64 * (i 0).val + 4 * (i 1).val + j

theorem rowW_toNat (i : grid1.Coords) (j : ℕ) (hj : j < 4) : (rowW i (BitVec.ofNat 32 j)).toNat = rowN i j := by
  have h0 : (i 0).val < 2 := (i 0).isLt
  have h1 : (i 1).val < 16 := (i 1).isLt
  show ((BitVec.ofNat 32 (i 0).val * 64#32 + BitVec.ofNat 32 (i 1).val * 4#32) + BitVec.ofNat 32 j).toNat = _
  simp only [BitVec.toNat_add, BitVec.toNat_mul, BitVec.toNat_ofNat, rowN]
  omega

theorem rowN_lt (i : grid1.Coords) (j : ℕ) (hj : j < 4) : rowN i j < 128 := by
  have h0 : (i 0).val < 2 := (i 0).isLt
  have h1 : (i 1).val < 16 := (i 1).isLt
  unfold rowN; omega

theorem chk1_row (i : grid1.Coords) (j : ℕ) (hj : j < 4) : k1_chk1 (broadcast S16 (rowW i (BitVec.ofNat 32 j))) := by
  have h : ∀ a x, ((![broadcast S16 (rowW i (BitVec.ofNat 32 j))] : Fin 1 → IVec S16 32) a x).toNat < S128.size a := by
    intro a x
    obtain rfl : a = 0 := Subsingleton.elim (α := Fin 1) a 0
    show (rowW i (BitVec.ofNat 32 j)).toNat < 128
    rw [rowW_toNat i j hj]
    exact rowN_lt i j hj
  exact ⟨h, h⟩

/-- The gather of one word. -/
theorem gather_row {F : FTy → Type} [FloatOps F] (i : grid1.Coords) (j : ℕ) (hj : j < 4) (g : ℕ → BitVec 32)
    (h : ∀ a x, ((![broadcast S16 (rowW i (BitVec.ofNat 32 j))] : Fin 1 → IVec S16 32) a x).toNat < S128.size a) :
    (loadIdx (F := F) (s := S128) (e := .i32) (vec g) ![broadcast S16 (rowW i (BitVec.ofNat 32 j))] h : S16.Idx → BitVec 32) = vec fun _ => g (rowN i j) := by
  funext x
  show g (rowW i (BitVec.ofNat 32 j)).toNat = g _
  rw [rowW_toNat i j hj]

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

local notation "𝕄" => MT nD τ sig Ix (Elt F) Name U Lvl

variable (d : Fin nD) (i : grid1.Coords) (bd : Option 𝒱.V)
variable {α : Type} {Q : α → sProp (MT nD τ sig Ix (Elt F) Name U Lvl)}
variable [CountersIn U] [Infinite Name]
variable (A : Bins) (f : Buf (Elt F) (A.view.loc (tid d i))) (ι : Ix) (O : CellTallies nD τ sig Ix) (W : Waits sig Ix)

/-- What a tile holds between its columns but for the four chunk buffers. -/
def Mid (kq c0q : Memref sig .scVector .vmem S128 .i32) (kf cf : ℕ → BitVec 32) (hist : Hist) (a : ℕ) : sProp 𝕄 :=
  iprop(owns (tid d i) kq fullShare (vec kf) ∗ owns (tid d i) c0q fullShare (vec cf) ∗ (∃ H, ⌜Clear H a⌝ ∗ owns (tid d i) hist fullShare (vec H)) ∗ Owe d i ι O W)

/-- A column with its words' fetch. -/
theorem columnC_wp (kq c0q : Memref sig .scVector .vmem S128 .i32) (kf cf : ℕ → BitVec 32) (hist : Hist) (R : Ring) (q0 q1 q2 q3 : PosShare TreeShare)
    (v0 v1 v2 v4 : IVec S16 32) (hv1 : v1 = k1_pay345) (hv2 : v2 = k1_pay346) (hv4 : v4 = k1_pay348)
    (D : ColD) (j : ℕ) (hj : j < 4) (hD : D.Ok (rowN i j)) (hB : ∀ c x, (Bw d i A f c (rowN i j) x).toNat ≤ 100000) (hkf : (kf (rowN i j)).toNat ≤ 100000)
    (lo : BitVec 32) (a : ℕ) (ha : a ≤ 782) (hlo : lo = BitVec.ofNat 32 a)
    (P : BitVec 32 → Prop) (dec : ∀ k, Decidable (P k)) (hP : ∀ k, P k → chkG lo (blkW k)) (hP' : ∀ k, chkG lo (blkW k) → P k) (rest : BitVec 32 → SCar → PR F i α) :
    iprop(□ Transfers.MayWaits (tid d i) ι O ∗ Slots d i A f ι R q0 q1 q2 q3 (some (Bw d i A f 0 (rowN i j))) (some (Bw d i A f 1 (rowN i j)))
        (some (Bw d i A f 2 (rowN i j))) (some (Bw d i A f 3 (rowN i j))) ∗ Mid d i ι O W kq c0q kf cf hist a : sProp 𝕄)
      ⊢ iprop((iprop(Slots d i A f ι R q0 q1 q2 q3 (nextW d i A f D (rowN i j) 2) (nextW d i A f D (rowN i j) 3) (nextW d i A f D (rowN i j) 0) (nextW d i A f D (rowN i j) 1)
            ∗ Mid d i ι O W kq c0q kf cf hist ((kf (rowN i j)).toNat / 128 + 1))
            -∗ wp frame (wpE defs 𝒱 (tid d i) bd) Set.univ
              (rest (kf (rowN i j)) (colRes v0 (fun c => Bw d i A f c (rowN i j)) (kf (rowN i j)) (cf (rowN i j)))) Q)
        -∗ wp frame (wpE defs 𝒱 (tid d i) bd) Set.univ (columnC A kq c0q hist R v0 v1 v2 v4 D (BitVec.ofNat 32 j) lo P dec hP rest) Q) := by
  have hkw : ∀ k : BitVec 32, k.toNat ≤ 100000 → blkW k = BitVec.ofNat 32 (k.toNat / 128 + 1) := fun k hk => blkW_eq k (by omega)
  unfold columnC
  iintro ⟨#Hmw, HS, HM⟩ Hk
  unfold Mid
  icases HM with ⟨Hkq, Hcq, ⟨%H, %hH, HH⟩, HO⟩
  rw [wp_assume_of 𝒱 (tid d i) bd Set.univ (h := chk1_row i j hj)]
  iapply (gather_owns (defs := defs) 𝒱 (tid d i) bd Set.univ (X := vec kf)) $$ Hkq
  iintro Hkq
  iapply (gather_owns (defs := defs) 𝒱 (tid d i) bd Set.univ (X := vec cf)) $$ Hcq
  iintro Hcq
  rw [gather_row (F := F) i j hj kf, gather_row (F := F) i j hj cf]
  have hw : wordOf (F := F) (vec fun _ => kf (rowN i j)) = kf (rowN i j) := wordOf_const _
  have hc : chkG lo (blkW (wordOf (F := F) (vec fun _ => kf (rowN i j)))) := by
    rw [hw, hkw _ hkf, hlo]
    exact chkG_small a _ ha (by omega)
  rw [wp_assume_of 𝒱 (tid d i) bd Set.univ (h := hP' _ hc)]
  iapply (colC_wp (defs := defs) 𝒱 d i bd A f ι O W hist R q0 q1 q2 q3 v0 v1 v2 v4 hv1 hv2 hv4 _ _ (kf (rowN i j)) rfl D (rowN i j) hD hB lo
    (blkW (wordOf (F := F) (vec fun _ => kf (rowN i j)))) a ((kf (rowN i j)).toNat / 128 + 1) ha (by omega) hlo (by rw [hw, hkw _ hkf])) $$ [HS HH HO]
  · isplitr; · iexact Hmw
    isplitl [HS]; · iexact HS
    isplitl [HH] <;> iassumption
  iintro ⟨HS, HH, HO⟩
  rw [hw]
  rw [scanSt_congr v0 _ (rowH _ _ (clr H _ _) 50) (rowCnt (fun c => Bw d i A f c (rowN i j)) (kf (rowN i j))) _ (fun n hn => by
    rw [rowH_add, clr_clear H a _ hH n hn]; exact BitVec.zero_add _)]
  iapply Hk
  isplitl [HS]; · iexact HS
  isplitl [Hkq]; · iexact Hkq
  isplitl [Hcq]; · iexact Hcq
  isplitl [HH]
  · iexists _; isplitr
    rotate_left
    · iexact HH
    · ipureintro; exact clear_clr _ _
  iexact HO

/-- A local copy of one memref into another, with its wait. -/
theorem copy_owns {c : Thread nD τ} {sp sp' : Space} {t : Shape} {e : EltTy} {bd : Option 𝒱.V} {src : Memref sig c.2.kind sp t e} {dst : Memref sig c.2.kind sp' t e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ₀ c.2) α} {q : PosShare TreeShare} {X X₀ : t.Idx → Elt F e} (ht : 0 < t.numel) :
    iprop(Transfers.MayWaits c ι O ∗ owns c src q X ∗ owns c dst fullShare X₀ ∗ semVal (c, .dma sem) 0 ∗ (∃ W', ⌜∀ p ∈ W', p ∈ W ∨ p.2 = ι⌝ ∗ owes c O W') : sProp 𝕄)
      ⊢ iprop((iprop(owns c src q X ∗ owns c dst fullShare X ∗ semVal (c, .dma sem) 0 ∗ ∃ W', ⌜∀ p ∈ W', p ∈ W ∨ p.2 = ι⌝ ∗ owes c O W')
            -∗ wp frame (wpE defs 𝒱 c bd) Set.univ (k ⟨⟩) Q)
        -∗ wp frame (wpE defs 𝒱 c bd) Set.univ (.op (.enqueueDma src (.here dst) (.dma sem) hsrc hdst hsem) fun _ => .op (.waitDma2 sem src dst hsrc' hdst') k) Q) := by
  iintro ⟨Hmw, Hs, Hd, Hv, ⟨%W', %hW', HO⟩⟩ Hk
  unfold owns
  icases Hs with ⟨%fs, %hfs, Hs⟩
  icases Hd with ⟨%fd, %hfd, Hd⟩
  iapply (Transfers.wp_dmaLocal countersEmb 𝒱 c bd (defs := defs) (Q := Q) (src := src) (via := .same) (dst := dst) (sm := .dma sem)
    (hsrc := hsrc) (hdst := hdst) (hsem := hsem) (q := q) (fs := fs) (Sd := dst.view.set) (fd := fd) ι dst.view.dmaCredit rfl
    (View.dmaCredit_pos _ ht) subset_rfl) $$ [Hs Hd Hv]
  · isplitl [Hs]; · iexact Hs
    isplitl [Hd] <;> iassumption
  iintro HF
  iapply (Transfers.wp_waitLocalO countersEmb 𝒱 c bd (defs := defs) (Q := Q) (sem := sem) (srcw := src) (dstw := dst)
    (hsrc := hsrc') (hdst := hdst') (k := k) ι rfl) $$ [HF HO Hmw]
  · isplitl [HF]; · iexact HF
    isplitl [HO]; · iexact HO
    iapply (Transfers.MayWaits.elim (SemLoc.dma sem)) $$ Hmw
  iintro ⟨⟨Hd, Hs⟩, Hv, HO⟩
  iapply Hk
  isplitl [Hs]
  · iexists fs; isplitr
    · ipureintro; exact hfs
    · iexact Hs
  isplitl [Hd]
  · iexists _; isplitr
    rotate_left
    · iexact Hd
    · ipureintro
      rw [View.read_write_univ]
      exact hfs
  isplitl [Hv]; · iexact Hv
  iexists _; isplitr
  rotate_left
  · iexact HO
  · ipureintro
    intro p hp
    rcases Finset.mem_insert.mp hp with hp | hp
    · exact .inr (hp ▸ rfl)
    · exact hW' p hp

end Cert.Proof.Sc
-- ==== Proof.ScTileDef.lean ====
/-
  The tile program out of the pieces of `ScProg`: the tile fetches the batch's words, starts four copies, does its four columns,
  and writes its sixteen lanes out.
-/
module

public import proofs.«01_k».proof.Proof.ScProg

@[expose] public section

noncomputable section

namespace Cert.Proof.Sc

open Idealize.ShloMosaic Idealize.SL.Sem
open Cert.KernelIdeal Cert.KernelIdeal.Gen

variable {F : FTy → Type} [FloatOps F]

/-- Where the chunks of column 0 lie. -/
def colD0 (i : grid1.Coords) : ColD where
  w t := ![⟨k1_off7 i t, k1_off7_inb i t⟩, ⟨k1_off10 i t, k1_off10_inb i t⟩, ⟨k1_off13 i t, k1_off13_inb i t⟩, ⟨k1_off16 i t, k1_off16_inb i t⟩]
  n t := ![⟨k1_off9 i t, k1_off9_inb i t⟩, ⟨k1_off12 i t, k1_off12_inb i t⟩, ⟨k1_off15 i t, k1_off15_inb i t⟩, ⟨k1_off18 i t, k1_off18_inb i t⟩]
  tw := ![⟨k1_off19 i, k1_off19_inb i⟩, ⟨k1_off22 i, k1_off22_inb i⟩, ⟨k1_off25 i, k1_off25_inb i⟩, ⟨k1_off28 i, k1_off28_inb i⟩, ⟨k1_off31 i, k1_off31_inb i⟩, ⟨k1_off34 i, k1_off34_inb i⟩]
  n0 := ⟨k1_off21 i, k1_off21_inb i⟩
  n1 := ⟨k1_off24 i, k1_off24_inb i⟩
  nx := some ![⟨k1_off27 i, k1_off27_inb i⟩, ⟨k1_off30 i, k1_off30_inb i⟩, ⟨k1_off33 i, k1_off33_inb i⟩, ⟨k1_off36 i, k1_off36_inb i⟩]

/-- Where the chunks of column 1 lie. -/
def colD1 (i : grid1.Coords) : ColD where
  w t := ![⟨k1_off41 i t, k1_off41_inb i t⟩, ⟨k1_off44 i t, k1_off44_inb i t⟩, ⟨k1_off47 i t, k1_off47_inb i t⟩, ⟨k1_off50 i t, k1_off50_inb i t⟩]
  n t := ![⟨k1_off43 i t, k1_off43_inb i t⟩, ⟨k1_off46 i t, k1_off46_inb i t⟩, ⟨k1_off49 i t, k1_off49_inb i t⟩, ⟨k1_off52 i t, k1_off52_inb i t⟩]
  tw := ![⟨k1_off53 i, k1_off53_inb i⟩, ⟨k1_off56 i, k1_off56_inb i⟩, ⟨k1_off59 i, k1_off59_inb i⟩, ⟨k1_off62 i, k1_off62_inb i⟩, ⟨k1_off65 i, k1_off65_inb i⟩, ⟨k1_off68 i, k1_off68_inb i⟩]
  n0 := ⟨k1_off55 i, k1_off55_inb i⟩
  n1 := ⟨k1_off58 i, k1_off58_inb i⟩
  nx := some ![⟨k1_off61 i, k1_off61_inb i⟩, ⟨k1_off64 i, k1_off64_inb i⟩, ⟨k1_off67 i, k1_off67_inb i⟩, ⟨k1_off70 i, k1_off70_inb i⟩]

/-- Where the chunks of column 2 lie. -/
def colD2 (i : grid1.Coords) : ColD where
  w t := ![⟨k1_off75 i t, k1_off75_inb i t⟩, ⟨k1_off78 i t, k1_off78_inb i t⟩, ⟨k1_off81 i t, k1_off81_inb i t⟩, ⟨k1_off84 i t, k1_off84_inb i t⟩]
  n t := ![⟨k1_off77 i t, k1_off77_inb i t⟩, ⟨k1_off80 i t, k1_off80_inb i t⟩, ⟨k1_off83 i t, k1_off83_inb i t⟩, ⟨k1_off86 i t, k1_off86_inb i t⟩]
  tw := ![⟨k1_off87 i, k1_off87_inb i⟩, ⟨k1_off90 i, k1_off90_inb i⟩, ⟨k1_off93 i, k1_off93_inb i⟩, ⟨k1_off96 i, k1_off96_inb i⟩, ⟨k1_off99 i, k1_off99_inb i⟩, ⟨k1_off102 i, k1_off102_inb i⟩]
  n0 := ⟨k1_off89 i, k1_off89_inb i⟩
  n1 := ⟨k1_off92 i, k1_off92_inb i⟩
  nx := some ![⟨k1_off95 i, k1_off95_inb i⟩, ⟨k1_off98 i, k1_off98_inb i⟩, ⟨k1_off101 i, k1_off101_inb i⟩, ⟨k1_off104 i, k1_off104_inb i⟩]

/-- Where the chunks of column 3 lie. -/
def colD3 (i : grid1.Coords) : ColD where
  w t := ![⟨k1_off109 i t, k1_off109_inb i t⟩, ⟨k1_off112 i t, k1_off112_inb i t⟩, ⟨k1_off115 i t, k1_off115_inb i t⟩, ⟨k1_off118 i t, k1_off118_inb i t⟩]
  n t := ![⟨k1_off111 i t, k1_off111_inb i t⟩, ⟨k1_off114 i t, k1_off114_inb i t⟩, ⟨k1_off117 i t, k1_off117_inb i t⟩, ⟨k1_off120 i t, k1_off120_inb i t⟩]
  tw := ![⟨k1_off121 i, k1_off121_inb i⟩, ⟨k1_off124 i, k1_off124_inb i⟩, ⟨k1_off127 i, k1_off127_inb i⟩, ⟨k1_off129 i, k1_off129_inb i⟩, ⟨k1_off131 i, k1_off131_inb i⟩, ⟨k1_off133 i, k1_off133_inb i⟩]
  n0 := ⟨k1_off123 i, k1_off123_inb i⟩
  n1 := ⟨k1_off126 i, k1_off126_inb i⟩
  nx := none

/-- The lanes of a tile: 0, 1, …, 15. -/
abbrev lanes : IVec S16 32 := iota .scVector S16 32 [0] iota_S16_d0_w32_scVector

/-- The tile program, piece by piece. -/
def tileC (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) : PR F i PUnit :=
  fetchC arg4 harg4 arg6 harg6 v700_r0 <| fetchC arg3 harg3 arg7 harg7 v700_r1 <|
  startC arg2 ⟨k1_off1 i, k1_off1_inb i⟩ arg8 harg8 arg14 <| startC arg2 ⟨k1_off2 i, k1_off2_inb i⟩ arg9 harg9 arg15 <|
  startC arg2 ⟨k1_off3 i, k1_off3_inb i⟩ arg10 harg10 arg16 <| startC arg2 ⟨k1_off4 i, k1_off4_inb i⟩ arg11 harg11 arg17 <|
  let R0 : Ring := ⟨arg8, harg8, arg14, arg9, harg9, arg15, arg10, harg10, arg16, arg11, harg11, arg17⟩
  let R1 : Ring := ⟨arg10, harg10, arg16, arg11, harg11, arg17, arg8, harg8, arg14, arg9, harg9, arg15⟩
  columnC arg2 arg6 arg7 arg12 R0 lanes k1_pay345 k1_pay346 k1_pay348 (colD0 i) 0#32 0#32 k1_chk2 k1_chk2.dec (fun _ h => h) fun k0 y0 =>
  columnC arg2 arg6 arg7 arg12 R1 lanes k1_pay345 k1_pay346 k1_pay348 (colD1 i) 1#32 (blkW k0) (k1_chk44 k0) (k1_chk44.dec k0) (fun _ h => h) fun k1 y1 =>
  columnC arg2 arg6 arg7 arg12 R0 lanes k1_pay345 k1_pay346 k1_pay348 (colD2 i) 2#32 (blkW k1) (k1_chk86 k1) (k1_chk86.dec k1) (fun _ h => h) fun k2 y2 =>
  columnC arg2 arg6 arg7 arg12 R1 lanes k1_pay345 k1_pay346 k1_pay348 (colD3 i) 3#32 (blkW k2) (k1_chk128 k2) (k1_chk128.dec k2) (fun _ h => h) fun _ y3 =>
  .op (.load arg13 (Rect.unit (s := S16) ![0] S16.size inb_S16_S16_0).toLoadRect (View.loadsAt_vmem h_S16)) fun (_ : Vec F S16 .f32) =>
  .op (.store arg13 (Rect.unit (s := S16) ![0] S16.size inb_S16_S16_0)
    (putRes lanes 3#32 y3 <| putRes lanes 2#32 y2 <| putRes lanes 1#32 y1 <| putRes lanes 0#32 y0 (k1_pay347 (F := F)))
    Finset.univ (View.stores_vmem_bits_univ h_S16 rfl) (.inl rfl)) fun _ =>
  .op (.enqueueDma arg13 (.here ((arg5.slice (Rect.unit (s := S32x16) (k1_off137 i) S1x16.size (k1_off137_inb i)) (fun _ => rfl)).squeeze S16 squeezes_S1x16_S16))
    (.dma v700_r2.sem) harg13.wordExact ((View.wordExact_bits rfl).reshape _ _) ⟨Or.inl rfl, trivial⟩) fun _ =>
  .op (.waitDma2 v700_r2.sem arg13 ((arg5.slice (Rect.unit (s := S32x16) (k1_off137 i) S1x16.size (k1_off137_inb i)) (fun _ => rfl)).squeeze S16 squeezes_S1x16_S16)
    harg13.wordExact ((View.wordExact_bits rfl).reshape _ _)) fun _ => .ret ⟨⟩

end Cert.Proof.Sc
-- ==== Proof.ScTileWp.lean ====
/-
  The tile program: from the arrays it reads, its scratch buffers and its row of the result, it leaves the row at the columns' results.
-/
module

public import proofs.«01_k».proof.Proof.ScColumn
public import proofs.«01_k».proof.Proof.ScTileDef

@[expose] public section

noncomputable section

namespace Cert.Proof.Sc

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

theorem colD0_ok (i : grid1.Coords) : (colD0 i).Ok (rowN i 0) where
  n t m := by
    have ht : t.val < 11 := t.isLt
    match m with
    | 0 => exact (k1_off9_eq i t).trans (by simp only [rowN]; rfl)
    | 1 => exact (k1_off12_eq i t).trans (by simp only [rowN]; rfl)
    | 2 => exact (k1_off15_eq i t).trans (by simp only [rowN]; rfl)
    | 3 => exact (k1_off18_eq i t).trans (by simp only [rowN]; rfl)
  n0 := (k1_off21_eq i).trans rfl
  n1 := (k1_off24_eq i).trans rfl
  nx p hp m := by
    cases hp
    match m with
    | 0 => exact (k1_off27_eq i).trans rfl
    | 1 => exact (k1_off30_eq i).trans rfl
    | 2 => exact (k1_off33_eq i).trans rfl
    | 3 => exact (k1_off36_eq i).trans rfl

theorem colD1_ok (i : grid1.Coords) : (colD1 i).Ok (rowN i 1) where
  n t m := by
    have ht : t.val < 11 := t.isLt
    match m with
    | 0 => exact (k1_off43_eq i t).trans (by simp only [rowN]; rfl)
    | 1 => exact (k1_off46_eq i t).trans (by simp only [rowN]; rfl)
    | 2 => exact (k1_off49_eq i t).trans (by simp only [rowN]; rfl)
    | 3 => exact (k1_off52_eq i t).trans (by simp only [rowN]; rfl)
  n0 := (k1_off55_eq i).trans rfl
  n1 := (k1_off58_eq i).trans rfl
  nx p hp m := by
    cases hp
    match m with
    | 0 => exact (k1_off61_eq i).trans rfl
    | 1 => exact (k1_off64_eq i).trans rfl
    | 2 => exact (k1_off67_eq i).trans rfl
    | 3 => exact (k1_off70_eq i).trans rfl

theorem colD2_ok (i : grid1.Coords) : (colD2 i).Ok (rowN i 2) where
  n t m := by
    have ht : t.val < 11 := t.isLt
    match m with
    | 0 => exact (k1_off77_eq i t).trans (by simp only [rowN]; rfl)
    | 1 => exact (k1_off80_eq i t).trans (by simp only [rowN]; rfl)
    | 2 => exact (k1_off83_eq i t).trans (by simp only [rowN]; rfl)
    | 3 => exact (k1_off86_eq i t).trans (by simp only [rowN]; rfl)
  n0 := (k1_off89_eq i).trans rfl
  n1 := (k1_off92_eq i).trans rfl
  nx p hp m := by
    cases hp
    match m with
    | 0 => exact (k1_off95_eq i).trans rfl
    | 1 => exact (k1_off98_eq i).trans rfl
    | 2 => exact (k1_off101_eq i).trans rfl
    | 3 => exact (k1_off104_eq i).trans rfl

theorem colD3_ok (i : grid1.Coords) : (colD3 i).Ok (rowN i 3) where
  n t m := by
    have ht : t.val < 11 := t.isLt
    match m with
    | 0 => exact (k1_off111_eq i t).trans (by simp only [rowN]; rfl)
    | 1 => exact (k1_off114_eq i t).trans (by simp only [rowN]; rfl)
    | 2 => exact (k1_off117_eq i t).trans (by simp only [rowN]; rfl)
    | 3 => exact (k1_off120_eq i t).trans (by simp only [rowN]; rfl)
  n0 := (k1_off123_eq i).trans rfl
  n1 := (k1_off126_eq i).trans rfl
  nx p hp := by cases hp

/-- Every rank-one vector is given by its entries. -/
theorem exists_vec {α : Type} [Inhabited α] {N : ℕ} (X : Shape.Idx ⟨1, ![N]⟩ → α) : ∃ g : ℕ → α, X = vec g := by
  refine ⟨fun n => if h : n < N then X (fun a => ⟨n, by obtain rfl : a = 0 := Subsingleton.elim (α := Fin 1) a 0; exact h⟩) else default, ?_⟩
  funext x
  have hx : (x 0).val < N := (x 0).isLt
  show _ = dite _ _ _
  rw [dif_pos hx]
  congr 1
  funext a
  obtain rfl : a = 0 := Subsingleton.elim (α := Fin 1) a 0
  rfl

/-- The ring as the next column uses it. -/
def Ring.rot (R : Ring) : Ring := ⟨R.b2, R.h2, R.s2, R.b3, R.h3, R.s3, R.b0, R.h0, R.s0, R.b1, R.h1, R.s1⟩

/-- A tile's sixteen lanes out of its four columns' results. -/
def outVec {F : FTy → Type} [FloatOps F] (y : Fin 4 → SCar) : FVec F S16 .f32 :=
  putRes lanes 3#32 (y 3) <| putRes lanes 2#32 (y 2) <| putRes lanes 1#32 (y 1) <| putRes lanes 0#32 (y 0) (k1_pay347 (F := F))

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants)

local notation "𝕄" => MT nD τ sig Ix (Elt F) Name U Lvl

variable (d : Fin nD) (i : grid1.Coords) (bd : Option 𝒱.V)
variable {α : Type} {Q : α → sProp (MT nD τ sig Ix (Elt F) Name U Lvl)}
variable [CountersIn U] [Infinite Name]
variable (A : Bins) (f : Buf (Elt F) (A.view.loc (tid d i))) (ι : Ix) (O : CellTallies nD τ sig Ix) (W : Waits sig Ix)

theorem Slots_rot (R : Ring) (q0 q1 q2 q3 : PosShare TreeShare) (w0 w1 w2 w3 : Option (ℕ → BitVec 32)) :
    (Slots d i A f ι R q0 q1 q2 q3 w2 w3 w0 w1 : sProp 𝕄) ⊢ Slots d i A f ι R.rot q2 q3 q0 q1 w0 w1 w2 w3 := by
  unfold Slots Ring.rot
  iintro ⟨H0, H1, H2, H3⟩
  isplitl [H2]; · iexact H2
  isplitl [H3]; · iexact H3
  isplitl [H0]; · iexact H0
  iexact H1

/-- The tile's buffers and semaphores at rest. -/
def Scratch (arg6 arg7 : Memref sig .scVector .vmem S128 .i32) (arg8 arg9 arg10 arg11 : Buf1) (arg12 : Hist) (arg13 : Memref sig .scVector .vmem S16 .f32)
    (arg14 arg15 arg16 arg17 v700_r0 v700_r1 v700_r2 : DmaSems sig S_) : sProp 𝕄 :=
  iprop((∃ X, owns (tid d i) arg6 fullShare X) ∗ (∃ X, owns (tid d i) arg7 fullShare X) ∗ (∃ X, owns (tid d i) arg8 fullShare X) ∗ (∃ X, owns (tid d i) arg9 fullShare X) ∗ (∃ X, owns (tid d i) arg10 fullShare X) ∗ (∃ X, owns (tid d i) arg11 fullShare X) ∗ (∃ X, owns (tid d i) arg12 fullShare X) ∗ (∃ X, owns (tid d i) arg13 fullShare X)
    ∗ semVal (tid d i, .dma arg14.sem) 0 ∗ semVal (tid d i, .dma arg15.sem) 0 ∗ semVal (tid d i, .dma arg16.sem) 0 ∗ semVal (tid d i, .dma arg17.sem) 0 ∗ semVal (tid d i, .dma v700_r0.sem) 0 ∗ semVal (tid d i, .dma v700_r1.sem) 0 ∗ semVal (tid d i, .dma v700_r2.sem) 0)

/-- A tile's row of the result. -/
abbrev rowM (arg5 : Memref sig .scVector .hbm S32x16 .f32) (i : grid1.Coords) : Memref sig .scVector .hbm S16 .f32 :=
  (arg5.slice (Rect.unit (s := S32x16) (k1_off137 i) S1x16.size (k1_off137_inb i)) (fun _ => rfl)).squeeze S16 squeezes_S1x16_S16

/-- What a tile reads: the bins by four shares, and the two arrays of words. -/
def Reads (A : Bins) (f : Buf (Elt F) (A.view.loc (tid d i))) (arg3 arg4 : Memref sig .scVector .hbm S128 .i32) (q0 q1 q2 q3 p3 p4 : PosShare TreeShare) (cf kf : ℕ → BitVec 32) : sProp 𝕄 :=
  iprop((A.view.loc (tid d i) ↦{q0} f) ∗ (A.view.loc (tid d i) ↦{q1} f) ∗ (A.view.loc (tid d i) ↦{q2} f) ∗ (A.view.loc (tid d i) ↦{q3} f)
    ∗ owns (tid d i) arg3 p3 (vec cf) ∗ owns (tid d i) arg4 p4 (vec kf))

/-- A column's result. -/
def resAt (A : Bins) (f : Buf (Elt F) (A.view.loc (tid d i))) (cf kf : ℕ → BitVec 32) (j : ℕ) : SCar :=
  colRes lanes (fun c => Bw d i A f c (rowN i j)) (kf (rowN i j)) (cf (rowN i j))

/-- The tile program. -/
theorem tileC_wp (harg2 : A.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_)
    (q0 q1 q2 q3 p3 p4 : PosShare TreeShare) (cf kf : ℕ → BitVec 32)
    (hB : ∀ c r x, (Bw d i A f c r x).toNat ≤ 100000) (hkf : ∀ r, (kf r).toNat ≤ 100000) :
    iprop(□ Transfers.MayWaits (tid d i) ι O ∗ Reads d i A f arg3 arg4 q0 q1 q2 q3 p3 p4 cf kf ∗ (∃ X, owns (tid d i) (rowM arg5 i) fullShare X)
        ∗ Scratch d i arg6 arg7 arg8 arg9 arg10 arg11 arg12 arg13 arg14 arg15 arg16 arg17 v700_r0 v700_r1 v700_r2 ∗ Owe d i ι O W : sProp 𝕄)
      ⊢ wp frame (wpE defs 𝒱 (tid d i) bd) Set.univ (tileC (F := F) i A harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2) fun _ =>
        iprop(Reads d i A f arg3 arg4 q0 q1 q2 q3 p3 p4 cf kf
          ∗ owns (tid d i) (rowM arg5 i) fullShare (outVec (F := F) fun j => resAt d i A f cf kf j.val)
          ∗ Scratch d i arg6 arg7 arg8 arg9 arg10 arg11 arg12 arg13 arg14 arg15 arg16 arg17 v700_r0 v700_r1 v700_r2 ∗ Owe d i ι O W) := by
  have hks : ∀ k : BitVec 32, k.toNat ≤ 100000 → blkW k = BitVec.ofNat 32 (k.toNat / 128 + 1) := fun k hk => blkW_eq k (by omega)
  have hk0 := hkf (rowN i 0)
  have hk1 := hkf (rowN i 1)
  have hk2 := hkf (rowN i 2)
  unfold tileC fetchC Reads Scratch Owe
  iintro ⟨#Hmw, ⟨HA0, HA1, HA2, HA3, Hc, Hk⟩, ⟨%X5, Ho⟩, ⟨⟨%X6, H6⟩, ⟨%X7, H7⟩, ⟨%X8, H8⟩, ⟨%X9, H9⟩, ⟨%X10, H10⟩, ⟨%X11, H11⟩, ⟨%X12, H12⟩, ⟨%X13, H13⟩, S14, S15, S16, S17, R0, R1, R2⟩, HO⟩
  iapply (copy_owns (defs := defs) 𝒱 (bd := bd) ι O W (c := tid d i) (src := arg4) (dst := arg6) (by decide)) $$ [Hk H6 R0 HO]
  · isplitr; · iexact Hmw
    isplitl [Hk]; · iexact Hk
    isplitl [H6]; · iexact H6
    isplitl [R0] <;> iassumption
  iintro ⟨Hk, H6, R0, HO⟩
  iapply (copy_owns (defs := defs) 𝒱 (bd := bd) ι O W (c := tid d i) (src := arg3) (dst := arg7) (by decide)) $$ [Hc H7 R1 HO]
  · isplitr; · iexact Hmw
    isplitl [Hc]; · iexact Hc
    isplitl [H7]; · iexact H7
    isplitl [R1] <;> iassumption
  iintro ⟨Hc, H7, R1, HO⟩
  iapply (startC_wp (defs := defs) 𝒱 d i bd A f ι ⟨k1_off1 i, k1_off1_inb i⟩ arg8 harg8 arg14 q0) $$ [HA0 H8 S14]
  · unfold Slot
    isplitl [HA0]; · iexact HA0
    isplitl [H8]; · iexists _; iexact H8
    iexact S14
  iintro L0
  rw [words_eq d i A f ⟨k1_off1 i, k1_off1_inb i⟩ (c := 0) (r := rowN i 0) (k1_off1_eq i)]
  iapply (startC_wp (defs := defs) 𝒱 d i bd A f ι ⟨k1_off2 i, k1_off2_inb i⟩ arg9 harg9 arg15 q1) $$ [HA1 H9 S15]
  · unfold Slot
    isplitl [HA1]; · iexact HA1
    isplitl [H9]; · iexists _; iexact H9
    iexact S15
  iintro L1
  rw [words_eq d i A f ⟨k1_off2 i, k1_off2_inb i⟩ (c := 1) (r := rowN i 0) (k1_off2_eq i)]
  iapply (startC_wp (defs := defs) 𝒱 d i bd A f ι ⟨k1_off3 i, k1_off3_inb i⟩ arg10 harg10 arg16 q2) $$ [HA2 H10 S16]
  · unfold Slot
    isplitl [HA2]; · iexact HA2
    isplitl [H10]; · iexists _; iexact H10
    iexact S16
  iintro L2
  rw [words_eq d i A f ⟨k1_off3 i, k1_off3_inb i⟩ (c := 2) (r := rowN i 0) (k1_off3_eq i)]
  iapply (startC_wp (defs := defs) 𝒱 d i bd A f ι ⟨k1_off4 i, k1_off4_inb i⟩ arg11 harg11 arg17 q3) $$ [HA3 H11 S17]
  · unfold Slot
    isplitl [HA3]; · iexact HA3
    isplitl [H11]; · iexists _; iexact H11
    iexact S17
  iintro L3
  rw [words_eq d i A f ⟨k1_off4 i, k1_off4_inb i⟩ (c := 3) (r := rowN i 0) (k1_off4_eq i)]
  obtain ⟨H, rfl⟩ := exists_vec (α := BitVec 32) X12
  iapply (columnC_wp (defs := defs) 𝒱 d i bd A f ι O W arg6 arg7 kf cf arg12 ⟨arg8, harg8, arg14, arg9, harg9, arg15, arg10, harg10, arg16, arg11, harg11, arg17⟩ q0 q1 q2 q3 lanes k1_pay345 k1_pay346 k1_pay348 rfl rfl rfl
    (colD0 i) 0 (by omega) (colD0_ok i) (fun c x => hB c _ x) (hkf _) 0#32 0 (by omega) rfl k1_chk2 k1_chk2.dec (fun _ h => h) (fun _ h => h)) $$ [L0 L1 L2 L3 H6 H7 H12 HO]
  · isplitr; · iexact Hmw
    isplitl [L0 L1 L2 L3]
    · unfold Slots
      isplitl [L0]; · iexact L0
      isplitl [L1]; · iexact L1
      isplitl [L2]; · iexact L2
      iexact L3
    unfold Mid Owe
    isplitl [H6]; · iexact H6
    isplitl [H7]; · iexact H7
    isplitl [H12]
    · iexists H; isplitr
      · ipureintro; intro n hn; omega
      · iexact H12
    iexact HO
  iintro ⟨HS, HM⟩
  ihave HS := (Slots_rot d i A f ι _ _ _ _ _ _ _ _ _) $$ HS
  iapply (columnC_wp (defs := defs) 𝒱 d i bd A f ι O W arg6 arg7 kf cf arg12 ⟨arg10, harg10, arg16, arg11, harg11, arg17, arg8, harg8, arg14, arg9, harg9, arg15⟩ q2 q3 q0 q1 lanes k1_pay345 k1_pay346 k1_pay348 rfl rfl rfl
    (colD1 i) 1 (by omega) (colD1_ok i) (fun c x => hB c _ x) (hkf _) (blkW (kf (rowN i 0))) ((kf (rowN i 0)).toNat / 128 + 1) (by omega) (hks _ hk0) (k1_chk44 (kf (rowN i 0))) (k1_chk44.dec (kf (rowN i 0))) (fun _ h => h) (fun _ h => h)) $$ [HS HM]
  · isplitr; · iexact Hmw
    isplitl [HS]; · iexact HS
    iexact HM
  iintro ⟨HS, HM⟩
  ihave HS := (Slots_rot d i A f ι _ _ _ _ _ _ _ _ _) $$ HS
  iapply (columnC_wp (defs := defs) 𝒱 d i bd A f ι O W arg6 arg7 kf cf arg12 ⟨arg8, harg8, arg14, arg9, harg9, arg15, arg10, harg10, arg16, arg11, harg11, arg17⟩ q0 q1 q2 q3 lanes k1_pay345 k1_pay346 k1_pay348 rfl rfl rfl
    (colD2 i) 2 (by omega) (colD2_ok i) (fun c x => hB c _ x) (hkf _) (blkW (kf (rowN i 1))) ((kf (rowN i 1)).toNat / 128 + 1) (by omega) (hks _ hk1) (k1_chk86 (kf (rowN i 1))) (k1_chk86.dec (kf (rowN i 1))) (fun _ h => h) (fun _ h => h)) $$ [HS HM]
  · isplitr; · iexact Hmw
    isplitl [HS]; · iexact HS
    iexact HM
  iintro ⟨HS, HM⟩
  ihave HS := (Slots_rot d i A f ι _ _ _ _ _ _ _ _ _) $$ HS
  iapply (columnC_wp (defs := defs) 𝒱 d i bd A f ι O W arg6 arg7 kf cf arg12 ⟨arg10, harg10, arg16, arg11, harg11, arg17, arg8, harg8, arg14, arg9, harg9, arg15⟩ q2 q3 q0 q1 lanes k1_pay345 k1_pay346 k1_pay348 rfl rfl rfl
    (colD3 i) 3 (by omega) (colD3_ok i) (fun c x => hB c _ x) (hkf _) (blkW (kf (rowN i 2))) ((kf (rowN i 2)).toNat / 128 + 1) (by omega) (hks _ hk2) (k1_chk128 (kf (rowN i 2))) (k1_chk128.dec (kf (rowN i 2))) (fun _ h => h) (fun _ h => h)) $$ [HS HM]
  · isplitr; · iexact Hmw
    isplitl [HS]; · iexact HS
    iexact HM
  iintro ⟨HS, HM⟩
  unfold Slots Mid Owe
  icases HS with ⟨L2, L3, L0, L1⟩
  icases HM with ⟨H6, H7, ⟨%Hf, -, H12⟩, HO⟩
  have hn : ∀ m, nextW d i A f (colD3 i) (rowN i 3) m = none := fun _ => rfl
  simp only [hn, Slot]
  icases L0 with ⟨HA0, H8, S14⟩
  icases L1 with ⟨HA1, H9, S15⟩
  icases L2 with ⟨HA2, H10, S16⟩
  icases L3 with ⟨HA3, H11, S17⟩
  iapply (load_owns (defs := defs) 𝒱 (tid d i) bd Set.univ) $$ H13
  iintro H13
  iapply (store_owns (defs := defs) 𝒱 (tid d i) bd Set.univ (X' := outVec (F := F) fun j => resAt d i A f cf kf j.val) ?_ ?_) $$ H13
  case _ =>
    intro j
    refine Eq.trans (congrArg _ ?_) rfl
    funext a
    obtain rfl : a = 0 := Subsingleton.elim (α := Fin 1) a 0
    apply Fin.ext
    refine (Rect.emb_apply _ j (0 : Fin 1)).trans ?_
    show 0 + 1 * (j 0).val = (j 0).val
    omega
  case _ =>
    intro x hx
    refine absurd ?_ (hx x)
    funext a
    obtain rfl : a = 0 := Subsingleton.elim (α := Fin 1) a 0
    apply Fin.ext
    refine (Rect.emb_apply (Rect.unit (s := S16) ![0] S16.size inb_S16_S16_0) x (0 : Fin 1)).trans ?_
    show 0 + 1 * (x 0).val = (x 0).val
    omega
  iintro H13
  iapply (copy_owns (defs := defs) 𝒱 (bd := bd) ι O W (c := tid d i) (src := arg13) (dst := rowM arg5 i) (by decide)) $$ [Ho H13 R2 HO]
  · isplitr; · iexact Hmw
    isplitl [H13]; · iexact H13
    isplitl [Ho]; · iexact Ho
    isplitl [R2] <;> iassumption
  iintro ⟨H13, Ho, R2, HO⟩
  rw [wp_ret]
  imodintro
  isplitl [HA0 HA1 HA2 HA3 Hc Hk]
  · isplitl [HA0]; · iexact HA0
    isplitl [HA1]; · iexact HA1
    isplitl [HA2]; · iexact HA2
    isplitl [HA3]; · iexact HA3
    isplitl [Hc] <;> iassumption
  isplitl [Ho]; · iexact Ho
  isplitr [HO]
  · isplitl [H6]; · iexists _; iexact H6
    isplitl [H7]; · iexists _; iexact H7
    isplitl [H8]; · iexact H8
    isplitl [H9]; · iexact H9
    isplitl [H10]; · iexact H10
    isplitl [H11]; · iexact H11
    isplitl [H12]; · iexists _; iexact H12
    isplitl [H13]; · iexists _; iexact H13
    isplitl [S14]; · iexact S14
    isplitl [S15]; · iexact S15
    isplitl [S16]; · iexact S16
    isplitl [S17]; · iexact S17
    isplitl [R0]; · iexact R0
    isplitl [R1]; · iexact R1
    iexact R2
  iexact HO

end Cert.Proof.Sc
-- ==== Proof.ScLaunch.lean ====
/-
  The second call: what its handshakes carry, its task on one vector subcore, and how the call's arrays split among the tasks.
-/
module

public import proofs.«01_k».proof.Proof.Setup
public import proofs.«01_k».proof.Proof.ScTileWp
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA
open Idealize.SL.BI (sProp bigSep bigSep_congr bigSep_sep' bigSep_univ_of_subsingleton)
open scoped Idealize.SL.BI
open Idealize.SL.BI.BIBase Idealize.SL.BI.Laws Idealize.SL.ProofMode Idealize.SL.Sem
open Idealize.ShloMosaic.Rounds
open Idealize.ShloMosaic.Transfers (dealOf pointsTo_deal)
open Cert.Proof.Sc

variable {F : FTy → Type}

local notation "𝕄" => MT nD τ sig (HIx 1) (Elt F) ℕ UU ℕ

/-- The call's operands and its result as locations of a device. -/
abbrev bLoc (d : Dev nD) : Loc nD τ sig := (SparseCore.T d).loc main_v0_0
abbrev cLoc (d : Dev nD) : Loc nD τ sig := (SparseCore.T d).loc main_v1
abbrev kLoc (d : Dev nD) : Loc nD τ sig := (SparseCore.T d).loc main_v2
abbrev oLoc (d : Dev nD) : Loc nD τ sig := (SparseCore.T d).loc main_v3

/-- The coordinates of a vector subcore of the call. -/
def coordsV (c : Fin 2) (s : Fin 16) : grid1.Coords :=
  fun | 0 => c | 1 => s | ⟨_ + 2, h⟩ => absurd h (Nat.not_lt.2 (Nat.le_add_left _ _))

theorem hdiv : 32 ∣ S32x16.size 0 := ⟨1, rfl⟩
/-- A tile's row of the result. -/
def tileRow (c : Fin 2) (s : Fin 16) : Fin 32 := ⟨16 * c.val + s.val, by omega⟩
abbrev row (i : Fin 32) : Rect S32x16 := Rect.part (s := S32x16) (a₀ := 0) hdiv i
abbrev rowSet (i : Fin 32) : Finset S32x16.Idx := ((Memref.whole main_v3_scv : Memref sig .scVector .hbm S32x16 .f32).view.slice (row i)).set

/-- A SparseCore's share of what every tile reads; a tile's; a copy's. -/
def shC (c : Fin 2) : PosShare TreeShare := dealOf fullShare Finset.univ c
def shT (c : Fin 2) (s : Fin 16) : PosShare TreeShare := dealOf (shC c) Finset.univ s
def shJ (c : Fin 2) (s : Fin 16) (j : Fin 4) : PosShare TreeShare := dealOf (shT c s) Finset.univ j

section Shares
variable (ℓ : Loc nD τ sig) (f : Buf (Elt F) ℓ)

theorem deal_C : (ℓ ↦{fullShare} f : sProp 𝕄) = bigSep Finset.univ fun c : Fin 2 => ℓ ↦{shC c} f :=
  pointsTo_deal Finset.univ ⟨0, Finset.mem_univ _⟩ _
theorem deal_T (c : Fin 2) : (ℓ ↦{shC c} f : sProp 𝕄) = bigSep Finset.univ fun s : Fin 16 => ℓ ↦{shT c s} f :=
  pointsTo_deal Finset.univ ⟨0, Finset.mem_univ _⟩ _
theorem deal_J (c : Fin 2) (s : Fin 16) : (ℓ ↦{shT c s} f : sProp 𝕄)
    = iprop((ℓ ↦{shJ c s 0} f) ∗ (ℓ ↦{shJ c s 1} f) ∗ (ℓ ↦{shJ c s 2} f) ∗ ℓ ↦{shJ c s 3} f) :=
  (pointsTo_deal Finset.univ ⟨(0 : Fin 4), Finset.mem_univ _⟩ _).trans
    (BI.bigSep_univ_eq_bigSepL [(0 : Fin 4), 1, 2, 3] (by decide) (by decide) _)
end Shares

variable [FloatOps F]
variable (m : (ℓ : Loc nD τ sig) → Buf (Elt F) ℓ)
variable (fb : (d : Dev nD) → Buf (Elt F) (bLoc d)) (fc : (d : Dev nD) → Buf (Elt F) (cLoc d)) (fk : (d : Dev nD) → Buf (Elt F) (kLoc d))

/-- The words of a row of counts, by number. -/
def wordsOf (f : IVec S128 32) (n : ℕ) : BitVec 32 := if h : n < 128 then f (fun a => ⟨n, by obtain rfl : a = 0 := Subsingleton.elim (α := Fin 1) a 0; exact h⟩) else 0#32

theorem vec_wordsOf (f : IVec S128 32) : vec (wordsOf f) = f := by
  funext j
  have hj : (j 0).val < 128 := (j 0).isLt
  show wordsOf f (j 0).val = f j
  unfold wordsOf
  rw [dif_pos hj]
  congr 1
  funext a
  obtain rfl : a = 0 := Subsingleton.elim (α := Fin 1) a 0
  rfl

/-- What the call leaves in the result: at each tile's row, the tile's lanes. -/
def tileOut (d : Dev nD) (c : Fin 2) (s : Fin 16) : FVec F S16 .f32 :=
  outVec (F := F) fun j => resAt d (coordsV c s) (Memref.whole main_v0_0_scv) (fb d) (wordsOf (fc d)) (wordsOf (fk d)) j.val
def outF (d : Dev nD) : Buf (Elt F) (oLoc d) := fun x : S32x16.Idx =>
  tileOut fb fc fk d ⟨(x 0).val / 16, by have := (x 0).isLt; simp [S32x16] at this; omega⟩ ⟨(x 0).val % 16, by omega⟩ (Shape.ofLane (d := ![16]) (x 1))

/-- What a SparseCore is handed and hands back; what a tile is. -/
def stP (d : Dev nD) (c : Fin 2) (g : Buf (Elt F) (oLoc d)) : sProp 𝕄 :=
  iprop((bLoc d ↦{shC c} fb d) ∗ (cLoc d ↦{shC c} fc d) ∗ (kLoc d ↦{shC c} fk d)
    ∗ bigSep Finset.univ fun s : Fin 16 => oLoc d ↦[rowSet (tileRow c s)]{fullShare} g)
def goP (d : Dev nD) (c : Fin 2) (s : Fin 16) (g : Buf (Elt F) (oLoc d)) : sProp 𝕄 :=
  iprop((bLoc d ↦{shT c s} fb d) ∗ (cLoc d ↦{shT c s} fc d) ∗ (kLoc d ↦{shT c s} fk d)
    ∗ oLoc d ↦[rowSet (tileRow c s)]{fullShare} g)

instance stP_storable (d : Dev nD) (c : Fin 2) (g : Buf (Elt F) (oLoc d)) : BI.Storable (upEmb : UEmb _ 𝕄) (stP fb fc fk d c g) := by
  unfold stP; infer_instance
instance goP_storable (d : Dev nD) (c : Fin 2) (s : Fin 16) (g : Buf (Elt F) (oLoc d)) : BI.Storable (upEmb : UEmb _ 𝕄) (goP fb fc fk d c s g) := by
  unfold goP; infer_instance

/-- What the handshakes of the call carry. -/
def P : (K (F := F)).Pay (nD := nD) (Val := Elt F) (Name := ℕ) (U := UU) where
  st := fun q d c => match q with | 0 => stP fb fc fk d c (m (oLoc d))
  dn := fun q d c => match q with | 0 => stP fb fc fk d c (outF fb fc fk d)
  go := fun q d c s => match q with | 0 => goP fb fc fk d c s (m (oLoc d))
  td := fun q d c s => match q with | 0 => goP fb fc fk d c s (outF fb fc fk d)
  x := fun _ _ => iprop(emp)

instance P_storable : (P m fb fc fk).IsStorable where
  st q d c := match q with | 0 => stP_storable fb fc fk d c _
  dn q d c := match q with | 0 => stP_storable fb fc fk d c _
  go q d c s := match q with | 0 => goP_storable fb fc fk d c s _
  td q d c s := match q with | 0 => goP_storable fb fc fk d c s _

theorem split_tiles (d : Dev nD) (c : Fin 2) (g : Buf (Elt F) (oLoc d)) :
    (stP fb fc fk d c g : sProp 𝕄) = bigSep Finset.univ fun s : Fin 16 => goP fb fc fk d c s g := by
  unfold stP goP
  rw [bigSep_sep', bigSep_sep', bigSep_sep', ← deal_T, ← deal_T, ← deal_T]

theorem vecSplit : (K (F := F)).VecSplit' (P m fb fc fk) 0 := by
  intro d c
  show (stP fb fc fk d c (m (oLoc d)) : sProp 𝕄) ⊢ |={Set.univ}=> iprop(
      (bigSep Finset.univ fun s : Fin 16 => goP fb fc fk d c s (m (oLoc d)))
      ∗ ((bigSep Finset.univ fun s : Fin 16 => goP fb fc fk d c s (outF fb fc fk d)) -∗ stP fb fc fk d c (outF fb fc fk d)))
  rw [split_tiles, split_tiles]
  iintro H; imodintro
  isplitl [H]; · iexact H
  iintro H; iexact H

/-- The rows are the result. -/
theorem rowSet_eq (i : Fin 32) : rowSet i = (row i).set := by
  show ((View.whole (main_v3_scv : Ref sig .scVector)).slice (row i)).set = _
  rw [View.set_slice]; exact Finset.map_refl
theorem rows_disjoint : ∀ i ∈ (Finset.univ : Finset (Fin 2 × Fin 16)), ∀ j ∈ (Finset.univ : Finset (Fin 2 × Fin 16)), i ≠ j →
    Disjoint (rowSet (tileRow i.1 i.2)) (rowSet (tileRow j.1 j.2)) := fun i _ j _ h => by
  rw [rowSet_eq, rowSet_eq]
  refine Rect.part_disjoint hdiv fun e => h ?_
  have e' : 16 * i.1.val + i.2.val = 16 * j.1.val + j.2.val := congrArg Fin.val e
  have h1 := i.2.isLt
  have h2 := j.2.isLt
  exact Prod.ext (Fin.ext (by omega)) (Fin.ext (by omega))
theorem rows_cover : (Finset.univ : Finset (Fin 2 × Fin 16)).biUnion (fun i => rowSet (tileRow i.1 i.2)) = Finset.univ := by
  refine Finset.eq_univ_of_forall fun x => ?_
  have hx : x ∈ (Finset.univ : Finset (Fin 32)).biUnion (fun i => (row i).set) := by
    rw [Rect.biUnion_part hdiv]; exact Finset.mem_univ _
  obtain ⟨i, -, hi⟩ := Finset.mem_biUnion.mp hx
  have h := i.isLt
  refine Finset.mem_biUnion.mpr ⟨(⟨i.val / 16, by omega⟩, ⟨i.val % 16, by omega⟩), Finset.mem_univ _, ?_⟩
  rw [rowSet_eq, show tileRow (⟨i.val / 16, by omega⟩ : Fin 2) ⟨i.val % 16, by omega⟩ = i from Fin.ext (Nat.div_add_mod _ 16)]
  exact hi
theorem split_rows (d : Dev nD) (g : Buf (Elt F) (oLoc d)) :
    (oLoc d ↦{fullShare} g : sProp 𝕄) = bigSep Finset.univ fun c : Fin 2 => bigSep Finset.univ fun s : Fin 16 => oLoc d ↦[rowSet (tileRow c s)]{fullShare} g := by
  rw [← BI.bigSep_univ_prod (fun i : Fin 2 × Fin 16 => (oLoc d ↦[rowSet (tileRow i.1 i.2)]{fullShare} g : sProp 𝕄)),
    ← pointsTo_biUnion Finset.univ (ℓ := oLoc d) (fun i : Fin 2 × Fin 16 => rowSet (tileRow i.1 i.2)) rows_disjoint, rows_cover]
theorem split_cores (d : Dev nD) (g : Buf (Elt F) (oLoc d)) :
    (bigSep Finset.univ fun c : Fin 2 => stP fb fc fk d c g : sProp 𝕄)
      = iprop((bLoc d ↦{fullShare} fb d) ∗ (cLoc d ↦{fullShare} fc d) ∗ (kLoc d ↦{fullShare} fk d) ∗ oLoc d ↦{fullShare} g) := by
  unfold stP
  rw [bigSep_sep', bigSep_sep', bigSep_sep', ← deal_C, ← deal_C, ← deal_C, ← split_rows]

end Cert.Proof

end
-- ==== Proof.ScTask.lean ====
/-
  The second call's task on one vector subcore, from what the handshake hands it.
-/
module

public import proofs.«01_k».proof.Proof.ScLaunch

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA
open Idealize.SL.BI (sProp bigSep bigSep_congr bigSep_sep' bigSep_univ_of_subsingleton)
open scoped Idealize.SL.BI
open Idealize.SL.BI.BIBase Idealize.SL.BI.Laws Idealize.SL.ProofMode Idealize.SL.Sem
open Idealize.ShloMosaic.Rounds
open Cert.Proof.Sc

variable {F : FTy → Type}

local notation "𝕄" => MT nD τ sig (HIx 1) (Elt F) ℕ UU ℕ

variable (d : Dev nD) (i : grid1.Coords)

/-- One of a tile's cells taken out of those that are left. -/
theorem take_sem {s : Finset (GSem nD τ sig)} (r : SemLoc sig) (h : (tid d i, r) ∈ s) :
    (bigSep s fun g => semVal g 0 : sProp 𝕄) = iprop(semVal (tid d i, r) 0 ∗ bigSep (s.erase (tid d i, r)) fun g => semVal g 0) :=
  SparseCore.bigSep_erase' h

theorem ne_sem {r r' : SemLoc sig} (h : r ≠ r') : ((tid d i, r) : GSem nD τ sig) ≠ (tid d i, r') := fun e => h (congrArg Prod.snd e)

theorem mem_sem {r : SemLoc sig} (h : r.isScoped .scVector = true) : ((tid d i, r) : GSem nD τ sig) ∈ ownCells (tid d i) := mem_ownCells.mpr ⟨rfl, h⟩

/-- A tile's own cells, beside the rest. -/
theorem ownSems0_V : ∃ R : sProp 𝕄, (ownSems0 (tid d i) : sProp 𝕄)
      = iprop(semVal (tid d i, .dma cc1_scratch8.sem) 0 ∗ semVal (tid d i, .dma cc1_scratch9.sem) 0 ∗ semVal (tid d i, .dma cc1_scratch10.sem) 0
          ∗ semVal (tid d i, .dma cc1_scratch11.sem) 0 ∗ semVal (tid d i, .dma cc1_scoped0.sem) 0 ∗ semVal (tid d i, .dma cc1_scoped1.sem) 0
          ∗ semVal (tid d i, .dma cc1_scoped2.sem) 0 ∗ R) := by
  apply Exists.intro
  unfold SparseCore.Cfg.ownSems0
  refine (take_sem d i (.dma cc1_scratch8.sem) ?_).trans (congrArg _ ?_)
  · exact mem_sem d i (by decide)
  refine (take_sem d i (.dma cc1_scratch9.sem) ?_).trans (congrArg _ ?_)
  · iterate 1 refine Finset.mem_erase.mpr ⟨ne_sem d i (by decide), ?_⟩
    exact mem_sem d i (by decide)
  refine (take_sem d i (.dma cc1_scratch10.sem) ?_).trans (congrArg _ ?_)
  · iterate 2 refine Finset.mem_erase.mpr ⟨ne_sem d i (by decide), ?_⟩
    exact mem_sem d i (by decide)
  refine (take_sem d i (.dma cc1_scratch11.sem) ?_).trans (congrArg _ ?_)
  · iterate 3 refine Finset.mem_erase.mpr ⟨ne_sem d i (by decide), ?_⟩
    exact mem_sem d i (by decide)
  refine (take_sem d i (.dma cc1_scoped0.sem) ?_).trans (congrArg _ ?_)
  · iterate 4 refine Finset.mem_erase.mpr ⟨ne_sem d i (by decide), ?_⟩
    exact mem_sem d i (by decide)
  refine (take_sem d i (.dma cc1_scoped1.sem) ?_).trans (congrArg _ ?_)
  · iterate 5 refine Finset.mem_erase.mpr ⟨ne_sem d i (by decide), ?_⟩
    exact mem_sem d i (by decide)
  refine take_sem d i (.dma cc1_scoped2.sem) ?_
  iterate 6 refine Finset.mem_erase.mpr ⟨ne_sem d i (by decide), ?_⟩
  exact mem_sem d i (by decide)

/-- One of a tile's buffers taken out of those that are left. -/
theorem take_buf {s : Finset (DevRef τ sig)} (r : Ref sig .scVector) (h : (tid d i).2.devRef r ∈ s) :
    (bigSep s fun b => iprop(∃ f, ((d, b) : Loc nD τ sig) ↦{fullShare} f) : sProp 𝕄)
      = iprop((∃ f, (tid d i).loc r ↦{fullShare} f) ∗ bigSep (s.erase ((tid d i).2.devRef r)) fun b => iprop(∃ f, ((d, b) : Loc nD τ sig) ↦{fullShare} f)) :=
  SparseCore.bigSep_erase' h

theorem ne_buf {r r' : Ref sig .scVector} (h : r ≠ r') : (tid d i).2.devRef r ≠ (tid d i).2.devRef r' := fun e => h (Proc.devRef_injective _ e)

/-- A tile's own buffers, beside the rest. -/
theorem ownBufs_V : ∃ R : sProp 𝕄, (ownBufs (tid d i) : sProp 𝕄)
      = iprop((∃ f, (tid d i).loc cc1_scratch0 ↦{fullShare} f) ∗ (∃ f, (tid d i).loc cc1_scratch1 ↦{fullShare} f)
          ∗ (∃ f, (tid d i).loc cc1_scratch2 ↦{fullShare} f) ∗ (∃ f, (tid d i).loc cc1_scratch3 ↦{fullShare} f)
          ∗ (∃ f, (tid d i).loc cc1_scratch4 ↦{fullShare} f) ∗ (∃ f, (tid d i).loc cc1_scratch5 ↦{fullShare} f)
          ∗ (∃ f, (tid d i).loc cc1_scratch6 ↦{fullShare} f) ∗ (∃ f, (tid d i).loc cc1_scratch7 ↦{fullShare} f) ∗ R) := by
  apply Exists.intro
  unfold SparseCore.Cfg.ownBufs
  refine (take_buf d i cc1_scratch0 ?_).trans (congrArg _ ?_)
  · exact SparseCore.Cfg.mem_ownRefs_of_owner rfl
  refine (take_buf d i cc1_scratch1 ?_).trans (congrArg _ ?_)
  · iterate 1 refine Finset.mem_erase.mpr ⟨ne_buf d i (by decide), ?_⟩
    exact SparseCore.Cfg.mem_ownRefs_of_owner rfl
  refine (take_buf d i cc1_scratch2 ?_).trans (congrArg _ ?_)
  · iterate 2 refine Finset.mem_erase.mpr ⟨ne_buf d i (by decide), ?_⟩
    exact SparseCore.Cfg.mem_ownRefs_of_owner rfl
  refine (take_buf d i cc1_scratch3 ?_).trans (congrArg _ ?_)
  · iterate 3 refine Finset.mem_erase.mpr ⟨ne_buf d i (by decide), ?_⟩
    exact SparseCore.Cfg.mem_ownRefs_of_owner rfl
  refine (take_buf d i cc1_scratch4 ?_).trans (congrArg _ ?_)
  · iterate 4 refine Finset.mem_erase.mpr ⟨ne_buf d i (by decide), ?_⟩
    exact SparseCore.Cfg.mem_ownRefs_of_owner rfl
  refine (take_buf d i cc1_scratch5 ?_).trans (congrArg _ ?_)
  · iterate 5 refine Finset.mem_erase.mpr ⟨ne_buf d i (by decide), ?_⟩
    exact SparseCore.Cfg.mem_ownRefs_of_owner rfl
  refine (take_buf d i cc1_scratch6 ?_).trans (congrArg _ ?_)
  · iterate 6 refine Finset.mem_erase.mpr ⟨ne_buf d i (by decide), ?_⟩
    exact SparseCore.Cfg.mem_ownRefs_of_owner rfl
  refine (take_buf d i cc1_scratch7 ?_)
  iterate 7 refine Finset.mem_erase.mpr ⟨ne_buf d i (by decide), ?_⟩
  exact SparseCore.Cfg.mem_ownRefs_of_owner rfl

variable [FloatOps F]

/-- A word of the bins the tile reads is a word of the array. -/
theorem Bw_le (f : Buf (Elt F) (bLoc d)) (hf : ∀ x : S50x128x2000.Idx, ((show IVec S50x128x2000 32 from f) x).toNat ≤ 100000) (c r x : ℕ) :
    (Bw d i (Memref.whole main_v0_0_scv) f c r x).toNat ≤ 100000 := by
  unfold Bw
  split
  · unfold words
    split
    · exact hf _
    · exact Nat.zero_le _
  · exact Nat.zero_le _

theorem rowRect_eq : Rect.unit (s := S32x16) (k1_off137 i) S1x16.size (k1_off137_inb i) = row (tileRow (i 0) (i 1)) := by
  unfold row Rect.part Rect.block
  congr 1 <;> funext a
  · rw [k1_off137_eq]
    match a with
    | 0 => simp [Shape.partIx, Shape.partSize, tileRow]
    | 1 => simp [Shape.partIx, Shape.partSize]
  · match a with
    | 0 => simp [Shape.partSize]
    | 1 => simp [Shape.partSize]

theorem rowM_set : (rowM (Memref.whole main_v3_scv) i).view.set = rowSet (tileRow (i 0) (i 1)) := by
  show (((Memref.whole main_v3_scv).view.slice (Rect.unit (s := S32x16) (k1_off137 i) S1x16.size (k1_off137_inb i))).reshape S16
    squeezes_S1x16_S16.numel_eq).set = ((Memref.whole main_v3_scv).view.slice (row (tileRow (i 0) (i 1)))).set
  rw [View.set_reshape]
  exact rowRect_eq i ▸ rfl

/-- Where a tile's lane lies in the result. -/
theorem rowM_emb (j : S16.Idx) : (show S32x16.Idx from (rowM (Memref.whole main_v3_scv) i).view.emb j) 0 = tileRow (i 0) (i 1)
    ∧ ((show S32x16.Idx from (rowM (Memref.whole main_v3_scv) i).view.emb j) 1).val = (j 0).val := by
  have h := Shape.rowMajor_reshapeEquiv squeezes_S1x16_S16.numel_eq j
  rw [Shape.rowMajor_val_two, Shape.rowMajor_val_one] at h
  have h0 : (Shape.reshapeEquiv squeezes_S1x16_S16.numel_eq j 0).val = 0 := by
    have := (Shape.reshapeEquiv squeezes_S1x16_S16.numel_eq j 0).isLt
    exact Nat.lt_one_iff.mp this
  rw [h0, Nat.zero_mul, Nat.zero_add] at h
  have e0 : k1_off137 i 0 = 16 * (i 0).val + (i 1).val := by rw [k1_off137_eq]; rfl
  have e1 : k1_off137 i 1 = 0 := by rw [k1_off137_eq]; rfl
  constructor
  · refine Fin.ext ?_
    show k1_off137 i 0 + 1 * (Shape.reshapeEquiv squeezes_S1x16_S16.numel_eq j 0).val = 16 * (i 0).val + (i 1).val
    rw [h0, e0]; rfl
  · show k1_off137 i 1 + 1 * (Shape.reshapeEquiv squeezes_S1x16_S16.numel_eq j 1).val = _
    rw [e1, h]; omega

variable (fb : (d : Dev nD) → Buf (Elt F) (bLoc d)) (fc : (d : Dev nD) → Buf (Elt F) (cLoc d)) (fk : (d : Dev nD) → Buf (Elt F) (kLoc d))

/-- A tile's row, at what the tile left, is its row of the result. -/
theorem row_out (c : Fin 2) (s : Fin 16) :
    (owns (tid d (coordsV c s)) (rowM (Memref.whole main_v3_scv) (coordsV c s)) fullShare (tileOut fb fc fk d c s) : sProp 𝕄)
      ⊢ oLoc d ↦[rowSet (tileRow c s)]{fullShare} outF fb fc fk d := by
  unfold owns
  iintro ⟨%f, %hf, H⟩
  have he : ((rowM (Memref.whole main_v3_scv) (coordsV c s)).view.loc (tid d (coordsV c s))
        ↦[(rowM (Memref.whole main_v3_scv) (coordsV c s)).view.set]{fullShare} f : sProp 𝕄) = oLoc d ↦[rowSet (tileRow c s)]{fullShare} outF fb fc fk d := by
    rw [rowM_set]
    refine pointsTo_congr fun x hx => ?_
    replace hx : x ∈ rowSet (tileRow (coordsV c s 0) (coordsV c s 1)) := hx
    rw [← rowM_set] at hx
    obtain ⟨j, -, rfl⟩ := Finset.mem_map.mp hx
    obtain ⟨h0, h1⟩ := rowM_emb (coordsV c s) j
    have hr := congrFun hf j
    refine Eq.trans (show _ = (rowM (Memref.whole main_v3_scv) (coordsV c s)).view.read (Elt F) f j from rfl) (hr.trans ?_)
    have h0' := congrArg Fin.val h0
    have h0'' : ((show S32x16.Idx from (rowM (Memref.whole main_v3_scv) (coordsV c s)).view.emb j) 0).val = 16 * c.val + s.val := h0'
    unfold outF
    have hs := s.isLt
    refine congr (congr (congrArg (tileOut fb fc fk d) ?_) ?_) ?_
    · exact Fin.ext (by show c.val = _ / 16; rw [h0'']; omega)
    · exact Fin.ext (by show s.val = _ % 16; rw [h0'']; omega)
    · funext a
      obtain rfl : a = 0 := Subsingleton.elim (α := Fin 1) a 0
      exact Fin.ext h1.symm
  iapply (Entails.of_eq he); iexact H

/-- The task on a tile. -/
theorem tile_body
    (hfb : ∀ (d : Dev nD) (x : S50x128x2000.Idx), ((show IVec S50x128x2000 32 from fb d) x).toNat ≤ 100000)
    (hfk : ∀ (d : Dev nD) (x : S128.Idx), ((show IVec S128 32 from fk d) x).toNat ≤ 100000)
    (g : Buf (Elt F) (oLoc d)) (c : Fin 2) (s : Fin 16)
    (O : CellTallies nD τ sig (HIx 1)) (W : Waits sig (HIx 1)) (hO : ∀ g, O g none = 0) :
    iprop(levAts (K (F := F)).L (K (F := F)).lev ∗ emp ∗ goP fb fc fk d c s g
        ∗ scopedBufs (tid d (coordsV c s)) ∗ scopedSems0 (tid d (coordsV c s)) ∗ owes (tid d (coordsV c s)) O W)
      ⊢ wp frame (wpE (defs₀ (F := F)) 𝒱₀ (tid d (coordsV c s)) none) Set.univ
          (tileC (F := F) (coordsV c s) (Memref.whole main_v0_0_scv) (Memref.isWhole_whole _) (Memref.whole main_v1_scv) (Memref.isWhole_whole _)
            (Memref.whole main_v2_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            cc1_scratch8 cc1_scratch9 cc1_scratch10 cc1_scratch11 cc1_scoped0 cc1_scoped1 cc1_scoped2)
          fun _ => iprop(goP fb fc fk d c s (outF fb fc fk d)
            ∗ scopedBufs (tid d (coordsV c s)) ∗ scopedSems0 (tid d (coordsV c s))
            ∗ ∃ W', ⌜∀ p ∈ W', p ∈ W ∨ p.2 = none ∨ p.2 = some (0 : Fin 1)⌝ ∗ owes (tid d (coordsV c s)) O W') := by
  have hs : (scopedBufs (tid d (coordsV c s)) : sProp 𝕄) = ownBufs (tid d (coordsV c s)) := (K (F := F)).scopedBufs_V facts d _ _
  have hs' : (scopedSems0 (tid d (coordsV c s)) : sProp 𝕄) = ownSems0 (tid d (coordsV c s)) := SparseCore.Cfg.scopedSems0_V (Val := Elt F) d _ _
  obtain ⟨RS, hRS⟩ := ownSems0_V (F := F) d (coordsV c s)
  obtain ⟨RB, hRB⟩ := ownBufs_V (F := F) d (coordsV c s)
  rw [hs, hs', hRS, hRB]
  have hkf : ∀ r, (wordsOf (fk d) r).toNat ≤ 100000 := fun r => by
    unfold wordsOf; split
    · exact hfk d _
    · exact Nat.zero_le _
  have key := tileC_wp (defs := defs₀ (F := F)) (Name := ℕ) (U := UU) (Lvl := ℕ) 𝒱₀ d (coordsV c s) none (Memref.whole main_v0_0_scv) (fb d) (default : HIx 1) O W (Memref.isWhole_whole _)
    (Memref.whole main_v1_scv) (Memref.isWhole_whole _) (Memref.whole main_v2_scv) (Memref.isWhole_whole _) (Memref.whole main_v3_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scoped0 cc1_scoped1 cc1_scoped2
    (shJ c s 0) (shJ c s 1) (shJ c s 2) (shJ c s 3) (shT c s) (shT c s) (wordsOf (fc d)) (wordsOf (fk d))
    (fun c' r x => Bw_le d (coordsV c s) (fb d) (hfb d) c' r x) hkf
  unfold Reads Scratch Owe at key
  rw [vec_wordsOf, vec_wordsOf] at key
  unfold goP
  rw [deal_J]
  refine Entails.trans ?_ ((sep_mono_left key).trans <| wp_wand_r frame (wpE (defs₀ (F := F)) 𝒱₀ (tid d (coordsV c s)) none) Set.univ)
  iintro ⟨#Hlv, -, ⟨⟨HA0, HA1, HA2, HA3⟩, Hc, Hk, Ho⟩, ⟨⟨%f0, H0⟩, ⟨%f1, H1⟩, ⟨%f2, H2⟩, ⟨%f3, H3⟩, ⟨%f4, H4⟩, ⟨%f5, H5⟩, ⟨%f6, H6⟩, ⟨%f7, H7⟩, HB⟩,
    ⟨S0, S1, S2, S3, S4, S5, S6, HS⟩, HO⟩
  ihave Hmw := (show levAts (K (F := F)).L (K (F := F)).lev ⊢ Transfers.MayWaits (tid d (coordsV c s)) (default : HIx 1) O from
    (K (F := F)).mayWaits_none (thr := tid d (coordsV c s)) hO) $$ Hlv
  isplitl [HA0 HA1 HA2 HA3 Hc Hk Ho H0 H1 H2 H3 H4 H5 H6 H7 S0 S1 S2 S3 S4 S5 S6 HO]
  · dsimp only
    isplitr; · imodintro; iexact Hmw
    isplitl [HA0 HA1 HA2 HA3 Hc Hk]
    · isplitl [HA0]; · iexact HA0
      isplitl [HA1]; · iexact HA1
      isplitl [HA2]; · iexact HA2
      isplitl [HA3]; · iexact HA3
      isplitl [Hc]
      · iapply (Entails.of_eq (owns_whole (tid d (coordsV c s)) main_v1_scv (shT c s) (fc d)).symm); iexact Hc
      · iapply (Entails.of_eq (owns_whole (tid d (coordsV c s)) main_v2_scv (shT c s) (fk d)).symm); iexact Hk
    isplitl [Ho]
    · iexists _
      iapply (owns_intro (tid d (coordsV c s)) (rowM (Memref.whole main_v3_scv) (coordsV c s)) fullShare g)
      iapply (Entails.of_eq (congrArg (fun X => (oLoc d ↦[X]{fullShare} g : sProp 𝕄)) (rowM_set (coordsV c s)).symm)); iexact Ho
    isplitl [H0 H1 H2 H3 H4 H5 H6 H7 S0 S1 S2 S3 S4 S5 S6]
    · isplitl [H0]; · iexists f0; iapply (Entails.of_eq (owns_whole (tid d (coordsV c s)) cc1_scratch0 fullShare f0).symm); iexact H0
      isplitl [H1]; · iexists f1; iapply (Entails.of_eq (owns_whole (tid d (coordsV c s)) cc1_scratch1 fullShare f1).symm); iexact H1
      isplitl [H2]; · iexists f2; iapply (Entails.of_eq (owns_whole (tid d (coordsV c s)) cc1_scratch2 fullShare f2).symm); iexact H2
      isplitl [H3]; · iexists f3; iapply (Entails.of_eq (owns_whole (tid d (coordsV c s)) cc1_scratch3 fullShare f3).symm); iexact H3
      isplitl [H4]; · iexists f4; iapply (Entails.of_eq (owns_whole (tid d (coordsV c s)) cc1_scratch4 fullShare f4).symm); iexact H4
      isplitl [H5]; · iexists f5; iapply (Entails.of_eq (owns_whole (tid d (coordsV c s)) cc1_scratch5 fullShare f5).symm); iexact H5
      isplitl [H6]; · iexists f6; iapply (Entails.of_eq (owns_whole (tid d (coordsV c s)) cc1_scratch6 fullShare f6).symm); iexact H6
      isplitl [H7]; · iexists f7; iapply (Entails.of_eq (owns_whole (tid d (coordsV c s)) cc1_scratch7 fullShare f7).symm); iexact H7
      isplitl [S0]; · iexact S0
      isplitl [S1]; · iexact S1
      isplitl [S2]; · iexact S2
      isplitl [S3]; · iexact S3
      isplitl [S4]; · iexact S4
      isplitl [S5]; · iexact S5
      iexact S6
    iexists W
    isplitr; · ipureintro; exact fun p hp => .inl hp
    iexact HO
  iintro %_ ⟨⟨HA0, HA1, HA2, HA3, Hc, Hk⟩, Ho, ⟨⟨%f0, H0⟩, ⟨%f1, H1⟩, ⟨%f2, H2⟩, ⟨%f3, H3⟩, ⟨%f4, H4⟩, ⟨%f5, H5⟩, ⟨%f6, H6⟩, ⟨%f7, H7⟩,
    S0, S1, S2, S3, S4, S5, S6⟩, ⟨%W', %hW', HO⟩⟩
  isplitl [HA0 HA1 HA2 HA3 Hc Hk Ho]
  · isplitl [HA0 HA1 HA2 HA3]
    · isplitl [HA0]; · iexact HA0
      isplitl [HA1]; · iexact HA1
      isplitl [HA2]; · iexact HA2
      iexact HA3
    isplitl [Hc]
    · iapply (Entails.of_eq (owns_whole (tid d (coordsV c s)) main_v1_scv (shT c s) (fc d))); iexact Hc
    isplitl [Hk]
    · iapply (Entails.of_eq (owns_whole (tid d (coordsV c s)) main_v2_scv (shT c s) (fk d))); iexact Hk
    iapply (row_out d fb fc fk c s); iexact Ho
  isplitl [H0 H1 H2 H3 H4 H5 H6 H7 HB]
  · isplitl [H0]; · iexists f0; iapply (Entails.of_eq (owns_whole (tid d (coordsV c s)) cc1_scratch0 fullShare f0)); iexact H0
    isplitl [H1]; · iexists f1; iapply (Entails.of_eq (owns_whole (tid d (coordsV c s)) cc1_scratch1 fullShare f1)); iexact H1
    isplitl [H2]; · iexists f2; iapply (Entails.of_eq (owns_whole (tid d (coordsV c s)) cc1_scratch2 fullShare f2)); iexact H2
    isplitl [H3]; · iexists f3; iapply (Entails.of_eq (owns_whole (tid d (coordsV c s)) cc1_scratch3 fullShare f3)); iexact H3
    isplitl [H4]; · iexists f4; iapply (Entails.of_eq (owns_whole (tid d (coordsV c s)) cc1_scratch4 fullShare f4)); iexact H4
    isplitl [H5]; · iexists f5; iapply (Entails.of_eq (owns_whole (tid d (coordsV c s)) cc1_scratch5 fullShare f5)); iexact H5
    isplitl [H6]; · iexists f6; iapply (Entails.of_eq (owns_whole (tid d (coordsV c s)) cc1_scratch6 fullShare f6)); iexact H6
    isplitl [H7]; · iexists f7; iapply (Entails.of_eq (owns_whole (tid d (coordsV c s)) cc1_scratch7 fullShare f7)); iexact H7
    iexact HB
  isplitl [S0 S1 S2 S3 S4 S5 S6 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact HS
  iexists W'
  isplitr
  · ipureintro; exact fun p hp => (hW' p hp).imp_right .inl
  iexact HO

end Cert.Proof

end
-- ==== Proof.ScScan.lean ====
/-
  The four histogram scans as printed are `scanTrip`.
-/
module

public import proofs.«01_k».proof.Proof.ScTileDef

@[expose] public section

noncomputable section

namespace Cert.Proof.Sc

open Idealize.ShloMosaic Idealize.SL.Sem
open Cert.KernelIdeal Cert.KernelIdeal.Gen

variable {F : FTy → Type} [FloatOps F]

set_option maxRecDepth 65536 in
set_option maxHeartbeats 40000000 in
/-- One trip of the scan over the histogram of this tile's row, as printed. -/
theorem scan_eq14 (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) (arg0 : BitVec 32) (arg1 : BitVec 32) (v0 : IVec S16 32) (v1 : IVec S16 32) (v2 : IVec S16 32) (v4 : IVec S16 32) (v42 : Vec F S16 .i32) (v43 : Vec F S16 .i32) (v49 : BitVec 32) (k1_hw2 : k1_chk2 v49) (v67 : BitVec 32) (v170 : Vec F S16 .i32) (v171 : IVec S16 1) (v172 : Vec F S16 .i32) (v173 : IVec S16 1) (hok) (hin) (t) (x) : k1_t14_body i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 arg0 arg1 v0 v1 v2 v4 v42 v43 v49 k1_hw2 v67 v170 v171 v172 v173 t x = scanTrip arg12 v1 v43 v0 ⟨0#32, blkW v49, hok, hin⟩ t x := by
  delta k1_t14_body
  simp only [k1_part3_eq_skeleton, k1_part4_eq_skeleton, k1_part5_eq_skeleton, k1_part6_eq_skeleton, k1_part7_eq_skeleton]
  delta k1_part3_skel k1_part4_skel k1_part5_skel k1_part6_skel k1_part7_skel
  simp only [Prog.bind, bind, pure, Prog.lift]
  (iterate 24 (refine op_eq fun _ => ?_))
  refine congrArg Prog.ret ?_
  as_aux_lemma => rfl

set_option maxRecDepth 65536 in
set_option maxHeartbeats 40000000 in
/-- One trip of the scan over the histogram of this tile's row, as printed. -/
theorem scan_eq29 (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) (arg0 : BitVec 32) (arg1 : BitVec 32) (v0 : IVec S16 32) (v1 : IVec S16 32) (v2 : IVec S16 32) (v4 : IVec S16 32) (v49 : BitVec 32) (v209 : FVec F S16 .f32) (v215 : Vec F S16 .i32) (v216 : Vec F S16 .i32) (v222 : BitVec 32) (k1_hw44 : k1_chk44 v49 v222) (v240 : BitVec 32) (v349_0 : Vec F S16 .i32) (v349_1 : IVec S16 1) (v349_2 : Vec F S16 .i32) (v349_3 : IVec S16 1) (v349_4 : Vec F S16 .i32) (k1_hw84 : k1_chk84 v349_4) (k1_hw83 : k1_chk83 v349_2) (k1_hw82 : k1_chk82 v349_0) (hok) (hin) (t) (x) : k1_t29_body i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 arg0 arg1 v0 v1 v2 v4 v49 v209 v215 v216 v222 k1_hw44 v240 v349_0 v349_1 v349_2 v349_3 v349_4 k1_hw84 k1_hw83 k1_hw82 t x = scanTrip arg12 v1 v216 v0 ⟨0#32, blkW v222, hok, hin⟩ t x := by
  delta k1_t29_body
  simp only [k1_part15_eq_skeleton, k1_part16_eq_skeleton, k1_part17_eq_skeleton, k1_part18_eq_skeleton, k1_part19_eq_skeleton]
  delta k1_part15_skel k1_part16_skel k1_part17_skel k1_part18_skel k1_part19_skel
  simp only [Prog.bind, bind, pure, Prog.lift]
  (iterate 24 (refine op_eq fun _ => ?_))
  refine congrArg Prog.ret ?_
  as_aux_lemma => rfl

set_option maxRecDepth 65536 in
set_option maxHeartbeats 40000000 in
/-- One trip of the scan over the histogram of this tile's row, as printed. -/
theorem scan_eq44 (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) (arg0 : BitVec 32) (arg1 : BitVec 32) (v0 : IVec S16 32) (v1 : IVec S16 32) (v4 : IVec S16 32) (v222 : BitVec 32) (v382 : FVec F S16 .f32) (v389 : Vec F S16 .i32) (v395 : BitVec 32) (k1_hw86 : k1_chk86 v222 v395) (v413 : BitVec 32) (hok) (hin) (t) (x) : k1_t44_body i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 arg0 arg1 v0 v1 v4 v222 v382 v389 v395 k1_hw86 v413 t x = scanTrip arg12 v1 v389 v0 ⟨0#32, blkW v395, hok, hin⟩ t x := by
  delta k1_t44_body
  simp only [k1_part27_eq_skeleton, k1_part28_eq_skeleton, k1_part29_eq_skeleton, k1_part30_eq_skeleton, k1_part31_eq_skeleton]
  delta k1_part27_skel k1_part28_skel k1_part29_skel k1_part30_skel k1_part31_skel
  simp only [Prog.bind, bind, pure, Prog.lift]
  (iterate 24 (refine op_eq fun _ => ?_))
  refine congrArg Prog.ret ?_
  as_aux_lemma => rfl

set_option maxRecDepth 65536 in
set_option maxHeartbeats 40000000 in
/-- One trip of the scan over the histogram of this tile's row, as printed. -/
theorem scan_eq59 (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) (v0 : IVec S16 32) (v1 : IVec S16 32) (v395 : BitVec 32) (v562 : Vec F S16 .i32) (v568 : BitVec 32) (k1_hw128 : k1_chk128 v395 v568)  (hok) (hin) (t) (x) : k1_t59_body i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 v0 v1 v395 v562 v568 k1_hw128 1073741824#32 0#32 t x = scanTrip arg12 v1 v562 v0 ⟨0#32, blkW v568, hok, hin⟩ t x := by
  delta k1_t59_body
  simp only [k1_part39_eq_skeleton, k1_part40_eq_skeleton, k1_part41_eq_skeleton, k1_part42_eq_skeleton, k1_part43_eq_skeleton]
  delta k1_part39_skel k1_part40_skel k1_part41_skel k1_part42_skel k1_part43_skel
  simp only [Prog.bind, bind, pure, Prog.lift]
  (iterate 24 (refine op_eq fun _ => ?_))
  refine congrArg Prog.ret ?_
  as_aux_lemma => rfl

end Cert.Proof.Sc
-- ==== Proof.ScTile.lean ====
/-
  The printed tile program is `tileC`, step by step.
-/
module

public import proofs.«01_k».proof.Proof.ScScan

@[expose] public section

noncomputable section

namespace Cert.Proof.Sc

open Idealize.ShloMosaic Idealize.SL.Sem
open Cert.KernelIdeal Cert.KernelIdeal.Gen

variable {F : FTy → Type} [FloatOps F]

attribute [local irreducible] k1_t14_body k1_t29_body k1_t44_body k1_t59_body

theorem ret_end {E : Type → Type} {α β : Type} {x : β} {g : β → α} {y : α} (h : g x = y) :
    ((Prog.ret x : Prog E β).bind fun v => pure (g v)) = Prog.ret y := congrArg Prog.ret h

set_option maxRecDepth 65536 in
set_option maxHeartbeats 40000000 in
/-- The printed tile program is `tileC`. -/
theorem body_eq (i : grid1.Coords) (arg2 : Memref sig .scVector .hbm S50x128x2000 .i32) (harg2 : arg2.IsWhole) (arg3 : Memref sig .scVector .hbm S128 .i32) (harg3 : arg3.IsWhole) (arg4 : Memref sig .scVector .hbm S128 .i32) (harg4 : arg4.IsWhole) (arg5 : Memref sig .scVector .hbm S32x16 .f32) (harg5 : arg5.IsWhole) (arg6 : Memref sig .scVector .vmem S128 .i32) (harg6 : arg6.IsWhole) (arg7 : Memref sig .scVector .vmem S128 .i32) (harg7 : arg7.IsWhole) (arg8 : Memref sig .scVector .vmem S2000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S100096 .i32) (harg12 : arg12.IsWhole) (arg13 : Memref sig .scVector .vmem S16 .f32) (harg13 : arg13.IsWhole) (arg14 : DmaSems sig S_) (arg15 : DmaSems sig S_) (arg16 : DmaSems sig S_) (arg17 : DmaSems sig S_) (v700_r0 : DmaSems sig S_) (v700_r1 : DmaSems sig S_) (v700_r2 : DmaSems sig S_) :
    cc1__sc_body (F := F) i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 = tileC i arg2 harg2 arg3 harg3 arg4 harg4 arg5 harg5 arg6 harg6 arg7 harg7 arg8 harg8 arg9 harg9 arg10 harg10 arg11 harg11 arg12 harg12 arg13 harg13 arg14 arg15 arg16 arg17 v700_r0 v700_r1 v700_r2 := by
  rw [cc1__sc_body_eq_skeleton]
  delta cc1__sc_body_skel
  rw [k1_part72_eq_skeleton]
  delta k1_part72_skel tileC fetchC
  rw [k1_part55_eq_skeleton, k1_part61_eq_skeleton, k1_part67_eq_skeleton]
  refine assoc_eq ?_
  rw [k1_part49_eq_skeleton]
  delta k1_part49_skel
  refine assoc_eq ?_
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  iterate 40 (try (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl))))))))))
  as_aux_lemma =>
  repeat (first | refine op_eq fun _ => ?_ | refine assoc_eq ?_ | refine rem_eq _ _ rfl ?_ | (refine bind_eq (for_eq fun _ _ => ?_) fun _ => ?_; on_goal 1 => as_aux_lemma => (first | (exact scan_eq14 ..) | (exact scan_eq29 ..) | (exact scan_eq44 ..) | (exact scan_eq59 ..) | ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => (first | (with_reducible refine ret_end ?_; with_reducible rfl) | (iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((iterate 12 (try (first | refine op_eq fun _ => ?_ | refine assoc_eq ?_ | (refine bind_eq (for_eq fun _ _ => ?_) fun _ => ?_; on_goal 1 => as_aux_lemma => ((repeat' first | refine op_eq fun _ => ?_ | refine assoc_eq ?_ | refine bind_eq (for_eq fun _ _ => ?_) fun _ => ?_) <;> rfl))))); as_aux_lemma => ((repeat' first | refine op_eq fun _ => ?_ | refine assoc_eq ?_ | refine bind_eq (for_eq fun _ _ => ?_) fun _ => ?_) <;> rfl)))))))))
  all_goals rfl

end Cert.Proof.Sc
-- ==== Proof.ScObl.lean ====
/-
  The second call's obligation on the vector subcores.
-/
module

public import proofs.«01_k».proof.Proof.ScTask
public import proofs.«01_k».proof.Proof.ScTile

@[expose] public section

noncomputable section

namespace Cert.Proof

open Cert.KernelIdeal Cert.KernelIdeal.Gen
open Idealize.ShloMosaic
open Idealize.ShloMosaic.SparseCore (S V)
open Idealize.ShloMosaic.SparseCore.Cfg (HIx Pay)
open Idealize.SL Idealize.SL.RA
open Idealize.SL.BI (sProp bigSep)
open scoped Idealize.SL.BI
open Idealize.SL.BI.BIBase Idealize.SL.BI.Laws Idealize.SL.ProofMode Idealize.SL.Sem
open Cert.Proof.Sc

variable {F : FTy → Type} [FloatOps F]

theorem defs₀_vector (c : Fin τ.nSC) (s : Fin τ.nSub) :
    defs₀ (F := F) (.scVector c s) 1 ()
      = SparseCore.onTile hcore1 hsub1 (fun c s => cc1__sc_body (coordsV c s)
            (Memref.whole main_v0_0_scv) (Memref.isWhole_whole _) (Memref.whole main_v1_scv) (Memref.isWhole_whole _)
            (Memref.whole main_v2_scv) (Memref.isWhole_whole _) (Memref.whole main_v3_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            cc1_scratch8 cc1_scratch9 cc1_scratch10 cc1_scratch11 cc1_scoped0 cc1_scoped1 cc1_scoped2) ⟨⟩ c s := rfl

variable (m : (ℓ : Loc nD τ sig) → Buf (Elt F) ℓ)
variable (fb : (d : Dev nD) → Buf (Elt F) (bLoc d)) (fc : (d : Dev nD) → Buf (Elt F) (cLoc d)) (fk : (d : Dev nD) → Buf (Elt F) (kLoc d))

theorem tileObl
    (hfb : ∀ (d : Dev nD) (x : S50x128x2000.Idx), ((show IVec S50x128x2000 32 from fb d) x).toNat ≤ 100000)
    (hfk : ∀ (d : Dev nD) (x : S128.Idx), ((show IVec S128 32 from fk d) x).toNat ≤ 100000) :
    (K (F := F)).TileObl (D (F := F)) 𝒱 (P m fb fc fk) v₀ 0 := by
  intro d c i O W hO _ _
  simp only [show (P m fb fc fk).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_body d fb fc fk hfb hfk (m (oLoc d)) ⟨_, hci.1⟩ ⟨_, hci.2⟩ O W hO

end Cert.Proof

end
-- ==== Proof.Run.lean ====
/-
  The program's run: the launch element, @main on a device, and what the run leaves.
-/
module

public import proofs.«01_k».proof.Proof.TcRun
public import proofs.«01_k».proof.Proof.ScObl

@[expose] public section

noncomputable section

namespace Cert.Proof

open Cert.KernelIdeal Cert.KernelIdeal.Gen
open Idealize.ShloMosaic Idealize.ShloMosaic.TcCoe
open Idealize.ShloMosaic.SparseCore (S V)
open Idealize.ShloMosaic.SparseCore.Cfg (HIx Pay)
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What the first call leaves in its three results. -/
def fb (d : Dev nD) : Buf (Elt F) (bLoc d) := (dats m 0 d).arrAt (2 : Fin 5) cfg0.N
def gc (d : Dev nD) : IVec S1x128 32 := (dats m 0 d).arrAt (3 : Fin 5) cfg0.N
def gk (d : Dev nD) : IVec S1x128 32 := (dats m 0 d).arrAt (4 : Fin 5) cfg0.N
/-- The two rows of counts as the second call takes them. -/
def fc (d : Dev nD) : Buf (Elt F) (cLoc d) := (shapeCast S128 (gc m d) shapeCasts_S1x128_S128 : IVec S128 32)
def fk (d : Dev nD) : Buf (Elt F) (kLoc d) := (shapeCast S128 (gk m d) shapeCasts_S1x128_S128 : IVec S128 32)
/-- What the second call leaves, sliced; the result. -/
def oS (d : Dev nD) : FVec F S32x4 .f32 :=
  extractStridedSlice S32x4 ![0, 0] (outF (fb m) (fc m) (fk m) d : FVec F S32x16 .f32) slices_S32x16_S32x4_0_0
def res (d : Dev nD) : FVec F S128 .f32 := shapeCast S128 (oS m d) shapeCasts_S32x4_S128

/-! ## The launch element -/

def u₀ : UU := (initOf (K (F := F)).hsCells (K (F := F)).hsToks, (initOf (Pipeline.cells (nD := nD) (τ := τ) cfgs cellOf_inj) (Pipeline.launchToks (nD := nD) (τ := τ) cfgs cellOf_inj), 1))

/-- A device's part of the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

abbrev PP := P m (fb m) (fc m) (fk m)

theorem emp_all {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) ((initOf (Pipeline.cells (nD := nD) (τ := τ) cfgs cellOf_inj) (Pipeline.launchToks (nD := nD) (τ := τ) cfgs cellOf_inj), 1) : UP × Counters)) $$ Hu
  icases H with ⟨HH, HP⟩
  ihave HP := (own_pair_emb embR (initOf (Pipeline.cells (nD := nD) (τ := τ) cfgs cellOf_inj) (Pipeline.launchToks (nD := nD) (τ := τ) cfgs cellOf_inj)) (1 : Counters)) $$ HP
  icases HP with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [BI.bigSep_sep']
    have hg : (bigSep Finset.univ fun c : Dev nD => bigSep Finset.univ fun p : Fin 1 => Pipeline.cellsGhost (Pipeline.pin (pcfgs (F := F)) adm) EP p c : sProp 𝕄)
        ⊢ bigSep Finset.univ fun c : Dev nD => Pipeline.cellsGhost (Pipeline.pin (pcfgs (F := F)) adm) EP 0 c :=
      BI.bigSep_mono fun c _ => BI.bigSep_elim (Finset.mem_univ (0 : Fin 1))
    have ht : (bigSep Finset.univ fun c : Dev nD => bigSep Finset.univ fun p : Fin 1 => Pipeline.toksInit (Pipeline.pin (pcfgs (F := F)) adm) EP p c : sProp 𝕄)
        ⊢ bigSep Finset.univ fun c : Dev nD => Pipeline.toksInit (Pipeline.pin (pcfgs (F := F)) adm) EP 0 c :=
      BI.bigSep_mono fun c _ => BI.bigSep_elim (Finset.mem_univ (0 : Fin 1))
    isplitl [Hg]
    · iapply hg $$ Hg
    · iapply ht $$ Ht
  rw [show (bigSep Finset.univ fun thr : Thread nD τ => bigSep Finset.univ fun q : Fin 1 => (PP m).x q thr) = bigSep Finset.univ fun _ => iprop(emp) from
    BI.bigSep_congr fun _ _ => BI.bigSep_univ_of_subsingleton (0 : Fin 1), emp_all]
  iempintro

/-! ## @main's host operations -/

include m in
/-- A host operation of one operand, at the operand's and the result's buffers. -/
theorem wp_un (d : Dev nD) (op : HloOp τ sig (Elt F)) (x y : Ref sig .tc) (hxy : x ≠ y)
    (hb : op.bufs ⊆ {Proc.devRef (τ := τ) .tc x, Proc.devRef (τ := τ) .tc y}) (hf : op.fresh = ∅)
    (f : (Proc.devRef (τ := τ) .tc x).ty.Contents (Elt F)) (g g' : (Proc.devRef (τ := τ) .tc y).ty.Contents (Elt F))
    (hx : ∀ V : Valuation τ sig (Elt F), op.result V (Proc.devRef .tc x) = V (Proc.devRef .tc x))
    (hy : ∀ V : Valuation τ sig (Elt F), V (Proc.devRef .tc x) = f → op.result V (Proc.devRef .tc y) = g')
    (Q : PUnit → sProp 𝕄) :
    iprop(boundary (SparseCore.T d : Thread nD τ) ∗ ((SparseCore.T d : Thread nD τ).loc x ↦{fullShare} f) ∗ ((SparseCore.T d : Thread nD τ).loc y ↦{fullShare} g)
        ∗ ((boundary (SparseCore.T d : Thread nD τ) ∗ ((SparseCore.T d : Thread nD τ).loc x ↦{fullShare} f) ∗ ((SparseCore.T d : Thread nD τ).loc y ↦{fullShare} g')) -∗ Q ⟨⟩))
      ⊢ wp frame (wpE ((K (F := F)).defs (D (F := F))) 𝒱 (SparseCore.T d) none) Set.univ (hlo rfl op (fun _ => .ret ⟨⟩)) Q := by
  have hne : Proc.devRef (τ := τ) .tc x ≠ Proc.devRef (τ := τ) .tc y := fun h => hxy (Proc.devRef_injective _ h)
  let V : Valuation τ sig (Elt F) := Function.update (Function.update (fun b => m (d, b)) (Proc.devRef .tc x) f) (Proc.devRef .tc y) g
  have hVx : V (Proc.devRef .tc x) = f := by
    show Function.update _ _ _ _ = _
    rw [Function.update_of_ne hne, Function.update_self]
  have hVy : V (Proc.devRef .tc y) = g := Function.update_self ..
  have hheld : ∀ W : Valuation τ sig (Elt F), (StableHlo.held (SparseCore.T d : Thread nD τ) {Proc.devRef (τ := τ) .tc x, Proc.devRef (τ := τ) .tc y} W : sProp 𝕄)
      = iprop(((SparseCore.T d : Thread nD τ).loc x ↦{fullShare} W (Proc.devRef .tc x)) ∗ ((SparseCore.T d : Thread nD τ).loc y ↦{fullShare} W (Proc.devRef .tc y))) := by
    intro W
    unfold StableHlo.held
    rw [SparseCore.bigSep_insert' (by rw [Finset.mem_singleton]; exact hne), BI.bigSep_singleton]
  have key := StableHlo.wp_hlo_within (c := (SparseCore.T d : Thread nD τ)) (defs := (K (F := F)).defs (D (F := F))) (𝒱 := 𝒱) (bd := none) (E := Set.univ)
    (hp := rfl) (op := op) (k := fun _ => .ret ⟨⟩) hb (V := V) (Q := Q) hf
  rw [hheld, hheld, hx, hy V hVx, hVx, hVy] at key
  iintro ⟨Hb, Hx, Hy, Hk⟩
  iapply key $$ [Hb Hx Hy]
  · isplitl [Hb]; · iexact Hb
    isplitl [Hx]; · iexact Hx
    iexact Hy
  iintro H
  rw [wp_ret]
  imodintro
  iapply Hk $$ H

include m in
theorem wp_reshape (d : Dev nD) (x y : Ref sig .tc) (hxy : x ≠ y) (he : x.ty.elt = y.ty.elt) (hn : x.ty.shape.ShapeCasts y.ty.shape) (hx hy)
    (f : (Proc.devRef (τ := τ) .tc x).ty.Contents (Elt F)) (g : (Proc.devRef (τ := τ) .tc y).ty.Contents (Elt F)) (Q : PUnit → sProp 𝕄) :
    iprop(boundary (SparseCore.T d : Thread nD τ) ∗ ((SparseCore.T d : Thread nD τ).loc x ↦{fullShare} f) ∗ ((SparseCore.T d : Thread nD τ).loc y ↦{fullShare} g)
        ∗ ((boundary (SparseCore.T d : Thread nD τ) ∗ ((SparseCore.T d : Thread nD τ).loc x ↦{fullShare} f) ∗ ((SparseCore.T d : Thread nD τ).loc y ↦{fullShare} (fun i => he ▸ shapeCast y.ty.shape f hn i : (Proc.devRef (τ := τ) .tc y).ty.Contents (Elt F)))) -∗ Q ⟨⟩))
      ⊢ wp frame (wpE ((K (F := F)).defs (D (F := F))) 𝒱 (SparseCore.T d) none) Set.univ (hlo rfl (StableHlo.reshape x y he hn hx hy) (fun _ => .ret ⟨⟩)) Q :=
  wp_un m d _ x y hxy (StableHlo.reshape_bufs .. ▸ Finset.Subset.refl _) rfl f g _
    (fun V => StableHlo.reshape_result_ne (F := V) (h := hxy) ..)
    (fun V h => by rw [StableHlo.reshape_result, h]) Q

include m in
theorem wp_unary (d : Dev nD) (x y : Ref sig .tc) (hxy : x ≠ y) (p : x.ty.Contents (Elt F) → y.ty.Contents (Elt F)) (hx hy)
    (f : (Proc.devRef (τ := τ) .tc x).ty.Contents (Elt F)) (g : (Proc.devRef (τ := τ) .tc y).ty.Contents (Elt F)) (Q : PUnit → sProp 𝕄) :
    iprop(boundary (SparseCore.T d : Thread nD τ) ∗ ((SparseCore.T d : Thread nD τ).loc x ↦{fullShare} f) ∗ ((SparseCore.T d : Thread nD τ).loc y ↦{fullShare} g)
        ∗ ((boundary (SparseCore.T d : Thread nD τ) ∗ ((SparseCore.T d : Thread nD τ).loc x ↦{fullShare} f) ∗ ((SparseCore.T d : Thread nD τ).loc y ↦{fullShare} (p f : (Proc.devRef (τ := τ) .tc y).ty.Contents (Elt F)))) -∗ Q ⟨⟩))
      ⊢ wp frame (wpE ((K (F := F)).defs (D (F := F))) 𝒱 (SparseCore.T d) none) Set.univ (hlo rfl (StableHlo.unary x y p hx hy) (fun _ => .ret ⟨⟩)) Q :=
  wp_un m d _ x y hxy (StableHlo.unary_bufs .. ▸ Finset.Subset.refl _) rfl f g _
    (fun V => StableHlo.unary_result_ne (F := V) (h := hxy) ..)
    (fun V h => by rw [StableHlo.unary_result, h]) Q

/-- What the run leaves on a device. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_v5 ↦{fullShare} (res m d : Buf (Elt F) ((SparseCore.T d : Thread nD τ).loc main_v5))))

theorem post_eq (d : Dev nD) : (reg0 m).post d =
    iprop(((((SparseCore.T d : Thread nD τ).loc main_arg0 ↦{fullShare} m ((SparseCore.T d : Thread nD τ).loc main_arg0))
      ∗ ((SparseCore.T d : Thread nD τ).loc main_arg1 ↦{fullShare} m ((SparseCore.T d : Thread nD τ).loc main_arg1))
      ∗ (bLoc d ↦{fullShare} fb m d)
      ∗ ((SparseCore.T d : Thread nD τ).loc main_v0_1 ↦{fullShare} (gc m d : Buf (Elt F) ((SparseCore.T d : Thread nD τ).loc main_v0_1)))
      ∗ ((SparseCore.T d : Thread nD τ).loc main_v0_2 ↦{fullShare} (gk m d : Buf (Elt F) ((SparseCore.T d : Thread nD τ).loc main_v0_2)))))
      ∗ ((cLoc d ↦{fullShare} m (cLoc d)) ∗ (kLoc d ↦{fullShare} m (kLoc d)) ∗ (oLoc d ↦{fullShare} m (oLoc d))
        ∗ ((SparseCore.T d : Thread nD τ).loc main_v4 ↦{fullShare} m ((SparseCore.T d : Thread nD τ).loc main_v4))
        ∗ ((SparseCore.T d : Thread nD τ).loc main_v5 ↦{fullShare} m ((SparseCore.T d : Thread nD τ).loc main_v5)))
      ∗ Owing (F := F) d) := by
  show iprop((dats m 0 d).arrays ((dats m 0 d).arrAt · cfg0.N) ∗ Rest m d ∗ Owing (F := F) d) = _
  unfold Rest
  rw [Pipeline.arrays_eq (Pipeline.pin (pcfgs (F := F)) adm) (dats m) (p := 0) d launch0.arr_whole ((dats m 0 d).share_full fun _ => rfl), unscopedRest0_eq]
  congr 1
  rw [bigSep_W0]
  rw [show (dats m 0 d).arrAt (0 : Fin 5) cfg0.N = m ((SparseCore.T d : Thread nD τ).loc main_arg0) from ((dats m 0 d).arrAt_in 0 rfl _).trans (A_eq m d 0),
    show (dats m 0 d).arrAt (1 : Fin 5) cfg0.N = m ((SparseCore.T d : Thread nD τ).loc main_arg1) from ((dats m 0 d).arrAt_in 1 rfl _).trans (A_eq m d 1)]
  rfl

/-- The first call, as @main makes it. -/
theorem wp_region [∀ e, Nonempty (Elt F e)] (d : Dev nD) (Q : PUnit → sProp 𝕄) :
    iprop((iprop(boundary (SparseCore.T d : Thread nD τ) ∗ (reg0 m).post d) -∗ Q ⟨⟩)
        ∗ boundary (SparseCore.T d : Thread nD τ) ∗ (reg0 m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have heq : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret) := rfl
  rw [heq]
  refine Entails.trans ?_ ((K (F := F)).wp_liftProg (D (F := F)) 𝒱 (SparseCore.T d) Set.univ none (.op (.customCall (Pipeline.entry 0) ()) .ret) Q)
  refine Entails.trans ?_ (Pipeline.RegionSeg.wp (pcfgs (F := F)) adm (dats m) (none : HIx 1) cellOf_inj EP defs₀ 𝒱₀ (K (F := F)).L (K (F := F)).lev (reg0 m) d none
    (fun _ h => nomatch h) .ret Q)
  unfold G
  iintro ⟨Hk, Hb, Hp, Hl, Hg⟩
  isplitl [Hk]
  · iintro H
    rw [wp_ret]
    imodintro
    iapply Hk $$ H
  isplitl [Hb]; · iexact Hb
  isplitl [Hp]; · iexact Hp
  isplitl [Hl]; · iexact Hl
  iexact Hg

/-- What a core owes, out of its state before the second call, and back. -/
theorem tcSt_owing (d : Dev nD) : ((K (F := F)).tcSt EH d 0 : sProp 𝕄) ⊢ iprop(Owing (F := F) d ∗ (Owing (F := F) d -∗ (K (F := F)).tcSt EH d 0)) := by
  unfold SparseCore.Cfg.tcSt Owing
  iintro ⟨HO, Hr⟩
  isplitl [HO]; · iexact HO
  iintro HO
  isplitl [HO]; · iexact HO
  iexact Hr

theorem st_eq (d : Dev nD) : (bigSep Finset.univ fun c : Fin ((K (F := F)).nCore 0) => (PP m).st 0 d c)
    = iprop((bLoc d ↦{fullShare} fb m d) ∗ (cLoc d ↦{fullShare} fc m d) ∗ (kLoc d ↦{fullShare} fk m d) ∗ oLoc d ↦{fullShare} m (oLoc d)) :=
  split_cores (fb m) (fc m) (fk m) d (m (oLoc d))
theorem dn_eq (d : Dev nD) : (bigSep Finset.univ fun c : Fin ((K (F := F)).nCore 0) => (PP m).dn 0 d c)
    = iprop((bLoc d ↦{fullShare} fb m d) ∗ (cLoc d ↦{fullShare} fc m d) ∗ (kLoc d ↦{fullShare} fk m d) ∗ oLoc d ↦{fullShare} outF (fb m) (fc m) (fk m) d) :=
  split_cores (fb m) (fc m) (fk m) d (outF (fb m) (fc m) (fk m) d)

theorem pre_eq (d : Dev nD) : (reg0 m).pre d = iprop(unscopedBufs d (fun b => m ((d : Thread nD τ).loc b)) ∗ Owing (F := F) d) := rfl

set_option maxHeartbeats 2000000 in
/-- @main on a device's TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, Hg⟩
  ihave Hst := (tcSt_owing d) $$ Hst
  icases Hst with ⟨HO, Hst⟩
  iapply (wp_region m d _) $$ [Hst Hb Hub Hts Hg HO]
  isplitl [Hst Hts]; rotate_left
  · isplitl [Hb]; · iexact Hb
    isplitl [Hub HO]
    · rw [pre_eq]
      isplitl [Hub]; · iexact Hub
      iexact HO
    isplitr; · iapply (SparseCore.Cfg.ctx_levAts κ) $$ Hctx
    iexact Hg
  rw [post_eq]
  iintro ⟨Hb, ⟨Ha0, Ha1, Hfb, H1, H2⟩, ⟨Hc, Hk, Ho, H4, H5⟩, HO⟩
  ihave Hst := Hst $$ HO
  iapply (wp_reshape m d main_v0_1 main_v1 (by decide) _ _ _ _ (gc m d) _ _) $$ [Hst Hts Hb Ha0 Ha1 Hfb H1 H2 Hc Hk Ho H4 H5]
  isplitl [Hb]; · iexact Hb
  isplitl [H1]; · iexact H1
  isplitl [Hc]; · iexact Hc
  iintro ⟨Hb, -, Hc⟩
  iapply (wp_reshape m d main_v0_2 main_v2 (by decide) _ _ _ _ (gk m d) _ _) $$ [Hst Hts Hb Ha0 Ha1 Hfb H2 Hc Hk Ho H4 H5]
  isplitl [Hb]; · iexact Hb
  isplitl [H2]; · iexact H2
  isplitl [Hk]; · iexact Hk
  iintro ⟨Hb, -, Hk⟩
  iapply ((K (F := F)).wp_run (D (F := F)) 𝒱 (EH := EH) (P := PP m) κ d 0) $$ [Hst Hts Hb Ha0 Ha1 Hfb Hc Hk Ho H4 H5]
  isplitr; · iexact Hctx
  isplitl [Hst]; · iexact Hst
  isplitl [Hfb Hc Hk Ho]
  · rw [st_eq]
    isplitl [Hfb]; · iexact Hfb
    isplitl [Hc]; · iexact Hc
    isplitl [Hk]; · iexact Hk
    iexact Ho
  rw [dn_eq]
  iintro ⟨Hst, -, -, -, Ho⟩
  iapply (wp_unary m d main_v3 main_v4 (by decide) _ _ _ (outF (fb m) (fc m) (fk m) d) _ _) $$ [Hst Hts Hb Ha0 Ha1 Ho H4 H5]
  isplitl [Hb]; · iexact Hb
  isplitl [Ho]; · iexact Ho
  isplitl [H4]; · iexact H4
  iintro ⟨Hb, -, H4⟩
  iapply (wp_reshape m d main_v4 main_v5 (by decide) _ _ _ _ (oS m d) _ _) $$ [Hst Hts Hb Ha0 Ha1 H4 H5]
  isplitl [Hb]; · iexact Hb
  isplitl [H4]; · iexact H4
  isplitl [H5]; · iexact H5
  iintro ⟨Hb, -, H5⟩
  imodintro
  isplitl [Hst]; · iexact Hst
  isplitl [Ha0 Ha1 H5]
  · isplitl [Ha0]; · iexact Ha0
    isplitl [Ha1]; · iexact Ha1
    iexact H5
  isplitl [Hb]; · iexact Hb
  iexact Hts

/-! ## What the run leaves -/

def fq (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_v5) = (res m d : Buf (Elt F) ((SparseCore.T d : Thread nD τ).loc main_v5))

theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (I := Finset.univ) (q := fullShare))) $$ [HSI H0]
  · isplitl [HSI]; · iexact HSI
    iexact H0
  icases H with ⟨%h0, HSI, -⟩
  ihave H := (persistent_entails_right (SI_pointsTo_agree (st := s') (I := Finset.univ) (q := fullShare))) $$ [HSI H1]
  · isplitl [HSI]; · iexact HSI
    iexact H1
  icases H with ⟨%h1, HSI, -⟩
  ihave H := (SI_pointsTo_agree (st := s') (I := Finset.univ) (q := fullShare)) $$ [HSI H5]
  · isplitl [HSI]; · iexact HSI
    iexact H5
  icases H with %h5
  ipureintro
  exact ⟨funext fun i => h0 i (Finset.mem_univ i), funext fun i => h1 i (Finset.mem_univ i), funext fun i => h5 i (Finset.mem_univ i)⟩

def QC : PUnit × MemSt nD τ sig (Elt F) → Prop := fun r =>
  (∀ d : Dev nD, r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_v5) = (res m d : Buf (Elt F) ((SparseCore.T d : Thread nD τ).loc main_v5)))
  ∧ r.2.sem = fun _ => 0

/-- The run, given the words' ranges. -/
theorem run_main [∀ e, Nonempty (Elt F e)]
    (hfb : ∀ (d : Dev nD) (x : S50x128x2000.Idx), ((show IVec S50x128x2000 32 from fb m d) x).toNat ≤ 100000)
    (hfk : ∀ (d : Dev nD) (x : S128.Idx), ((show IVec S128 32 from fk m d) x).toNat ≤ 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl m (fb m) (fc m) (fk m) hfb hfk)
    (fun q _ => match q with | 0 => SparseCore.Cfg.VecSplit.of_plain (vecSplit m (fb m) (fc m) (fk m)))
    m ρ main (G (F := F)) (FIN m) (u₀ (F := F)) (sep_elim_left.trans (hu₀ m)) (hmain m ρ) (fq m) (hfin m) (QC m) (fun _ h hz => ⟨h, hz⟩)

end Cert.Proof

end
-- ==== Proof.Words.lean ====
/-
  The words the first call leaves, element by element, over any numbers.
-/
module

public import proofs.«01_k».proof.Proof.Run
public import Idealize.ShloMosaic.Lib.WordSum
public import Idealize.ShloMosaic.Lib.NatWords
public import Idealize.ShloMosaic.Lib.ValueLayout
public import Idealize.ShloMosaic.Lib.Pointwise.Reduce
public import Idealize.ShloMosaic.Lib.Pipeline.ValueKit

@[expose] public section

noncomputable section

namespace Cert.Proof

open Cert.KernelIdeal Cert.KernelIdeal.Gen
open Idealize.ShloMosaic Idealize.ShloMosaic.TcCoe
open Cert.Proof.Tc

variable {F : FTy → Type} [FloatOps F]

/-- A number survives the trip through the reals: what the words need. -/
def RoundTrips (F : FTy → Type) [FloatOps F] : Prop :=
  ∀ n : BitVec 32, n.toNat ≤ 100000 → FloatOps.fptosi (F := F) (φ := .f32) 32 (FloatOps.sitofp (F := F) .f32 n) = n

/-- The word a position is stored as. -/
def clampW (b : BitVec 32) : BitVec 32 :=
  if b.toInt ≤ 0 then 100000#32 else if b.toInt < 100000 then b else 100000#32

theorem clampW_le (b : BitVec 32) : (clampW b).toNat ≤ 100000 := by
  unfold clampW
  have := b.isLt
  split
  · decide
  · split
    · rename_i h1 h2
      rw [BitVec.toInt_eq_toNat_cond] at h1 h2
      split at h1 <;> omega
    · decide

/-- The select and the least of two words, as the program spells them. -/
theorem clamp_spelt (b : BitVec 32) :
    (if (IntOp.cmpi .sle b 0#32) = 1#1 then 100000#32 else IntOp.minsi b 100000#32) = clampW b := by
  unfold clampW IntOp.minsi IntOp.cmpi
  have h1 : (BitVec.ofBool (b.sle 0#32) = 1#1) ↔ b.toInt ≤ 0 := by
    rw [show (b.sle 0#32) = decide (b.toInt ≤ (0#32).toInt) from rfl]
    rw [show (0#32 : BitVec 32).toInt = 0 from rfl]
    by_cases h : b.toInt ≤ 0
    · simp [h]
    · simp [h]
  have h2 : (b.slt 100000#32 = true) ↔ b.toInt < 100000 := by
    rw [show (b.slt 100000#32) = decide (b.toInt < (100000#32).toInt) from rfl]
    rw [show (100000#32 : BitVec 32).toInt = 100000 from rfl]
    simp
  simp only [h1, h2]

theorem blkBins_at (hrt : RoundTrips F) (mu va : Vec F S2000x128 .f32) (l : Fin 128) (r : Fin 2000) :
    blkBins mu va (ix3 0 l r) = clampW (blkB mu va (ix2 r l)) := by
  unfold blkBins k0_pay13
  dsimp only
  refine (ValueIdx.shapeCast_ab_1ab_apply (a := 128) (b := 2000) _ _ 0 l r).trans ?_
  rw [fptosi_apply]
  refine (congrArg (FloatOps.fptosi (F := F) (φ := .f32) 32) (ValueIdx.transpose_ix2_apply (a := 2000) (b := 128) _ _ _ _)).trans ?_
  refine (hrt _ ?_).trans (clamp_spelt _)
  exact (congrArg BitVec.toNat (clamp_spelt _)).trans_le (clampW_le _)

/-- How many of a block's values satisfy a property at row `l`. -/
def cntBlk (p : BitVec 32 → Bool) (mu va : Vec F S2000x128 .f32) (l : Fin 128) : ℕ :=
  (Finset.univ.filter fun r : Fin 2000 => p (blkB mu va (ix2 r l)) = true).card

theorem cntBlk_le (p : BitVec 32 → Bool) (mu va : Vec F S2000x128 .f32) (l : Fin 128) : cntBlk p mu va l ≤ 2000 :=
  (Finset.card_le_univ _).trans (by simp)

/-- A column of ones and noughts, summed. -/
theorem count_col (B : IVec S2000x128 1) (p : Fin 2000 → Prop) [DecidablePred p] (l : Fin 128)
    (hp : ∀ r, B (ix2 r l) = 1#1 ↔ p r) :
    (multiReductionI .add [0] S128 (select B (broadcast S2000x128 1#32) (broadcast S2000x128 0#32) : IVec S2000x128 32) 0#32 reduces_S2000x128_S128 rfl (ix1 l)).toNat
      = (Finset.univ.filter p).card := by
  have hs : ∑ i ∈ Finset.univ.filter (fun i => reduces_S2000x128_S128.drop i = ix1 l),
      ((select B (broadcast S2000x128 1#32) (broadcast S2000x128 0#32)) i).toNat = (Finset.univ.filter p).card := by
    refine (Shape.Reduces.sum_fiber_r2_a0 reduces_S2000x128_S128 (ix1 l) _).trans ?_
    rw [Finset.card_filter]
    refine Finset.sum_congr rfl fun r _ => ?_
    show (if B (ix2 r l) = 1#1 then 1#32 else 0#32).toNat = _
    by_cases h : p r
    · rw [if_pos ((hp r).2 h), if_pos h]; rfl
    · rw [if_neg (fun e => h ((hp r).1 e)), if_neg h]; rfl
  rw [WordSum.toNat_multiReductionI_add _ _ rfl _ ?_, hs]
  rw [hs]
  exact ((Finset.card_le_univ _).trans (by simp : _ ≤ 2000)).trans_lt (by norm_num)

theorem blkC_at (mu va : Vec F S2000x128 .f32) (l : Fin 128) :
    (blkC mu va (ix2 0 l)).toNat = cntBlk (fun b : BitVec 32 => decide (b.toInt ≤ 0)) mu va l := by
  unfold blkC k0_pay11
  dsimp only
  refine (congrArg BitVec.toNat (ValueIdx.shapeCast_a_1a_apply (a := 128) _ _ 0 l)).trans ?_
  refine count_col _ _ l fun r => ?_
  show BitVec.ofBool ((blkB mu va (ix2 r l)).sle 0#32) = 1#1 ↔ _
  rw [show (blkB mu va (ix2 r l)).sle 0#32 = decide ((blkB mu va (ix2 r l)).toInt ≤ 0) from rfl]
  by_cases h : (blkB mu va (ix2 r l)).toInt ≤ 0
  · simp [h]
  · simp [h]

theorem blkK_at (mu va : Vec F S2000x128 .f32) (l : Fin 128) :
    (blkK mu va (ix2 0 l)).toNat = cntBlk (fun b : BitVec 32 => decide (b.toInt < 100000)) mu va l := by
  unfold blkK k0_pay12
  dsimp only
  refine (congrArg BitVec.toNat (ValueIdx.shapeCast_a_1a_apply (a := 128) _ _ 0 l)).trans ?_
  refine count_col _ _ l fun r => ?_
  show BitVec.ofBool ((blkB mu va (ix2 r l)).slt 100000#32) = 1#1 ↔ _
  rw [show (blkB mu va (ix2 r l)).slt 100000#32 = decide ((blkB mu va (ix2 r l)).toInt < 100000) from rfl]
  by_cases h : (blkB mu va (ix2 r l)).toInt < 100000
  · simp [h]
  · simp [h]

variable (m : (ℓ : Loc nD τ sig) → Buf (Elt F) ℓ)

/-- The blocks' counts up to block `n`, added. -/
def cntUpTo (p : BitVec 32 → Bool) (c : Dev nD) (l : Fin 128) (n : ℕ) : ℕ :=
  ∑ t ∈ Finset.range (n + 1), cntBlk p (mu m c (pt t)) (va m c (pt t)) l

theorem cntUpTo_le (p : BitVec 32 → Bool) (c : Dev nD) (l : Fin 128) (n : ℕ) : cntUpTo m p c l n ≤ 2000 * (n + 1) := by
  unfold cntUpTo
  refine (Finset.sum_le_card_nsmul _ _ 2000 fun t _ => cntBlk_le _ _ _ _).trans ?_
  rw [Finset.card_range]; simp; omega

theorem cntC_at (c : Dev nD) (l : Fin 128) : ∀ n : ℕ, n < 50 →
    (cntC m c n (ix2 0 l)).toNat = cntUpTo m (fun b : BitVec 32 => decide (b.toInt ≤ 0)) c l n
  | 0, _ => by
    rw [cntUpTo, Finset.sum_range_one]
    exact blkC_at _ _ l
  | n + 1, h => by
    have ih := cntC_at c l n (by omega)
    have hb := blkC_at (mu m c (pt (n + 1))) (va m c (pt (n + 1))) l
    have hle := cntUpTo_le m (fun b : BitVec 32 => decide (b.toInt ≤ 0)) c l (n + 1)
    have hs : cntUpTo m (fun b : BitVec 32 => decide (b.toInt ≤ 0)) c l (n + 1) = cntUpTo m (fun b : BitVec 32 => decide (b.toInt ≤ 0)) c l n
        + cntBlk (fun b : BitVec 32 => decide (b.toInt ≤ 0)) (mu m c (pt (n + 1))) (va m c (pt (n + 1))) l := Finset.sum_range_succ _ _
    have e : cntC m c (n + 1) (ix2 0 l) = cntC m c n (ix2 0 l) + blkC (mu m c (pt (n + 1))) (va m c (pt (n + 1))) (ix2 0 l) := by
      show addi (shapeCast S1x128 (cntC m c n) shapeCasts_S1x128_S1x128) _ _ = _
      rw [addi_apply, shapeCast_self]; rfl
    rw [e, BitVec.toNat_add, ih, hb, Nat.mod_eq_of_lt (by omega), hs]

theorem cntK_at (c : Dev nD) (l : Fin 128) : ∀ n : ℕ, n < 50 →
    (cntK m c n (ix2 0 l)).toNat = cntUpTo m (fun b : BitVec 32 => decide (b.toInt < 100000)) c l n
  | 0, _ => by
    rw [cntUpTo, Finset.sum_range_one]
    exact blkK_at _ _ l
  | n + 1, h => by
    have ih := cntK_at c l n (by omega)
    have hb := blkK_at (mu m c (pt (n + 1))) (va m c (pt (n + 1))) l
    have hle := cntUpTo_le m (fun b : BitVec 32 => decide (b.toInt < 100000)) c l (n + 1)
    have hs : cntUpTo m (fun b : BitVec 32 => decide (b.toInt < 100000)) c l (n + 1) = cntUpTo m (fun b : BitVec 32 => decide (b.toInt < 100000)) c l n
        + cntBlk (fun b : BitVec 32 => decide (b.toInt < 100000)) (mu m c (pt (n + 1))) (va m c (pt (n + 1))) l := Finset.sum_range_succ _ _
    have e : cntK m c (n + 1) (ix2 0 l) = cntK m c n (ix2 0 l) + blkK (mu m c (pt (n + 1))) (va m c (pt (n + 1))) (ix2 0 l) := by
      show addi (shapeCast S1x128 (cntK m c n) shapeCasts_S1x128_S1x128) _ _ = _
      rw [addi_apply, shapeCast_self]; rfl
    rw [e, BitVec.toNat_add, ih, hb, Nat.mod_eq_of_lt (by omega), hs]

theorem gc_at (c : Dev nD) (l : Fin 128) : ((gc m c : IVec S1x128 32) (ix2 0 l)).toNat = cntUpTo m (fun b : BitVec 32 => decide (b.toInt ≤ 0)) c l 49 := by
  have h : ((dats m 0 c).arrAt (3 : Fin 5) cfg0.N : IVec S1x128 32) = cntC m c 49 := by
    refine (dats m 0 c).arrAt_eq_of_after_last (3 : Fin 5) (pt 49) (by decide +kernel) _ fun j => ?_
    blk_simp
    rfl
  exact (congrArg (fun v : IVec S1x128 32 => (v (ix2 0 l)).toNat) h).trans (cntC_at m c l 49 (by omega))

theorem gk_at (c : Dev nD) (l : Fin 128) : ((gk m c : IVec S1x128 32) (ix2 0 l)).toNat = cntUpTo m (fun b : BitVec 32 => decide (b.toInt < 100000)) c l 49 := by
  have h : ((dats m 0 c).arrAt (4 : Fin 5) cfg0.N : IVec S1x128 32) = cntK m c 49 := by
    refine (dats m 0 c).arrAt_eq_of_after_last (4 : Fin 5) (pt 49) (by decide +kernel) _ fun j => ?_
    blk_simp
    rfl
  exact (congrArg (fun v : IVec S1x128 32 => (v (ix2 0 l)).toNat) h).trans (cntK_at m c l 49 (by omega))

theorem index2 : ∀ t : Fin cfg0.grid.N, win0_2.index t = ![t.val, 0, 0] := by decide +kernel

theorem fb_at (hrt : RoundTrips F) (c : Dev nD) : (fb m c : IVec S50x128x2000 32)
    = fun x => clampW (blkB (mu m c (pt (x 0).val)) (va m c (pt (x 0).val)) (ix2 (x 2) (x 1))) := by
  refine (dats m 0 c).arrAt_eq_of_covers (2 : Fin 5) _ (by decide +kernel) fun t hf y => ?_
  have h0 : ((((cfg0.win 2).blk t).view.emb y) 0 : Fin 50).val = t.val := by
    have hy : (y 0).val < 1 := (y 0).isLt
    blk_simp [index2]
  have h1 : ((((cfg0.win 2).blk t).view.emb y) 1 : Fin 128) = (y 1) := by
    apply Fin.ext; blk_simp [index2]
  have h2 : ((((cfg0.win 2).blk t).view.emb y) 2 : Fin 2000) = (y 2) := by
    apply Fin.ext; blk_simp [index2]
  show blkBins (mu m c t) (va m c t) _ = clampW _
  refine Eq.trans ?_ (congrArg clampW (congrArg₂ (fun (s : Fin cfg0.N) (x : S2000x128.Idx) => blkB (mu m c s) (va m c s) x) (?_ : t = _) (?_ : ix2 (y 2) (y 1) = _)))
  · refine Eq.trans (congrArg (blkBins (mu m c t) (va m c t)) (?_ : _ = ix3 0 (y 1) (y 2))) (blkBins_at hrt (mu m c t) (va m c t) (y 1) (y 2))
    have hy : (show Fin 1 from y 0) = 0 := Subsingleton.elim _ _
    exact (eq_ix3 (y : S1x128x2000.Idx)).trans (congrArg (fun z : Fin 1 => ix3 z (y 1) (y 2)) hy)
  · rw [h0]; exact (pt_val t).symm
  · exact (congrArg₂ ix2 h2 h1).symm

theorem fb_le (hrt : RoundTrips F) (c : Dev nD) (x : S50x128x2000.Idx) : ((fb m c : IVec S50x128x2000 32) x).toNat ≤ 100000 := by
  rw [fb_at m hrt c]; exact clampW_le _

theorem fk_at (c : Dev nD) (l : Fin 128) : ((fk m c : IVec S128 32) (ix1 l)).toNat = cntUpTo m (fun b : BitVec 32 => decide (b.toInt < 100000)) c l 49 := by
  refine Eq.trans (congrArg BitVec.toNat ?_) (gk_at m c l)
  exact ValueIdx.shapeCast_1a_a_apply (a := 128) _ _ l

theorem fc_at (c : Dev nD) (l : Fin 128) : ((fc m c : IVec S128 32) (ix1 l)).toNat = cntUpTo m (fun b : BitVec 32 => decide (b.toInt ≤ 0)) c l 49 := by
  refine Eq.trans (congrArg BitVec.toNat ?_) (gc_at m c l)
  exact ValueIdx.shapeCast_1a_a_apply (a := 128) _ _ l

theorem fk_le (c : Dev nD) (x : S128.Idx) : ((fk m c : IVec S128 32) x).toNat ≤ 100000 := by
  have h := fk_at m c (x 0)
  have e : (x : S128.Idx) = ix1 (x 0) := eq_ix1 x
  have h' : ((fk m c : IVec S128 32) x).toNat = _ := (congrArg (fun z => ((fk m c : IVec S128 32) z).toNat) e).trans h
  rw [h']
  exact (cntUpTo_le m _ c _ 49).trans (by norm_num)

/-- Over the words a number below `2 ^ 24` survives. -/
theorem roundTrips_bits : RoundTrips Bits := by
  intro n hn
  show Bits.fptosi32 32 (Bits.sitofp32 n) = n
  rw [Bits.sitofp32_eq_f32OfNat n (by norm_num) (by omega), Bits.fptosi32_nat _ (by omega)]
  simp

/-- Over the reals every number survives. -/
theorem roundTrips_ideal : RoundTrips Ideal := by
  intro n hn
  show Ideal.fptosi 32 (((n.toInt : ℝ) : EReal)) = n
  unfold Ideal.fptosi
  have h : Ideal.toIntClamped (-(2 ^ (32 - 1) : ℕ)) ((2 ^ (32 - 1) : ℕ) - 1) ((n.toInt : ℝ) : EReal) = n.toInt := by
    show max _ (min _ (if (0 : ℝ) ≤ (n.toInt : ℝ) then ⌊(n.toInt : ℝ)⌋ else ⌈(n.toInt : ℝ)⌉)) = n.toInt
    have hi : n.toInt = n.toNat := by rw [BitVec.toInt_eq_toNat_cond, if_pos (by omega)]
    rw [if_pos (by exact_mod_cast (by omega : (0:ℤ) ≤ n.toInt)), Int.floor_intCast]
    norm_num
    omega
  rw [h, BitVec.ofInt_toInt]

end Cert.Proof

end
-- ==== Proof.Frames.lean ====
/-
  The frames of the three programs.
-/
module

public import proofs.«01_k».proof.Defs
public import proofs.«01_k».proof.Proof.Words
public import proofs.«01_k».proof.Proof.Gen.Kernel
public import proofs.«01_k».proof.Proof.Gen.ReferenceIdeal
public import proofs.«01_k».proof.Proof.Gen.ReferenceIdeal.Run

@[expose] public section

set_option maxRecDepth 65536
set_option maxHeartbeats 4000000

noncomputable section

namespace Cert.Proof

open Idealize.ShloMosaic Idealize.SL.Sem

/-- The kernel's run over the reals. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (QC m) :=
  run_main m ρ (fun d x => fb_le m roundTrips_ideal d x) (fun d x => fk_le m d x)

/-- The kernel's run over the words. -/
theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ (QC m) :=
  run_main m ρ (fun d x => fb_le m roundTrips_bits d x) (fun d x => fk_le m d x)

theorem frame_kernelIdeal : Cert.quiescent_KernelIdeal := fun m ρ _ =>
  (θ_run Cert.KernelIdeal.defs _ _).mono (fun _ h => ⟨fun c => ⟨(h.1 c).1, (h.1 c).2.1⟩, h.2⟩) (run_ideal m ρ)

theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_bits m ρ)

/-- The body tables of the two programs, which print the same text. -/
theorem bodies_eq : Cert.Kernel.defs₀ (F := Bits) = Cert.KernelIdeal.defs₀ (F := Bits) := by
  funext p ℓ a
  cases p with
  | tc =>
    match ℓ with
    | 0 => rfl
    | 1 => rfl
  | scVector c s =>
    match ℓ with
    | 0 => rfl
    | 1 => rfl
  | scScalar c =>
    match ℓ with
    | 0 => rfl
    | 1 => rfl

theorem defs_eq : Cert.Kernel.defs (F := Bits) = Cert.KernelIdeal.defs (F := Bits) := by
  have h := bodies_eq
  unfold Cert.Kernel.defs Cert.KernelIdeal.defs
  rw [h]
  rfl

/-- The program at the words prints the same text. -/
theorem frame_kernel : Cert.quiescent_Kernel := fun m ρ _ => by
  have h := frame_bits m ρ
  rw [← defs_eq] at h
  exact h

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

end Cert.Proof

end
-- ==== Proof.RefStage.lean ====
/-
  The reference's result as a chain of small stages.
-/
module

public import proofs.«01_k».proof.Proof.Gen.ReferenceIdeal.Run

@[expose] public section

noncomputable section

namespace Cert.Proof.Ref

open Idealize.ShloMosaic Idealize.ShloMosaic.TcCoe
open Cert.ReferenceIdeal Cert.ReferenceIdeal.Gen Cert.ReferenceIdeal.Value

variable {F : FTy → Type} [FloatOps F]

/-- The values tested, a row for each column of the arguments. -/
def pvals (a0 a1 : FVec F S100000x128 .f32) : FVec F S128x100000 .f32 :=
  transpose S128x100000 [1, 0] (mulf (broadcastInDim S100000x128 ![] bcast_S_S100000x128 (constant S_ .f32 0x3F000000#32)) (addf (broadcastInDim S100000x128 ![] bcast_S_S100000x128 (constant S_ .f32 0x3F800000#32)) (Host.erf (Host.divf (subf (broadcastInDim S100000x128 ![] bcast_S_S100000x128 (constant S_ .f32 0x00000000#32)) a0) (mulf a1 (broadcastInDim S100000x128 ![] bcast_S_S100000x128 (id (Host.sqrt (constant S_ .f32 0x40000000#32))))))))) transposes_S100000x128_S128x100000_1_0

/-- The sorting positions. -/
def order (p : FVec F S128x100000 .f32) : IVec S128x100000 32 :=
  (Host.sort2 S128x100000 1 comparator_f32_i32_d1 p (iotaInDim S128x100000 32 1)).2

/-- Positions counted from the end made positions from the start. -/
def wrap (s : IVec S128x100000 32) : IVec S128x100000 32 :=
  select (cmpi .slt s (broadcastInDim S128x100000 ![] bcast_S_S128x100000 (constantI S_ 32 0#32))) (addi s (broadcastInDim S128x100000 ![] bcast_S_S128x100000 (constantI S_ 32 100000#32))) s

/-- The values at the positions. -/
def taken (p : FVec F S128x100000 .f32) (w : IVec S128x100000x1 32) : FVec F S128x100000 .f32 :=
  select (Host.reduce IntOp.andi (andi (cmpi .sge w (broadcastInDim S128x100000x1 ![] bcast_S_S128x100000x1 (constantI S_ 32 0#32))) (cmpi .sle w (broadcastInDim S128x100000x1 ![0, 1, 2] bcast_S1x1x1_S128x100000x1_0_1_2 (broadcastInDim S1x1x1 ![2] bcast_S1_S1x1x1_2 (constantI S1 32 99999#32))))) (constantI S_ 1 1#1) reducesTo_S128x100000x1_S128x100000_d2 h_S_) (Host.gather gather_S128x100000_S128x100000x1_S128x100000_n_1_0_0_1_2_11 p w) (broadcastInDim S128x100000 ![] bcast_S_S128x100000 (constant S_ .f32 0x7FC00000#32))

/-- The bound each place is tested against. -/
def bounds : FVec F S128x100000 .f32 :=
  broadcastInDim S128x100000 ![0, 1] bcast_S1x100000_S128x100000_0_1 (broadcastInDim S1x100000 ![1] bcast_S100000_S1x100000_1 (mulf (Host.divf (addf (broadcastInDim S100000 ![] bcast_S_S100000 (constant S_ .f32 0x3F800000#32)) (sitofp .f32 (iotaInDim S100000 32 0))) (broadcastInDim S100000 ![] bcast_S_S100000 (constant S_ .f32 0x47C35000#32))) (broadcastInDim S100000 ![] bcast_S_S100000 (constant S_ .f32 0x3D4CCCCD#32))))

/-- Which places pass. -/
def pass (p : FVec F S128x100000 .f32) (w : IVec S128x100000 32) : IVec S128x100000 1 :=
  cmpf .ole (taken p (shapeCast S128x100000x1 w shapeCasts_S128x100000_S128x100000x1)) bounds

/-- Each place's number. -/
def places : IVec S128x100000 32 :=
  broadcastInDim S128x100000 ![0, 1] bcast_S1x100000_S128x100000_0_1 (broadcastInDim S1x100000 ![1] bcast_S100000_S1x100000_1 (iotaInDim S100000 32 0))

/-- Whether a row has a place that passes. -/
def anyPass (r : IVec S128x100000 1) : IVec S128 1 :=
  Host.reduce IntOp.ori r (constantI S_ 1 0#1) reducesTo_S128x100000_S128_d1 h_S_

/-- A row's first place that passes. -/
def firstPass (r : IVec S128x100000 1) : IVec S128 32 :=
  Host.reduce IntOp.minsi (select r places (broadcastInDim S128x100000 ![] bcast_S_S128x100000 (id (constantI S_ 32 100000#32)))) (constantI S_ 32 2147483647#32) reducesTo_S128x100000_S128_d1 h_S_

/-- The places kept: with the ones before the first that passes. -/
def kept (r : IVec S128x100000 1) : IVec S128x100000 1 :=
  select (broadcastInDim S128x100000 ![0, 1] bcast_S128x1_S128x100000_0_1 (broadcastInDim S128x1 ![0] bcast_S128_S128x1_0 (anyPass r)))
    (ori r (cmpi .sle places (broadcastInDim S128x100000 ![0, 1] bcast_S128x1_S128x100000_0_1 (broadcastInDim S128x1 ![0] bcast_S128_S128x1_0 (firstPass r))))) r

/-- Where each place goes back. -/
def backs (w : IVec S128x100000 32) : IVec S128x100000x2 32 :=
  concatenate S128x100000x2 2 [⟨S128x100000x1, (broadcastInDim S128x100000x1 ![0, 1] bcast_S128x100000_S128x100000x1_0_1 (broadcastInDim S128x100000 ![0, 1] bcast_S128x1_S128x100000_0_1 (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))))⟩, ⟨S128x100000x1, (broadcastInDim S128x100000x1 ![0, 1] bcast_S128x100000_S128x100000x1_0_1 w)⟩] concatenates_S128x100000x1_S128x100000x1_S128x100000x2_d2

/-- The kept places put back. -/
def put (x : IVec S128x100000x2 32) (k : IVec S128x100000 1) : IVec S128x100000 1 :=
  Host.scatter scatter_S128x100000_S128x100000x2_S128x100000_n_01_01_2 (fun _ b => b) (broadcastInDim S128x100000 ![] bcast_S_S128x100000 (constantI S_ 1 0#1)) x k

/-- A row's sum. -/
def total (z : IVec S128x100000 1) : FVec F S128 .f32 :=
  Host.reduceAdd (select z (broadcastInDim S128x100000 ![] bcast_S_S128x100000 (constant S_ .f32 0x3F800000#32)) (broadcastInDim S128x100000 ![] bcast_S_S128x100000 (constant S_ .f32 0x00000000#32))) (constant S_ .f32 0x00000000#32) reducesTo_S128x100000_S128_d1 h_S_

/-- The whole chain from the tested values. -/
def chain (p : FVec F S128x100000 .f32) : FVec F S128 .f32 :=
  total (put (backs (wrap (order p))) (kept (pass p (wrap (order p)))))

set_option maxRecDepth 16384 in
set_option maxHeartbeats 2000000 in
theorem res_chain (m : (ℓ : Loc nD τ sig) → Buf (Elt F) ℓ) (c : Dev nD) :
    (res_main_v56 m c : FVec F S128 .f32) = chain (pvals (m ((c.tc : Thread nD τ).loc main_arg0)) (m ((c.tc : Thread nD τ).loc main_arg1))) := by
  unfold res_main_v56 chain total put backs kept firstPass anyPass places pass bounds taken wrap order pvals
  rfl

end Cert.Proof.Ref
-- ==== Proof.ScanVal.lean ====
/-
  What a column's scan is worth: the lanes' counts and least places, in terms of the places that pass.
-/
module

public import proofs.«01_k».proof.Proof.Words

@[expose] public section

noncomputable section

namespace Cert.Proof.Sc

open Idealize.ShloMosaic
open Cert.KernelIdeal Cert.KernelIdeal.Gen

/-- The sum of the first `n` entries. -/
def pre (H : ℕ → BitVec 32) : ℕ → BitVec 32
  | 0 => 0#32
  | n + 1 => pre H n + H n

theorem pre_add (H : ℕ → BitVec 32) (a n : ℕ) : pre H (a + n) = pre H a + pre (fun l => H (a + l)) n := by
  induction n with
  | zero => simp [pre]
  | succ n ih => rw [← Nat.add_assoc]; show pre H (a + n) + _ = _ + (_ + _); rw [ih, BitVec.add_assoc]

/-- Sixteen words, added from the left up to a lane. -/
theorem scan_sum (f : ℕ → BitVec 32) (j : S16.Idx) : scan (d := ![16]) .sum (vec f : S16.Idx → BitVec 32) j = pre f ((j 0).val + 1) := by
  obtain ⟨l, hl, hj⟩ : ∃ l, ∃ h : l < 16, j = Shape.ofLane (d := ![16]) ⟨l, h⟩ := ⟨(j 0).val, (j 0).isLt, by
    funext a; obtain rfl : a = 0 := Subsingleton.elim (α := Fin 1) a 0; rfl⟩
  subst hj
  show _ = pre f (l + 1)
  have h0 : ∀ x : BitVec 32, 0#32 + x = x := fun x => BitVec.zero_add x
  match l, hl with
  | 0, _ => simp only [pre, h0]; rfl
  | 1, _ => simp only [pre, h0]; rfl
  | 2, _ => simp only [pre, h0]; rfl
  | 3, _ => simp only [pre, h0]; rfl
  | 4, _ => simp only [pre, h0]; rfl
  | 5, _ => simp only [pre, h0]; rfl
  | 6, _ => simp only [pre, h0]; rfl
  | 7, _ => simp only [pre, h0]; rfl
  | 8, _ => simp only [pre, h0]; rfl
  | 9, _ => simp only [pre, h0]; rfl
  | 10, _ => simp only [pre, h0]; rfl
  | 11, _ => simp only [pre, h0]; rfl
  | 12, _ => simp only [pre, h0]; rfl
  | 13, _ => simp only [pre, h0]; rfl
  | 14, _ => simp only [pre, h0]; rfl
  | 15, _ => simp only [pre, h0]; rfl
  | n + 16, h => exact absurd h (by omega)

theorem lanes_at (j : S16.Idx) : lanes j = BitVec.ofNat 32 (j 0).val := by
  show BitVec.ofNat 32 (0 * _ + (j 0).val) = _
  rw [Nat.zero_mul, Nat.zero_add]

/-- Does place `q` pass? -/
def passes (H : ℕ → BitVec 32) (c0w : BitVec 32) (q : ℕ) : Prop := (BitVec.ofNat 32 (q + 1)).sle (pre H (q + 1) + c0w) = true

instance (H : ℕ → BitVec 32) (c0w : BitVec 32) : DecidablePred (passes H c0w) := fun _ => inferInstanceAs (Decidable (_ = true))

/-- A lane's count over the first `g` runs of sixteen places. -/
def laneCnt (P : ℕ → Prop) [DecidablePred P] (l : ℕ) : ℕ → ℕ
  | 0 => 0
  | g + 1 => laneCnt P l g + if P (16 * g + l) then 1 else 0

/-- A lane's least place over the first `g` runs. -/
def laneMin (P : ℕ → Prop) [DecidablePred P] (l : ℕ) : ℕ → ℕ
  | 0 => 1073741824
  | g + 1 => min (laneMin P l g) (if P (16 * g + l) then 16 * g + l else 1073741824)

theorem laneMin_le (P : ℕ → Prop) [DecidablePred P] (l g : ℕ) : laneMin P l g ≤ 1073741824 := by
  induction g with
  | zero => exact le_refl _
  | succ g ih => exact (min_le_left _ _).trans ih

theorem minsi_ofNat (a b : ℕ) (ha : a ≤ 1073741824) (hb : b ≤ 1073741824) : IntOp.minsi (BitVec.ofNat 32 a) (BitVec.ofNat 32 b) = BitVec.ofNat 32 (min a b) := by
  have hi : ∀ x : ℕ, x ≤ 1073741824 → (BitVec.ofNat 32 x).toInt = x := fun x hx => WordArith.toInt_ofNat_small x (by omega)
  unfold IntOp.minsi
  rcases Nat.lt_or_ge a b with h | h
  · rw [if_pos (by rw [BitVec.slt_iff_toInt_lt, hi a ha, hi b hb]; omega), min_eq_left (by omega)]
  · rw [if_neg (by rw [BitVec.slt_iff_toInt_lt, hi a ha, hi b hb]; omega), min_eq_right (by omega)]

/-- The state of the scan at a run: what the lanes hold. -/
structure At (H : ℕ → BitVec 32) (c0w : BitVec 32) (g : ℕ) (run : IVec S16 32) (x : IVec S16 32 × IVec S16 32 × BitVec 32) : Prop where
  cnt : x.1 = vec fun l => BitVec.ofNat 32 (laneCnt (passes H c0w) l g)
  fst : x.2.1 = vec fun l => BitVec.ofNat 32 (laneMin (passes H c0w) l g)
  sum : ∀ j, run j + x.2.2 = pre H (16 * g)

theorem gstep_at (H : ℕ → BitVec 32) (c0w : BitVec 32) (t d g : ℕ) (hg : 16 * g = 128 * t + d) (hb : 16 * g < 1000000) (run : IVec S16 32) (x : IVec S16 32 × IVec S16 32 × BitVec 32)
    (h : At H c0w g run x) :
    At H c0w (g + 1) run (gstep (addi (broadcast S16 (Scalar.muli (Scf.iv 0#32 1#32 t) 128#32)) lanes) (vec fun _ => c0w) run (BitVec.ofNat 32 d) (vec fun l => H (128 * t + d + l)) x) := by
  obtain ⟨h1, h2, h3⟩ := h
  have hpos : ∀ j : S16.Idx, (addi (addi (broadcast S16 (Scalar.muli (Scf.iv 0#32 1#32 t) 128#32)) lanes) (broadcast S16 (BitVec.ofNat 32 d)) : IVec S16 32) j = BitVec.ofNat 32 (16 * g + (j 0).val) := by
    intro j
    have hj : (j 0).val < 16 := (j 0).isLt
    show ((0#32 + BitVec.ofNat 32 t * 1#32) * 128#32 + lanes j) + BitVec.ofNat 32 d = _
    rw [lanes_at]
    apply BitVec.eq_of_toNat_eq
    simp only [BitVec.toNat_add, BitVec.toNat_mul, BitVec.toNat_ofNat]
    omega
  have hsum : ∀ j : S16.Idx, scan (d := ![16]) .sum (vec fun l => H (128 * t + d + l) : S16.Idx → BitVec 32) j + (run j + x.2.2) = pre H (16 * g + (j 0).val + 1) := by
    intro j
    rw [h3, scan_sum, Nat.add_assoc, pre_add H (16 * g), BitVec.add_comm, hg]
  have hok : ∀ j : S16.Idx, ∀ a b : BitVec 32, Scalar.select ((cmpi .sge (addi (addi (scan .sum (vec fun l => H (128 * t + d + l) : S16.Idx → BitVec 32)) (addi run (broadcast S16 x.2.2))) (vec fun _ => c0w))
      (addi (addi (addi (broadcast S16 (Scalar.muli (Scf.iv 0#32 1#32 t) 128#32)) lanes) (broadcast S16 (BitVec.ofNat 32 d))) (broadcast S16 1#32)) : IVec S16 1) j) a b
      = if passes H c0w (16 * g + (j 0).val) then a else b := by
    intro j a b
    show Scalar.select (IntOp.cmpi .sge (scan (d := ![16]) .sum (vec fun l => H (128 * t + d + l) : S16.Idx → BitVec 32) j + (run j + x.2.2) + c0w)
      ((addi (addi (broadcast S16 (Scalar.muli (Scf.iv 0#32 1#32 t) 128#32)) lanes) (broadcast S16 (BitVec.ofNat 32 d)) : IVec S16 32) j + 1#32)) a b = _
    rw [hsum, hpos, ← BitVec.ofNat_add]
    unfold Scalar.select IntOp.cmpi passes
    by_cases hp : (BitVec.ofNat 32 (16 * g + (j 0).val + 1)).sle (pre H (16 * g + (j 0).val + 1) + c0w) = true
    · simp [hp]
    · simp [hp]
  refine ⟨?_, ?_, ?_⟩
  · funext j
    show x.1 j + Scalar.select _ _ _ = _
    refine (congrArg (x.1 j + ·) (hok j 1#32 0#32)).trans ?_
    rw [h1]
    show BitVec.ofNat 32 (laneCnt _ (j 0).val g) + _ = BitVec.ofNat 32 (laneCnt _ (j 0).val g + _)
    rw [BitVec.ofNat_add]
    split <;> rfl
  · funext j
    have hj : (j 0).val < 16 := (j 0).isLt
    show IntOp.minsi (x.2.1 j) (Scalar.select _ _ _) = _
    refine (congrArg (IntOp.minsi (x.2.1 j)) (hok j _ 1073741824#32)).trans ?_
    rw [h2]
    show IntOp.minsi (BitVec.ofNat 32 (laneMin _ (j 0).val g)) (if _ then (addi (addi (broadcast S16 (Scalar.muli (Scf.iv 0#32 1#32 t) 128#32)) lanes) (broadcast S16 (BitVec.ofNat 32 d)) : IVec S16 32) j else _) = BitVec.ofNat 32 (min _ _)
    rw [hpos]
    rw [← minsi_ofNat _ _ (laneMin_le _ _ _) (by split <;> omega)]
    split <;> rfl
  · intro j
    show run j + (x.2.2 + scan (d := ![16]) .sum (vec fun l => H (128 * t + d + l) : S16.Idx → BitVec 32) (fun a => ⟨(![15] : Fin 1 → ℕ) a, inpos_S16_p15 a⟩)) = _
    rw [← BitVec.add_assoc, h3, scan_sum, Nat.mul_add, pre_add H (16 * g), hg]
    rfl

theorem bstep_at (H : ℕ → BitVec 32) (c0w : BitVec 32) (t : ℕ) (hb : t < 1000) (x : SCar) (h : At H c0w (8 * t) x.2.2 (x.1, x.2.1, 0#32)) :
    At H c0w (8 * (t + 1)) (bstep (addi (broadcast S16 (Scalar.muli (Scf.iv 0#32 1#32 t) 128#32)) lanes) (vec fun _ => c0w) (vec fun l => H (128 * t + l)) (vec fun l => H (128 * t + 16 + l))
      (vec fun l => H (128 * t + 32 + l)) (vec fun l => H (128 * t + 48 + l)) (vec fun l => H (128 * t + 64 + l)) (vec fun l => H (128 * t + 80 + l))
      (vec fun l => H (128 * t + 96 + l)) (vec fun l => H (128 * t + 112 + l)) x).2.2
      ((bstep (addi (broadcast S16 (Scalar.muli (Scf.iv 0#32 1#32 t) 128#32)) lanes) (vec fun _ => c0w) (vec fun l => H (128 * t + l)) (vec fun l => H (128 * t + 16 + l))
      (vec fun l => H (128 * t + 32 + l)) (vec fun l => H (128 * t + 48 + l)) (vec fun l => H (128 * t + 64 + l)) (vec fun l => H (128 * t + 80 + l))
      (vec fun l => H (128 * t + 96 + l)) (vec fun l => H (128 * t + 112 + l)) x).1, (bstep (addi (broadcast S16 (Scalar.muli (Scf.iv 0#32 1#32 t) 128#32)) lanes) (vec fun _ => c0w) (vec fun l => H (128 * t + l)) (vec fun l => H (128 * t + 16 + l))
      (vec fun l => H (128 * t + 32 + l)) (vec fun l => H (128 * t + 48 + l)) (vec fun l => H (128 * t + 64 + l)) (vec fun l => H (128 * t + 80 + l))
      (vec fun l => H (128 * t + 96 + l)) (vec fun l => H (128 * t + 112 + l)) x).2.1, 0#32) := by
  have h0 := gstep_at H c0w t 0 (8 * t) (by omega) (by omega) _ _ h
  have h1 := gstep_at H c0w t 16 _ (by omega) (by omega) _ _ h0
  have h2 := gstep_at H c0w t 32 _ (by omega) (by omega) _ _ h1
  have h3 := gstep_at H c0w t 48 _ (by omega) (by omega) _ _ h2
  have h4 := gstep_at H c0w t 64 _ (by omega) (by omega) _ _ h3
  have h5 := gstep_at H c0w t 80 _ (by omega) (by omega) _ _ h4
  have h6 := gstep_at H c0w t 96 _ (by omega) (by omega) _ _ h5
  have h7 := gstep_at H c0w t 112 _ (by omega) (by omega) _ _ h6
  obtain ⟨a, b, c⟩ := h7
  refine ⟨a, b, fun j => ?_⟩
  rw [BitVec.add_zero]
  exact c j

theorem scanSt_at (H : ℕ → BitVec 32) (c0w : BitVec 32) (b : ℕ) (hb : b < 1000) :
    At H c0w (8 * b) (scanSt lanes (vec fun _ => c0w) H b).2.2 ((scanSt lanes (vec fun _ => c0w) H b).1, (scanSt lanes (vec fun _ => c0w) H b).2.1, 0#32) := by
  induction b with
  | zero => exact ⟨rfl, rfl, fun j => rfl⟩
  | succ b ih => exact bstep_at H c0w b (by omega) _ (ih (by omega))

/-! ### The column's value -/

/-- The least of a word and the first `n` others. -/
def least (f : ℕ → ℕ) : ℕ → ℕ
  | 0 => f 0
  | n + 1 => min (least f n) (f (n + 1))

theorem least_mem (f : ℕ → ℕ) (n : ℕ) : ∃ l ≤ n, least f n = f l := by
  induction n with
  | zero => exact ⟨0, le_refl _, rfl⟩
  | succ n ih =>
    obtain ⟨l, hl, h⟩ := ih
    show ∃ l ≤ n + 1, min (least f n) (f (n + 1)) = f l
    rcases min_choice (least f n) (f (n + 1)) with e | e
    · exact ⟨l, by omega, e.trans h⟩
    · exact ⟨n + 1, le_refl _, e⟩

theorem least_le (f : ℕ → ℕ) (n : ℕ) : ∀ l ≤ n, least f n ≤ f l := by
  induction n with
  | zero => intro l hl; obtain rfl : l = 0 := by omega
            exact le_refl _
  | succ n ih =>
    intro l hl
    show min (least f n) (f (n + 1)) ≤ f l
    rcases Nat.lt_or_ge n l with h | h
    · obtain rfl : l = n + 1 := by omega
      exact min_le_right _ _
    · exact (min_le_left _ _).trans (ih l h)

theorem minui_flip (a b : ℕ) (ha : a ≤ 1073741824) (hb : b ≤ 1073741824) :
    IntOp.minui (BitVec.ofNat 32 a ^^^ 2147483648#32) (BitVec.ofNat 32 b ^^^ 2147483648#32) = BitVec.ofNat 32 (min a b) ^^^ 2147483648#32 := by
  have hi : ∀ x : ℕ, x ≤ 1073741824 → (BitVec.ofNat 32 x ^^^ 2147483648#32).toNat = x + 2147483648 := by
    intro x hx
    rw [BitVec.toNat_xor, BitVec.toNat_ofNat, Nat.mod_eq_of_lt (by omega)]
    show x ^^^ 2 ^ 31 = x + 2 ^ 31
    have h : x + 2 ^ 31 = 2 ^ 31 ||| x := by
      have := Nat.two_pow_add_eq_or_of_lt (b := x) (i := 31) (by omega) 1
      rw [Nat.mul_one] at this
      omega
    rw [h]
    apply Nat.eq_of_testBit_eq
    intro i
    rw [Nat.testBit_xor, Nat.testBit_or, Nat.testBit_two_pow]
    by_cases hi : 31 = i
    · subst hi
      rw [Nat.testBit_lt_two_pow (x := x) (i := 31) (by omega)]
      simp
    · simp [hi]
  unfold IntOp.minui
  rcases Nat.lt_or_ge a b with h | h
  · rw [if_pos (by rw [BitVec.ult_iff_lt, BitVec.lt_def, hi a ha, hi b hb]; omega), min_eq_left (by omega)]
  · rw [if_neg (by rw [BitVec.ult_iff_lt, BitVec.lt_def, hi a ha, hi b hb]; omega), min_eq_right (by omega)]

theorem scan_min (f : ℕ → ℕ) (hf : ∀ l, f l ≤ 1073741824) :
    scan (d := ![16]) .min (vec fun l => BitVec.ofNat 32 (f l) ^^^ 2147483648#32 : S16.Idx → BitVec 32) (fun a => ⟨(![15] : Fin 1 → ℕ) a, inpos_S16_p15 a⟩)
      = BitVec.ofNat 32 (least f 15) ^^^ 2147483648#32 := by
  have hl : ∀ n, least f n ≤ 1073741824 := fun n => (least_le f n 0 (by omega)).trans (hf 0)
  have h : ∀ n, IntOp.minui (BitVec.ofNat 32 (least f n) ^^^ 2147483648#32) (BitVec.ofNat 32 (f (n + 1)) ^^^ 2147483648#32) = BitVec.ofNat 32 (least f (n + 1)) ^^^ 2147483648#32 :=
    fun n => minui_flip _ _ (hl n) (hf _)
  rw [← h 14, ← h 13, ← h 12, ← h 11, ← h 10, ← h 9, ← h 8, ← h 7, ← h 6, ← h 5, ← h 4, ← h 3, ← h 2, ← h 1, ← h 0]
  rfl

theorem pre_ofNat (f : ℕ → ℕ) (n : ℕ) : pre (fun l => BitVec.ofNat 32 (f l)) n = BitVec.ofNat 32 (∑ l ∈ Finset.range n, f l) := by
  induction n with
  | zero => rfl
  | succ n ih => show pre _ n + _ = _; rw [ih, Finset.sum_range_succ, BitVec.ofNat_add]

section Lanes

variable (P : ℕ → Prop) [DecidablePred P]

/-- The places below `n` that pass. -/
def placesP (n : ℕ) : Finset ℕ := (Finset.range n).filter P

theorem sum_laneCnt (g : ℕ) : ∑ l ∈ Finset.range 16, laneCnt P l g = (placesP P (16 * g)).card := by
  induction g with
  | zero => simp [laneCnt, placesP]
  | succ g ih =>
    unfold placesP at ih ⊢
    rw [Nat.mul_add, Finset.card_filter, Finset.sum_range_add, ← Finset.card_filter, ← ih, ← Finset.sum_add_distrib]
    rfl

theorem laneMin_le_of (l : ℕ) : ∀ g g' : ℕ, g' < g → P (16 * g' + l) → laneMin P l g ≤ 16 * g' + l
  | 0, _, h, _ => absurd h (by omega)
  | g + 1, g', h, hp => by
    show min _ _ ≤ _
    rcases Nat.lt_or_ge g' g with h' | h'
    · exact (min_le_left _ _).trans (laneMin_le_of l g g' h' hp)
    · obtain rfl : g' = g := by omega
      rw [if_pos hp]; exact min_le_right _ _

theorem laneMin_mem (l g : ℕ) : laneMin P l g = 1073741824 ∨ ∃ g' < g, P (16 * g' + l) ∧ laneMin P l g = 16 * g' + l := by
  induction g with
  | zero => exact .inl rfl
  | succ g ih =>
    show min (laneMin P l g) _ = _ ∨ ∃ g' < g + 1, _ ∧ min (laneMin P l g) _ = _
    rcases min_choice (laneMin P l g) (if P (16 * g + l) then 16 * g + l else 1073741824) with e | e
    · rw [e]
      rcases ih with h | ⟨g', h, hp, he⟩
      · exact .inl h
      · exact .inr ⟨g', by omega, hp, he⟩
    · rw [e]
      by_cases hp : P (16 * g + l)
      · exact .inr ⟨g, by omega, hp, by rw [if_pos hp]⟩
      · rw [if_neg hp]; exact .inl rfl

/-- The least place that passes. -/
theorem least_laneMin (g : ℕ) (hg : 16 * g < 1000000) (h : (placesP P (16 * g)).Nonempty) : least (fun l => laneMin P l g) 15 = (placesP P (16 * g)).min' h := by
  have hle : ∀ q ∈ placesP P (16 * g), least (fun l => laneMin P l g) 15 ≤ q := by
    intro q hq
    obtain ⟨hq, hp⟩ := Finset.mem_filter.mp hq
    rw [Finset.mem_range] at hq
    refine (least_le _ 15 (q % 16) (by omega)).trans ?_
    have he : 16 * (q / 16) + q % 16 = q := Nat.div_add_mod q 16
    refine (laneMin_le_of P (q % 16) g (q / 16) (by omega) (by rw [he]; exact hp)).trans (le_of_eq he)
  apply le_antisymm
  · exact hle _ (Finset.min'_mem _ h)
  · apply Finset.min'_le
    obtain ⟨l, hl, he⟩ := least_mem (fun l => laneMin P l g) 15
    rw [he]
    show laneMin P l g ∈ _
    rcases laneMin_mem P l g with e | ⟨g', hg', hp, e⟩
    · exfalso
      have h1 := hle _ (Finset.min'_mem _ h)
      rw [he] at h1
      have h2 := Finset.mem_range.mp (Finset.mem_filter.mp (Finset.min'_mem _ h)).1
      have h3 : laneMin P l g = 1073741824 := e
      simp only [h3] at h1
      omega
    · rw [e]
      exact Finset.mem_filter.mpr ⟨Finset.mem_range.mpr (by omega), hp⟩

end Lanes

/-- What a set of passing places is worth. -/
def worth (A : Finset ℕ) : ℕ := if h : A.Nonempty then A.card + A.min' h else 0

/-- What a column's lanes are worth. -/
theorem pay390_at {F : FTy → Type} [FloatOps F] (P : ℕ → Prop) [DecidablePred P] (g : ℕ) (hg : 16 * g < 1000000) :
    k1_pay390 (F := F) (vec fun l => BitVec.ofNat 32 (laneCnt P l g)) (vec fun l => BitVec.ofNat 32 (laneMin P l g))
      = if (placesP P (16 * g)).Nonempty then Scalar.sitofp .f32 (BitVec.ofNat 32 (worth (placesP P (16 * g)))) else Scalar.ofBits .f32 0x00000000#32 := by
  have hc : (placesP P (16 * g)).card ≤ 16 * g := (Finset.card_filter_le _ _).trans (by rw [Finset.card_range])
  have e1 : scan (d := ![16]) .sum (vec fun l => BitVec.ofNat 32 (laneCnt P l g) : S16.Idx → BitVec 32) (fun a => ⟨(![15] : Fin 1 → ℕ) a, inpos_S16_p15 a⟩) = BitVec.ofNat 32 (placesP P (16 * g)).card := by
    rw [scan_sum]
    show pre _ 16 = _
    rw [pre_ofNat, sum_laneCnt]
  have e2 := scan_min (fun l => laneMin P l g) (fun l => laneMin_le P l g)
  show Scalar.select (Scalar.cmpi .sgt (scan (d := ![16]) .sum (vec fun l => BitVec.ofNat 32 (laneCnt P l g) : S16.Idx → BitVec 32) (fun a => ⟨(![15] : Fin 1 → ℕ) a, inpos_S16_p15 a⟩)) 0#32)
    (Scalar.sitofp .f32 (scan (d := ![16]) .sum (vec fun l => BitVec.ofNat 32 (laneCnt P l g) : S16.Idx → BitVec 32) (fun a => ⟨(![15] : Fin 1 → ℕ) a, inpos_S16_p15 a⟩)
      + (scan (d := ![16]) .min (vec fun l => BitVec.ofNat 32 (laneMin P l g) ^^^ 2147483648#32 : S16.Idx → BitVec 32) (fun a => ⟨(![15] : Fin 1 → ℕ) a, inpos_S16_p15 a⟩) ^^^ 2147483648#32))) _ = _
  rw [e1, e2, BitVec.xor_assoc, BitVec.xor_self, BitVec.xor_zero, ← BitVec.ofNat_add]
  by_cases h : (placesP P (16 * g)).Nonempty
  · rw [if_pos h, least_laneMin P g hg h]
    have hpos := Finset.card_pos.mpr h
    have hs : Scalar.cmpi .sgt (BitVec.ofNat 32 (placesP P (16 * g)).card) 0#32 = 1#1 := by
      show BitVec.ofBool ((0#32).slt _) = 1#1
      rw [show (0#32).slt (BitVec.ofNat 32 (placesP P (16 * g)).card) = true by
        rw [BitVec.slt_iff_toInt_lt, WordArith.toInt_ofNat_small (placesP P (16 * g)).card (by omega), show (0#32 : BitVec 32).toInt = 0 from rfl]; exact_mod_cast hpos]
      rfl
    rw [hs]
    unfold worth
    rw [dif_pos h]
    rfl
  · rw [if_neg h, Finset.not_nonempty_iff_eq_empty.mp h]
    rfl

end Cert.Proof.Sc

end
-- ==== Proof.HistVal.lean ====
/-
  The histogram's counts in terms of the words: a place passes exactly when enough words are at most it.
-/
module

public import proofs.«01_k».proof.Proof.ScanVal

@[expose] public section

noncomputable section

namespace Cert.Proof.Sc

open Idealize.ShloMosaic
open Cert.KernelIdeal Cert.KernelIdeal.Gen

/-- How many of the fifty chunks' words have a property. -/
def cw (w : ℕ → ℕ → BitVec 32) (p : BitVec 32 → Prop) [DecidablePred p] : ℕ :=
  ∑ c ∈ Finset.range 50, ∑ x ∈ Finset.range 2000, if p (w c x) then 1 else 0

theorem cw_le (w : ℕ → ℕ → BitVec 32) (p q : BitVec 32 → Prop) [DecidablePred p] [DecidablePred q] (h : ∀ b, p b → q b) : cw w p ≤ cw w q := by
  unfold cw
  refine Finset.sum_le_sum fun c _ => Finset.sum_le_sum fun x _ => ?_
  by_cases hp : p (w c x)
  · rw [if_pos hp, if_pos (h _ hp)]
  · rw [if_neg hp]; exact Nat.zero_le _

theorem cw_max (w : ℕ → ℕ → BitVec 32) (p : BitVec 32 → Prop) [DecidablePred p] : cw w p ≤ 100000 := by
  unfold cw
  refine (Finset.sum_le_sum fun c _ => Finset.sum_le_sum (g := fun _ => 1) fun x _ => ?_).trans ?_
  · split <;> simp
  · simp

/-- Two disjoint properties. -/
theorem cw_add (w : ℕ → ℕ → BitVec 32) (p q r : BitVec 32 → Prop) [DecidablePred p] [DecidablePred q] [DecidablePred r]
    (h : ∀ b, r b ↔ p b ∨ q b) (hd : ∀ b, p b → ¬ q b) : cw w r = cw w p + cw w q := by
  unfold cw
  rw [← Finset.sum_add_distrib]
  refine Finset.sum_congr rfl fun c _ => ?_
  rw [← Finset.sum_add_distrib]
  refine Finset.sum_congr rfl fun x _ => ?_
  by_cases hp : p (w c x)
  · rw [if_pos ((h _).mpr (.inl hp)), if_pos hp, if_neg (hd _ hp)]
  · by_cases hq : q (w c x)
    · rw [if_pos ((h _).mpr (.inr hq)), if_neg hp, if_pos hq]
    · rw [if_neg (by rw [h]; tauto), if_neg hp, if_neg hq]

theorem hits_sum (w : ℕ → BitVec 32) (kw : BitVec 32) (b n : ℕ) :
    hits w kw 0 b n = ∑ x ∈ Finset.range b, if (w x).slt kw = true ∧ (w x).toNat = n then 1 else 0 := by
  unfold hits hitSet
  rw [Finset.card_filter, Finset.range_eq_Ico]

/-- The table's entries. -/
theorem rowCnt_at (B : ℕ → ℕ → BitVec 32) (kw : BitVec 32) (n : ℕ) : rowCnt B kw n = BitVec.ofNat 32 (∑ c ∈ Finset.range 50, hits (B c) kw 0 2000 n) := by
  have h : ∀ m, rowH B kw (fun _ => 0#32) m n = BitVec.ofNat 32 (∑ c ∈ Finset.range m, hits (B c) kw 0 2000 n) := by
    intro m
    induction m with
    | zero => rfl
    | succ m ih => show rowH B kw (fun _ => 0#32) m n + _ = _; rw [ih, Finset.sum_range_succ, BitVec.ofNat_add]
  exact h 50

/-- The table's sum up to a place. -/
theorem pre_rowCnt (B : ℕ → ℕ → BitVec 32) (kw : BitVec 32) (q : ℕ) :
    pre (rowCnt B kw) (q + 1) = BitVec.ofNat 32 (cw B fun b => b.slt kw = true ∧ b.toNat ≤ q) := by
  rw [show rowCnt B kw = fun n => BitVec.ofNat 32 (∑ c ∈ Finset.range 50, hits (B c) kw 0 2000 n) from funext (rowCnt_at B kw), pre_ofNat]
  refine congrArg (BitVec.ofNat 32) ?_
  unfold cw
  rw [Finset.sum_comm]
  refine Finset.sum_congr rfl fun c _ => ?_
  simp only [hits_sum]
  rw [Finset.sum_comm]
  refine Finset.sum_congr rfl fun x _ => ?_
  by_cases h : (B c x).slt kw = true
  · simp only [h, true_and]
    rw [Finset.sum_ite_eq]
    by_cases h' : (B c x).toNat ≤ q
    · rw [if_pos (Finset.mem_range.mpr (by omega)), if_pos h']
    · rw [if_neg (by rw [Finset.mem_range]; omega), if_neg h']
  · simp [h]

theorem clampW_pos (b : BitVec 32) (h : (clampW b).toNat < 100000) : 0 < b.toInt ∧ b.toInt < 100000 ∧ clampW b = b := by
  unfold clampW at h ⊢
  split at h
  · simp at h
  · split at h
    · rename_i h1 h2
      rw [if_neg h1, if_pos h2]
      exact ⟨by omega, h2, rfl⟩
    · simp at h

theorem toNat_of_pos (b : BitVec 32) (h : 0 < b.toInt) : (b.toNat : ℤ) = b.toInt := by
  have := b.isLt
  rw [BitVec.toInt_eq_toNat_cond] at h ⊢
  split at h
  · rename_i h1; rw [if_pos h1]
  · omega

section Col

variable (w B : ℕ → ℕ → BitVec 32) (hB : ∀ c < 50, ∀ x < 2000, B c x = clampW (w c x)) (kw c0w : BitVec 32)
variable (hk : kw.toNat = cw w fun b => b.toInt < 100000) (hc : c0w.toNat = cw w fun b => b.toInt ≤ 0)

include hB in
theorem cw_B (p : BitVec 32 → Prop) [DecidablePred p] : cw B p = cw w fun b => p (clampW b) := by
  unfold cw
  refine Finset.sum_congr rfl fun c hc => Finset.sum_congr rfl fun x hx => ?_
  rw [hB c (Finset.mem_range.mp hc) x (Finset.mem_range.mp hx)]

include hB hk hc in
/-- A place passes when enough words are at most it. -/
theorem passes_iff (q : ℕ) (hq : q < 1000000) : passes (rowCnt B kw) c0w q ↔ q < kw.toNat ∧ q < 100000 ∧ q + 1 ≤ cw w fun b => b.toInt ≤ q := by
  have hkm : kw.toNat ≤ 100000 := hk ▸ cw_max _ _
  have hcm : c0w.toNat ≤ 100000 := hc ▸ cw_max _ _
  have hki : kw.toInt = kw.toNat := toInt_small kw (by omega)
  have hS : (cw B fun b => b.slt kw = true ∧ b.toNat ≤ q) = cw w fun b => (clampW b).toNat < kw.toNat ∧ (clampW b).toNat ≤ q := by
    rw [cw_B w B hB]
    unfold cw
    refine Finset.sum_congr rfl fun c _ => Finset.sum_congr rfl fun x _ => ?_
    have hl := clampW_le (w c x)
    refine if_congr (and_congr_left fun _ => ?_) rfl rfl
    rw [BitVec.slt_iff_toInt_lt, hki, toInt_small _ (by omega)]
    omega
  have hSm : (cw w fun b => (clampW b).toNat < kw.toNat ∧ (clampW b).toNat ≤ q) ≤ 100000 := cw_max _ _
  have h1 : passes (rowCnt B kw) c0w q ↔ q + 1 ≤ (cw w fun b => (clampW b).toNat < kw.toNat ∧ (clampW b).toNat ≤ q) + cw w fun b => b.toInt ≤ 0 := by
    unfold passes
    rw [pre_rowCnt, hS, BitVec.sle_iff_toInt_le, WordArith.toInt_ofNat_small _ (by omega), ← hc]
    rw [toInt_small _ (by rw [BitVec.toNat_add, BitVec.toNat_ofNat]; omega), BitVec.toNat_add, BitVec.toNat_ofNat]
    omega
  rw [h1, ← cw_add w (fun b => (clampW b).toNat < kw.toNat ∧ (clampW b).toNat ≤ q) (fun b => b.toInt ≤ 0)
    (fun b => ((clampW b).toNat < kw.toNat ∧ (clampW b).toNat ≤ q) ∨ b.toInt ≤ 0) (fun b => Iff.rfl) (fun b hb => by
      have := clampW_pos b (by omega); omega)]
  constructor
  · intro h
    have h2 := cw_le w (fun b => ((clampW b).toNat < kw.toNat ∧ (clampW b).toNat ≤ q) ∨ b.toInt ≤ 0) (fun b => b.toInt < 100000) (fun b hb => by
      rcases hb with hb | hb
      · exact (clampW_pos b (by omega)).2.1
      · omega)
    have h3 := cw_le w (fun b => ((clampW b).toNat < kw.toNat ∧ (clampW b).toNat ≤ q) ∨ b.toInt ≤ 0) (fun b => b.toInt ≤ q) (fun b hb => by
      rcases hb with hb | hb
      · obtain ⟨ha, hb', hc'⟩ := clampW_pos b (by omega)
        rw [hc'] at hb
        have := toNat_of_pos b ha
        omega
      · omega)
    rw [← hk] at h2
    exact ⟨by omega, by omega, by omega⟩
  · rintro ⟨hqk, hqN, h⟩
    refine h.trans (cw_le w _ _ fun b hb => ?_)
    by_cases h0 : b.toInt ≤ 0
    · exact .inr h0
    · left
      have hcl : clampW b = b := by unfold clampW; rw [if_neg h0, if_pos (by omega)]
      have := toNat_of_pos b (by omega)
      rw [hcl]
      omega

include hk in
theorem enough_lt (q : ℕ) (hq : q < 100000) (h : q + 1 ≤ cw w fun b => b.toInt ≤ q) : q < kw.toNat := by
  have := cw_le w (fun b => b.toInt ≤ q) (fun b => b.toInt < 100000) (fun b hb => by omega)
  omega

/-- The places with enough words at most them. -/
def passSet : Finset ℕ := (Finset.range 100000).filter fun q => q + 1 ≤ cw w fun b => b.toInt ≤ q

include hB hk hc in
theorem colVal {F : FTy → Type} [FloatOps F] :
    k1_pay390 (F := F) (colRes lanes B kw c0w).1 (colRes lanes B kw c0w).2.1
      = if (passSet w).Nonempty then Scalar.sitofp .f32 (BitVec.ofNat 32 (worth (passSet w))) else Scalar.ofBits .f32 0x00000000#32 := by
  have hkm : kw.toNat ≤ 100000 := hk ▸ cw_max _ _
  obtain ⟨h1, h2, -⟩ := scanSt_at (rowCnt B kw) c0w (kw.toNat / 128 + 1) (by omega)
  have hset : placesP (passes (rowCnt B kw) c0w) (16 * (8 * (kw.toNat / 128 + 1))) = passSet w := by
    ext q
    unfold placesP passSet
    rw [Finset.mem_filter, Finset.mem_filter, Finset.mem_range, Finset.mem_range]
    constructor
    · rintro ⟨hq, hp⟩
      exact ((passes_iff w B hB kw c0w hk hc q (by omega)).mp hp).2
    · rintro ⟨hq, hp⟩
      have := enough_lt w kw hk q hq hp
      exact ⟨by omega, (passes_iff w B hB kw c0w hk hc q (by omega)).mpr ⟨this, hq, hp⟩⟩
  have h := pay390_at (F := F) (passes (rowCnt B kw) c0w) (8 * (kw.toNat / 128 + 1)) (by omega)
  rw [hset] at h
  rw [← h]
  show k1_pay390 (scanSt lanes (vec fun _ => c0w) (rowCnt B kw) (kw.toNat / 128 + 1)).1 (scanSt lanes (vec fun _ => c0w) (rowCnt B kw) (kw.toNat / 128 + 1)).2.1 = _
  dsimp only at h1 h2
  rw [h1, h2]

end Col

end Cert.Proof.Sc

end
-- ==== Proof.KVal.lean ====
/-
  The result of the two calls, row by row, over any numbers.
-/
module

public import proofs.«01_k».proof.Proof.HistVal

@[expose] public section

noncomputable section

namespace Cert.Proof.Sc

open Idealize.ShloMosaic Idealize.ShloMosaic.TcCoe
open Cert.KernelIdeal Cert.KernelIdeal.Gen
open Cert.Proof.Tc

variable {F : FTy → Type} [FloatOps F]

/-- A word of a chunk is the array's. -/
theorem Bw_at (d : Dev nD) (i : grid1.Coords) (f : Buf (Elt F) ((Memref.whole main_v0_0_scv).view.loc (tid d i)))
    (c r x : ℕ) (hc : c < 50) (hr : r < 128) (hx : x < 2000) :
    Bw d i (Memref.whole main_v0_0_scv) f c r x = (f : IVec S50x128x2000 32) (ix3 ⟨c, hc⟩ ⟨r, hr⟩ ⟨x, hx⟩) := by
  have h : ∀ a, (![c, r, 0] : Fin 3 → ℕ) a + S1x1x2000.size a ≤ S50x128x2000.size a := by
    intro a
    match a with
    | ⟨0, _⟩ => show c + 1 ≤ 50; omega
    | ⟨1, _⟩ => show r + 1 ≤ 128; omega
    | ⟨2, _⟩ => show 0 + 2000 ≤ 2000; omega
  unfold Bw
  rw [dif_pos h]
  unfold words
  rw [dif_pos hx]
  refine congrArg (f : IVec S50x128x2000 32) ?_
  show (Rect.unit (s := S50x128x2000) ![c, r, 0] S1x1x2000.size h).emb (Shape.reshapeEquiv _ _) = _
  rw [Shape.reshapeEquiv_eq_of_rowMajor (y := (ix3 (0 : Fin 1) (0 : Fin 1) (⟨x, hx⟩ : Fin 2000) : S1x1x2000.Idx))]
  · funext a
    apply Fin.ext
    rw [Rect.emb_apply]
    match a with
    | ⟨0, _⟩ => show c + 1 * 0 = c; omega
    | ⟨1, _⟩ => show r + 1 * 0 = r; omega
    | ⟨2, _⟩ => show 0 + 1 * x = x; omega
  · refine (Shape.rowMajor_val_three (d := ![1, 1, 2000]) _).trans (Eq.trans ?_ (Shape.rowMajor_val_one (d := ![2000]) _).symm)
    show (0 * 1 + 0) * 2000 + x = x
    omega

variable (m : (ℓ : Loc nD τ sig) → Buf (Elt F) ℓ)

/-- A row's word. -/
def wd (d : Dev nD) (r : Fin 128) (t x : ℕ) : BitVec 32 :=
  if h : x < 2000 then blkB (mu m d (pt t)) (va m d (pt t)) (ix2 ⟨x, h⟩ r) else 0#32

theorem cntUpTo_cw (d : Dev nD) (r : Fin 128) (p : BitVec 32 → Prop) [DecidablePred p] :
    cntUpTo m (fun b => decide (p b)) d r 49 = cw (wd m d r) p := by
  unfold cntUpTo cw
  refine Finset.sum_congr rfl fun t _ => ?_
  unfold cntBlk
  rw [Finset.card_filter, ← Fin.sum_univ_eq_sum_range (fun x => if p (wd m d r t x) then 1 else 0) 2000]
  refine Finset.sum_congr rfl fun x _ => ?_
  unfold wd
  rw [dif_pos x.isLt]
  simp only [decide_eq_true_eq, Fin.eta]

theorem outVec_at (y : Fin 4 → SCar) (j : Fin 4) (l : Fin 16) (h : l.val = j.val) :
    outVec (F := F) y (ix1 l) = k1_pay390 (y j).1 (y j).2.1 := by
  obtain ⟨l, hl⟩ := l
  obtain ⟨j, hj⟩ := j
  dsimp only at h
  subst h
  have h4 : l = 0 ∨ l = 1 ∨ l = 2 ∨ l = 3 := by omega
  unfold outVec
  rcases h4 with rfl | rfl | rfl | rfl
  all_goals
    unfold putRes
    simp only [select, cmpi, lanes_at, broadcast]
    rfl

theorem wordsOf_at (f : IVec S128 32) (r : Fin 128) : wordsOf f r.val = f (ix1 r) := by
  unfold wordsOf
  rw [dif_pos r.isLt]
  refine congrArg f (funext fun a => ?_)
  obtain rfl : a = 0 := Subsingleton.elim (α := Fin 1) a 0
  rfl

theorem res_out (d : Dev nD) (r : Fin 128) (g : FVec F S32x16 .f32) :
    shapeCast S128 (extractStridedSlice S32x4 ![0, 0] g slices_S32x16_S32x4_0_0) shapeCasts_S32x4_S128 (ix1 r)
      = g (ix2 (⟨r.val / 4, by omega⟩ : Fin 32) (⟨r.val % 4, by omega⟩ : Fin 16)) := by
  have hr := r.isLt
  refine (shapeCast_apply _ _ (ix1 r) (ix2 (⟨r.val / 4, by omega⟩ : Fin 32) (⟨r.val % 4, by omega⟩ : Fin 4)) ?_).trans ?_
  · refine (Shape.rowMajor_val_two (d := ![32, 4]) _).trans (Eq.trans ?_ (Shape.rowMajor_val_one (d := ![128]) _).symm)
    show r.val / 4 * 4 + r.val % 4 = r.val
    omega
  · refine extractStridedSlice_apply _ _ _ _ (ix2 (⟨r.val / 4, by omega⟩ : Fin 32) (⟨r.val % 4, by omega⟩ : Fin 16)) fun a => ?_
    match a with
    | ⟨0, _⟩ => show r.val / 4 = 0 + r.val / 4; omega
    | ⟨1, _⟩ => show r.val % 4 = 0 + r.val % 4; omega

theorem resAt_val (hrt : RoundTrips F) (d : Dev nD) (i : grid1.Coords) (j : ℕ) (r : Fin 128) (h : rowN i j = r.val) (y : SCar)
    (hy : y = resAt d i (Memref.whole main_v0_0_scv) (fb m d) (wordsOf (fc m d)) (wordsOf (fk m d)) j) :
    k1_pay390 (F := F) y.1 y.2.1 = if (passSet (wd m d r)).Nonempty then Scalar.sitofp .f32 (BitVec.ofNat 32 (worth (passSet (wd m d r)))) else Scalar.ofBits .f32 0x00000000#32 := by
  subst hy
  unfold resAt
  rw [h]
  refine colVal (wd m d r) _ ?_ _ _ ?_ ?_
  · intro c hc x hx
    rw [Bw_at d i _ c r.val x hc r.isLt hx, fb_at m hrt d]
    show clampW (blkB (mu m d (pt c)) (va m d (pt c)) (ix2 ⟨x, hx⟩ r)) = clampW _
    unfold wd
    rw [dif_pos hx]
  · exact (congrArg BitVec.toNat (wordsOf_at (fk m d) r)).trans ((fk_at m d r).trans (cntUpTo_cw m d r _))
  · exact (congrArg BitVec.toNat (wordsOf_at (fc m d) r)).trans ((fc_at m d r).trans (cntUpTo_cw m d r _))

/-- A row's result. -/
theorem res_at (hrt : RoundTrips F) (d : Dev nD) (r : Fin 128) :
    res m d (ix1 r) = if (passSet (wd m d r)).Nonempty then Scalar.sitofp .f32 (BitVec.ofNat 32 (worth (passSet (wd m d r)))) else Scalar.ofBits .f32 0x00000000#32 := by
  have hr := r.isLt
  refine (res_out d r (outF (fb m) (fc m) (fk m) d)).trans ?_
  refine Eq.trans ?_ (resAt_val m hrt d (coordsV ⟨r.val / 4 / 16, by omega⟩ ⟨r.val / 4 % 16, by omega⟩) (r.val % 4) r ?_ _ rfl)
  · exact outVec_at (F := F) (fun j => resAt d (coordsV ⟨r.val / 4 / 16, by omega⟩ ⟨r.val / 4 % 16, by omega⟩) (Memref.whole main_v0_0_scv) (fb m d) (wordsOf (fc m d)) (wordsOf (fk m d)) j.val)
      ⟨r.val % 4, by omega⟩ ⟨r.val % 4, by omega⟩ rfl
  · show 64 * (r.val / 4 / 16) + 4 * (r.val / 4 % 16) + r.val % 4 = r.val
    omega

end Cert.Proof.Sc
-- ==== Proof.Bins.lean ====
/-
  The words over the reals: a value's word is at most a place exactly when the value is at most the place's bound.
-/
module

public import proofs.«01_k».proof.Proof.KVal
public import Idealize.ShloMosaic.Lib.IdealHost
public import Mathlib.MeasureTheory.Integral.IntervalIntegral.Basic

@[expose] public section

noncomputable section

namespace Cert.Proof.Sc

open Idealize.ShloMosaic Idealize.ShloMosaic.TcCoe
open Cert.KernelIdeal Cert.KernelIdeal.Gen
open Cert.Proof.Tc
open MeasureTheory

theorem bell_cont : Continuous fun t : ℝ => Real.exp (-(t ^ 2)) := by fun_prop

theorem bell_small (k : ℕ) (t : ℝ) (h : (k : ℝ) ≤ t) : ‖Real.exp (-(t ^ 2))‖ ≤ (1 / 2 : ℝ) ^ k := by
  rw [Real.norm_eq_abs, abs_of_pos (Real.exp_pos _)]
  have hk : (k : ℝ) ≤ t ^ 2 := by
    rcases Nat.eq_zero_or_pos k with rfl | hk
    · simp; positivity
    · have : (1 : ℝ) ≤ k := by exact_mod_cast hk
      nlinarith
  have h2 : Real.exp (-1) ≤ 1 / 2 := by
    rw [Real.exp_neg, one_div]
    refine inv_anti₀ (by norm_num) ?_
    have := Real.add_one_le_exp (1 : ℝ)
    linarith
  calc Real.exp (-(t ^ 2)) ≤ Real.exp (-(k : ℝ)) := Real.exp_le_exp.mpr (by linarith)
    _ = Real.exp (-1) ^ k := by rw [← Real.exp_nat_mul]; congr 1; ring
    _ ≤ (1 / 2 : ℝ) ^ k := pow_le_pow_left₀ (Real.exp_pos _).le h2 k

theorem bell_step (k : ℕ) (s : ℝ) (h : (k : ℝ) ≤ s) (h' : s ≤ k + 1) : ‖∫ t in (k : ℝ)..s, Real.exp (-(t ^ 2))‖ ≤ (1 / 2 : ℝ) ^ k := by
  refine (intervalIntegral.norm_integral_le_of_norm_le_const (C := (1 / 2 : ℝ) ^ k) fun t ht => bell_small k t ?_).trans ?_
  · rw [Set.uIoc_of_le h] at ht
    exact ht.1.le
  · rw [abs_of_nonneg (by linarith)]
    have : (0 : ℝ) < (1 / 2 : ℝ) ^ k := by positivity
    nlinarith

theorem bell_upTo (n : ℕ) : ‖∫ t in (0 : ℝ)..n, Real.exp (-(t ^ 2))‖ ≤ 2 - 2 * (1 / 2 : ℝ) ^ n := by
  induction n with
  | zero => simp
  | succ n ih =>
    rw [← intervalIntegral.integral_add_adjacent_intervals (b := (n : ℝ)) (bell_cont.intervalIntegrable _ _) (bell_cont.intervalIntegrable _ _)]
    refine (norm_add_le _ _).trans ?_
    have := bell_step n ((n + 1 : ℕ) : ℝ) (by push_cast; linarith) (by push_cast; linarith)
    have e : (1 / 2 : ℝ) ^ (n + 1) = (1 / 2 : ℝ) ^ n / 2 := by ring
    rw [e]
    linarith

/-- The area under the bell from its middle. -/
theorem bell_le (s : ℝ) (hs : 0 ≤ s) : ‖∫ t in (0 : ℝ)..s, Real.exp (-(t ^ 2))‖ ≤ 2 := by
  have h0 := Nat.floor_le hs
  have h1 := (Nat.lt_floor_add_one s).le
  rw [← intervalIntegral.integral_add_adjacent_intervals (b := (⌊s⌋₊ : ℝ)) (bell_cont.intervalIntegrable _ _) (bell_cont.intervalIntegrable _ _)]
  refine (norm_add_le _ _).trans ?_
  have := bell_step ⌊s⌋₊ s h0 h1
  have := bell_upTo ⌊s⌋₊
  have : (0 : ℝ) < (1 / 2 : ℝ) ^ ⌊s⌋₊ := by positivity
  linarith

theorem bell_neg (s : ℝ) : (∫ t in (0 : ℝ)..(-s), Real.exp (-(t ^ 2))) = - ∫ t in (0 : ℝ)..s, Real.exp (-(t ^ 2)) := by
  have h := intervalIntegral.integral_comp_neg (a := 0) (b := s) (fun t : ℝ => Real.exp (-(t ^ 2)))
  simp only [neg_sq, neg_zero] at h
  rw [h, intervalIntegral.integral_symm]

/-- The error function is bounded. -/
theorem erf_mem (z : EReal) : ∃ e : ℝ, -4 ≤ e ∧ e ≤ 4 ∧ Ideal.erf z = (e : EReal) := by
  have hp : 1 ≤ Real.sqrt Real.pi := Real.one_le_sqrt.mpr (by linarith [Real.two_le_pi])
  have hb (r : ℝ) : ‖∫ t in (0 : ℝ)..r, Real.exp (-(t ^ 2))‖ ≤ 2 := by
    rcases le_total 0 r with h | h
    · exact bell_le r h
    · have := bell_neg (-r)
      rw [neg_neg] at this
      rw [this, norm_neg]
      exact bell_le (-r) (by linarith)
  induction z with
  | bot => exact ⟨-1, by norm_num, by norm_num, by show (-1 : EReal) = _; simp⟩
  | top => exact ⟨1, by norm_num, by norm_num, by show (1 : EReal) = _; simp⟩
  | coe r =>
    have h : |2 / Real.sqrt Real.pi * ∫ t in (0 : ℝ)..r, Real.exp (-(t ^ 2))| ≤ 4 := by
      rw [abs_mul, abs_of_pos (by positivity)]
      have h2 : 2 / Real.sqrt Real.pi ≤ 2 := div_le_self (by norm_num) hp
      have h3 := hb r
      rw [Real.norm_eq_abs] at h3
      have h4 := abs_nonneg (∫ t in (0 : ℝ)..r, Real.exp (-(t ^ 2)))
      have h5 : 0 < 2 / Real.sqrt Real.pi := by positivity
      nlinarith
    exact ⟨_, (abs_le.mp h).1, (abs_le.mp h).2, rfl⟩

theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_scale : Ideal.ofBits .f32 0x49F42400#32 = ((2000000 : ℝ) : EReal) := by
  simp [Ideal.ofBits, Ideal.ieee, -EReal.coe_mul]; norm_num
theorem lit_count : Ideal.ofBits .f32 0x47C35000#32 = ((100000 : ℝ) : EReal) := by
  simp [Ideal.ofBits, Ideal.ieee, -EReal.coe_mul]; norm_num
theorem lit_level : Ideal.ofBits .f32 0x3D4CCCCD#32 = ((13421773 / 268435456 : ℝ) : EReal) := by
  simp [Ideal.ofBits, Ideal.ieee, -EReal.coe_mul]; norm_num

/-- The value tested. -/
def pE (a b : EReal) : EReal :=
  Ideal.ofBits .f32 0x3F000000#32 * (Ideal.ofBits .f32 0x3F800000#32 + Ideal.erf (Ideal.div (Ideal.ofBits .f32 0x00000000#32 - a) (b * Ideal.sqrt (Ideal.ofBits .f32 0x40000000#32))))

/-- The bound of a place. -/
def thr (x : ℝ) : ℝ := x / 100000 * (13421773 / 268435456)

theorem pE_mem (a b : EReal) : ∃ r : ℝ, -2 ≤ r ∧ r ≤ 3 ∧ pE a b = (r : EReal) := by
  obtain ⟨e, h0, h1, h⟩ := erf_mem (Ideal.div (Ideal.ofBits .f32 0x00000000#32 - a) (b * Ideal.sqrt (Ideal.ofBits .f32 0x40000000#32)))
  refine ⟨1 / 2 * (1 + e), by linarith, by linarith, ?_⟩
  unfold pE
  rw [h, lit_half, lit_one, ← EReal.coe_add, ← EReal.coe_mul]

theorem div_lit (x : ℝ) : Ideal.div ((x : ℝ) : EReal) (Ideal.ofBits .f32 0x47C35000#32) * Ideal.ofBits .f32 0x3D4CCCCD#32 = ((thr x : ℝ) : EReal) := by
  rw [lit_count, lit_level, Ideal.div_coe (by norm_num), ← EReal.coe_mul, ← EReal.coe_mul]
  unfold thr
  congr 1
  ring

/-- A value's word. -/
def binE (p : EReal) : BitVec 32 :=
  let be : BitVec 32 := Ideal.fptosi 32 (p * Ideal.ofBits .f32 0x49F42400#32)
  let t (l : EReal) : BitVec 1 := Ideal.cmp .olt (Ideal.div (((be.toInt : ℝ) : EReal) + l) (Ideal.ofBits .f32 0x47C35000#32) * Ideal.ofBits .f32 0x3D4CCCCD#32) p
  (((be - 1#32) + Scalar.select (t (Ideal.ofBits .f32 0x00000000#32)) 1#32 0#32) + Scalar.select (t (Ideal.ofBits .f32 0x3F800000#32)) 1#32 0#32)
    + Scalar.select (t (Ideal.ofBits .f32 0x40000000#32)) 1#32 0#32

theorem blkB_bin (mu va : FVec Ideal S2000x128 .f32) (x : S2000x128.Idx) : blkB (F := Ideal) mu va x = binE (pE (mu x) (va x)) := rfl

theorem sel_lt (a b : ℝ) : Scalar.select (Ideal.cmp .olt (a : EReal) (b : EReal)) 1#32 0#32 = if a < b then 1#32 else 0#32 := by
  unfold Ideal.cmp
  by_cases h : a < b <;> simp [Scalar.select, h]

theorem bin_eq (r : ℝ) (n : ℤ) (hn : -4000000 ≤ n) (hn' : n ≤ 6000000) (hfl : (if 0 ≤ r * 2000000 then ⌊r * 2000000⌋ else ⌈r * 2000000⌉) = n) :
    (binE (r : EReal)).toInt = n - 1 + (if thr n < r then 1 else 0) + (if thr (n + 1) < r then 1 else 0) + (if thr (n + 2) < r then 1 else 0) := by
  have hbe : Ideal.fptosi 32 ((r : EReal) * Ideal.ofBits .f32 0x49F42400#32) = BitVec.ofInt 32 n := by
    rw [lit_scale, ← EReal.coe_mul]
    unfold Ideal.fptosi
    show BitVec.ofInt 32 (max _ (min _ (if 0 ≤ r * 2000000 then ⌊r * 2000000⌋ else ⌈r * 2000000⌉))) = _
    rw [hfl]
    refine congrArg (BitVec.ofInt 32) ?_
    norm_num
    omega
  have hti : (BitVec.ofInt 32 n).toInt = n := by
    rw [BitVec.toInt_ofInt, Int.bmod_def]
    norm_num
    split <;> omega
  have hb : binE (r : EReal) = ((BitVec.ofInt 32 n - 1#32) + (if thr n < r then 1#32 else 0#32) + (if thr (n + 1) < r then 1#32 else 0#32))
      + (if thr (n + 2) < r then 1#32 else 0#32) := by
    unfold binE
    dsimp only
    rw [hbe, hti, Ideal.ofBits_zero_f32, lit_one, lit_two, ← EReal.coe_zero, ← EReal.coe_add, ← EReal.coe_add, ← EReal.coe_add, div_lit, div_lit, div_lit,
      sel_lt, sel_lt, sel_lt, add_zero]
  have h1 (p : Prop) [Decidable p] : (if p then 1#32 else 0#32 : BitVec 32) = BitVec.ofInt 32 (if p then 1 else 0) := by split <;> rfl
  have h2 : BitVec.ofInt 32 n - 1#32 = BitVec.ofInt 32 n + BitVec.ofInt 32 (-1) := BitVec.sub_eq_add_neg _ _
  rw [hb, h2, h1, h1, h1, ← BitVec.ofInt_add, ← BitVec.ofInt_add, ← BitVec.ofInt_add, ← BitVec.ofInt_add, BitVec.toInt_ofInt, Int.bmod_def]
  norm_num
  split_ifs <;> omega

/-- A value's word is at most a place exactly when the value is at most the place's bound. -/
theorem bin_le (r : ℝ) (h0 : -2 ≤ r) (h1 : r ≤ 3) (q : ℕ) : (binE (r : EReal)).toInt ≤ q ↔ r ≤ thr (q + 1) := by
  have hq0 : (0 : ℝ) ≤ q := Nat.cast_nonneg q
  rcases le_or_gt 0 r with hr | hr
  · have hn0 := Int.floor_le (r * 2000000)
    have hn1 := Int.lt_floor_add_one (r * 2000000)
    have e := bin_eq r ⌊r * 2000000⌋ (by have : (0 : ℤ) ≤ ⌊r * 2000000⌋ := Int.floor_nonneg.mpr (by linarith); omega)
      (by have : (⌊r * 2000000⌋ : ℝ) ≤ 6000000 := by linarith
          exact_mod_cast this) (if_pos (by linarith))
    generalize ⌊r * 2000000⌋ = n at *
    have n1 : ¬ thr (n + 1) < r := by unfold thr; push Not; linarith
    have n2 : ¬ thr (n + 2) < r := by unfold thr; push Not; linarith
    rw [e, if_neg n1, if_neg n2]
    by_cases h : thr n < r
    · rw [if_pos h]
      constructor
      · intro hle
        have : (n : ℝ) ≤ q := by exact_mod_cast (by omega : n ≤ (q : ℤ))
        unfold thr at *; linarith
      · intro hle
        have : (n : ℝ) < q + 1 := by unfold thr at *; linarith
        have : n < (q : ℤ) + 1 := by exact_mod_cast this
        omega
    · rw [if_neg h]
      push Not at h
      constructor
      · intro hle
        have : (n : ℝ) ≤ q + 1 := by exact_mod_cast (by omega : (n : ℤ) ≤ q + 1)
        unfold thr at *; linarith
      · intro hle
        have : (n : ℝ) < q + 2 := by unfold thr at *; linarith
        have : n < (q : ℤ) + 2 := by exact_mod_cast this
        omega
  · have hn0 := Int.le_ceil (r * 2000000)
    have hn1 := Int.ceil_lt_add_one (r * 2000000)
    have hz : ⌈r * 2000000⌉ ≤ 0 := Int.ceil_le.mpr (by push_cast; linarith)
    have e := bin_eq r ⌈r * 2000000⌉
      (by have : (-4000000 : ℝ) ≤ (⌈r * 2000000⌉ : ℝ) := by linarith
          exact_mod_cast this) (by omega) (if_neg (by push Not; linarith))
    generalize ⌈r * 2000000⌉ = n at *
    have hnz : (n : ℝ) ≤ 0 := by exact_mod_cast hz
    have n1 : ¬ thr (n + 1) < r := by unfold thr; push Not; linarith
    have n2 : ¬ thr (n + 2) < r := by unfold thr; push Not; linarith
    rw [e, if_neg n1, if_neg n2]
    constructor
    · intro _
      unfold thr; linarith
    · intro _
      split <;> omega

end Cert.Proof.Sc
-- ==== Proof.KIdeal.lean ====
/-
  A row's result over the reals, in terms of the arguments.
-/
module

public import proofs.«01_k».proof.Proof.Bins

@[expose] public section

noncomputable section

namespace Cert.Proof.Sc

open Idealize.ShloMosaic Idealize.ShloMosaic.TcCoe
open Cert.KernelIdeal Cert.KernelIdeal.Gen
open Cert.Proof.Tc

/-- How many of a row's values are at most a place's bound. -/
def below (P : Fin 100000 → EReal) (q : ℕ) : ℕ := (Finset.univ.filter fun n => P n ≤ ((thr (q + 1) : ℝ) : EReal)).card

/-- The places that pass. -/
def passing (P : Fin 100000 → EReal) : Finset ℕ := (Finset.range 100000).filter fun q => q + 1 ≤ below P q

theorem index0 : ∀ t : Fin cfg0.grid.N, win0_0.index t = ![t.val, 0] := by decide +kernel
theorem index1 : ∀ t : Fin cfg0.grid.N, win0_1.index t = ![t.val, 0] := by decide +kernel

variable (m : (ℓ : Loc nD τ sig) → Buf (Elt Ideal) ℓ)

theorem mu_at (c : Dev nD) (t x : ℕ) (ht : t < 50) (hx : x < 2000) (r : Fin 128) :
    (mu m c (pt t) : FVec Ideal S2000x128 .f32) (ix2 ⟨x, hx⟩ r) = (m ((SparseCore.T c : Thread nD τ).loc main_arg0) : FVec Ideal S100000x128 .f32) (ix2 ⟨2000 * t + x, by omega⟩ r) := by
  have hp : (pt t).val = t := Nat.mod_eq_of_lt ht
  unfold mu
  refine congrArg (m ((SparseCore.T c : Thread nD τ).loc main_arg0) : FVec Ideal S100000x128 .f32) ?_
  show ((cfg0.win 0).blk (pt t)).view.emb (ix2 ⟨x, hx⟩ r) = _
  funext a
  apply Fin.ext
  match a with
  | ⟨0, _⟩ => blk_simp [index0]; rw [hp]; show t * 2000 + x = 2000 * t + x; omega
  | ⟨1, _⟩ => blk_simp [index0]

theorem va_at (c : Dev nD) (t x : ℕ) (ht : t < 50) (hx : x < 2000) (r : Fin 128) :
    (va m c (pt t) : FVec Ideal S2000x128 .f32) (ix2 ⟨x, hx⟩ r) = (m ((SparseCore.T c : Thread nD τ).loc main_arg1) : FVec Ideal S100000x128 .f32) (ix2 ⟨2000 * t + x, by omega⟩ r) := by
  have hp : (pt t).val = t := Nat.mod_eq_of_lt ht
  unfold va
  refine congrArg (m ((SparseCore.T c : Thread nD τ).loc main_arg1) : FVec Ideal S100000x128 .f32) ?_
  show ((cfg0.win 1).blk (pt t)).view.emb (ix2 ⟨x, hx⟩ r) = _
  funext a
  apply Fin.ext
  match a with
  | ⟨0, _⟩ => blk_simp [index1]; rw [hp]; show t * 2000 + x = 2000 * t + x; omega
  | ⟨1, _⟩ => blk_simp [index1]

/-- The values of a row. -/
def rowP (a0 a1 : FVec Ideal S100000x128 .f32) (r : Fin 128) (n : Fin 100000) : EReal := pE (a0 (ix2 n r)) (a1 (ix2 n r))

theorem sum_blocks (f : ℕ → ℕ) (k : ℕ) : ∑ n ∈ Finset.range (2000 * k), f n = ∑ t ∈ Finset.range k, ∑ x ∈ Finset.range 2000, f (2000 * t + x) := by
  induction k with
  | zero => rw [Nat.mul_zero, Finset.sum_range_zero, Finset.sum_range_zero]
  | succ k ih => rw [Finset.sum_range_succ, ← ih, Nat.mul_succ, Finset.sum_range_add]

theorem cw_below (c : Dev nD) (r : Fin 128) (q : ℕ) :
    (cw (wd m c r) fun b => b.toInt ≤ q) = below (rowP (m ((SparseCore.T c : Thread nD τ).loc main_arg0)) (m ((SparseCore.T c : Thread nD τ).loc main_arg1)) r) q := by
  unfold below cw
  set P := rowP (m ((SparseCore.T c : Thread nD τ).loc main_arg0)) (m ((SparseCore.T c : Thread nD τ).loc main_arg1)) r with hP
  have h := sum_blocks (fun n => if h : n < 100000 then (if P ⟨n, h⟩ ≤ ((thr (q + 1) : ℝ) : EReal) then 1 else 0) else 0) 50
  rw [Finset.card_filter]
  have h' : (∑ n : Fin 100000, if P n ≤ ((thr (q + 1) : ℝ) : EReal) then 1 else 0)
      = ∑ n ∈ Finset.range 100000, (if h : n < 100000 then (if P ⟨n, h⟩ ≤ ((thr (q + 1) : ℝ) : EReal) then 1 else 0) else 0 : ℕ) := by
    rw [← Fin.sum_univ_eq_sum_range]
    refine Finset.sum_congr rfl fun n _ => ?_
    rw [dif_pos n.isLt]
  rw [h']
  refine Eq.trans ?_ h.symm
  refine Finset.sum_congr rfl fun t ht => Finset.sum_congr rfl fun x hx => ?_
  rw [Finset.mem_range] at ht hx
  rw [dif_pos (by omega)]
  have e : wd m c r t x = binE (P ⟨2000 * t + x, by omega⟩) := by
    unfold wd
    rw [dif_pos hx]
    refine (blkB_bin _ _ _).trans ?_
    rw [mu_at m c t x ht hx r, va_at m c t x ht hx r]
    rfl
  obtain ⟨y, h0, h1, hy⟩ : ∃ y : ℝ, -2 ≤ y ∧ y ≤ 3 ∧ P ⟨2000 * t + x, by omega⟩ = (y : EReal) := by
    rw [hP]; exact pE_mem _ _
  rw [e, hy]
  exact if_congr ((bin_le y h0 h1 q).trans EReal.coe_le_coe_iff.symm) rfl rfl

/-- A row's result. -/
theorem res_ideal (c : Dev nD) (r : Fin 128) :
    (res m c (ix1 r) : EReal) = ((worth (passing (rowP (m ((SparseCore.T c : Thread nD τ).loc main_arg0)) (m ((SparseCore.T c : Thread nD τ).loc main_arg1)) r)) : ℝ) : EReal) := by
  have hs : passSet (wd m c r) = passing (rowP (m ((SparseCore.T c : Thread nD τ).loc main_arg0)) (m ((SparseCore.T c : Thread nD τ).loc main_arg1)) r) := by
    unfold passSet passing
    refine Finset.filter_congr fun q _ => ?_
    rw [cw_below]
  have hle : worth (passSet (wd m c r)) ≤ 200000 := by
    unfold worth
    split
    · next h =>
      have h1 : (passSet (wd m c r)).card ≤ 100000 := (Finset.card_filter_le _ _).trans (Finset.card_range _).le
      have h2 := Finset.min'_mem _ h
      have h3 : (passSet (wd m c r)).min' h < 100000 := Finset.mem_range.mp (Finset.mem_filter.mp h2).1
      omega
    · omega
  rw [res_at m roundTrips_ideal c r, ← hs]
  by_cases h : (passSet (wd m c r)).Nonempty
  · rw [if_pos h]
    show (((BitVec.ofNat 32 (worth (passSet (wd m c r)))).toInt : ℝ) : EReal) = _
    rw [WordArith.toInt_ofNat_small (worth (passSet (wd m c r))) (by omega), Int.cast_natCast]
  · rw [if_neg h]
    have : worth (passSet (wd m c r)) = 0 := by unfold worth; rw [dif_neg h]
    rw [this]
    rw [Nat.cast_zero, EReal.coe_zero]
    exact Ideal.ofBits_zero_f32

end Cert.Proof.Sc
-- ==== Proof.RefMath.lean ====
/-
  Counting a sorted row's places: a place passes exactly when enough of the row's values are at most its bound, and the places kept are as many as the passing set is worth.
-/
module

public import proofs.«01_k».proof.Proof.KIdeal

@[expose] public section

noncomputable section

namespace Cert.Proof.Ref

open Cert.Proof.Sc

theorem card_perm {N : ℕ} (P : Fin N → EReal) (σ : Fin N → Fin N) (hσ : Function.Bijective σ) (T : EReal) :
    (Finset.univ.filter fun j => P (σ j) ≤ T).card = (Finset.univ.filter fun n => P n ≤ T).card :=
  Finset.card_bijective σ hσ fun j => by simp

/-- A sorted row's place `k` holds a value at most `T` exactly when `k + 1` of the row's values are. -/
theorem pass_iff {N : ℕ} (P : Fin N → EReal) (σ : Fin N → Fin N) (hσ : Function.Bijective σ) (hm : ∀ i j, i < j → ¬ P (σ j) < P (σ i)) (T : EReal) (k : Fin N) :
    P (σ k) ≤ T ↔ k.val + 1 ≤ (Finset.univ.filter fun n => P n ≤ T).card := by
  rw [← card_perm P σ hσ T]
  have hle : ∀ i j, i ≤ j → P (σ i) ≤ P (σ j) := fun i j h => by
    rcases eq_or_lt_of_le h with rfl | h
    · exact le_refl _
    · exact not_lt.mp (hm i j h)
  constructor
  · intro h
    rw [← Fin.card_Iic k]
    refine Finset.card_le_card fun j hj => ?_
    rw [Finset.mem_Iic] at hj
    exact Finset.mem_filter.mpr ⟨Finset.mem_univ _, (hle j k hj).trans h⟩
  · intro h
    by_contra hc
    have hs : (Finset.univ.filter fun j => P (σ j) ≤ T) ⊆ Finset.Iio k := fun j hj => by
      rw [Finset.mem_Iio]
      by_contra hkj
      exact hc ((hle k j (not_lt.mp hkj)).trans (Finset.mem_filter.mp hj).2)
    have := Finset.card_le_card hs
    rw [Fin.card_Iio] at this
    omega

/-- A place is kept if it passes or comes no later than the first that does. -/
def keeps (A : Finset ℕ) (k : ℕ) : Prop := k ∈ A ∨ ∃ h : A.Nonempty, k ≤ A.min' h

open Classical in
theorem card_keeps {N : ℕ} (A : Finset ℕ) (hA : A ⊆ Finset.range N) : (Finset.univ.filter fun k : Fin N => keeps A k.val).card = worth A := by
  have e : (Finset.univ.filter fun k : Fin N => keeps A k.val).card = ((Finset.range N).filter fun k => keeps A k).card := by
    refine Finset.card_nbij (fun k => k.val) (fun k hk => ?_) (fun a _ b _ h => Fin.ext h) fun k hk => ?_
    · have := (Finset.mem_filter.mp hk).2
      exact Finset.mem_filter.mpr ⟨Finset.mem_range.mpr k.isLt, this⟩
    · have h1 := Finset.mem_filter.mp hk
      exact ⟨⟨k, Finset.mem_range.mp h1.1⟩, Finset.mem_coe.mpr (Finset.mem_filter.mpr ⟨Finset.mem_univ _, h1.2⟩), rfl⟩
  rw [e]
  unfold worth
  by_cases h : A.Nonempty
  · rw [dif_pos h]
    have hs : ((Finset.range N).filter fun k => keeps A k) = A ∪ Finset.range (A.min' h) := by
      ext k
      have hN := Finset.mem_range.mp (hA (A.min'_mem h))
      rw [Finset.mem_filter, Finset.mem_union, Finset.mem_range, Finset.mem_range]
      constructor
      · rintro ⟨_, hk | ⟨_, hk⟩⟩
        · exact Or.inl hk
        · rcases eq_or_lt_of_le hk with rfl | hk
          · exact Or.inl (A.min'_mem h)
          · exact Or.inr hk
      · rintro (hk | hk)
        · exact ⟨Finset.mem_range.mp (hA hk), Or.inl hk⟩
        · exact ⟨hk.trans hN, Or.inr ⟨h, hk.le⟩⟩
    have hd : Disjoint A (Finset.range (A.min' h)) := Finset.disjoint_left.mpr fun k hk hr => absurd (A.min'_le k hk) (not_le.mpr (Finset.mem_range.mp hr))
    rw [hs, Finset.card_union_of_disjoint hd, Finset.card_range]
  · rw [dif_neg h, Finset.card_eq_zero]
    refine Finset.filter_eq_empty_iff.mpr fun k _ hk => ?_
    rcases hk with hk | ⟨h', _⟩
    · exact h ⟨k, hk⟩
    · exact h h'

end Cert.Proof.Ref
-- ==== Proof.RefSort.lean ====
/-
  The sorting positions, the values at them, and which places pass.
-/
module

public import proofs.«01_k».proof.Proof.RefStage
public import proofs.«01_k».proof.Proof.RefMath
public import Idealize.ShloMosaic.Lib.SortFacts
public import Idealize.ShloMosaic.Lib.ReduceAll
public import Idealize.ShloMosaic.Lib.IdealHost
public import Idealize.ShloMosaic.Lib.Routing.OpsPair
public import Idealize.ShloMosaic.Lib.Routing.OpsSet
public import Idealize.ShloMosaic.Lib.Routing.OpsOrder

@[expose] public section

noncomputable section

namespace Cert.Proof.Ref

open Idealize.ShloMosaic Idealize.ShloMosaic.TcCoe
open Cert.ReferenceIdeal Cert.ReferenceIdeal.Gen
open Cert.Proof.Sc (pE thr below passing rowP worth)

theorem pvals_at (a0 a1 : FVec Ideal S100000x128 .f32) (l : Fin 128) (n : Fin 100000) : (pvals a0 a1 : FVec Ideal S128x100000 .f32) (ix2 l n) = rowP a0 a1 l n := by
  unfold pvals
  refine (ValueIdx.transpose_ix2_apply (a := 100000) (b := 128) _ _ l n).trans ?_
  rfl

theorem comparator_eq (x y : EReal) (a b : BitVec 32) : (comparator_f32_i32_d1 (F := Ideal) (x, a) (y, b) == 1#1) = decide (x < y) := by
  have hz : ∀ z : EReal, Scalar.select (Ideal.cmp .une z z) (Ideal.ofBits .f32 0x7FC00000#32) (Scalar.select (Ideal.cmp .oeq z (Ideal.ofBits .f32 0x00000000#32)) (Ideal.ofBits .f32 0x00000000#32) z) = z := fun z => by
    have h1 : Ideal.cmp .une z z = 0#1 := by simp [Ideal.cmp]
    rw [h1, ValueIdx.select_zero]
    by_cases h : z = Ideal.ofBits .f32 0x00000000#32
    · rw [h]
      unfold Scalar.select
      split <;> rfl
    · have h2 : Ideal.cmp .oeq z (Ideal.ofBits .f32 0x00000000#32) = 0#1 := by
        unfold Ideal.cmp
        show BitVec.ofBool (decide (z = _)) = _
        rw [decide_eq_false h]
        rfl
      rw [h2, ValueIdx.select_zero]
  have e : comparator_f32_i32_d1 (F := Ideal) (x, a) (y, b) = Ideal.cmp .olt x y := by
    have := congrArg₂ (Ideal.cmp .olt) (hz x) (hz y)
    exact this
  rw [e]
  by_cases h : x < y <;> simp [Ideal.cmp, h]

/-- A row's sorting positions. -/
def perm (P : Fin 100000 → EReal) : Fin 100000 → Fin 100000 := sortedFrom fun k k' => decide (P k < P k')

/-- The sorting positions of row `l`. -/
def rowPerm (p : FVec Ideal S128x100000 .f32) (l : Fin 128) : Fin 100000 → Fin 100000 := perm fun n => p (ix2 l n)

theorem perm_bijective (P : Fin 100000 → EReal) : Function.Bijective (perm P) := ⟨sortedFrom_injective _, sortedFrom_surjective _⟩

theorem perm_sorted (P : Fin 100000 → EReal) (i j : Fin 100000) (h : i < j) : ¬ P (perm P j) < P (perm P i) := by
  have := sortedFrom_noInversion (fun k k' => decide (P k < P k')) (fun k k' => decide (P k < P k'))
    (fun a b hab => by simpa using (of_decide_eq_true hab).le) (fun _ _ h => h)
    (fun a b c hab hbc => by simp only [decide_eq_false_iff_not, not_lt] at *; exact hbc.trans hab) i j h
  exact of_decide_eq_false this

/-- A row sorted by its values: what is carried along is read at the sorting position. -/
theorem sort2_at {A B : ℕ} {α β : Type} (cmp : α × β → α × β → BitVec 1) (x : (⟨2, ![A, B]⟩ : Shape).Idx → α) (y : (⟨2, ![A, B]⟩ : Shape).Idx → β) (l : Fin A) (k : Fin B) :
    (Host.sort2 ⟨2, ![A, B]⟩ 1 cmp x y).2 (ix2 l k)
      = y (ix2 l (sortedFrom (fun n n' : Fin B => cmp (x (ix2 l n), y (ix2 l n)) (x (ix2 l n'), y (ix2 l n')) == 1#1) k)) := by
  have hal : ∀ n : Fin B, Shape.Idx.along (s := ⟨2, ![A, B]⟩) (ix2 l k) 1 n = ix2 l n := fun n => by
    funext a
    match a with
    | ⟨0, _⟩ => rfl
    | ⟨1, _⟩ => rfl
  have e : (fun n n' : Fin B => cmp (x (Shape.Idx.along (s := ⟨2, ![A, B]⟩) (ix2 l k) 1 n), y (Shape.Idx.along (s := ⟨2, ![A, B]⟩) (ix2 l k) 1 n)) (x (Shape.Idx.along (s := ⟨2, ![A, B]⟩) (ix2 l k) 1 n'), y (Shape.Idx.along (s := ⟨2, ![A, B]⟩) (ix2 l k) 1 n')) == 1#1)
      = fun n n' => cmp (x (ix2 l n), y (ix2 l n)) (x (ix2 l n'), y (ix2 l n')) == 1#1 := by
    funext n n'
    rw [hal, hal]
  refine Eq.trans ?_ (congrArg y (hal _))
  rw [← e]
  rfl

theorem order_at (p : FVec Ideal S128x100000 .f32) (l : Fin 128) (k : Fin 100000) :
    order p (ix2 l k) = BitVec.ofNat 32 (rowPerm p l k).val := by
  unfold order rowPerm perm
  refine (sort2_at comparator_f32_i32_d1 p (iotaInDim S128x100000 32 1) l k).trans ?_
  have hb : (fun n n' : Fin 100000 => comparator_f32_i32_d1 (F := Ideal) (p (ix2 l n), iotaInDim S128x100000 32 1 (ix2 l n)) (p (ix2 l n'), iotaInDim S128x100000 32 1 (ix2 l n')) == 1#1)
      = fun n n' => decide ((p (ix2 l n) : EReal) < p (ix2 l n')) := by
    funext n n'
    exact comparator_eq _ _ _ _
  exact congrArg (fun f => BitVec.ofNat 32 (sortedFrom f k).val) hb

theorem wrap_at (p : FVec Ideal S128x100000 .f32) (l : Fin 128) (k : Fin 100000) :
    wrap (order p) (ix2 l k) = BitVec.ofNat 32 (rowPerm p l k).val := by
  have h : wrap (order p) (ix2 l k) = Scalar.select (IntOp.cmpi .slt (order p (ix2 l k)) 0#32) (IntOp.addi (order p (ix2 l k)) 100000#32) (order p (ix2 l k)) := rfl
  rw [h, Routing.wrap_of_lt, order_at]
  rw [order_at, BitVec.toNat_ofNat]
  have := (rowPerm p l k).isLt
  omega

/-- Each row read at its own positions, one index word each. -/
abbrev rowDims (A B : ℕ) (wf : GatherDims.WF ⟨2, ![A, B]⟩ ⟨3, ![A, B, 1]⟩ ⟨2, ![A, B]⟩ [] [1] [0] [1] [0] 2 ![1, 1]) :
    GatherDims ⟨2, ![A, B]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

theorem gather_row_at {A B w : ℕ} {α : Type} (hB : 0 < B) (wf : GatherDims.WF ⟨2, ![A, B]⟩ ⟨3, ![A, B, 1]⟩ ⟨2, ![A, B]⟩ [] [1] [0] [1] [0] 2 ![1, 1])
    (x : (⟨2, ![A, B]⟩ : Shape).Idx → α) (idx : IVec ⟨3, ![A, B, 1]⟩ w) (y : (⟨2, ![A, B]⟩ : Shape).Idx) :
    Host.gather (rowDims A B wf) x idx y
      = x (ix2 ⟨(y 0).val, ValueIdx.idx2_lt0 y⟩ ⟨min (idx (ValueIdx.takeIdx y)).toInt.toNat (B - 1), by omega⟩) := by
  unfold Host.gather
  refine congrArg x (funext fun a => Fin.ext ?_)
  show (rowDims A B wf).start y idx a + (rowDims A B wf).batchCoord y a + (rowDims A B wf).offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims A B wf).startIndexMap from List.mem_singleton.mpr rfl)]
    have hsi : (rowDims A B wf).siIdx y ⟨List.idxOf (1 : Fin 2) (rowDims A B wf).startIndexMap,
        List.idxOf_lt_length_iff.2 (List.mem_singleton.mpr rfl)⟩ = ValueIdx.takeIdx y := by
      funext b; refine Fin.ext ?_
      match b with
      | ⟨0, _⟩ => rfl
      | ⟨1, _⟩ => rfl
      | ⟨2, _⟩ => rfl
    rw [hsi]
    rfl

/-- One more axis of size one. -/
theorem column_at {A B : ℕ} {α : Type} (x : (⟨2, ![A, B]⟩ : Shape).Idx → α) (h : (⟨2, ![A, B]⟩ : Shape).ShapeCasts ⟨3, ![A, B, 1]⟩) (l : Fin A) (k : Fin B) (z : Fin 1) :
    shapeCast ⟨3, ![A, B, 1]⟩ x h (ix3 l k z) = x (ix2 l k) := by
  obtain rfl : z = 0 := Subsingleton.elim _ _
  refine shapeCast_apply x h _ _ ?_
  rw [Shape.rowMajor_val_two (d := ![A, B]), Shape.rowMajor_val_three (d := ![A, B, 1])]
  show l.val * B + k.val = (l.val * B + k.val) * 1 + 0
  omega

theorem eq_ix3 {A B C : ℕ} (i : (⟨3, ![A, B, C]⟩ : Shape).Idx) : ∃ (l : Fin A) (k : Fin B) (z : Fin C), i = ix3 l k z :=
  ⟨i 0, i 1, i 2, funext fun a => by
    match a with
    | ⟨0, _⟩ => rfl
    | ⟨1, _⟩ => rfl
    | ⟨2, _⟩ => rfl⟩

theorem inside (n : ℕ) (h : n < 100000) : IntOp.andi (IntOp.cmpi .sge (BitVec.ofNat 32 n) 0#32) (IntOp.cmpi .sle (BitVec.ofNat 32 n) 99999#32) = 1#1 := by
  have e : (BitVec.ofNat 32 n).toInt = n := WordArith.toInt_ofNat_small n (by omega)
  have h1 : IntOp.cmpi .sge (BitVec.ofNat 32 n) 0#32 = 1#1 := by
    show BitVec.ofBool ((0#32).sle _) = _
    rw [show (0#32).sle (BitVec.ofNat 32 n) = true from decide_eq_true (by rw [e, show (0#32).toInt = 0 from rfl]; omega)]
    rfl
  have h2 : IntOp.cmpi .sle (BitVec.ofNat 32 n) 99999#32 = 1#1 := by
    show BitVec.ofBool ((BitVec.ofNat 32 n).sle _) = _
    rw [show (BitVec.ofNat 32 n).sle 99999#32 = true from decide_eq_true (by rw [e, show (99999#32).toInt = 99999 from rfl]; omega)]
    rfl
  rw [h1, h2]
  rfl

theorem taken_at (p : FVec Ideal S128x100000 .f32) (w : IVec S128x100000x1 32) (f : Fin 128 → Fin 100000 → Fin 100000)
    (hw : ∀ l k z, w (ix3 l k z) = BitVec.ofNat 32 (f l k).val) (l : Fin 128) (k : Fin 100000) :
    taken p w (ix2 l k) = p (ix2 l (f l k)) := by
  have h1 : Host.reduce IntOp.andi (andi (cmpi .sge w (broadcastInDim S128x100000x1 ![] bcast_S_S128x100000x1 (constantI S_ 32 0#32))) (cmpi .sle w (broadcastInDim S128x100000x1 ![0, 1, 2] bcast_S1x1x1_S128x100000x1_0_1_2 (broadcastInDim S1x1x1 ![2] bcast_S1_S1x1x1_2 (constantI S1 32 99999#32))))) (constantI S_ 1 1#1) reducesTo_S128x100000x1_S128x100000_d2 h_S_ (ix2 l k) = 1#1 := by
    refine Host.reduce_andi_one _ _ _ _ _ rfl fun i => ?_
    obtain ⟨a, b, z, rfl⟩ := eq_ix3 i
    show IntOp.andi (IntOp.cmpi .sge (w (ix3 a b z)) 0#32) (IntOp.cmpi .sle (w (ix3 a b z)) 99999#32) = 1#1
    rw [hw]
    exact inside _ (f a b).isLt
  have h2 : Host.gather gather_S128x100000_S128x100000x1_S128x100000_n_1_0_0_1_2_11 p w (ix2 l k) = p (ix2 l (f l k)) := by
    refine (gather_row_at (A := 128) (B := 100000) (by omega) gather_S128x100000_S128x100000x1_S128x100000_n_1_0_0_1_2_11_wf p w (ix2 l k)).trans ?_
    have hs : (w (ValueIdx.takeIdx (R := 128) (C := 100000) (ix2 l k))).toInt.toNat = (f l k).val := by
      rw [show ValueIdx.takeIdx (R := 128) (C := 100000) (ix2 l k) = ix3 l k 0 from by
        funext a
        match a with
        | ⟨0, _⟩ => rfl
        | ⟨1, _⟩ => rfl
        | ⟨2, _⟩ => rfl, hw, WordArith.toInt_ofNat_small (f l k).val (by have := (f l k).isLt; omega)]
      rfl
    refine congrArg p ?_
    refine congrArg₂ ix2 rfl (Fin.ext ?_)
    show min _ _ = _
    rw [hs]
    have := (f l k).isLt
    omega
  unfold taken
  show Scalar.select (Host.reduce _ _ _ _ _ (ix2 l k)) _ _ = _
  rw [h1, ValueIdx.select_one, h2]

/-- A vector laid out as a row and repeated down the rows. -/
theorem down_at {A B : ℕ} {α : Type} (hB : B ≠ 1) (x : (⟨1, ![B]⟩ : Shape).Idx → α) (h1 : (⟨1, ![B]⟩ : Shape).BroadcastsInDim ⟨2, ![1, B]⟩ ![1])
    (h2 : (⟨2, ![1, B]⟩ : Shape).BroadcastsInDim ⟨2, ![A, B]⟩ ![0, 1]) (l : Fin A) (k : Fin B) :
    broadcastInDim ⟨2, ![A, B]⟩ ![0, 1] h2 (broadcastInDim ⟨2, ![1, B]⟩ ![1] h1 x) (ix2 l k) = x (ix1 k) := by
  refine (broadcastInDim_apply _ _ _ _ (ix2 (0 : Fin 1) k) fun a => ?_).trans (broadcastInDim_apply _ _ _ _ (ix1 k) fun a => ?_)
  · match a with
    | ⟨0, _⟩ => rfl
    | ⟨1, _⟩ => exact (if_neg hB).symm
  · match a with
    | ⟨0, _⟩ => exact (if_neg hB).symm

theorem bounds_at (l : Fin 128) (k : Fin 100000) : (bounds : FVec Ideal S128x100000 .f32) (ix2 l k) = ((thr (k.val + 1) : ℝ) : EReal) := by
  unfold bounds
  refine (down_at (A := 128) (B := 100000) (by omega) _ _ _ l k).trans ?_
  have e : ∀ z : EReal, z = (((BitVec.ofNat 32 k.val).toInt : ℝ) : EReal) → Ideal.div (Ideal.ofBits .f32 0x3F800000#32 + z) (Ideal.ofBits .f32 0x47C35000#32) * Ideal.ofBits .f32 0x3D4CCCCD#32 = ((thr (k.val + 1) : ℝ) : EReal) := fun z hz => by
    rw [hz, WordArith.toInt_ofNat_small k.val (by omega), Sc.lit_one, Int.cast_natCast, ← EReal.coe_add, Sc.div_lit, add_comm]
  exact e _ rfl

theorem ole_at {s : Shape} (x y : FVec Ideal s .f32) (i : s.Idx) : cmpf .ole x y i = 1#1 ↔ (x i : EReal) ≤ y i := WordCmp.ofBool_decide_eq_one_iff _

theorem mem_passing (P : Fin 100000 → EReal) (k : Fin 100000) : k.val ∈ passing P ↔ k.val + 1 ≤ below P k.val := by
  unfold passing
  rw [Finset.mem_filter, Finset.mem_range]
  exact and_iff_right k.isLt

theorem pass_below (P : Fin 100000 → EReal) (k : Fin 100000) : P (perm P k) ≤ ((thr (k.val + 1) : ℝ) : EReal) ↔ k.val + 1 ≤ below P k.val := by
  unfold below
  exact pass_iff P (perm P) (perm_bijective P) (perm_sorted P) _ k

theorem column_perm (p : FVec Ideal S128x100000 .f32) (l : Fin 128) (k : Fin 100000) (z : Fin 1) :
    shapeCast S128x100000x1 (wrap (order p)) shapeCasts_S128x100000_S128x100000x1 (ix3 l k z) = BitVec.ofNat 32 (rowPerm p l k).val :=
  (column_at (A := 128) (B := 100000) (wrap (order p)) shapeCasts_S128x100000_S128x100000x1 l k z).trans (wrap_at p l k)

theorem taken_perm (p : FVec Ideal S128x100000 .f32) (l : Fin 128) (k : Fin 100000) :
    taken p (shapeCast S128x100000x1 (wrap (order p)) shapeCasts_S128x100000_S128x100000x1) (ix2 l k) = p (ix2 l (rowPerm p l k)) :=
  taken_at p (shapeCast S128x100000x1 (wrap (order p)) shapeCasts_S128x100000_S128x100000x1) (rowPerm p) (column_perm p) l k

theorem pass_le (p : FVec Ideal S128x100000 .f32) (l : Fin 128) (k : Fin 100000) :
    pass p (wrap (order p)) (ix2 l k) = 1#1 ↔ (p (ix2 l (rowPerm p l k)) : EReal) ≤ ((thr (k.val + 1) : ℝ) : EReal) := by
  rw [← taken_perm p l k, ← bounds_at l k]
  exact ole_at _ _ _

theorem row_below (p : FVec Ideal S128x100000 .f32) (l : Fin 128) (k : Fin 100000) :
    (p (ix2 l (rowPerm p l k)) : EReal) ≤ ((thr (k.val + 1) : ℝ) : EReal) ↔ k.val + 1 ≤ below (fun n => p (ix2 l n)) k.val := by
  unfold rowPerm
  exact pass_below (fun n => p (ix2 l n)) k

/-- The places of row `l` that pass, as bits. -/
theorem pass_at (p : FVec Ideal S128x100000 .f32) (l : Fin 128) (k : Fin 100000) :
    pass p (wrap (order p)) (ix2 l k) = 1#1 ↔ k.val ∈ passing fun n => p (ix2 l n) :=
  (pass_le p l k).trans ((row_below p l k).trans (mem_passing (fun n => p (ix2 l n)) k).symm)

end Cert.Proof.Ref
-- ==== Proof.RefVal.lean ====
/-
  The reference's result over the reals: what each row's passing set is worth.
-/
module

public import proofs.«01_k».proof.Proof.RefSort
public import Idealize.ShloMosaic.Lib.Pointwise.Reduce

@[expose] public section

noncomputable section

namespace Cert.Proof.Ref

open Idealize.ShloMosaic Idealize.ShloMosaic.TcCoe
open Cert.ReferenceIdeal Cert.ReferenceIdeal.Gen
open Cert.Proof.Sc (pE thr below passing rowP worth)

theorem any_at {A B : ℕ} (r : (⟨2, ![A, B]⟩ : Shape).Idx → BitVec 1) (h : (⟨2, ![A, B]⟩ : Shape).ReducesTo [1] ⟨1, ![A]⟩) (hu : 0 < S_.numel) (l : Fin A) :
    Host.reduce IntOp.ori r (constantI S_ 1 0#1) h hu (ix1 l) = 1#1 ↔ ∃ k : Fin B, r (ix2 l k) = 1#1 := by
  rw [Host.reduce_eq_fold, h.fold_fiber_r2_a1]
  refine (Routing.fold_ori Finset.univ (fun k : Fin B => r (ix2 l k))).trans ?_
  exact ⟨fun ⟨k, _, hk⟩ => ⟨k, hk⟩, fun ⟨k, hk⟩ => ⟨k, Finset.mem_univ _, hk⟩⟩

theorem minsi_ofNat (a b : ℕ) (ha : a < 2147483648) (hb : b < 2147483648) : IntOp.minsi (BitVec.ofNat 32 a) (BitVec.ofNat 32 b) = BitVec.ofNat 32 (min a b) := by
  have e : (BitVec.ofNat 32 a).slt (BitVec.ofNat 32 b) = decide (a < b) := by
    show decide ((BitVec.ofNat 32 a).toInt < (BitVec.ofNat 32 b).toInt) = _
    rw [WordArith.toInt_ofNat_small a ha, WordArith.toInt_ofNat_small b hb]
    exact decide_eq_decide.mpr Int.ofNat_lt
  unfold IntOp.minsi
  rw [e]
  by_cases h : a < b
  · rw [decide_eq_true h, if_pos rfl, min_eq_left h.le]
  · rw [decide_eq_false h, if_neg (by decide), min_eq_right (not_lt.mp h)]

theorem fold_minsi {ι : Type} [DecidableEq ι] (f : ι → ℕ) (hf : ∀ i, f i < 2147483648) (b : ℕ) (hb : b < 2147483648) (s : Finset ι) :
    s.fold IntOp.minsi (BitVec.ofNat 32 b) (fun i => BitVec.ofNat 32 (f i)) = BitVec.ofNat 32 (s.fold min b f) ∧ s.fold min b f < 2147483648 := by
  induction s using Finset.induction_on with
  | empty => exact ⟨rfl, hb⟩
  | insert a s ha ih =>
    rw [Finset.fold_insert ha, Finset.fold_insert ha, ih.1]
    exact ⟨minsi_ofNat _ _ (hf a) ih.2, lt_of_le_of_lt (min_le_left _ _) (hf a)⟩

theorem sle_ofNat (a b : ℕ) (ha : a < 2147483648) (hb : b < 2147483648) : IntOp.cmpi .sle (BitVec.ofNat 32 a) (BitVec.ofNat 32 b) = 1#1 ↔ a ≤ b := by
  show BitVec.ofBool (decide ((BitVec.ofNat 32 a).toInt ≤ (BitVec.ofNat 32 b).toInt)) = 1#1 ↔ _
  rw [WordCmp.ofBool_decide_eq_one_iff, WordArith.toInt_ofNat_small a ha, WordArith.toInt_ofNat_small b hb]
  exact Int.ofNat_le

/-- A place comes no later than a row's first that passes exactly when it comes no later than each that passes. -/
theorem first_at {A B : ℕ} (hB : B < 2147483648) (r : (⟨2, ![A, B]⟩ : Shape).Idx → BitVec 1) (w : (⟨2, ![A, B]⟩ : Shape).Idx → BitVec 32)
    (h : (⟨2, ![A, B]⟩ : Shape).ReducesTo [1] ⟨1, ![A]⟩) (hu : 0 < S_.numel) (l : Fin A)
    (hw : ∀ k : Fin B, w (ix2 l k) = if r (ix2 l k) = 1#1 then BitVec.ofNat 32 k.val else BitVec.ofNat 32 B) (k : Fin B) :
    IntOp.cmpi .sle (BitVec.ofNat 32 k.val) (Host.reduce IntOp.minsi w (constantI S_ 32 2147483647#32) h hu (ix1 l)) = 1#1
      ↔ ∀ x : Fin B, r (ix2 l x) = 1#1 → k.val ≤ x.val := by
  have hf : ∀ x : Fin B, (if r (ix2 l x) = 1#1 then x.val else B) < 2147483648 := fun x => by
    have := x.isLt
    split <;> omega
  have hfold := fold_minsi (fun x : Fin B => if r (ix2 l x) = 1#1 then x.val else B) hf 2147483647 (by omega) Finset.univ
  have e : Host.reduce IntOp.minsi w (constantI S_ 32 2147483647#32) h hu (ix1 l)
      = BitVec.ofNat 32 ((Finset.univ : Finset (Fin B)).fold min 2147483647 fun x => if r (ix2 l x) = 1#1 then x.val else B) := by
    rw [Host.reduce_eq_fold, h.fold_fiber_r2_a1, ← hfold.1]
    have ew : (fun x : Fin B => w (ix2 l x)) = fun x => BitVec.ofNat 32 (if r (ix2 l x) = 1#1 then x.val else B) := by
      funext x
      rw [hw]
      split <;> rfl
    rw [← ew]
    rfl
  have hk := k.isLt
  rw [e, sle_ofNat _ _ (by omega) hfold.2, Finset.le_fold_min]
  constructor
  · rintro ⟨_, hall⟩ x hx
    have := hall x (Finset.mem_univ _)
    rwa [if_pos hx] at this
  · intro hall
    refine ⟨by omega, fun x _ => ?_⟩
    split
    · exact hall x ‹_›
    · omega

/-- A vector laid out as a column and repeated along the rows. -/
theorem across_at {A B : ℕ} {α : Type} (hA : A ≠ 1) (x : (⟨1, ![A]⟩ : Shape).Idx → α) (h1 : (⟨1, ![A]⟩ : Shape).BroadcastsInDim ⟨2, ![A, 1]⟩ ![0])
    (h2 : (⟨2, ![A, 1]⟩ : Shape).BroadcastsInDim ⟨2, ![A, B]⟩ ![0, 1]) (l : Fin A) (k : Fin B) :
    broadcastInDim ⟨2, ![A, B]⟩ ![0, 1] h2 (broadcastInDim ⟨2, ![A, 1]⟩ ![0] h1 x) (ix2 l k) = x (ix1 l) := by
  refine (broadcastInDim_apply _ _ _ _ (ix2 l (0 : Fin 1)) fun a => ?_).trans (broadcastInDim_apply _ _ _ _ (ix1 l) fun a => ?_)
  · match a with
    | ⟨0, _⟩ => exact (if_neg hA).symm
    | ⟨1, _⟩ => rfl
  · match a with
    | ⟨0, _⟩ => exact (if_neg hA).symm

theorem places_at (l : Fin 128) (k : Fin 100000) : places (ix2 l k) = BitVec.ofNat 32 k.val := by
  unfold places
  exact down_at (A := 128) (B := 100000) (by omega) _ _ _ l k

theorem select_bits (c a b : BitVec 1) : Scalar.select c a b = 1#1 ↔ (c = 1#1 ∧ a = 1#1) ∨ (c ≠ 1#1 ∧ b = 1#1) := by
  revert c a b; decide

theorem or_bits (a b : BitVec 1) : IntOp.ori a b = 1#1 ↔ a = 1#1 ∨ b = 1#1 := by
  revert a b; decide

theorem kept_at (r : IVec S128x100000 1) (A : Finset ℕ) (l : Fin 128) (hA : ∀ k : Fin 100000, r (ix2 l k) = 1#1 ↔ k.val ∈ A) (hs : A ⊆ Finset.range 100000) (k : Fin 100000) :
    kept r (ix2 l k) = 1#1 ↔ keeps A k.val := by
  have ha : anyPass r (ix1 l) = 1#1 ↔ A.Nonempty := by
    unfold anyPass
    refine (any_at (A := 128) (B := 100000) r _ _ l).trans ⟨fun ⟨k, hk⟩ => ⟨k.val, (hA k).mp hk⟩, fun ⟨x, hx⟩ => ?_⟩
    exact ⟨⟨x, Finset.mem_range.mp (hs hx)⟩, (hA ⟨x, Finset.mem_range.mp (hs hx)⟩).mpr hx⟩
  have hf : IntOp.cmpi .sle (BitVec.ofNat 32 k.val) (firstPass r (ix1 l)) = 1#1 ↔ ∀ x : Fin 100000, r (ix2 l x) = 1#1 → k.val ≤ x.val := by
    unfold firstPass
    refine first_at (A := 128) (B := 100000) (by omega) r _ _ _ l (fun k => ?_) k
    show Scalar.select (r (ix2 l k)) (places (ix2 l k)) _ = _
    rw [places_at]
    rfl
  have e : kept r (ix2 l k) = Scalar.select (anyPass r (ix1 l)) (IntOp.ori (r (ix2 l k)) (IntOp.cmpi .sle (places (ix2 l k)) (firstPass r (ix1 l)))) (r (ix2 l k)) := by
    have e1 := across_at (A := 128) (B := 100000) (by omega) (anyPass r) bcast_S128_S128x1_0 bcast_S128x1_S128x100000_0_1 l k
    have e2 := across_at (A := 128) (B := 100000) (by omega) (firstPass r) bcast_S128_S128x1_0 bcast_S128x1_S128x100000_0_1 l k
    rw [← e1, ← e2]
    rfl
  rw [e, places_at, select_bits, or_bits, hf, ha, hA]
  have hmin : ∀ h : A.Nonempty, k.val ≤ A.min' h ↔ ∀ x : Fin 100000, r (ix2 l x) = 1#1 → k.val ≤ x.val := fun h => by
    rw [Finset.le_min'_iff]
    constructor
    · intro hall x hx
      exact hall x.val ((hA x).mp hx)
    · intro hall x hx
      exact hall ⟨x, Finset.mem_range.mp (hs hx)⟩ ((hA ⟨x, Finset.mem_range.mp (hs hx)⟩).mpr hx)
  constructor
  · rintro (⟨h, hk | hk⟩ | ⟨_, hk⟩)
    · exact Or.inl hk
    · exact Or.inr ⟨h, (hmin h).mpr hk⟩
    · exact Or.inl hk
  · rintro (hk | ⟨h, hk⟩)
    · exact Or.inl ⟨⟨k.val, hk⟩, Or.inl hk⟩
    · exact Or.inl ⟨h, Or.inr ((hmin h).mp hk)⟩

end Cert.Proof.Ref
-- ==== Proof.RefPut.lean ====
/-
  The kept places put back in the arguments' order, and counted.
-/
module

public import proofs.«01_k».proof.Proof.RefVal

@[expose] public section

noncomputable section

namespace Cert.Proof.Ref

open Idealize.ShloMosaic Idealize.ShloMosaic.TcCoe
open Cert.ReferenceIdeal Cert.ReferenceIdeal.Gen
open Cert.Proof.Sc (pE thr below passing rowP worth)

/-- Two tables side by side as the two words of each entry. -/
theorem pair_at {A B : ℕ} {α : Type} (hA : A ≠ 1) (hB : B ≠ 1) (x y : (⟨2, ![A, B]⟩ : Shape).Idx → α) (hb : (⟨2, ![A, B]⟩ : Shape).BroadcastsInDim ⟨3, ![A, B, 1]⟩ ![0, 1])
    (h : Shape.Concatenates [⟨3, ![A, B, 1]⟩, ⟨3, ![A, B, 1]⟩] ⟨3, ![A, B, 2]⟩ 2) (l : Fin A) (k : Fin B) :
    concatenate ⟨3, ![A, B, 2]⟩ 2 [⟨⟨3, ![A, B, 1]⟩, broadcastInDim ⟨3, ![A, B, 1]⟩ ![0, 1] hb x⟩, ⟨⟨3, ![A, B, 1]⟩, broadcastInDim ⟨3, ![A, B, 1]⟩ ![0, 1] hb y⟩] h (ix3 l k 0) = x (ix2 l k)
    ∧ concatenate ⟨3, ![A, B, 2]⟩ 2 [⟨⟨3, ![A, B, 1]⟩, broadcastInDim ⟨3, ![A, B, 1]⟩ ![0, 1] hb x⟩, ⟨⟨3, ![A, B, 1]⟩, broadcastInDim ⟨3, ![A, B, 1]⟩ ![0, 1] hb y⟩] h (ix3 l k 1) = y (ix2 l k) := by
  have hcol : ∀ z : (⟨2, ![A, B]⟩ : Shape).Idx → α, broadcastInDim ⟨3, ![A, B, 1]⟩ ![0, 1] hb z (ix3 l k (0 : Fin 1)) = z (ix2 l k) := fun z => by
    refine broadcastInDim_apply _ _ _ _ _ fun a => ?_
    match a with
    | ⟨0, _⟩ => exact (if_neg hA).symm
    | ⟨1, _⟩ => exact (if_neg hB).symm
  constructor
  · refine (concatenate_pair_apply_left _ _ _ h _ rfl (ix3 l k (0 : Fin 1)) fun a => ?_).trans (hcol x)
    match a with
    | ⟨0, _⟩ => rfl
    | ⟨1, _⟩ => rfl
    | ⟨2, _⟩ => rfl
  · refine (concatenate_pair_apply_right _ _ _ h _ rfl rfl (ix3 l k (0 : Fin 1)) (fun a ha => ?_) rfl).trans (hcol y)
    match a with
    | ⟨0, _⟩ => rfl
    | ⟨1, _⟩ => rfl
    | ⟨2, _⟩ => exact absurd rfl ha

theorem backs_at (w : IVec S128x100000 32) (l : Fin 128) (k : Fin 100000) :
    backs w (ix3 l k 0) = BitVec.ofNat 32 l.val ∧ backs w (ix3 l k 1) = w (ix2 l k) := by
  unfold backs
  have h := pair_at (A := 128) (B := 100000) (by omega) (by omega) (broadcastInDim S128x100000 ![0, 1] bcast_S128x1_S128x100000_0_1 (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))) w
    bcast_S128x100000_S128x100000x1_0_1 concatenates_S128x100000x1_S128x100000x1_S128x100000x2_d2 l k
  refine ⟨h.1.trans ?_, h.2⟩
  refine (broadcastInDim_apply _ _ _ _ (ix2 l (0 : Fin 1)) fun a => ?_).trans ?_
  · match a with
    | ⟨0, _⟩ => rfl
    | ⟨1, _⟩ => rfl
  · have e : broadcastInDim S128x1 ![0] bcast_S128_S128x1_0 (iotaInDim S128 32 0) (ix2 l (0 : Fin 1)) = BitVec.ofNat 32 l.val := rfl
    show Scalar.select (IntOp.cmpi .slt (broadcastInDim S128x1 ![0] bcast_S128_S128x1_0 (iotaInDim S128 32 0) (ix2 l (0 : Fin 1))) 0#32) _ (broadcastInDim S128x1 ![0] bcast_S128_S128x1_0 (iotaInDim S128 32 0) (ix2 l (0 : Fin 1))) = _
    rw [e]
    refine Routing.wrap_of_lt _ _ ?_
    rw [BitVec.toNat_ofNat]
    have := l.isLt
    omega

theorem put_at (p : FVec Ideal S128x100000 .f32) (K : IVec S128x100000 1) (l : Fin 128) (k : Fin 100000) :
    put (backs (wrap (order p))) K (ix2 l (rowPerm p l k)) = K (ix2 l k) := by
  have hl : ∀ (a : Fin 128) (b : Fin 100000), scatter_S128x100000_S128x100000x2_S128x100000_n_01_01_2.resultIdx? (ix2 a b) (backs (wrap (order p))) = some (ix2 l (rowPerm p l k)) ↔ a = l ∧ rowPerm p a b = rowPerm p l k := fun a b => by
    refine (Routing.scatter_lands2 (R := 128) (C := 100000) (A := 128) (B := 100000) scatter_S128x100000_S128x100000x2_S128x100000_n_01_01_2 rfl rfl rfl (backs (wrap (order p))) a b l (rowPerm p l k)).trans ?_
    have h0 : backs (wrap (order p)) (ValueIdx.ix3 a b 0) = BitVec.ofNat 32 a.val := (backs_at (wrap (order p)) a b).1
    have h1 : backs (wrap (order p)) (ValueIdx.ix3 a b 1) = BitVec.ofNat 32 (rowPerm p a b).val := (backs_at (wrap (order p)) a b).2.trans (wrap_at p a b)
    rw [h0, h1, WordArith.toInt_ofNat_small a.val (by omega), WordArith.toInt_ofNat_small (rowPerm p a b).val (by have := (rowPerm p a b).isLt; omega),
      Int.natCast_inj, Int.natCast_inj, Fin.val_inj, Fin.val_inj]
  unfold put
  refine Routing.scatter_set_hit _ _ _ _ _ _ (fun i hi => ?_) (ix2 l k) ((hl l k).mpr ⟨rfl, rfl⟩)
  obtain ⟨a, b, rfl⟩ : ∃ (a : Fin 128) (b : Fin 100000), i = ix2 a b := ⟨i 0, i 1, funext fun c => by
    match c with
    | ⟨0, _⟩ => rfl
    | ⟨1, _⟩ => rfl⟩
  obtain ⟨ha, hb⟩ := (hl a b).mp hi
  subst ha
  have hb' : b = k := (perm_bijective fun n => p (ix2 a n)).1 hb
  rw [hb']

theorem sum_bits {N : ℕ} (z : Fin N → BitVec 1) :
    ∑ n, (Scalar.select (z n) (Ideal.ofBits .f32 0x3F800000#32) (Ideal.ofBits .f32 0x00000000#32) : EReal) = (((Finset.univ.filter fun n => z n = 1#1).card : ℝ) : EReal) := by
  have e : ∀ n, (Scalar.select (z n) (Ideal.ofBits .f32 0x3F800000#32) (Ideal.ofBits .f32 0x00000000#32) : EReal) = (((if z n = 1#1 then 1 else 0 : ℝ)) : EReal) := fun n => by
    rw [Sc.lit_one, Ideal.ofBits_zero_f32]
    rcases BitVec.eq_zero_or_eq_one (z n) with h | h
    · rw [h, ValueIdx.select_zero, if_neg (by decide)]
      rfl
    · rw [h, ValueIdx.select_one, if_pos rfl]
  have hsum : ∀ (f : Fin N → ℝ) (s : Finset (Fin N)), ∑ n ∈ s, ((f n : ℝ) : EReal) = ((∑ n ∈ s, f n : ℝ) : EReal) := fun f s => by
    classical
    induction s using Finset.induction_on with
    | empty => rfl
    | insert a s ha ih => rw [Finset.sum_insert ha, Finset.sum_insert ha, ih, EReal.coe_add]
  rw [Finset.sum_congr rfl fun n _ => e n, hsum, Finset.sum_boole]

theorem total_at (z : IVec S128x100000 1) (l : Fin 128) :
    (total z : FVec Ideal S128 .f32) (ix1 l) = (((Finset.univ.filter fun n : Fin 100000 => z (ix2 l n) = 1#1).card : ℝ) : EReal) := by
  unfold total
  refine (Ideal.hostReduceAdd_r2_a1 (n0 := 128) (n1 := 100000) reducesTo_S128x100000_S128_d1 _ _ (ix1 l)).trans ?_
  rw [← sum_bits fun n : Fin 100000 => z (ix2 l n)]
  refine Eq.trans (congrArg (· + _) (show _ = (0 : EReal) from Ideal.ofBits_zero_f32)) ?_
  rw [zero_add]
  rfl

/-- The reference's chain at a row. -/
theorem chain_at (p : FVec Ideal S128x100000 .f32) (l : Fin 128) :
    (chain p : FVec Ideal S128 .f32) (ix1 l) = ((worth (passing fun n => p (ix2 l n)) : ℝ) : EReal) := by
  classical
  unfold chain
  rw [total_at]
  have hs : (passing fun n => p (ix2 l n)) ⊆ Finset.range 100000 := Finset.filter_subset _ _
  have hk := kept_at (pass p (wrap (order p))) (passing fun n => p (ix2 l n)) l (fun k => pass_at p l k) hs
  have hb : Function.Bijective (rowPerm p l) := perm_bijective fun n => p (ix2 l n)
  have hc : (Finset.univ.filter fun n : Fin 100000 => put (backs (wrap (order p))) (kept (pass p (wrap (order p)))) (ix2 l n) = 1#1).card = worth (passing fun n => p (ix2 l n)) := by
    rw [← card_keeps (N := 100000) _ hs]
    refine (Finset.card_bijective (rowPerm p l) hb fun k => ?_).symm
    rw [Finset.mem_filter, Finset.mem_filter, put_at, hk]
    exact ⟨fun h => ⟨Finset.mem_univ _, h.2⟩, fun h => ⟨Finset.mem_univ _, h.2⟩⟩
  rw [hc]

end Cert.Proof.Ref
-- ==== Proof.Algebraic.lean ====
/-
  The kernel and the reference give the same over the reals.
-/
module

public import proofs.«01_k».proof.Proof.Frames
public import proofs.«01_k».proof.Proof.RefPut

@[expose] public section

noncomputable section

namespace Cert.Proof

open Idealize.ShloMosaic Idealize.ShloMosaic.TcCoe Idealize.SL.Sem

/-- The two results at a device, the arguments equal. -/
theorem res_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Value.res_main_v56 m' c : FVec Ideal Cert.ReferenceIdeal.S128 .f32) = res m c := by
  rw [Ref.res_chain, h0, h1]
  funext i
  obtain ⟨l, rfl⟩ : ∃ l : Fin 128, i = ix1 l := ⟨i 0, funext fun a => by
    match a with
    | ⟨0, _⟩ => rfl⟩
  refine (Ref.chain_at _ l).trans (Eq.trans ?_ (Sc.res_ideal m c l).symm)
  refine congrArg (fun P => ((Sc.worth (Sc.passing P) : ℝ) : EReal)) ?_
  funext n
  exact Ref.pvals_at _ _ l n

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => res m c, ?_, ?_⟩
  · exact (θ_run Cert.KernelIdeal.defs _ _).mono (fun _ h c => ⟨(h.1 c).2.2, (h.1 c).1, (h.1 c).2.1⟩) (run_ideal m g)
  · exact (θ_run Cert.ReferenceIdeal.defs _ _).mono (fun _ h c => ⟨(h c).1.trans (res_same m m' c (hargs c).1 (hargs c).2), (h c).2⟩) (Cert.ReferenceIdeal.Value.run m' g')

end Cert.Proof
-- ==== Proof.lean ====
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, trivial, algebraic⟩

end Cert.Proof

end
